-- ==== Defs.lean ====
def Pre_FfnGu (m : (ℓ : Loc Cert.FfnGu.nD Cert.FfnGu.τ Cert.FfnGu.sig) → Buf (Elt Bits) ℓ) : Prop :=
  True

def Pre_FfnGuIdeal (m : (ℓ : Loc Cert.FfnGuIdeal.nD Cert.FfnGuIdeal.τ Cert.FfnGuIdeal.sig) → Buf (Elt Ideal) ℓ) : Prop :=
  True

def Pre_FfnGuRefIdeal (m : (ℓ : Loc Cert.FfnGuRefIdeal.nD Cert.FfnGuRefIdeal.τ Cert.FfnGuRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactRefIdeal (m : (ℓ : Loc Cert.FfnDactRefIdeal.nD Cert.FfnDactRefIdeal.τ Cert.FfnDactRefIdeal.sig) → Buf (Elt Ideal) ℓ) : Prop :=
  True

def Pre_FfnDwDown (m : (ℓ : Loc Cert.FfnDwDown.nD Cert.FfnDwDown.τ Cert.FfnDwDown.sig) → Buf (Elt Bits) ℓ) : Prop :=
  True

def Pre_FfnDwDownIdeal (m : (ℓ : Loc Cert.FfnDwDownIdeal.nD Cert.FfnDwDownIdeal.τ Cert.FfnDwDownIdeal.sig) → Buf (Elt Ideal) ℓ) : Prop :=
  True

def Pre_FfnDwDownRefIdeal (m : (ℓ : Loc Cert.FfnDwDownRefIdeal.nD Cert.FfnDwDownRefIdeal.τ Cert.FfnDwDownRefIdeal.sig) → Buf (Elt Ideal) ℓ) : Prop :=
  True

def Pre_FfnDwGu (m : (ℓ : Loc Cert.FfnDwGu.nD Cert.FfnDwGu.τ Cert.FfnDwGu.sig) → Buf (Elt Bits) ℓ) : Prop :=
  True

def Pre_FfnDwGuIdeal (m : (ℓ : Loc Cert.FfnDwGuIdeal.nD Cert.FfnDwGuIdeal.τ Cert.FfnDwGuIdeal.sig) → Buf (Elt Ideal) ℓ) : Prop :=
  True

def Pre_FfnDwGuRefIdeal (m : (ℓ : Loc Cert.FfnDwGuRefIdeal.nD Cert.FfnDwGuRefIdeal.τ Cert.FfnDwGuRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_LruDh (m : (ℓ : Loc Cert.LruDh.nD Cert.LruDh.τ Cert.LruDh.sig) → Buf (Elt Bits) ℓ) : Prop :=
  True

def Pre_LruDhIdeal (m : (ℓ : Loc Cert.LruDhIdeal.nD Cert.LruDhIdeal.τ Cert.LruDhIdeal.sig) → Buf (Elt Ideal) ℓ) : Prop :=
  True

def Pre_LruDhRefIdeal (m : (ℓ : Loc Cert.LruDhRefIdeal.nD Cert.LruDhRefIdeal.τ Cert.LruDhRefIdeal.sig) → Buf (Elt Ideal) ℓ) : Prop :=
  True

def Pre_LruDwIn (m : (ℓ : Loc Cert.LruDwIn.nD Cert.LruDwIn.τ Cert.LruDwIn.sig) → Buf (Elt Bits) ℓ) : Prop :=
  True

def Pre_LruDwInIdeal (m : (ℓ : Loc Cert.LruDwInIdeal.nD Cert.LruDwInIdeal.τ Cert.LruDwInIdeal.sig) → Buf (Elt Ideal) ℓ) : Prop :=
  True

def Pre_LruDwInRefIdeal (m : (ℓ : Loc Cert.LruDwInRefIdeal.nD Cert.LruDwInRefIdeal.τ Cert.LruDwInRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamS5Mid (m : (ℓ : Loc Cert.AdamS5Mid.nD Cert.AdamS5Mid.τ Cert.AdamS5Mid.sig) → Buf (Elt Bits) ℓ) : Prop :=
  True

def Pre_AdamS5MidIdeal (m : (ℓ : Loc Cert.AdamS5MidIdeal.nD Cert.AdamS5MidIdeal.τ Cert.AdamS5MidIdeal.sig) → Buf (Elt Ideal) ℓ) : Prop :=
  True

def Pre_AdamS5MidRefIdeal (m : (ℓ : Loc Cert.AdamS5MidRefIdeal.nD Cert.AdamS5MidRefIdeal.τ Cert.AdamS5MidRefIdeal.sig) → Buf (Elt Ideal) ℓ) : Prop :=
  True

def Pre_AdamLruGate (m : (ℓ : Loc Cert.AdamLruGate.nD Cert.AdamLruGate.τ Cert.AdamLruGate.sig) → Buf (Elt Bits) ℓ) : Prop :=
  True

def Pre_AdamLruGateIdeal (m : (ℓ : Loc Cert.AdamLruGateIdeal.nD Cert.AdamLruGateIdeal.τ Cert.AdamLruGateIdeal.sig) → Buf (Elt Ideal) ℓ) : Prop :=
  True

def Pre_AdamLruGateRefIdeal (m : (ℓ : Loc Cert.AdamLruGateRefIdeal.nD Cert.AdamLruGateRefIdeal.τ Cert.AdamLruGateRefIdeal.sig) → Buf (Elt Ideal) ℓ) : Prop :=
  True

def Pre_AdamS5In (m : (ℓ : Loc Cert.AdamS5In.nD Cert.AdamS5In.τ Cert.AdamS5In.sig) → Buf (Elt Bits) ℓ) : Prop :=
  True

def Pre_AdamS5InIdeal (m : (ℓ : Loc Cert.AdamS5InIdeal.nD Cert.AdamS5InIdeal.τ Cert.AdamS5InIdeal.sig) → Buf (Elt Ideal) ℓ) : Prop :=
  True

def Pre_AdamS5InRefIdeal (m : (ℓ : Loc Cert.AdamS5InRefIdeal.nD Cert.AdamS5InRefIdeal.τ Cert.AdamS5InRefIdeal.sig) → Buf (Elt Ideal) ℓ) : Prop :=
  True

def Pre_AdamS5Glu (m : (ℓ : Loc Cert.AdamS5Glu.nD Cert.AdamS5Glu.τ Cert.AdamS5Glu.sig) → Buf (Elt Bits) ℓ) : Prop :=
  True

def Pre_AdamS5GluIdeal (m : (ℓ : Loc Cert.AdamS5GluIdeal.nD Cert.AdamS5GluIdeal.τ Cert.AdamS5GluIdeal.sig) → Buf (Elt Ideal) ℓ) : Prop :=
  True

def Pre_AdamS5GluRefIdeal (m : (ℓ : Loc Cert.AdamS5GluRefIdeal.nD Cert.AdamS5GluRefIdeal.τ Cert.AdamS5GluRefIdeal.sig) → Buf (Elt Ideal) ℓ) : Prop :=
  True

def Pre_AdamLruIn (m : (ℓ : Loc Cert.AdamLruIn.nD Cert.AdamLruIn.τ Cert.AdamLruIn.sig) → Buf (Elt Bits) ℓ) : Prop :=
  True

def Pre_AdamLruInIdeal (m : (ℓ : Loc Cert.AdamLruInIdeal.nD Cert.AdamLruInIdeal.τ Cert.AdamLruInIdeal.sig) → Buf (Elt Ideal) ℓ) : Prop :=
  True

def Pre_AdamLruInRefIdeal (m : (ℓ : Loc Cert.AdamLruInRefIdeal.nD Cert.AdamLruInRefIdeal.τ Cert.AdamLruInRefIdeal.sig) → Buf (Elt Ideal) ℓ) : Prop :=
  True

def Pre_AdamLruOut (m : (ℓ : Loc Cert.AdamLruOut.nD Cert.AdamLruOut.τ Cert.AdamLruOut.sig) → Buf (Elt Bits) ℓ) : Prop :=
  True

def Pre_AdamLruOutIdeal (m : (ℓ : Loc Cert.AdamLruOutIdeal.nD Cert.AdamLruOutIdeal.τ Cert.AdamLruOutIdeal.sig) → Buf (Elt Ideal) ℓ) : Prop :=
  True

def Pre_AdamLruOutRefIdeal (m : (ℓ : Loc Cert.AdamLruOutRefIdeal.nD Cert.AdamLruOutRefIdeal.τ Cert.AdamLruOutRefIdeal.sig) → Buf (Elt Ideal) ℓ) : Prop :=
  True

def Pre_AdamFfnGu (m : (ℓ : Loc Cert.AdamFfnGu.nD Cert.AdamFfnGu.τ Cert.AdamFfnGu.sig) → Buf (Elt Bits) ℓ) : Prop :=
  True

def Pre_AdamFfnGuIdeal (m : (ℓ : Loc Cert.AdamFfnGuIdeal.nD Cert.AdamFfnGuIdeal.τ Cert.AdamFfnGuIdeal.sig) → Buf (Elt Ideal) ℓ) : Prop :=
  True

def Pre_AdamFfnGuRefIdeal (m : (ℓ : Loc Cert.AdamFfnGuRefIdeal.nD Cert.AdamFfnGuRefIdeal.τ Cert.AdamFfnGuRefIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownRefIdeal (m : (ℓ : Loc Cert.AdamFfnDownRefIdeal.nD Cert.AdamFfnDownRefIdeal.τ Cert.AdamFfnDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumS5c (m : (ℓ : Loc Cert.SumS5c.nD Cert.SumS5c.τ Cert.SumS5c.sig) → Buf (Elt Bits) ℓ) : Prop :=
  True

def Pre_SumS5cIdeal (m : (ℓ : Loc Cert.SumS5cIdeal.nD Cert.SumS5cIdeal.τ Cert.SumS5cIdeal.sig) → Buf (Elt Ideal) ℓ) : Prop :=
  True

def Pre_SumS5cRefIdeal (m : (ℓ : Loc Cert.SumS5cRefIdeal.nD Cert.SumS5cRefIdeal.τ Cert.SumS5cRefIdeal.sig) → Buf (Elt Ideal) ℓ) : Prop :=
  True

def Pre_SumGate (m : (ℓ : Loc Cert.SumGate.nD Cert.SumGate.τ Cert.SumGate.sig) → Buf (Elt Bits) ℓ) : Prop :=
  True

def Pre_SumGateIdeal (m : (ℓ : Loc Cert.SumGateIdeal.nD Cert.SumGateIdeal.τ Cert.SumGateIdeal.sig) → Buf (Elt Ideal) ℓ) : Prop :=
  True

def Pre_SumGateRefIdeal (m : (ℓ : Loc Cert.SumGateRefIdeal.nD Cert.SumGateRefIdeal.τ Cert.SumGateRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_SumDisc (m : (ℓ : Loc Cert.SumDisc.nD Cert.SumDisc.τ Cert.SumDisc.sig) → Buf (Elt Bits) ℓ) : Prop :=
  True

def Pre_SumDiscIdeal (m : (ℓ : Loc Cert.SumDiscIdeal.nD Cert.SumDiscIdeal.τ Cert.SumDiscIdeal.sig) → Buf (Elt Ideal) ℓ) : Prop :=
  True

def Pre_SumDiscRefIdeal (m : (ℓ : Loc Cert.SumDiscRefIdeal.nD Cert.SumDiscRefIdeal.τ Cert.SumDiscRefIdeal.sig) → Buf (Elt Ideal) ℓ) : Prop :=
  True

def Pre_S5Bwd (m : (ℓ : Loc Cert.S5Bwd.nD Cert.S5Bwd.τ Cert.S5Bwd.sig) → Buf (Elt Bits) ℓ) : Prop :=
  True

def Pre_S5BwdIdeal (m : (ℓ : Loc Cert.S5BwdIdeal.nD Cert.S5BwdIdeal.τ Cert.S5BwdIdeal.sig) → Buf (Elt Ideal) ℓ) : Prop :=
  True

def quiescent_FfnGu [hFfnGu : Cert.FfnGu.Facts] : Prop :=
  ∀ (m : (ℓ : Loc Cert.FfnGu.nD Cert.FfnGu.τ Cert.FfnGu.sig) → Buf (Elt Bits) ℓ) (g : Dev Cert.FfnGu.nD → PrngReg), Pre_FfnGu m →
    θ_run (Cert.FfnGu.defs (F := Bits)) (onTc (τ := Cert.FfnGu.τ) (Cert.FfnGu.main (F := Bits))) ⟨m, fun _ => 0, g⟩ (fun r => (∀ c : Dev Cert.FfnGu.nD,
      r.2.mem ((c.tc : Thread Cert.FfnGu.nD Cert.FfnGu.τ).loc Cert.FfnGu.main_arg0) = m ((c.tc : Thread Cert.FfnGu.nD Cert.FfnGu.τ).loc Cert.FfnGu.main_arg0)
      ∧ r.2.mem ((c.tc : Thread Cert.FfnGu.nD Cert.FfnGu.τ).loc Cert.FfnGu.main_arg1) = m ((c.tc : Thread Cert.FfnGu.nD Cert.FfnGu.τ).loc Cert.FfnGu.main_arg1))
      ∧ r.2.sem = fun _ => 0)

def quiescent_FfnGuIdeal [hFfnGuIdeal : Cert.FfnGuIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg), Pre_FfnGuIdeal m →
    θ_run (Cert.FfnGuIdeal.defs (F := Ideal)) (onTc (τ := Cert.FfnGuIdeal.τ) (Cert.FfnGuIdeal.main (F := Ideal))) ⟨m, fun _ => 0, g⟩ (fun r => (∀ c : Dev Cert.FfnGuIdeal.nD,
      r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
      ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1))
      ∧ r.2.sem = fun _ => 0)

def quiescent_FfnGuRefIdeal [hFfnGuRefIdeal : Cert.FfnGuRefIdeal.Facts] : Prop :=
  ∀ (m : (ℓ : Loc Cert.FfnGuRefIdeal.nD Cert.FfnGuRefIdeal.τ Cert.FfnGuRefIdeal.sig) → Buf (Elt Ideal) ℓ) (g : Dev Cert.FfnGuRefIdeal.nD → PrngReg), Pre_FfnGuRefIdeal m →
    θ_run (Cert.FfnGuRefIdeal.defs (F := Ideal)) (onTc (τ := Cert.FfnGuRefIdeal.τ) (Cert.FfnGuRefIdeal.main (F := Ideal))) ⟨m, fun _ => 0, g⟩ (fun r => (∀ c : Dev Cert.FfnGuRefIdeal.nD,
      r.2.mem ((c.tc : Thread Cert.FfnGuRefIdeal.nD Cert.FfnGuRefIdeal.τ).loc Cert.FfnGuRefIdeal.main_arg0) = m ((c.tc : Thread Cert.FfnGuRefIdeal.nD Cert.FfnGuRefIdeal.τ).loc Cert.FfnGuRefIdeal.main_arg0)
      ∧ r.2.mem ((c.tc : Thread Cert.FfnGuRefIdeal.nD Cert.FfnGuRefIdeal.τ).loc Cert.FfnGuRefIdeal.main_arg1) = m ((c.tc : Thread Cert.FfnGuRefIdeal.nD Cert.FfnGuRefIdeal.τ).loc Cert.FfnGuRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1))
      ∧ r.2.sem = fun _ => 0)

def quiescent_FfnDwDown [hFfnDwDown : Cert.FfnDwDown.Facts] : Prop :=
  ∀ (m : (ℓ : Loc Cert.FfnDwDown.nD Cert.FfnDwDown.τ Cert.FfnDwDown.sig) → Buf (Elt Bits) ℓ) (g : Dev Cert.FfnDwDown.nD → PrngReg), Pre_FfnDwDown m →
    θ_run (Cert.FfnDwDown.defs (F := Bits)) (onTc (τ := Cert.FfnDwDown.τ) (Cert.FfnDwDown.main (F := Bits))) ⟨m, fun _ => 0, g⟩ (fun r => (∀ c : Dev Cert.FfnDwDown.nD,
      r.2.mem ((c.tc : Thread Cert.FfnDwDown.nD Cert.FfnDwDown.τ).loc Cert.FfnDwDown.main_arg0) = m ((c.tc : Thread Cert.FfnDwDown.nD Cert.FfnDwDown.τ).loc Cert.FfnDwDown.main_arg0)
      ∧ r.2.mem ((c.tc : Thread Cert.FfnDwDown.nD Cert.FfnDwDown.τ).loc Cert.FfnDwDown.main_arg1) = m ((c.tc : Thread Cert.FfnDwDown.nD Cert.FfnDwDown.τ).loc Cert.FfnDwDown.main_arg1))
      ∧ r.2.sem = fun _ => 0)

def quiescent_FfnDwDownIdeal [hFfnDwDownIdeal : Cert.FfnDwDownIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg), Pre_FfnDwDownIdeal m →
    θ_run (Cert.FfnDwDownIdeal.defs (F := Ideal)) (onTc (τ := Cert.FfnDwDownIdeal.τ) (Cert.FfnDwDownIdeal.main (F := Ideal))) ⟨m, fun _ => 0, g⟩ (fun r => (∀ c : Dev Cert.FfnDwDownIdeal.nD,
      r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
      ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ r.2.sem = fun _ => 0)

def quiescent_FfnDwDownRefIdeal [hFfnDwDownRefIdeal : Cert.FfnDwDownRefIdeal.Facts] : Prop :=
  ∀ (m : (ℓ : Loc Cert.FfnDwDownRefIdeal.nD Cert.FfnDwDownRefIdeal.τ Cert.FfnDwDownRefIdeal.sig) → Buf (Elt Ideal) ℓ) (g : Dev Cert.FfnDwDownRefIdeal.nD → PrngReg), Pre_FfnDwDownRefIdeal m →
    θ_run (Cert.FfnDwDownRefIdeal.defs (F := Ideal)) (onTc (τ := Cert.FfnDwDownRefIdeal.τ) (Cert.FfnDwDownRefIdeal.main (F := Ideal))) ⟨m, fun _ => 0, g⟩ (fun r => (∀ c : Dev Cert.FfnDwDownRefIdeal.nD,
      r.2.mem ((c.tc : Thread Cert.FfnDwDownRefIdeal.nD Cert.FfnDwDownRefIdeal.τ).loc Cert.FfnDwDownRefIdeal.main_arg0) = m ((c.tc : Thread Cert.FfnDwDownRefIdeal.nD Cert.FfnDwDownRefIdeal.τ).loc Cert.FfnDwDownRefIdeal.main_arg0)
      ∧ r.2.mem ((c.tc : Thread Cert.FfnDwDownRefIdeal.nD Cert.FfnDwDownRefIdeal.τ).loc Cert.FfnDwDownRefIdeal.main_arg1) = m ((c.tc : Thread Cert.FfnDwDownRefIdeal.nD Cert.FfnDwDownRefIdeal.τ).loc Cert.FfnDwDownRefIdeal.main_arg1))
      ∧ r.2.sem = fun _ => 0)

def quiescent_FfnDwGu [hFfnDwGu : Cert.FfnDwGu.Facts] : Prop :=
  ∀ (m : (ℓ : Loc Cert.FfnDwGu.nD Cert.FfnDwGu.τ Cert.FfnDwGu.sig) → Buf (Elt Bits) ℓ) (g : Dev Cert.FfnDwGu.nD → PrngReg), Pre_FfnDwGu m →
    θ_run (Cert.FfnDwGu.defs (F := Bits)) (onTc (τ := Cert.FfnDwGu.τ) (Cert.FfnDwGu.main (F := Bits))) ⟨m, fun _ => 0, g⟩ (fun r => (∀ c : Dev Cert.FfnDwGu.nD,
      r.2.mem ((c.tc : Thread Cert.FfnDwGu.nD Cert.FfnDwGu.τ).loc Cert.FfnDwGu.main_arg0) = m ((c.tc : Thread Cert.FfnDwGu.nD Cert.FfnDwGu.τ).loc Cert.FfnDwGu.main_arg0)
      ∧ r.2.mem ((c.tc : Thread Cert.FfnDwGu.nD Cert.FfnDwGu.τ).loc Cert.FfnDwGu.main_arg1) = m ((c.tc : Thread Cert.FfnDwGu.nD Cert.FfnDwGu.τ).loc Cert.FfnDwGu.main_arg1))
      ∧ r.2.sem = fun _ => 0)

def quiescent_FfnDwGuIdeal [hFfnDwGuIdeal : Cert.FfnDwGuIdeal.Facts] : Prop :=
  ∀ (m : (ℓ : Loc Cert.FfnDwGuIdeal.nD Cert.FfnDwGuIdeal.τ Cert.FfnDwGuIdeal.sig) → Buf (Elt Ideal) ℓ) (g : Dev Cert.FfnDwGuIdeal.nD → PrngReg), Pre_FfnDwGuIdeal m →
    θ_run (Cert.FfnDwGuIdeal.defs (F := Ideal)) (onTc (τ := Cert.FfnDwGuIdeal.τ) (Cert.FfnDwGuIdeal.main (F := Ideal))) ⟨m, fun _ => 0, g⟩ (fun r => (∀ c : Dev Cert.FfnDwGuIdeal.nD,
      r.2.mem ((c.tc : Thread Cert.FfnDwGuIdeal.nD Cert.FfnDwGuIdeal.τ).loc Cert.FfnDwGuIdeal.main_arg0) = m ((c.tc : Thread Cert.FfnDwGuIdeal.nD Cert.FfnDwGuIdeal.τ).loc Cert.FfnDwGuIdeal.main_arg0)
      ∧ r.2.mem ((c.tc : Thread Cert.FfnDwGuIdeal.nD Cert.FfnDwGuIdeal.τ).loc Cert.FfnDwGuIdeal.main_arg1) = m ((c.tc : Thread Cert.FfnDwGuIdeal.nD Cert.FfnDwGuIdeal.τ).loc Cert.FfnDwGuIdeal.main_arg1))
      ∧ r.2.sem = fun _ => 0)

def quiescent_FfnDwGuRefIdeal [hFfnDwGuRefIdeal : Cert.FfnDwGuRefIdeal.Facts] : Prop :=
  ∀ (m : (ℓ : Loc Cert.FfnDwGuRefIdeal.nD Cert.FfnDwGuRefIdeal.τ Cert.FfnDwGuRefIdeal.sig) → Buf (Elt Ideal) ℓ) (g : Dev Cert.FfnDwGuRefIdeal.nD → PrngReg), Pre_FfnDwGuRefIdeal m →
    θ_run (Cert.FfnDwGuRefIdeal.defs (F := Ideal)) (onTc (τ := Cert.FfnDwGuRefIdeal.τ) (Cert.FfnDwGuRefIdeal.main (F := Ideal))) ⟨m, fun _ => 0, g⟩ (fun r => (∀ c : Dev Cert.FfnDwGuRefIdeal.nD,
      r.2.mem ((c.tc : Thread Cert.FfnDwGuRefIdeal.nD Cert.FfnDwGuRefIdeal.τ).loc Cert.FfnDwGuRefIdeal.main_arg0) = m ((c.tc : Thread Cert.FfnDwGuRefIdeal.nD Cert.FfnDwGuRefIdeal.τ).loc Cert.FfnDwGuRefIdeal.main_arg0)
      ∧ r.2.mem ((c.tc : Thread Cert.FfnDwGuRefIdeal.nD Cert.FfnDwGuRefIdeal.τ).loc Cert.FfnDwGuRefIdeal.main_arg1) = m ((c.tc : Thread Cert.FfnDwGuRefIdeal.nD Cert.FfnDwGuRefIdeal.τ).loc Cert.FfnDwGuRefIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1))
      ∧ r.2.sem = fun _ => 0)

def quiescent_LruDh [hLruDh : Cert.LruDh.Facts] : Prop :=
  ∀ (m : (ℓ : Loc Cert.LruDh.nD Cert.LruDh.τ Cert.LruDh.sig) → Buf (Elt Bits) ℓ) (g : Dev Cert.LruDh.nD → PrngReg), Pre_LruDh m →
    θ_run (Cert.LruDh.defs (F := Bits)) (onTc (τ := Cert.LruDh.τ) (Cert.LruDh.main (F := Bits))) ⟨m, fun _ => 0, g⟩ (fun r => (∀ c : Dev Cert.LruDh.nD,
      r.2.mem ((c.tc : Thread Cert.LruDh.nD Cert.LruDh.τ).loc Cert.LruDh.main_arg0) = m ((c.tc : Thread Cert.LruDh.nD Cert.LruDh.τ).loc Cert.LruDh.main_arg0)
      ∧ r.2.mem ((c.tc : Thread Cert.LruDh.nD Cert.LruDh.τ).loc Cert.LruDh.main_arg1) = m ((c.tc : Thread Cert.LruDh.nD Cert.LruDh.τ).loc Cert.LruDh.main_arg1))
      ∧ r.2.sem = fun _ => 0)

def quiescent_LruDhIdeal [hLruDhIdeal : Cert.LruDhIdeal.Facts] : Prop :=
  ∀ (m : (ℓ : Loc Cert.LruDhIdeal.nD Cert.LruDhIdeal.τ Cert.LruDhIdeal.sig) → Buf (Elt Ideal) ℓ) (g : Dev Cert.LruDhIdeal.nD → PrngReg), Pre_LruDhIdeal m →
    θ_run (Cert.LruDhIdeal.defs (F := Ideal)) (onTc (τ := Cert.LruDhIdeal.τ) (Cert.LruDhIdeal.main (F := Ideal))) ⟨m, fun _ => 0, g⟩ (fun r => (∀ c : Dev Cert.LruDhIdeal.nD,
      r.2.mem ((c.tc : Thread Cert.LruDhIdeal.nD Cert.LruDhIdeal.τ).loc Cert.LruDhIdeal.main_arg0) = m ((c.tc : Thread Cert.LruDhIdeal.nD Cert.LruDhIdeal.τ).loc Cert.LruDhIdeal.main_arg0)
      ∧ r.2.mem ((c.tc : Thread Cert.LruDhIdeal.nD Cert.LruDhIdeal.τ).loc Cert.LruDhIdeal.main_arg1) = m ((c.tc : Thread Cert.LruDhIdeal.nD Cert.LruDhIdeal.τ).loc Cert.LruDhIdeal.main_arg1))
      ∧ r.2.sem = fun _ => 0)

def quiescent_LruDhRefIdeal [hLruDhRefIdeal : Cert.LruDhRefIdeal.Facts] : Prop :=
  ∀ (m : (ℓ : Loc Cert.LruDhRefIdeal.nD Cert.LruDhRefIdeal.τ Cert.LruDhRefIdeal.sig) → Buf (Elt Ideal) ℓ) (g : Dev Cert.LruDhRefIdeal.nD → PrngReg), Pre_LruDhRefIdeal m →
    θ_run (Cert.LruDhRefIdeal.defs (F := Ideal)) (onTc (τ := Cert.LruDhRefIdeal.τ) (Cert.LruDhRefIdeal.main (F := Ideal))) ⟨m, fun _ => 0, g⟩ (fun r => (∀ c : Dev Cert.LruDhRefIdeal.nD,
      r.2.mem ((c.tc : Thread Cert.LruDhRefIdeal.nD Cert.LruDhRefIdeal.τ).loc Cert.LruDhRefIdeal.main_arg0) = m ((c.tc : Thread Cert.LruDhRefIdeal.nD Cert.LruDhRefIdeal.τ).loc Cert.LruDhRefIdeal.main_arg0)
      ∧ r.2.mem ((c.tc : Thread Cert.LruDhRefIdeal.nD Cert.LruDhRefIdeal.τ).loc Cert.LruDhRefIdeal.main_arg1) = m ((c.tc : Thread Cert.LruDhRefIdeal.nD Cert.LruDhRefIdeal.τ).loc Cert.LruDhRefIdeal.main_arg1))
      ∧ r.2.sem = fun _ => 0)

def quiescent_LruDwIn [hLruDwIn : Cert.LruDwIn.Facts] : Prop :=
  ∀ (m : (ℓ : Loc Cert.LruDwIn.nD Cert.LruDwIn.τ Cert.LruDwIn.sig) → Buf (Elt Bits) ℓ) (g : Dev Cert.LruDwIn.nD → PrngReg), Pre_LruDwIn m →
    θ_run (Cert.LruDwIn.defs (F := Bits)) (onTc (τ := Cert.LruDwIn.τ) (Cert.LruDwIn.main (F := Bits))) ⟨m, fun _ => 0, g⟩ (fun r => (∀ c : Dev Cert.LruDwIn.nD,
      r.2.mem ((c.tc : Thread Cert.LruDwIn.nD Cert.LruDwIn.τ).loc Cert.LruDwIn.main_arg0) = m ((c.tc : Thread Cert.LruDwIn.nD Cert.LruDwIn.τ).loc Cert.LruDwIn.main_arg0)
      ∧ r.2.mem ((c.tc : Thread Cert.LruDwIn.nD Cert.LruDwIn.τ).loc Cert.LruDwIn.main_arg1) = m ((c.tc : Thread Cert.LruDwIn.nD Cert.LruDwIn.τ).loc Cert.LruDwIn.main_arg1))
      ∧ r.2.sem = fun _ => 0)

def quiescent_LruDwInIdeal [hLruDwInIdeal : Cert.LruDwInIdeal.Facts] : Prop :=
  ∀ (m : (ℓ : Loc Cert.LruDwInIdeal.nD Cert.LruDwInIdeal.τ Cert.LruDwInIdeal.sig) → Buf (Elt Ideal) ℓ) (g : Dev Cert.LruDwInIdeal.nD → PrngReg), Pre_LruDwInIdeal m →
    θ_run (Cert.LruDwInIdeal.defs (F := Ideal)) (onTc (τ := Cert.LruDwInIdeal.τ) (Cert.LruDwInIdeal.main (F := Ideal))) ⟨m, fun _ => 0, g⟩ (fun r => (∀ c : Dev Cert.LruDwInIdeal.nD,
      r.2.mem ((c.tc : Thread Cert.LruDwInIdeal.nD Cert.LruDwInIdeal.τ).loc Cert.LruDwInIdeal.main_arg0) = m ((c.tc : Thread Cert.LruDwInIdeal.nD Cert.LruDwInIdeal.τ).loc Cert.LruDwInIdeal.main_arg0)
      ∧ r.2.mem ((c.tc : Thread Cert.LruDwInIdeal.nD Cert.LruDwInIdeal.τ).loc Cert.LruDwInIdeal.main_arg1) = m ((c.tc : Thread Cert.LruDwInIdeal.nD Cert.LruDwInIdeal.τ).loc Cert.LruDwInIdeal.main_arg1))
      ∧ r.2.sem = fun _ => 0)

def quiescent_LruDwInRefIdeal [hLruDwInRefIdeal : Cert.LruDwInRefIdeal.Facts] : Prop :=
  ∀ (m : (ℓ : Loc Cert.LruDwInRefIdeal.nD Cert.LruDwInRefIdeal.τ Cert.LruDwInRefIdeal.sig) → Buf (Elt Ideal) ℓ) (g : Dev Cert.LruDwInRefIdeal.nD → PrngReg), Pre_LruDwInRefIdeal m →
    θ_run (Cert.LruDwInRefIdeal.defs (F := Ideal)) (onTc (τ := Cert.LruDwInRefIdeal.τ) (Cert.LruDwInRefIdeal.main (F := Ideal))) ⟨m, fun _ => 0, g⟩ (fun r => (∀ c : Dev Cert.LruDwInRefIdeal.nD,
      r.2.mem ((c.tc : Thread Cert.LruDwInRefIdeal.nD Cert.LruDwInRefIdeal.τ).loc Cert.LruDwInRefIdeal.main_arg0) = m ((c.tc : Thread Cert.LruDwInRefIdeal.nD Cert.LruDwInRefIdeal.τ).loc Cert.LruDwInRefIdeal.main_arg0)
      ∧ r.2.mem ((c.tc : Thread Cert.LruDwInRefIdeal.nD Cert.LruDwInRefIdeal.τ).loc Cert.LruDwInRefIdeal.main_arg1) = m ((c.tc : Thread Cert.LruDwInRefIdeal.nD Cert.LruDwInRefIdeal.τ).loc Cert.LruDwInRefIdeal.main_arg1))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamS5Mid [hAdamS5Mid : Cert.AdamS5Mid.Facts] : Prop :=
  ∀ (m : (ℓ : Loc Cert.AdamS5Mid.nD Cert.AdamS5Mid.τ Cert.AdamS5Mid.sig) → Buf (Elt Bits) ℓ) (g : Dev Cert.AdamS5Mid.nD → PrngReg), Pre_AdamS5Mid m →
    θ_run (Cert.AdamS5Mid.defs (F := Bits)) (onTc (τ := Cert.AdamS5Mid.τ) (Cert.AdamS5Mid.main (F := Bits))) ⟨m, fun _ => 0, g⟩ (fun r => (∀ c : Dev Cert.AdamS5Mid.nD,
      r.2.mem ((c.tc : Thread Cert.AdamS5Mid.nD Cert.AdamS5Mid.τ).loc Cert.AdamS5Mid.main_arg0) = m ((c.tc : Thread Cert.AdamS5Mid.nD Cert.AdamS5Mid.τ).loc Cert.AdamS5Mid.main_arg0)
      ∧ r.2.mem ((c.tc : Thread Cert.AdamS5Mid.nD Cert.AdamS5Mid.τ).loc Cert.AdamS5Mid.main_arg1) = m ((c.tc : Thread Cert.AdamS5Mid.nD Cert.AdamS5Mid.τ).loc Cert.AdamS5Mid.main_arg1)
      ∧ r.2.mem ((c.tc : Thread Cert.AdamS5Mid.nD Cert.AdamS5Mid.τ).loc Cert.AdamS5Mid.main_arg2) = m ((c.tc : Thread Cert.AdamS5Mid.nD Cert.AdamS5Mid.τ).loc Cert.AdamS5Mid.main_arg2)
      ∧ r.2.mem ((c.tc : Thread Cert.AdamS5Mid.nD Cert.AdamS5Mid.τ).loc Cert.AdamS5Mid.main_arg3) = m ((c.tc : Thread Cert.AdamS5Mid.nD Cert.AdamS5Mid.τ).loc Cert.AdamS5Mid.main_arg3))
      ∧ r.2.sem = fun _ => 0)

def quiescent_AdamS5MidIdeal [hAdamS5MidIdeal : Cert.AdamS5MidIdeal.Facts] : Prop :=
  ∀ (m : (ℓ : Loc Cert.AdamS5MidIdeal.nD Cert.AdamS5MidIdeal.τ Cert.AdamS5MidIdeal.sig) → Buf (Elt Ideal) ℓ) (g : Dev Cert.AdamS5MidIdeal.nD → PrngReg), Pre_AdamS5MidIdeal m →
    θ_run (Cert.AdamS5MidIdeal.defs (F := Ideal)) (onTc (τ := Cert.AdamS5MidIdeal.τ) (Cert.AdamS5MidIdeal.main (F := Ideal))) ⟨m, fun _ => 0, g⟩ (fun r => (∀ c : Dev Cert.AdamS5MidIdeal.nD,
      r.2.mem ((c.tc : Thread Cert.AdamS5MidIdeal.nD Cert.AdamS5MidIdeal.τ).loc Cert.AdamS5MidIdeal.main_arg0) = m ((c.tc : Thread Cert.AdamS5MidIdeal.nD Cert.AdamS5MidIdeal.τ).loc Cert.AdamS5MidIdeal.main_arg0)
      ∧ r.2.mem ((c.tc : Thread Cert.AdamS5MidIdeal.nD Cert.AdamS5MidIdeal.τ).loc Cert.AdamS5MidIdeal.main_arg1) = m ((c.tc : Thread Cert.AdamS5MidIdeal.nD Cert.AdamS5MidIdeal.τ).loc Cert.AdamS5MidIdeal.main_arg1)
      ∧ r.2.mem ((c.tc : Thread Cert.AdamS5MidIdeal.nD Cert.AdamS5MidIdeal.τ).loc Cert.AdamS5MidIdeal.main_arg2) = m ((c.tc : Thread Cert.AdamS5MidIdeal.nD Cert.AdamS5MidIdeal.τ).loc Cert.AdamS5MidIdeal.main_arg2)
      ∧ r.2.mem ((c.tc : Thread Cert.AdamS5MidIdeal.nD Cert.AdamS5MidIdeal.τ).loc Cert.AdamS5MidIdeal.main_arg3) = m ((c.tc : Thread Cert.AdamS5MidIdeal.nD Cert.AdamS5MidIdeal.τ).loc Cert.AdamS5MidIdeal.main_arg3))
      ∧ r.2.sem = fun _ => 0)

def quiescent_AdamS5MidRefIdeal [hAdamS5MidRefIdeal : Cert.AdamS5MidRefIdeal.Facts] : Prop :=
  ∀ (m : (ℓ : Loc Cert.AdamS5MidRefIdeal.nD Cert.AdamS5MidRefIdeal.τ Cert.AdamS5MidRefIdeal.sig) → Buf (Elt Ideal) ℓ) (g : Dev Cert.AdamS5MidRefIdeal.nD → PrngReg), Pre_AdamS5MidRefIdeal m →
    θ_run (Cert.AdamS5MidRefIdeal.defs (F := Ideal)) (onTc (τ := Cert.AdamS5MidRefIdeal.τ) (Cert.AdamS5MidRefIdeal.main (F := Ideal))) ⟨m, fun _ => 0, g⟩ (fun r => (∀ c : Dev Cert.AdamS5MidRefIdeal.nD,
      r.2.mem ((c.tc : Thread Cert.AdamS5MidRefIdeal.nD Cert.AdamS5MidRefIdeal.τ).loc Cert.AdamS5MidRefIdeal.main_arg0) = m ((c.tc : Thread Cert.AdamS5MidRefIdeal.nD Cert.AdamS5MidRefIdeal.τ).loc Cert.AdamS5MidRefIdeal.main_arg0)
      ∧ r.2.mem ((c.tc : Thread Cert.AdamS5MidRefIdeal.nD Cert.AdamS5MidRefIdeal.τ).loc Cert.AdamS5MidRefIdeal.main_arg1) = m ((c.tc : Thread Cert.AdamS5MidRefIdeal.nD Cert.AdamS5MidRefIdeal.τ).loc Cert.AdamS5MidRefIdeal.main_arg1)
      ∧ r.2.mem ((c.tc : Thread Cert.AdamS5MidRefIdeal.nD Cert.AdamS5MidRefIdeal.τ).loc Cert.AdamS5MidRefIdeal.main_arg2) = m ((c.tc : Thread Cert.AdamS5MidRefIdeal.nD Cert.AdamS5MidRefIdeal.τ).loc Cert.AdamS5MidRefIdeal.main_arg2)
      ∧ r.2.mem ((c.tc : Thread Cert.AdamS5MidRefIdeal.nD Cert.AdamS5MidRefIdeal.τ).loc Cert.AdamS5MidRefIdeal.main_arg3) = m ((c.tc : Thread Cert.AdamS5MidRefIdeal.nD Cert.AdamS5MidRefIdeal.τ).loc Cert.AdamS5MidRefIdeal.main_arg3))
      ∧ r.2.sem = fun _ => 0)

def quiescent_AdamLruGate [hAdamLruGate : Cert.AdamLruGate.Facts] : Prop :=
  ∀ (m : (ℓ : Loc Cert.AdamLruGate.nD Cert.AdamLruGate.τ Cert.AdamLruGate.sig) → Buf (Elt Bits) ℓ) (g : Dev Cert.AdamLruGate.nD → PrngReg), Pre_AdamLruGate m →
    θ_run (Cert.AdamLruGate.defs (F := Bits)) (onTc (τ := Cert.AdamLruGate.τ) (Cert.AdamLruGate.main (F := Bits))) ⟨m, fun _ => 0, g⟩ (fun r => (∀ c : Dev Cert.AdamLruGate.nD,
      r.2.mem ((c.tc : Thread Cert.AdamLruGate.nD Cert.AdamLruGate.τ).loc Cert.AdamLruGate.main_arg0) = m ((c.tc : Thread Cert.AdamLruGate.nD Cert.AdamLruGate.τ).loc Cert.AdamLruGate.main_arg0)
      ∧ r.2.mem ((c.tc : Thread Cert.AdamLruGate.nD Cert.AdamLruGate.τ).loc Cert.AdamLruGate.main_arg1) = m ((c.tc : Thread Cert.AdamLruGate.nD Cert.AdamLruGate.τ).loc Cert.AdamLruGate.main_arg1)
      ∧ r.2.mem ((c.tc : Thread Cert.AdamLruGate.nD Cert.AdamLruGate.τ).loc Cert.AdamLruGate.main_arg2) = m ((c.tc : Thread Cert.AdamLruGate.nD Cert.AdamLruGate.τ).loc Cert.AdamLruGate.main_arg2)
      ∧ r.2.mem ((c.tc : Thread Cert.AdamLruGate.nD Cert.AdamLruGate.τ).loc Cert.AdamLruGate.main_arg3) = m ((c.tc : Thread Cert.AdamLruGate.nD Cert.AdamLruGate.τ).loc Cert.AdamLruGate.main_arg3))
      ∧ r.2.sem = fun _ => 0)

def quiescent_AdamLruGateIdeal [hAdamLruGateIdeal : Cert.AdamLruGateIdeal.Facts] : Prop :=
  ∀ (m : (ℓ : Loc Cert.AdamLruGateIdeal.nD Cert.AdamLruGateIdeal.τ Cert.AdamLruGateIdeal.sig) → Buf (Elt Ideal) ℓ) (g : Dev Cert.AdamLruGateIdeal.nD → PrngReg), Pre_AdamLruGateIdeal m →
    θ_run (Cert.AdamLruGateIdeal.defs (F := Ideal)) (onTc (τ := Cert.AdamLruGateIdeal.τ) (Cert.AdamLruGateIdeal.main (F := Ideal))) ⟨m, fun _ => 0, g⟩ (fun r => (∀ c : Dev Cert.AdamLruGateIdeal.nD,
      r.2.mem ((c.tc : Thread Cert.AdamLruGateIdeal.nD Cert.AdamLruGateIdeal.τ).loc Cert.AdamLruGateIdeal.main_arg0) = m ((c.tc : Thread Cert.AdamLruGateIdeal.nD Cert.AdamLruGateIdeal.τ).loc Cert.AdamLruGateIdeal.main_arg0)
      ∧ r.2.mem ((c.tc : Thread Cert.AdamLruGateIdeal.nD Cert.AdamLruGateIdeal.τ).loc Cert.AdamLruGateIdeal.main_arg1) = m ((c.tc : Thread Cert.AdamLruGateIdeal.nD Cert.AdamLruGateIdeal.τ).loc Cert.AdamLruGateIdeal.main_arg1)
      ∧ r.2.mem ((c.tc : Thread Cert.AdamLruGateIdeal.nD Cert.AdamLruGateIdeal.τ).loc Cert.AdamLruGateIdeal.main_arg2) = m ((c.tc : Thread Cert.AdamLruGateIdeal.nD Cert.AdamLruGateIdeal.τ).loc Cert.AdamLruGateIdeal.main_arg2)
      ∧ r.2.mem ((c.tc : Thread Cert.AdamLruGateIdeal.nD Cert.AdamLruGateIdeal.τ).loc Cert.AdamLruGateIdeal.main_arg3) = m ((c.tc : Thread Cert.AdamLruGateIdeal.nD Cert.AdamLruGateIdeal.τ).loc Cert.AdamLruGateIdeal.main_arg3))
      ∧ r.2.sem = fun _ => 0)

def quiescent_AdamLruGateRefIdeal [hAdamLruGateRefIdeal : Cert.AdamLruGateRefIdeal.Facts] : Prop :=
  ∀ (m : (ℓ : Loc Cert.AdamLruGateRefIdeal.nD Cert.AdamLruGateRefIdeal.τ Cert.AdamLruGateRefIdeal.sig) → Buf (Elt Ideal) ℓ) (g : Dev Cert.AdamLruGateRefIdeal.nD → PrngReg), Pre_AdamLruGateRefIdeal m →
    θ_run (Cert.AdamLruGateRefIdeal.defs (F := Ideal)) (onTc (τ := Cert.AdamLruGateRefIdeal.τ) (Cert.AdamLruGateRefIdeal.main (F := Ideal))) ⟨m, fun _ => 0, g⟩ (fun r => (∀ c : Dev Cert.AdamLruGateRefIdeal.nD,
      r.2.mem ((c.tc : Thread Cert.AdamLruGateRefIdeal.nD Cert.AdamLruGateRefIdeal.τ).loc Cert.AdamLruGateRefIdeal.main_arg0) = m ((c.tc : Thread Cert.AdamLruGateRefIdeal.nD Cert.AdamLruGateRefIdeal.τ).loc Cert.AdamLruGateRefIdeal.main_arg0)
      ∧ r.2.mem ((c.tc : Thread Cert.AdamLruGateRefIdeal.nD Cert.AdamLruGateRefIdeal.τ).loc Cert.AdamLruGateRefIdeal.main_arg1) = m ((c.tc : Thread Cert.AdamLruGateRefIdeal.nD Cert.AdamLruGateRefIdeal.τ).loc Cert.AdamLruGateRefIdeal.main_arg1)
      ∧ r.2.mem ((c.tc : Thread Cert.AdamLruGateRefIdeal.nD Cert.AdamLruGateRefIdeal.τ).loc Cert.AdamLruGateRefIdeal.main_arg2) = m ((c.tc : Thread Cert.AdamLruGateRefIdeal.nD Cert.AdamLruGateRefIdeal.τ).loc Cert.AdamLruGateRefIdeal.main_arg2)
      ∧ r.2.mem ((c.tc : Thread Cert.AdamLruGateRefIdeal.nD Cert.AdamLruGateRefIdeal.τ).loc Cert.AdamLruGateRefIdeal.main_arg3) = m ((c.tc : Thread Cert.AdamLruGateRefIdeal.nD Cert.AdamLruGateRefIdeal.τ).loc Cert.AdamLruGateRefIdeal.main_arg3))
      ∧ r.2.sem = fun _ => 0)

def quiescent_AdamS5In [hAdamS5In : Cert.AdamS5In.Facts] : Prop :=
  ∀ (m : (ℓ : Loc Cert.AdamS5In.nD Cert.AdamS5In.τ Cert.AdamS5In.sig) → Buf (Elt Bits) ℓ) (g : Dev Cert.AdamS5In.nD → PrngReg), Pre_AdamS5In m →
    θ_run (Cert.AdamS5In.defs (F := Bits)) (onTc (τ := Cert.AdamS5In.τ) (Cert.AdamS5In.main (F := Bits))) ⟨m, fun _ => 0, g⟩ (fun r => (∀ c : Dev Cert.AdamS5In.nD,
      r.2.mem ((c.tc : Thread Cert.AdamS5In.nD Cert.AdamS5In.τ).loc Cert.AdamS5In.main_arg0) = m ((c.tc : Thread Cert.AdamS5In.nD Cert.AdamS5In.τ).loc Cert.AdamS5In.main_arg0)
      ∧ r.2.mem ((c.tc : Thread Cert.AdamS5In.nD Cert.AdamS5In.τ).loc Cert.AdamS5In.main_arg1) = m ((c.tc : Thread Cert.AdamS5In.nD Cert.AdamS5In.τ).loc Cert.AdamS5In.main_arg1)
      ∧ r.2.mem ((c.tc : Thread Cert.AdamS5In.nD Cert.AdamS5In.τ).loc Cert.AdamS5In.main_arg2) = m ((c.tc : Thread Cert.AdamS5In.nD Cert.AdamS5In.τ).loc Cert.AdamS5In.main_arg2)
      ∧ r.2.mem ((c.tc : Thread Cert.AdamS5In.nD Cert.AdamS5In.τ).loc Cert.AdamS5In.main_arg3) = m ((c.tc : Thread Cert.AdamS5In.nD Cert.AdamS5In.τ).loc Cert.AdamS5In.main_arg3))
      ∧ r.2.sem = fun _ => 0)

def quiescent_AdamS5InIdeal [hAdamS5InIdeal : Cert.AdamS5InIdeal.Facts] : Prop :=
  ∀ (m : (ℓ : Loc Cert.AdamS5InIdeal.nD Cert.AdamS5InIdeal.τ Cert.AdamS5InIdeal.sig) → Buf (Elt Ideal) ℓ) (g : Dev Cert.AdamS5InIdeal.nD → PrngReg), Pre_AdamS5InIdeal m →
    θ_run (Cert.AdamS5InIdeal.defs (F := Ideal)) (onTc (τ := Cert.AdamS5InIdeal.τ) (Cert.AdamS5InIdeal.main (F := Ideal))) ⟨m, fun _ => 0, g⟩ (fun r => (∀ c : Dev Cert.AdamS5InIdeal.nD,
      r.2.mem ((c.tc : Thread Cert.AdamS5InIdeal.nD Cert.AdamS5InIdeal.τ).loc Cert.AdamS5InIdeal.main_arg0) = m ((c.tc : Thread Cert.AdamS5InIdeal.nD Cert.AdamS5InIdeal.τ).loc Cert.AdamS5InIdeal.main_arg0)
      ∧ r.2.mem ((c.tc : Thread Cert.AdamS5InIdeal.nD Cert.AdamS5InIdeal.τ).loc Cert.AdamS5InIdeal.main_arg1) = m ((c.tc : Thread Cert.AdamS5InIdeal.nD Cert.AdamS5InIdeal.τ).loc Cert.AdamS5InIdeal.main_arg1)
      ∧ r.2.mem ((c.tc : Thread Cert.AdamS5InIdeal.nD Cert.AdamS5InIdeal.τ).loc Cert.AdamS5InIdeal.main_arg2) = m ((c.tc : Thread Cert.AdamS5InIdeal.nD Cert.AdamS5InIdeal.τ).loc Cert.AdamS5InIdeal.main_arg2)
      ∧ r.2.mem ((c.tc : Thread Cert.AdamS5InIdeal.nD Cert.AdamS5InIdeal.τ).loc Cert.AdamS5InIdeal.main_arg3) = m ((c.tc : Thread Cert.AdamS5InIdeal.nD Cert.AdamS5InIdeal.τ).loc Cert.AdamS5InIdeal.main_arg3))
      ∧ r.2.sem = fun _ => 0)

def quiescent_AdamS5InRefIdeal [hAdamS5InRefIdeal : Cert.AdamS5InRefIdeal.Facts] : Prop :=
  ∀ (m : (ℓ : Loc Cert.AdamS5InRefIdeal.nD Cert.AdamS5InRefIdeal.τ Cert.AdamS5InRefIdeal.sig) → Buf (Elt Ideal) ℓ) (g : Dev Cert.AdamS5InRefIdeal.nD → PrngReg), Pre_AdamS5InRefIdeal m →
    θ_run (Cert.AdamS5InRefIdeal.defs (F := Ideal)) (onTc (τ := Cert.AdamS5InRefIdeal.τ) (Cert.AdamS5InRefIdeal.main (F := Ideal))) ⟨m, fun _ => 0, g⟩ (fun r => (∀ c : Dev Cert.AdamS5InRefIdeal.nD,
      r.2.mem ((c.tc : Thread Cert.AdamS5InRefIdeal.nD Cert.AdamS5InRefIdeal.τ).loc Cert.AdamS5InRefIdeal.main_arg0) = m ((c.tc : Thread Cert.AdamS5InRefIdeal.nD Cert.AdamS5InRefIdeal.τ).loc Cert.AdamS5InRefIdeal.main_arg0)
      ∧ r.2.mem ((c.tc : Thread Cert.AdamS5InRefIdeal.nD Cert.AdamS5InRefIdeal.τ).loc Cert.AdamS5InRefIdeal.main_arg1) = m ((c.tc : Thread Cert.AdamS5InRefIdeal.nD Cert.AdamS5InRefIdeal.τ).loc Cert.AdamS5InRefIdeal.main_arg1)
      ∧ r.2.mem ((c.tc : Thread Cert.AdamS5InRefIdeal.nD Cert.AdamS5InRefIdeal.τ).loc Cert.AdamS5InRefIdeal.main_arg2) = m ((c.tc : Thread Cert.AdamS5InRefIdeal.nD Cert.AdamS5InRefIdeal.τ).loc Cert.AdamS5InRefIdeal.main_arg2)
      ∧ r.2.mem ((c.tc : Thread Cert.AdamS5InRefIdeal.nD Cert.AdamS5InRefIdeal.τ).loc Cert.AdamS5InRefIdeal.main_arg3) = m ((c.tc : Thread Cert.AdamS5InRefIdeal.nD Cert.AdamS5InRefIdeal.τ).loc Cert.AdamS5InRefIdeal.main_arg3))
      ∧ r.2.sem = fun _ => 0)

def quiescent_AdamS5Glu [hAdamS5Glu : Cert.AdamS5Glu.Facts] : Prop :=
  ∀ (m : (ℓ : Loc Cert.AdamS5Glu.nD Cert.AdamS5Glu.τ Cert.AdamS5Glu.sig) → Buf (Elt Bits) ℓ) (g : Dev Cert.AdamS5Glu.nD → PrngReg), Pre_AdamS5Glu m →
    θ_run (Cert.AdamS5Glu.defs (F := Bits)) (onTc (τ := Cert.AdamS5Glu.τ) (Cert.AdamS5Glu.main (F := Bits))) ⟨m, fun _ => 0, g⟩ (fun r => (∀ c : Dev Cert.AdamS5Glu.nD,
      r.2.mem ((c.tc : Thread Cert.AdamS5Glu.nD Cert.AdamS5Glu.τ).loc Cert.AdamS5Glu.main_arg0) = m ((c.tc : Thread Cert.AdamS5Glu.nD Cert.AdamS5Glu.τ).loc Cert.AdamS5Glu.main_arg0)
      ∧ r.2.mem ((c.tc : Thread Cert.AdamS5Glu.nD Cert.AdamS5Glu.τ).loc Cert.AdamS5Glu.main_arg1) = m ((c.tc : Thread Cert.AdamS5Glu.nD Cert.AdamS5Glu.τ).loc Cert.AdamS5Glu.main_arg1)
      ∧ r.2.mem ((c.tc : Thread Cert.AdamS5Glu.nD Cert.AdamS5Glu.τ).loc Cert.AdamS5Glu.main_arg2) = m ((c.tc : Thread Cert.AdamS5Glu.nD Cert.AdamS5Glu.τ).loc Cert.AdamS5Glu.main_arg2)
      ∧ r.2.mem ((c.tc : Thread Cert.AdamS5Glu.nD Cert.AdamS5Glu.τ).loc Cert.AdamS5Glu.main_arg3) = m ((c.tc : Thread Cert.AdamS5Glu.nD Cert.AdamS5Glu.τ).loc Cert.AdamS5Glu.main_arg3))
      ∧ r.2.sem = fun _ => 0)

def quiescent_AdamS5GluIdeal [hAdamS5GluIdeal : Cert.AdamS5GluIdeal.Facts] : Prop :=
  ∀ (m : (ℓ : Loc Cert.AdamS5GluIdeal.nD Cert.AdamS5GluIdeal.τ Cert.AdamS5GluIdeal.sig) → Buf (Elt Ideal) ℓ) (g : Dev Cert.AdamS5GluIdeal.nD → PrngReg), Pre_AdamS5GluIdeal m →
    θ_run (Cert.AdamS5GluIdeal.defs (F := Ideal)) (onTc (τ := Cert.AdamS5GluIdeal.τ) (Cert.AdamS5GluIdeal.main (F := Ideal))) ⟨m, fun _ => 0, g⟩ (fun r => (∀ c : Dev Cert.AdamS5GluIdeal.nD,
      r.2.mem ((c.tc : Thread Cert.AdamS5GluIdeal.nD Cert.AdamS5GluIdeal.τ).loc Cert.AdamS5GluIdeal.main_arg0) = m ((c.tc : Thread Cert.AdamS5GluIdeal.nD Cert.AdamS5GluIdeal.τ).loc Cert.AdamS5GluIdeal.main_arg0)
      ∧ r.2.mem ((c.tc : Thread Cert.AdamS5GluIdeal.nD Cert.AdamS5GluIdeal.τ).loc Cert.AdamS5GluIdeal.main_arg1) = m ((c.tc : Thread Cert.AdamS5GluIdeal.nD Cert.AdamS5GluIdeal.τ).loc Cert.AdamS5GluIdeal.main_arg1)
      ∧ r.2.mem ((c.tc : Thread Cert.AdamS5GluIdeal.nD Cert.AdamS5GluIdeal.τ).loc Cert.AdamS5GluIdeal.main_arg2) = m ((c.tc : Thread Cert.AdamS5GluIdeal.nD Cert.AdamS5GluIdeal.τ).loc Cert.AdamS5GluIdeal.main_arg2)
      ∧ r.2.mem ((c.tc : Thread Cert.AdamS5GluIdeal.nD Cert.AdamS5GluIdeal.τ).loc Cert.AdamS5GluIdeal.main_arg3) = m ((c.tc : Thread Cert.AdamS5GluIdeal.nD Cert.AdamS5GluIdeal.τ).loc Cert.AdamS5GluIdeal.main_arg3))
      ∧ r.2.sem = fun _ => 0)

def quiescent_AdamS5GluRefIdeal [hAdamS5GluRefIdeal : Cert.AdamS5GluRefIdeal.Facts] : Prop :=
  ∀ (m : (ℓ : Loc Cert.AdamS5GluRefIdeal.nD Cert.AdamS5GluRefIdeal.τ Cert.AdamS5GluRefIdeal.sig) → Buf (Elt Ideal) ℓ) (g : Dev Cert.AdamS5GluRefIdeal.nD → PrngReg), Pre_AdamS5GluRefIdeal m →
    θ_run (Cert.AdamS5GluRefIdeal.defs (F := Ideal)) (onTc (τ := Cert.AdamS5GluRefIdeal.τ) (Cert.AdamS5GluRefIdeal.main (F := Ideal))) ⟨m, fun _ => 0, g⟩ (fun r => (∀ c : Dev Cert.AdamS5GluRefIdeal.nD,
      r.2.mem ((c.tc : Thread Cert.AdamS5GluRefIdeal.nD Cert.AdamS5GluRefIdeal.τ).loc Cert.AdamS5GluRefIdeal.main_arg0) = m ((c.tc : Thread Cert.AdamS5GluRefIdeal.nD Cert.AdamS5GluRefIdeal.τ).loc Cert.AdamS5GluRefIdeal.main_arg0)
      ∧ r.2.mem ((c.tc : Thread Cert.AdamS5GluRefIdeal.nD Cert.AdamS5GluRefIdeal.τ).loc Cert.AdamS5GluRefIdeal.main_arg1) = m ((c.tc : Thread Cert.AdamS5GluRefIdeal.nD Cert.AdamS5GluRefIdeal.τ).loc Cert.AdamS5GluRefIdeal.main_arg1)
      ∧ r.2.mem ((c.tc : Thread Cert.AdamS5GluRefIdeal.nD Cert.AdamS5GluRefIdeal.τ).loc Cert.AdamS5GluRefIdeal.main_arg2) = m ((c.tc : Thread Cert.AdamS5GluRefIdeal.nD Cert.AdamS5GluRefIdeal.τ).loc Cert.AdamS5GluRefIdeal.main_arg2)
      ∧ r.2.mem ((c.tc : Thread Cert.AdamS5GluRefIdeal.nD Cert.AdamS5GluRefIdeal.τ).loc Cert.AdamS5GluRefIdeal.main_arg3) = m ((c.tc : Thread Cert.AdamS5GluRefIdeal.nD Cert.AdamS5GluRefIdeal.τ).loc Cert.AdamS5GluRefIdeal.main_arg3))
      ∧ r.2.sem = fun _ => 0)

def quiescent_AdamLruIn [hAdamLruIn : Cert.AdamLruIn.Facts] : Prop :=
  ∀ (m : (ℓ : Loc Cert.AdamLruIn.nD Cert.AdamLruIn.τ Cert.AdamLruIn.sig) → Buf (Elt Bits) ℓ) (g : Dev Cert.AdamLruIn.nD → PrngReg), Pre_AdamLruIn m →
    θ_run (Cert.AdamLruIn.defs (F := Bits)) (onTc (τ := Cert.AdamLruIn.τ) (Cert.AdamLruIn.main (F := Bits))) ⟨m, fun _ => 0, g⟩ (fun r => (∀ c : Dev Cert.AdamLruIn.nD,
      r.2.mem ((c.tc : Thread Cert.AdamLruIn.nD Cert.AdamLruIn.τ).loc Cert.AdamLruIn.main_arg0) = m ((c.tc : Thread Cert.AdamLruIn.nD Cert.AdamLruIn.τ).loc Cert.AdamLruIn.main_arg0)
      ∧ r.2.mem ((c.tc : Thread Cert.AdamLruIn.nD Cert.AdamLruIn.τ).loc Cert.AdamLruIn.main_arg1) = m ((c.tc : Thread Cert.AdamLruIn.nD Cert.AdamLruIn.τ).loc Cert.AdamLruIn.main_arg1)
      ∧ r.2.mem ((c.tc : Thread Cert.AdamLruIn.nD Cert.AdamLruIn.τ).loc Cert.AdamLruIn.main_arg2) = m ((c.tc : Thread Cert.AdamLruIn.nD Cert.AdamLruIn.τ).loc Cert.AdamLruIn.main_arg2)
      ∧ r.2.mem ((c.tc : Thread Cert.AdamLruIn.nD Cert.AdamLruIn.τ).loc Cert.AdamLruIn.main_arg3) = m ((c.tc : Thread Cert.AdamLruIn.nD Cert.AdamLruIn.τ).loc Cert.AdamLruIn.main_arg3))
      ∧ r.2.sem = fun _ => 0)

def quiescent_AdamLruInIdeal [hAdamLruInIdeal : Cert.AdamLruInIdeal.Facts] : Prop :=
  ∀ (m : (ℓ : Loc Cert.AdamLruInIdeal.nD Cert.AdamLruInIdeal.τ Cert.AdamLruInIdeal.sig) → Buf (Elt Ideal) ℓ) (g : Dev Cert.AdamLruInIdeal.nD → PrngReg), Pre_AdamLruInIdeal m →
    θ_run (Cert.AdamLruInIdeal.defs (F := Ideal)) (onTc (τ := Cert.AdamLruInIdeal.τ) (Cert.AdamLruInIdeal.main (F := Ideal))) ⟨m, fun _ => 0, g⟩ (fun r => (∀ c : Dev Cert.AdamLruInIdeal.nD,
      r.2.mem ((c.tc : Thread Cert.AdamLruInIdeal.nD Cert.AdamLruInIdeal.τ).loc Cert.AdamLruInIdeal.main_arg0) = m ((c.tc : Thread Cert.AdamLruInIdeal.nD Cert.AdamLruInIdeal.τ).loc Cert.AdamLruInIdeal.main_arg0)
      ∧ r.2.mem ((c.tc : Thread Cert.AdamLruInIdeal.nD Cert.AdamLruInIdeal.τ).loc Cert.AdamLruInIdeal.main_arg1) = m ((c.tc : Thread Cert.AdamLruInIdeal.nD Cert.AdamLruInIdeal.τ).loc Cert.AdamLruInIdeal.main_arg1)
      ∧ r.2.mem ((c.tc : Thread Cert.AdamLruInIdeal.nD Cert.AdamLruInIdeal.τ).loc Cert.AdamLruInIdeal.main_arg2) = m ((c.tc : Thread Cert.AdamLruInIdeal.nD Cert.AdamLruInIdeal.τ).loc Cert.AdamLruInIdeal.main_arg2)
      ∧ r.2.mem ((c.tc : Thread Cert.AdamLruInIdeal.nD Cert.AdamLruInIdeal.τ).loc Cert.AdamLruInIdeal.main_arg3) = m ((c.tc : Thread Cert.AdamLruInIdeal.nD Cert.AdamLruInIdeal.τ).loc Cert.AdamLruInIdeal.main_arg3))
      ∧ r.2.sem = fun _ => 0)

def quiescent_AdamLruInRefIdeal [hAdamLruInRefIdeal : Cert.AdamLruInRefIdeal.Facts] : Prop :=
  ∀ (m : (ℓ : Loc Cert.AdamLruInRefIdeal.nD Cert.AdamLruInRefIdeal.τ Cert.AdamLruInRefIdeal.sig) → Buf (Elt Ideal) ℓ) (g : Dev Cert.AdamLruInRefIdeal.nD → PrngReg), Pre_AdamLruInRefIdeal m →
    θ_run (Cert.AdamLruInRefIdeal.defs (F := Ideal)) (onTc (τ := Cert.AdamLruInRefIdeal.τ) (Cert.AdamLruInRefIdeal.main (F := Ideal))) ⟨m, fun _ => 0, g⟩ (fun r => (∀ c : Dev Cert.AdamLruInRefIdeal.nD,
      r.2.mem ((c.tc : Thread Cert.AdamLruInRefIdeal.nD Cert.AdamLruInRefIdeal.τ).loc Cert.AdamLruInRefIdeal.main_arg0) = m ((c.tc : Thread Cert.AdamLruInRefIdeal.nD Cert.AdamLruInRefIdeal.τ).loc Cert.AdamLruInRefIdeal.main_arg0)
      ∧ r.2.mem ((c.tc : Thread Cert.AdamLruInRefIdeal.nD Cert.AdamLruInRefIdeal.τ).loc Cert.AdamLruInRefIdeal.main_arg1) = m ((c.tc : Thread Cert.AdamLruInRefIdeal.nD Cert.AdamLruInRefIdeal.τ).loc Cert.AdamLruInRefIdeal.main_arg1)
      ∧ r.2.mem ((c.tc : Thread Cert.AdamLruInRefIdeal.nD Cert.AdamLruInRefIdeal.τ).loc Cert.AdamLruInRefIdeal.main_arg2) = m ((c.tc : Thread Cert.AdamLruInRefIdeal.nD Cert.AdamLruInRefIdeal.τ).loc Cert.AdamLruInRefIdeal.main_arg2)
      ∧ r.2.mem ((c.tc : Thread Cert.AdamLruInRefIdeal.nD Cert.AdamLruInRefIdeal.τ).loc Cert.AdamLruInRefIdeal.main_arg3) = m ((c.tc : Thread Cert.AdamLruInRefIdeal.nD Cert.AdamLruInRefIdeal.τ).loc Cert.AdamLruInRefIdeal.main_arg3))
      ∧ r.2.sem = fun _ => 0)

def quiescent_AdamLruOut [hAdamLruOut : Cert.AdamLruOut.Facts] : Prop :=
  ∀ (m : (ℓ : Loc Cert.AdamLruOut.nD Cert.AdamLruOut.τ Cert.AdamLruOut.sig) → Buf (Elt Bits) ℓ) (g : Dev Cert.AdamLruOut.nD → PrngReg), Pre_AdamLruOut m →
    θ_run (Cert.AdamLruOut.defs (F := Bits)) (onTc (τ := Cert.AdamLruOut.τ) (Cert.AdamLruOut.main (F := Bits))) ⟨m, fun _ => 0, g⟩ (fun r => (∀ c : Dev Cert.AdamLruOut.nD,
      r.2.mem ((c.tc : Thread Cert.AdamLruOut.nD Cert.AdamLruOut.τ).loc Cert.AdamLruOut.main_arg0) = m ((c.tc : Thread Cert.AdamLruOut.nD Cert.AdamLruOut.τ).loc Cert.AdamLruOut.main_arg0)
      ∧ r.2.mem ((c.tc : Thread Cert.AdamLruOut.nD Cert.AdamLruOut.τ).loc Cert.AdamLruOut.main_arg1) = m ((c.tc : Thread Cert.AdamLruOut.nD Cert.AdamLruOut.τ).loc Cert.AdamLruOut.main_arg1)
      ∧ r.2.mem ((c.tc : Thread Cert.AdamLruOut.nD Cert.AdamLruOut.τ).loc Cert.AdamLruOut.main_arg2) = m ((c.tc : Thread Cert.AdamLruOut.nD Cert.AdamLruOut.τ).loc Cert.AdamLruOut.main_arg2)
      ∧ r.2.mem ((c.tc : Thread Cert.AdamLruOut.nD Cert.AdamLruOut.τ).loc Cert.AdamLruOut.main_arg3) = m ((c.tc : Thread Cert.AdamLruOut.nD Cert.AdamLruOut.τ).loc Cert.AdamLruOut.main_arg3))
      ∧ r.2.sem = fun _ => 0)

def quiescent_AdamLruOutIdeal [hAdamLruOutIdeal : Cert.AdamLruOutIdeal.Facts] : Prop :=
  ∀ (m : (ℓ : Loc Cert.AdamLruOutIdeal.nD Cert.AdamLruOutIdeal.τ Cert.AdamLruOutIdeal.sig) → Buf (Elt Ideal) ℓ) (g : Dev Cert.AdamLruOutIdeal.nD → PrngReg), Pre_AdamLruOutIdeal m →
    θ_run (Cert.AdamLruOutIdeal.defs (F := Ideal)) (onTc (τ := Cert.AdamLruOutIdeal.τ) (Cert.AdamLruOutIdeal.main (F := Ideal))) ⟨m, fun _ => 0, g⟩ (fun r => (∀ c : Dev Cert.AdamLruOutIdeal.nD,
      r.2.mem ((c.tc : Thread Cert.AdamLruOutIdeal.nD Cert.AdamLruOutIdeal.τ).loc Cert.AdamLruOutIdeal.main_arg0) = m ((c.tc : Thread Cert.AdamLruOutIdeal.nD Cert.AdamLruOutIdeal.τ).loc Cert.AdamLruOutIdeal.main_arg0)
      ∧ r.2.mem ((c.tc : Thread Cert.AdamLruOutIdeal.nD Cert.AdamLruOutIdeal.τ).loc Cert.AdamLruOutIdeal.main_arg1) = m ((c.tc : Thread Cert.AdamLruOutIdeal.nD Cert.AdamLruOutIdeal.τ).loc Cert.AdamLruOutIdeal.main_arg1)
      ∧ r.2.mem ((c.tc : Thread Cert.AdamLruOutIdeal.nD Cert.AdamLruOutIdeal.τ).loc Cert.AdamLruOutIdeal.main_arg2) = m ((c.tc : Thread Cert.AdamLruOutIdeal.nD Cert.AdamLruOutIdeal.τ).loc Cert.AdamLruOutIdeal.main_arg2)
      ∧ r.2.mem ((c.tc : Thread Cert.AdamLruOutIdeal.nD Cert.AdamLruOutIdeal.τ).loc Cert.AdamLruOutIdeal.main_arg3) = m ((c.tc : Thread Cert.AdamLruOutIdeal.nD Cert.AdamLruOutIdeal.τ).loc Cert.AdamLruOutIdeal.main_arg3))
      ∧ r.2.sem = fun _ => 0)

def quiescent_AdamLruOutRefIdeal [hAdamLruOutRefIdeal : Cert.AdamLruOutRefIdeal.Facts] : Prop :=
  ∀ (m : (ℓ : Loc Cert.AdamLruOutRefIdeal.nD Cert.AdamLruOutRefIdeal.τ Cert.AdamLruOutRefIdeal.sig) → Buf (Elt Ideal) ℓ) (g : Dev Cert.AdamLruOutRefIdeal.nD → PrngReg), Pre_AdamLruOutRefIdeal m →
    θ_run (Cert.AdamLruOutRefIdeal.defs (F := Ideal)) (onTc (τ := Cert.AdamLruOutRefIdeal.τ) (Cert.AdamLruOutRefIdeal.main (F := Ideal))) ⟨m, fun _ => 0, g⟩ (fun r => (∀ c : Dev Cert.AdamLruOutRefIdeal.nD,
      r.2.mem ((c.tc : Thread Cert.AdamLruOutRefIdeal.nD Cert.AdamLruOutRefIdeal.τ).loc Cert.AdamLruOutRefIdeal.main_arg0) = m ((c.tc : Thread Cert.AdamLruOutRefIdeal.nD Cert.AdamLruOutRefIdeal.τ).loc Cert.AdamLruOutRefIdeal.main_arg0)
      ∧ r.2.mem ((c.tc : Thread Cert.AdamLruOutRefIdeal.nD Cert.AdamLruOutRefIdeal.τ).loc Cert.AdamLruOutRefIdeal.main_arg1) = m ((c.tc : Thread Cert.AdamLruOutRefIdeal.nD Cert.AdamLruOutRefIdeal.τ).loc Cert.AdamLruOutRefIdeal.main_arg1)
      ∧ r.2.mem ((c.tc : Thread Cert.AdamLruOutRefIdeal.nD Cert.AdamLruOutRefIdeal.τ).loc Cert.AdamLruOutRefIdeal.main_arg2) = m ((c.tc : Thread Cert.AdamLruOutRefIdeal.nD Cert.AdamLruOutRefIdeal.τ).loc Cert.AdamLruOutRefIdeal.main_arg2)
      ∧ r.2.mem ((c.tc : Thread Cert.AdamLruOutRefIdeal.nD Cert.AdamLruOutRefIdeal.τ).loc Cert.AdamLruOutRefIdeal.main_arg3) = m ((c.tc : Thread Cert.AdamLruOutRefIdeal.nD Cert.AdamLruOutRefIdeal.τ).loc Cert.AdamLruOutRefIdeal.main_arg3))
      ∧ r.2.sem = fun _ => 0)

def quiescent_AdamFfnGu [hAdamFfnGu : Cert.AdamFfnGu.Facts] : Prop :=
  ∀ (m : (ℓ : Loc Cert.AdamFfnGu.nD Cert.AdamFfnGu.τ Cert.AdamFfnGu.sig) → Buf (Elt Bits) ℓ) (g : Dev Cert.AdamFfnGu.nD → PrngReg), Pre_AdamFfnGu m →
    θ_run (Cert.AdamFfnGu.defs (F := Bits)) (onTc (τ := Cert.AdamFfnGu.τ) (Cert.AdamFfnGu.main (F := Bits))) ⟨m, fun _ => 0, g⟩ (fun r => (∀ c : Dev Cert.AdamFfnGu.nD,
      r.2.mem ((c.tc : Thread Cert.AdamFfnGu.nD Cert.AdamFfnGu.τ).loc Cert.AdamFfnGu.main_arg0) = m ((c.tc : Thread Cert.AdamFfnGu.nD Cert.AdamFfnGu.τ).loc Cert.AdamFfnGu.main_arg0)
      ∧ r.2.mem ((c.tc : Thread Cert.AdamFfnGu.nD Cert.AdamFfnGu.τ).loc Cert.AdamFfnGu.main_arg1) = m ((c.tc : Thread Cert.AdamFfnGu.nD Cert.AdamFfnGu.τ).loc Cert.AdamFfnGu.main_arg1)
      ∧ r.2.mem ((c.tc : Thread Cert.AdamFfnGu.nD Cert.AdamFfnGu.τ).loc Cert.AdamFfnGu.main_arg2) = m ((c.tc : Thread Cert.AdamFfnGu.nD Cert.AdamFfnGu.τ).loc Cert.AdamFfnGu.main_arg2)
      ∧ r.2.mem ((c.tc : Thread Cert.AdamFfnGu.nD Cert.AdamFfnGu.τ).loc Cert.AdamFfnGu.main_arg3) = m ((c.tc : Thread Cert.AdamFfnGu.nD Cert.AdamFfnGu.τ).loc Cert.AdamFfnGu.main_arg3))
      ∧ r.2.sem = fun _ => 0)

def quiescent_AdamFfnGuIdeal [hAdamFfnGuIdeal : Cert.AdamFfnGuIdeal.Facts] : Prop :=
  ∀ (m : (ℓ : Loc Cert.AdamFfnGuIdeal.nD Cert.AdamFfnGuIdeal.τ Cert.AdamFfnGuIdeal.sig) → Buf (Elt Ideal) ℓ) (g : Dev Cert.AdamFfnGuIdeal.nD → PrngReg), Pre_AdamFfnGuIdeal m →
    θ_run (Cert.AdamFfnGuIdeal.defs (F := Ideal)) (onTc (τ := Cert.AdamFfnGuIdeal.τ) (Cert.AdamFfnGuIdeal.main (F := Ideal))) ⟨m, fun _ => 0, g⟩ (fun r => (∀ c : Dev Cert.AdamFfnGuIdeal.nD,
      r.2.mem ((c.tc : Thread Cert.AdamFfnGuIdeal.nD Cert.AdamFfnGuIdeal.τ).loc Cert.AdamFfnGuIdeal.main_arg0) = m ((c.tc : Thread Cert.AdamFfnGuIdeal.nD Cert.AdamFfnGuIdeal.τ).loc Cert.AdamFfnGuIdeal.main_arg0)
      ∧ r.2.mem ((c.tc : Thread Cert.AdamFfnGuIdeal.nD Cert.AdamFfnGuIdeal.τ).loc Cert.AdamFfnGuIdeal.main_arg1) = m ((c.tc : Thread Cert.AdamFfnGuIdeal.nD Cert.AdamFfnGuIdeal.τ).loc Cert.AdamFfnGuIdeal.main_arg1)
      ∧ r.2.mem ((c.tc : Thread Cert.AdamFfnGuIdeal.nD Cert.AdamFfnGuIdeal.τ).loc Cert.AdamFfnGuIdeal.main_arg2) = m ((c.tc : Thread Cert.AdamFfnGuIdeal.nD Cert.AdamFfnGuIdeal.τ).loc Cert.AdamFfnGuIdeal.main_arg2)
      ∧ r.2.mem ((c.tc : Thread Cert.AdamFfnGuIdeal.nD Cert.AdamFfnGuIdeal.τ).loc Cert.AdamFfnGuIdeal.main_arg3) = m ((c.tc : Thread Cert.AdamFfnGuIdeal.nD Cert.AdamFfnGuIdeal.τ).loc Cert.AdamFfnGuIdeal.main_arg3))
      ∧ r.2.sem = fun _ => 0)

def quiescent_AdamFfnGuRefIdeal [hAdamFfnGuRefIdeal : Cert.AdamFfnGuRefIdeal.Facts] : Prop :=
  ∀ (m : (ℓ : Loc Cert.AdamFfnGuRefIdeal.nD Cert.AdamFfnGuRefIdeal.τ Cert.AdamFfnGuRefIdeal.sig) → Buf (Elt Ideal) ℓ) (g : Dev Cert.AdamFfnGuRefIdeal.nD → PrngReg), Pre_AdamFfnGuRefIdeal m →
    θ_run (Cert.AdamFfnGuRefIdeal.defs (F := Ideal)) (onTc (τ := Cert.AdamFfnGuRefIdeal.τ) (Cert.AdamFfnGuRefIdeal.main (F := Ideal))) ⟨m, fun _ => 0, g⟩ (fun r => (∀ c : Dev Cert.AdamFfnGuRefIdeal.nD,
      r.2.mem ((c.tc : Thread Cert.AdamFfnGuRefIdeal.nD Cert.AdamFfnGuRefIdeal.τ).loc Cert.AdamFfnGuRefIdeal.main_arg0) = m ((c.tc : Thread Cert.AdamFfnGuRefIdeal.nD Cert.AdamFfnGuRefIdeal.τ).loc Cert.AdamFfnGuRefIdeal.main_arg0)
      ∧ r.2.mem ((c.tc : Thread Cert.AdamFfnGuRefIdeal.nD Cert.AdamFfnGuRefIdeal.τ).loc Cert.AdamFfnGuRefIdeal.main_arg1) = m ((c.tc : Thread Cert.AdamFfnGuRefIdeal.nD Cert.AdamFfnGuRefIdeal.τ).loc Cert.AdamFfnGuRefIdeal.main_arg1)
      ∧ r.2.mem ((c.tc : Thread Cert.AdamFfnGuRefIdeal.nD Cert.AdamFfnGuRefIdeal.τ).loc Cert.AdamFfnGuRefIdeal.main_arg2) = m ((c.tc : Thread Cert.AdamFfnGuRefIdeal.nD Cert.AdamFfnGuRefIdeal.τ).loc Cert.AdamFfnGuRefIdeal.main_arg2)
      ∧ r.2.mem ((c.tc : Thread Cert.AdamFfnGuRefIdeal.nD Cert.AdamFfnGuRefIdeal.τ).loc Cert.AdamFfnGuRefIdeal.main_arg3) = m ((c.tc : Thread Cert.AdamFfnGuRefIdeal.nD Cert.AdamFfnGuRefIdeal.τ).loc Cert.AdamFfnGuRefIdeal.main_arg3))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ r.2.sem = fun _ => 0)

def quiescent_AdamFfnDownRefIdeal [hAdamFfnDownRefIdeal : Cert.AdamFfnDownRefIdeal.Facts] : Prop :=
  ∀ (m : (ℓ : Loc Cert.AdamFfnDownRefIdeal.nD Cert.AdamFfnDownRefIdeal.τ Cert.AdamFfnDownRefIdeal.sig) → Buf (Elt Ideal) ℓ) (g : Dev Cert.AdamFfnDownRefIdeal.nD → PrngReg), Pre_AdamFfnDownRefIdeal m →
    θ_run (Cert.AdamFfnDownRefIdeal.defs (F := Ideal)) (onTc (τ := Cert.AdamFfnDownRefIdeal.τ) (Cert.AdamFfnDownRefIdeal.main (F := Ideal))) ⟨m, fun _ => 0, g⟩ (fun r => (∀ c : Dev Cert.AdamFfnDownRefIdeal.nD,
      r.2.mem ((c.tc : Thread Cert.AdamFfnDownRefIdeal.nD Cert.AdamFfnDownRefIdeal.τ).loc Cert.AdamFfnDownRefIdeal.main_arg0) = m ((c.tc : Thread Cert.AdamFfnDownRefIdeal.nD Cert.AdamFfnDownRefIdeal.τ).loc Cert.AdamFfnDownRefIdeal.main_arg0)
      ∧ r.2.mem ((c.tc : Thread Cert.AdamFfnDownRefIdeal.nD Cert.AdamFfnDownRefIdeal.τ).loc Cert.AdamFfnDownRefIdeal.main_arg1) = m ((c.tc : Thread Cert.AdamFfnDownRefIdeal.nD Cert.AdamFfnDownRefIdeal.τ).loc Cert.AdamFfnDownRefIdeal.main_arg1)
      ∧ r.2.mem ((c.tc : Thread Cert.AdamFfnDownRefIdeal.nD Cert.AdamFfnDownRefIdeal.τ).loc Cert.AdamFfnDownRefIdeal.main_arg2) = m ((c.tc : Thread Cert.AdamFfnDownRefIdeal.nD Cert.AdamFfnDownRefIdeal.τ).loc Cert.AdamFfnDownRefIdeal.main_arg2)
      ∧ r.2.mem ((c.tc : Thread Cert.AdamFfnDownRefIdeal.nD Cert.AdamFfnDownRefIdeal.τ).loc Cert.AdamFfnDownRefIdeal.main_arg3) = m ((c.tc : Thread Cert.AdamFfnDownRefIdeal.nD Cert.AdamFfnDownRefIdeal.τ).loc Cert.AdamFfnDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumS5c [hSumS5c : Cert.SumS5c.Facts] : Prop :=
  ∀ (m : (ℓ : Loc Cert.SumS5c.nD Cert.SumS5c.τ Cert.SumS5c.sig) → Buf (Elt Bits) ℓ) (g : Dev Cert.SumS5c.nD → PrngReg), Pre_SumS5c m →
    θ_run (Cert.SumS5c.defs (F := Bits)) (onTc (τ := Cert.SumS5c.τ) (Cert.SumS5c.main (F := Bits))) ⟨m, fun _ => 0, g⟩ (fun r => (∀ c : Dev Cert.SumS5c.nD,
      r.2.mem ((c.tc : Thread Cert.SumS5c.nD Cert.SumS5c.τ).loc Cert.SumS5c.main_arg0) = m ((c.tc : Thread Cert.SumS5c.nD Cert.SumS5c.τ).loc Cert.SumS5c.main_arg0))
      ∧ r.2.sem = fun _ => 0)

def quiescent_SumS5cIdeal [hSumS5cIdeal : Cert.SumS5cIdeal.Facts] : Prop :=
  ∀ (m : (ℓ : Loc Cert.SumS5cIdeal.nD Cert.SumS5cIdeal.τ Cert.SumS5cIdeal.sig) → Buf (Elt Ideal) ℓ) (g : Dev Cert.SumS5cIdeal.nD → PrngReg), Pre_SumS5cIdeal m →
    θ_run (Cert.SumS5cIdeal.defs (F := Ideal)) (onTc (τ := Cert.SumS5cIdeal.τ) (Cert.SumS5cIdeal.main (F := Ideal))) ⟨m, fun _ => 0, g⟩ (fun r => (∀ c : Dev Cert.SumS5cIdeal.nD,
      r.2.mem ((c.tc : Thread Cert.SumS5cIdeal.nD Cert.SumS5cIdeal.τ).loc Cert.SumS5cIdeal.main_arg0) = m ((c.tc : Thread Cert.SumS5cIdeal.nD Cert.SumS5cIdeal.τ).loc Cert.SumS5cIdeal.main_arg0))
      ∧ r.2.sem = fun _ => 0)

def quiescent_SumS5cRefIdeal [hSumS5cRefIdeal : Cert.SumS5cRefIdeal.Facts] : Prop :=
  ∀ (m : (ℓ : Loc Cert.SumS5cRefIdeal.nD Cert.SumS5cRefIdeal.τ Cert.SumS5cRefIdeal.sig) → Buf (Elt Ideal) ℓ) (g : Dev Cert.SumS5cRefIdeal.nD → PrngReg), Pre_SumS5cRefIdeal m →
    θ_run (Cert.SumS5cRefIdeal.defs (F := Ideal)) (onTc (τ := Cert.SumS5cRefIdeal.τ) (Cert.SumS5cRefIdeal.main (F := Ideal))) ⟨m, fun _ => 0, g⟩ (fun r => (∀ c : Dev Cert.SumS5cRefIdeal.nD,
      r.2.mem ((c.tc : Thread Cert.SumS5cRefIdeal.nD Cert.SumS5cRefIdeal.τ).loc Cert.SumS5cRefIdeal.main_arg0) = m ((c.tc : Thread Cert.SumS5cRefIdeal.nD Cert.SumS5cRefIdeal.τ).loc Cert.SumS5cRefIdeal.main_arg0))
      ∧ r.2.sem = fun _ => 0)

def quiescent_SumGate [hSumGate : Cert.SumGate.Facts] : Prop :=
  ∀ (m : (ℓ : Loc Cert.SumGate.nD Cert.SumGate.τ Cert.SumGate.sig) → Buf (Elt Bits) ℓ) (g : Dev Cert.SumGate.nD → PrngReg), Pre_SumGate m →
    θ_run (Cert.SumGate.defs (F := Bits)) (onTc (τ := Cert.SumGate.τ) (Cert.SumGate.main (F := Bits))) ⟨m, fun _ => 0, g⟩ (fun r => (∀ c : Dev Cert.SumGate.nD,
      r.2.mem ((c.tc : Thread Cert.SumGate.nD Cert.SumGate.τ).loc Cert.SumGate.main_arg0) = m ((c.tc : Thread Cert.SumGate.nD Cert.SumGate.τ).loc Cert.SumGate.main_arg0))
      ∧ r.2.sem = fun _ => 0)

def quiescent_SumGateIdeal [hSumGateIdeal : Cert.SumGateIdeal.Facts] : Prop :=
  ∀ (m : (ℓ : Loc Cert.SumGateIdeal.nD Cert.SumGateIdeal.τ Cert.SumGateIdeal.sig) → Buf (Elt Ideal) ℓ) (g : Dev Cert.SumGateIdeal.nD → PrngReg), Pre_SumGateIdeal m →
    θ_run (Cert.SumGateIdeal.defs (F := Ideal)) (onTc (τ := Cert.SumGateIdeal.τ) (Cert.SumGateIdeal.main (F := Ideal))) ⟨m, fun _ => 0, g⟩ (fun r => (∀ c : Dev Cert.SumGateIdeal.nD,
      r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0))
      ∧ r.2.sem = fun _ => 0)

def quiescent_SumGateRefIdeal [hSumGateRefIdeal : Cert.SumGateRefIdeal.Facts] : Prop :=
  ∀ (m : (ℓ : Loc Cert.SumGateRefIdeal.nD Cert.SumGateRefIdeal.τ Cert.SumGateRefIdeal.sig) → Buf (Elt Ideal) ℓ) (g : Dev Cert.SumGateRefIdeal.nD → PrngReg), Pre_SumGateRefIdeal m →
    θ_run (Cert.SumGateRefIdeal.defs (F := Ideal)) (onTc (τ := Cert.SumGateRefIdeal.τ) (Cert.SumGateRefIdeal.main (F := Ideal))) ⟨m, fun _ => 0, g⟩ (fun r => (∀ c : Dev Cert.SumGateRefIdeal.nD,
      r.2.mem ((c.tc : Thread Cert.SumGateRefIdeal.nD Cert.SumGateRefIdeal.τ).loc Cert.SumGateRefIdeal.main_arg0) = m ((c.tc : Thread Cert.SumGateRefIdeal.nD Cert.SumGateRefIdeal.τ).loc Cert.SumGateRefIdeal.main_arg0))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_SumDisc [hSumDisc : Cert.SumDisc.Facts] : Prop :=
  ∀ (m : (ℓ : Loc Cert.SumDisc.nD Cert.SumDisc.τ Cert.SumDisc.sig) → Buf (Elt Bits) ℓ) (g : Dev Cert.SumDisc.nD → PrngReg), Pre_SumDisc m →
    θ_run (Cert.SumDisc.defs (F := Bits)) (onTc (τ := Cert.SumDisc.τ) (Cert.SumDisc.main (F := Bits))) ⟨m, fun _ => 0, g⟩ (fun r => (∀ c : Dev Cert.SumDisc.nD,
      r.2.mem ((c.tc : Thread Cert.SumDisc.nD Cert.SumDisc.τ).loc Cert.SumDisc.main_arg0) = m ((c.tc : Thread Cert.SumDisc.nD Cert.SumDisc.τ).loc Cert.SumDisc.main_arg0)
      ∧ r.2.mem ((c.tc : Thread Cert.SumDisc.nD Cert.SumDisc.τ).loc Cert.SumDisc.main_arg1) = m ((c.tc : Thread Cert.SumDisc.nD Cert.SumDisc.τ).loc Cert.SumDisc.main_arg1)
      ∧ r.2.mem ((c.tc : Thread Cert.SumDisc.nD Cert.SumDisc.τ).loc Cert.SumDisc.main_arg2) = m ((c.tc : Thread Cert.SumDisc.nD Cert.SumDisc.τ).loc Cert.SumDisc.main_arg2)
      ∧ r.2.mem ((c.tc : Thread Cert.SumDisc.nD Cert.SumDisc.τ).loc Cert.SumDisc.main_arg3) = m ((c.tc : Thread Cert.SumDisc.nD Cert.SumDisc.τ).loc Cert.SumDisc.main_arg3)
      ∧ r.2.mem ((c.tc : Thread Cert.SumDisc.nD Cert.SumDisc.τ).loc Cert.SumDisc.main_arg4) = m ((c.tc : Thread Cert.SumDisc.nD Cert.SumDisc.τ).loc Cert.SumDisc.main_arg4)
      ∧ r.2.mem ((c.tc : Thread Cert.SumDisc.nD Cert.SumDisc.τ).loc Cert.SumDisc.main_arg5) = m ((c.tc : Thread Cert.SumDisc.nD Cert.SumDisc.τ).loc Cert.SumDisc.main_arg5)
      ∧ r.2.mem ((c.tc : Thread Cert.SumDisc.nD Cert.SumDisc.τ).loc Cert.SumDisc.main_arg6) = m ((c.tc : Thread Cert.SumDisc.nD Cert.SumDisc.τ).loc Cert.SumDisc.main_arg6)
      ∧ r.2.mem ((c.tc : Thread Cert.SumDisc.nD Cert.SumDisc.τ).loc Cert.SumDisc.main_arg7) = m ((c.tc : Thread Cert.SumDisc.nD Cert.SumDisc.τ).loc Cert.SumDisc.main_arg7)
      ∧ r.2.mem ((c.tc : Thread Cert.SumDisc.nD Cert.SumDisc.τ).loc Cert.SumDisc.main_arg8) = m ((c.tc : Thread Cert.SumDisc.nD Cert.SumDisc.τ).loc Cert.SumDisc.main_arg8))
      ∧ r.2.sem = fun _ => 0)

def quiescent_SumDiscIdeal [hSumDiscIdeal : Cert.SumDiscIdeal.Facts] : Prop :=
  ∀ (m : (ℓ : Loc Cert.SumDiscIdeal.nD Cert.SumDiscIdeal.τ Cert.SumDiscIdeal.sig) → Buf (Elt Ideal) ℓ) (g : Dev Cert.SumDiscIdeal.nD → PrngReg), Pre_SumDiscIdeal m →
    θ_run (Cert.SumDiscIdeal.defs (F := Ideal)) (onTc (τ := Cert.SumDiscIdeal.τ) (Cert.SumDiscIdeal.main (F := Ideal))) ⟨m, fun _ => 0, g⟩ (fun r => (∀ c : Dev Cert.SumDiscIdeal.nD,
      r.2.mem ((c.tc : Thread Cert.SumDiscIdeal.nD Cert.SumDiscIdeal.τ).loc Cert.SumDiscIdeal.main_arg0) = m ((c.tc : Thread Cert.SumDiscIdeal.nD Cert.SumDiscIdeal.τ).loc Cert.SumDiscIdeal.main_arg0)
      ∧ r.2.mem ((c.tc : Thread Cert.SumDiscIdeal.nD Cert.SumDiscIdeal.τ).loc Cert.SumDiscIdeal.main_arg1) = m ((c.tc : Thread Cert.SumDiscIdeal.nD Cert.SumDiscIdeal.τ).loc Cert.SumDiscIdeal.main_arg1)
      ∧ r.2.mem ((c.tc : Thread Cert.SumDiscIdeal.nD Cert.SumDiscIdeal.τ).loc Cert.SumDiscIdeal.main_arg2) = m ((c.tc : Thread Cert.SumDiscIdeal.nD Cert.SumDiscIdeal.τ).loc Cert.SumDiscIdeal.main_arg2)
      ∧ r.2.mem ((c.tc : Thread Cert.SumDiscIdeal.nD Cert.SumDiscIdeal.τ).loc Cert.SumDiscIdeal.main_arg3) = m ((c.tc : Thread Cert.SumDiscIdeal.nD Cert.SumDiscIdeal.τ).loc Cert.SumDiscIdeal.main_arg3)
      ∧ r.2.mem ((c.tc : Thread Cert.SumDiscIdeal.nD Cert.SumDiscIdeal.τ).loc Cert.SumDiscIdeal.main_arg4) = m ((c.tc : Thread Cert.SumDiscIdeal.nD Cert.SumDiscIdeal.τ).loc Cert.SumDiscIdeal.main_arg4)
      ∧ r.2.mem ((c.tc : Thread Cert.SumDiscIdeal.nD Cert.SumDiscIdeal.τ).loc Cert.SumDiscIdeal.main_arg5) = m ((c.tc : Thread Cert.SumDiscIdeal.nD Cert.SumDiscIdeal.τ).loc Cert.SumDiscIdeal.main_arg5)
      ∧ r.2.mem ((c.tc : Thread Cert.SumDiscIdeal.nD Cert.SumDiscIdeal.τ).loc Cert.SumDiscIdeal.main_arg6) = m ((c.tc : Thread Cert.SumDiscIdeal.nD Cert.SumDiscIdeal.τ).loc Cert.SumDiscIdeal.main_arg6)
      ∧ r.2.mem ((c.tc : Thread Cert.SumDiscIdeal.nD Cert.SumDiscIdeal.τ).loc Cert.SumDiscIdeal.main_arg7) = m ((c.tc : Thread Cert.SumDiscIdeal.nD Cert.SumDiscIdeal.τ).loc Cert.SumDiscIdeal.main_arg7)
      ∧ r.2.mem ((c.tc : Thread Cert.SumDiscIdeal.nD Cert.SumDiscIdeal.τ).loc Cert.SumDiscIdeal.main_arg8) = m ((c.tc : Thread Cert.SumDiscIdeal.nD Cert.SumDiscIdeal.τ).loc Cert.SumDiscIdeal.main_arg8))
      ∧ r.2.sem = fun _ => 0)

def quiescent_SumDiscRefIdeal [hSumDiscRefIdeal : Cert.SumDiscRefIdeal.Facts] : Prop :=
  ∀ (m : (ℓ : Loc Cert.SumDiscRefIdeal.nD Cert.SumDiscRefIdeal.τ Cert.SumDiscRefIdeal.sig) → Buf (Elt Ideal) ℓ) (g : Dev Cert.SumDiscRefIdeal.nD → PrngReg), Pre_SumDiscRefIdeal m →
    θ_run (Cert.SumDiscRefIdeal.defs (F := Ideal)) (onTc (τ := Cert.SumDiscRefIdeal.τ) (Cert.SumDiscRefIdeal.main (F := Ideal))) ⟨m, fun _ => 0, g⟩ (fun r => (∀ c : Dev Cert.SumDiscRefIdeal.nD,
      r.2.mem ((c.tc : Thread Cert.SumDiscRefIdeal.nD Cert.SumDiscRefIdeal.τ).loc Cert.SumDiscRefIdeal.main_arg0) = m ((c.tc : Thread Cert.SumDiscRefIdeal.nD Cert.SumDiscRefIdeal.τ).loc Cert.SumDiscRefIdeal.main_arg0)
      ∧ r.2.mem ((c.tc : Thread Cert.SumDiscRefIdeal.nD Cert.SumDiscRefIdeal.τ).loc Cert.SumDiscRefIdeal.main_arg1) = m ((c.tc : Thread Cert.SumDiscRefIdeal.nD Cert.SumDiscRefIdeal.τ).loc Cert.SumDiscRefIdeal.main_arg1)
      ∧ r.2.mem ((c.tc : Thread Cert.SumDiscRefIdeal.nD Cert.SumDiscRefIdeal.τ).loc Cert.SumDiscRefIdeal.main_arg2) = m ((c.tc : Thread Cert.SumDiscRefIdeal.nD Cert.SumDiscRefIdeal.τ).loc Cert.SumDiscRefIdeal.main_arg2)
      ∧ r.2.mem ((c.tc : Thread Cert.SumDiscRefIdeal.nD Cert.SumDiscRefIdeal.τ).loc Cert.SumDiscRefIdeal.main_arg3) = m ((c.tc : Thread Cert.SumDiscRefIdeal.nD Cert.SumDiscRefIdeal.τ).loc Cert.SumDiscRefIdeal.main_arg3)
      ∧ r.2.mem ((c.tc : Thread Cert.SumDiscRefIdeal.nD Cert.SumDiscRefIdeal.τ).loc Cert.SumDiscRefIdeal.main_arg4) = m ((c.tc : Thread Cert.SumDiscRefIdeal.nD Cert.SumDiscRefIdeal.τ).loc Cert.SumDiscRefIdeal.main_arg4)
      ∧ r.2.mem ((c.tc : Thread Cert.SumDiscRefIdeal.nD Cert.SumDiscRefIdeal.τ).loc Cert.SumDiscRefIdeal.main_arg5) = m ((c.tc : Thread Cert.SumDiscRefIdeal.nD Cert.SumDiscRefIdeal.τ).loc Cert.SumDiscRefIdeal.main_arg5)
      ∧ r.2.mem ((c.tc : Thread Cert.SumDiscRefIdeal.nD Cert.SumDiscRefIdeal.τ).loc Cert.SumDiscRefIdeal.main_arg6) = m ((c.tc : Thread Cert.SumDiscRefIdeal.nD Cert.SumDiscRefIdeal.τ).loc Cert.SumDiscRefIdeal.main_arg6)
      ∧ r.2.mem ((c.tc : Thread Cert.SumDiscRefIdeal.nD Cert.SumDiscRefIdeal.τ).loc Cert.SumDiscRefIdeal.main_arg7) = m ((c.tc : Thread Cert.SumDiscRefIdeal.nD Cert.SumDiscRefIdeal.τ).loc Cert.SumDiscRefIdeal.main_arg7)
      ∧ r.2.mem ((c.tc : Thread Cert.SumDiscRefIdeal.nD Cert.SumDiscRefIdeal.τ).loc Cert.SumDiscRefIdeal.main_arg8) = m ((c.tc : Thread Cert.SumDiscRefIdeal.nD Cert.SumDiscRefIdeal.τ).loc Cert.SumDiscRefIdeal.main_arg8))
      ∧ r.2.sem = fun _ => 0)

def quiescent_S5Bwd [hS5Bwd : Cert.S5Bwd.Facts] : Prop :=
  ∀ (m : (ℓ : Loc Cert.S5Bwd.nD Cert.S5Bwd.τ Cert.S5Bwd.sig) → Buf (Elt Bits) ℓ) (g : Dev Cert.S5Bwd.nD → PrngReg), Pre_S5Bwd m →
    θ_run (Cert.S5Bwd.defs (F := Bits)) (onTc (τ := Cert.S5Bwd.τ) (Cert.S5Bwd.main (F := Bits))) ⟨m, fun _ => 0, g⟩ (fun r => (∀ c : Dev Cert.S5Bwd.nD,
      r.2.mem ((c.tc : Thread Cert.S5Bwd.nD Cert.S5Bwd.τ).loc Cert.S5Bwd.main_arg0) = m ((c.tc : Thread Cert.S5Bwd.nD Cert.S5Bwd.τ).loc Cert.S5Bwd.main_arg0)
      ∧ r.2.mem ((c.tc : Thread Cert.S5Bwd.nD Cert.S5Bwd.τ).loc Cert.S5Bwd.main_arg1) = m ((c.tc : Thread Cert.S5Bwd.nD Cert.S5Bwd.τ).loc Cert.S5Bwd.main_arg1)
      ∧ r.2.mem ((c.tc : Thread Cert.S5Bwd.nD Cert.S5Bwd.τ).loc Cert.S5Bwd.main_arg2) = m ((c.tc : Thread Cert.S5Bwd.nD Cert.S5Bwd.τ).loc Cert.S5Bwd.main_arg2)
      ∧ r.2.mem ((c.tc : Thread Cert.S5Bwd.nD Cert.S5Bwd.τ).loc Cert.S5Bwd.main_arg3) = m ((c.tc : Thread Cert.S5Bwd.nD Cert.S5Bwd.τ).loc Cert.S5Bwd.main_arg3)
      ∧ r.2.mem ((c.tc : Thread Cert.S5Bwd.nD Cert.S5Bwd.τ).loc Cert.S5Bwd.main_arg4) = m ((c.tc : Thread Cert.S5Bwd.nD Cert.S5Bwd.τ).loc Cert.S5Bwd.main_arg4)
      ∧ r.2.mem ((c.tc : Thread Cert.S5Bwd.nD Cert.S5Bwd.τ).loc Cert.S5Bwd.main_arg5) = m ((c.tc : Thread Cert.S5Bwd.nD Cert.S5Bwd.τ).loc Cert.S5Bwd.main_arg5)
      ∧ r.2.mem ((c.tc : Thread Cert.S5Bwd.nD Cert.S5Bwd.τ).loc Cert.S5Bwd.main_arg6) = m ((c.tc : Thread Cert.S5Bwd.nD Cert.S5Bwd.τ).loc Cert.S5Bwd.main_arg6)
      ∧ r.2.mem ((c.tc : Thread Cert.S5Bwd.nD Cert.S5Bwd.τ).loc Cert.S5Bwd.main_arg7) = m ((c.tc : Thread Cert.S5Bwd.nD Cert.S5Bwd.τ).loc Cert.S5Bwd.main_arg7)
      ∧ r.2.mem ((c.tc : Thread Cert.S5Bwd.nD Cert.S5Bwd.τ).loc Cert.S5Bwd.main_arg8) = m ((c.tc : Thread Cert.S5Bwd.nD Cert.S5Bwd.τ).loc Cert.S5Bwd.main_arg8))
      ∧ r.2.sem = fun _ => 0)

def quiescent_S5BwdIdeal [hS5BwdIdeal : Cert.S5BwdIdeal.Facts] : Prop :=
  ∀ (m : (ℓ : Loc Cert.S5BwdIdeal.nD Cert.S5BwdIdeal.τ Cert.S5BwdIdeal.sig) → Buf (Elt Ideal) ℓ) (g : Dev Cert.S5BwdIdeal.nD → PrngReg), Pre_S5BwdIdeal m →
    θ_run (Cert.S5BwdIdeal.defs (F := Ideal)) (onTc (τ := Cert.S5BwdIdeal.τ) (Cert.S5BwdIdeal.main (F := Ideal))) ⟨m, fun _ => 0, g⟩ (fun r => (∀ c : Dev Cert.S5BwdIdeal.nD,
      r.2.mem ((c.tc : Thread Cert.S5BwdIdeal.nD Cert.S5BwdIdeal.τ).loc Cert.S5BwdIdeal.main_arg0) = m ((c.tc : Thread Cert.S5BwdIdeal.nD Cert.S5BwdIdeal.τ).loc Cert.S5BwdIdeal.main_arg0)
      ∧ r.2.mem ((c.tc : Thread Cert.S5BwdIdeal.nD Cert.S5BwdIdeal.τ).loc Cert.S5BwdIdeal.main_arg1) = m ((c.tc : Thread Cert.S5BwdIdeal.nD Cert.S5BwdIdeal.τ).loc Cert.S5BwdIdeal.main_arg1)
      ∧ r.2.mem ((c.tc : Thread Cert.S5BwdIdeal.nD Cert.S5BwdIdeal.τ).loc Cert.S5BwdIdeal.main_arg2) = m ((c.tc : Thread Cert.S5BwdIdeal.nD Cert.S5BwdIdeal.τ).loc Cert.S5BwdIdeal.main_arg2)
      ∧ r.2.mem ((c.tc : Thread Cert.S5BwdIdeal.nD Cert.S5BwdIdeal.τ).loc Cert.S5BwdIdeal.main_arg3) = m ((c.tc : Thread Cert.S5BwdIdeal.nD Cert.S5BwdIdeal.τ).loc Cert.S5BwdIdeal.main_arg3)
      ∧ r.2.mem ((c.tc : Thread Cert.S5BwdIdeal.nD Cert.S5BwdIdeal.τ).loc Cert.S5BwdIdeal.main_arg4) = m ((c.tc : Thread Cert.S5BwdIdeal.nD Cert.S5BwdIdeal.τ).loc Cert.S5BwdIdeal.main_arg4)
      ∧ r.2.mem ((c.tc : Thread Cert.S5BwdIdeal.nD Cert.S5BwdIdeal.τ).loc Cert.S5BwdIdeal.main_arg5) = m ((c.tc : Thread Cert.S5BwdIdeal.nD Cert.S5BwdIdeal.τ).loc Cert.S5BwdIdeal.main_arg5)
      ∧ r.2.mem ((c.tc : Thread Cert.S5BwdIdeal.nD Cert.S5BwdIdeal.τ).loc Cert.S5BwdIdeal.main_arg6) = m ((c.tc : Thread Cert.S5BwdIdeal.nD Cert.S5BwdIdeal.τ).loc Cert.S5BwdIdeal.main_arg6)
      ∧ r.2.mem ((c.tc : Thread Cert.S5BwdIdeal.nD Cert.S5BwdIdeal.τ).loc Cert.S5BwdIdeal.main_arg7) = m ((c.tc : Thread Cert.S5BwdIdeal.nD Cert.S5BwdIdeal.τ).loc Cert.S5BwdIdeal.main_arg7)
      ∧ r.2.mem ((c.tc : Thread Cert.S5BwdIdeal.nD Cert.S5BwdIdeal.τ).loc Cert.S5BwdIdeal.main_arg8) = m ((c.tc : Thread Cert.S5BwdIdeal.nD Cert.S5BwdIdeal.τ).loc Cert.S5BwdIdeal.main_arg8))
      ∧ r.2.sem = fun _ => 0)

def preserves_FfnGu_FfnGuIdeal : Prop :=
  True

def algebraic_FfnGuIdeal_FfnGuRefIdeal [hFfnGuIdeal : Cert.FfnGuIdeal.Facts] [hFfnGuRefIdeal : Cert.FfnGuRefIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg)
    (m' : (ℓ : Loc Cert.FfnGuRefIdeal.nD Cert.FfnGuRefIdeal.τ Cert.FfnGuRefIdeal.sig) → Buf (Elt Ideal) ℓ) (g' : Dev Cert.FfnGuRefIdeal.nD → PrngReg), Pre_FfnGuIdeal m →
    (∀ c : Dev Cert.FfnGuIdeal.nD,
      m' ((c.tc : Thread Cert.FfnGuRefIdeal.nD Cert.FfnGuRefIdeal.τ).loc Cert.FfnGuRefIdeal.main_arg0) = m ((c.tc : Thread Cert.FfnGuIdeal.nD Cert.FfnGuIdeal.τ).loc Cert.FfnGuIdeal.main_arg0)
      ∧ m' ((c.tc : Thread Cert.FfnGuRefIdeal.nD Cert.FfnGuRefIdeal.τ).loc Cert.FfnGuRefIdeal.main_arg1) = m ((c.tc : Thread Cert.FfnGuIdeal.nD Cert.FfnGuIdeal.τ).loc Cert.FfnGuIdeal.main_arg1)) →
    ∃ (v0 : (c : Dev Cert.FfnGuIdeal.nD) → Buf (Elt Ideal) ((c.tc : Thread Cert.FfnGuIdeal.nD Cert.FfnGuIdeal.τ).loc Cert.FfnGuIdeal.main_v4)),
      θ_run (Cert.FfnGuIdeal.defs (F := Ideal)) (onTc (τ := Cert.FfnGuIdeal.τ) (Cert.FfnGuIdeal.main (F := Ideal))) ⟨m, fun _ => 0, g⟩ (fun r => ∀ c : Dev Cert.FfnGuIdeal.nD,
          r.2.mem ((c.tc : Thread Cert.FfnGuIdeal.nD Cert.FfnGuIdeal.τ).loc Cert.FfnGuIdeal.main_v4) = v0 c
          ∧ r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
          ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1))
      ∧ θ_run (Cert.FfnGuRefIdeal.defs (F := Ideal)) (onTc (τ := Cert.FfnGuRefIdeal.τ) (Cert.FfnGuRefIdeal.main (F := Ideal))) ⟨m', fun _ => 0, g'⟩ (fun r => ∀ c : Dev Cert.FfnGuRefIdeal.nD,
          r.2.mem ((c.tc : Thread Cert.FfnGuRefIdeal.nD Cert.FfnGuRefIdeal.τ).loc Cert.FfnGuRefIdeal.main_v1) = v0 c
          ∧ r.2.mem ((c.tc : Thread Cert.FfnGuRefIdeal.nD Cert.FfnGuRefIdeal.τ).loc Cert.FfnGuRefIdeal.main_arg0) = m' ((c.tc : Thread Cert.FfnGuRefIdeal.nD Cert.FfnGuRefIdeal.τ).loc Cert.FfnGuRefIdeal.main_arg0)
          ∧ r.2.mem ((c.tc : Thread Cert.FfnGuRefIdeal.nD Cert.FfnGuRefIdeal.τ).loc Cert.FfnGuRefIdeal.main_arg1) = m' ((c.tc : Thread Cert.FfnGuRefIdeal.nD Cert.FfnGuRefIdeal.τ).loc Cert.FfnGuRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v0) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_FfnDact_FfnDactIdeal : Prop :=
  True

def algebraic_FfnDactIdeal_FfnDactRefIdeal [hFfnDactIdeal : Cert.FfnDactIdeal.Facts] [hFfnDactRefIdeal : Cert.FfnDactRefIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)) →
    ∃ (v0 : (c : Dev Cert.FfnDactIdeal.nD) → Buf (Elt Ideal) ((c.tc : Thread Cert.FfnDactIdeal.nD Cert.FfnDactIdeal.τ).loc Cert.FfnDactIdeal.main_v2)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v2) = v0 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v2) = v0 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1))

def preserves_FfnDwDown_FfnDwDownIdeal : Prop :=
  True

def algebraic_FfnDwDownIdeal_FfnDwDownRefIdeal [hFfnDwDownIdeal : Cert.FfnDwDownIdeal.Facts] [hFfnDwDownRefIdeal : Cert.FfnDwDownRefIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg)
    (m' : (ℓ : Loc Cert.FfnDwDownRefIdeal.nD Cert.FfnDwDownRefIdeal.τ Cert.FfnDwDownRefIdeal.sig) → Buf (Elt Ideal) ℓ) (g' : Dev Cert.FfnDwDownRefIdeal.nD → PrngReg), Pre_FfnDwDownIdeal m →
    (∀ c : Dev Cert.FfnDwDownIdeal.nD,
      m' ((c.tc : Thread Cert.FfnDwDownRefIdeal.nD Cert.FfnDwDownRefIdeal.τ).loc Cert.FfnDwDownRefIdeal.main_arg0) = m ((c.tc : Thread Cert.FfnDwDownIdeal.nD Cert.FfnDwDownIdeal.τ).loc Cert.FfnDwDownIdeal.main_arg0)
      ∧ m' ((c.tc : Thread Cert.FfnDwDownRefIdeal.nD Cert.FfnDwDownRefIdeal.τ).loc Cert.FfnDwDownRefIdeal.main_arg1) = m ((c.tc : Thread Cert.FfnDwDownIdeal.nD Cert.FfnDwDownIdeal.τ).loc Cert.FfnDwDownIdeal.main_arg1)) →
    ∃ (v0 : (c : Dev Cert.FfnDwDownIdeal.nD) → Buf (Elt Ideal) ((c.tc : Thread Cert.FfnDwDownIdeal.nD Cert.FfnDwDownIdeal.τ).loc Cert.FfnDwDownIdeal.main_v2)),
      θ_run (Cert.FfnDwDownIdeal.defs (F := Ideal)) (onTc (τ := Cert.FfnDwDownIdeal.τ) (Cert.FfnDwDownIdeal.main (F := Ideal))) ⟨m, fun _ => 0, g⟩ (fun r => ∀ c : Dev Cert.FfnDwDownIdeal.nD,
          r.2.mem ((c.tc : Thread Cert.FfnDwDownIdeal.nD Cert.FfnDwDownIdeal.τ).loc Cert.FfnDwDownIdeal.main_v2) = v0 c
          ∧ r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
          ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ θ_run (Cert.FfnDwDownRefIdeal.defs (F := Ideal)) (onTc (τ := Cert.FfnDwDownRefIdeal.τ) (Cert.FfnDwDownRefIdeal.main (F := Ideal))) ⟨m', fun _ => 0, g'⟩ (fun r => ∀ c : Dev Cert.FfnDwDownRefIdeal.nD,
          r.2.mem ((c.tc : Thread Cert.FfnDwDownRefIdeal.nD Cert.FfnDwDownRefIdeal.τ).loc Cert.FfnDwDownRefIdeal.main_v4) = v0 c
          ∧ r.2.mem ((c.tc : Thread Cert.FfnDwDownRefIdeal.nD Cert.FfnDwDownRefIdeal.τ).loc Cert.FfnDwDownRefIdeal.main_arg0) = m' ((c.tc : Thread Cert.FfnDwDownRefIdeal.nD Cert.FfnDwDownRefIdeal.τ).loc Cert.FfnDwDownRefIdeal.main_arg0)
          ∧ r.2.mem ((c.tc : Thread Cert.FfnDwDownRefIdeal.nD Cert.FfnDwDownRefIdeal.τ).loc Cert.FfnDwDownRefIdeal.main_arg1) = m' ((c.tc : Thread Cert.FfnDwDownRefIdeal.nD Cert.FfnDwDownRefIdeal.τ).loc Cert.FfnDwDownRefIdeal.main_arg1))

def preserves_FfnDwGu_FfnDwGuIdeal : Prop :=
  True

def algebraic_FfnDwGuIdeal_FfnDwGuRefIdeal [hFfnDwGuIdeal : Cert.FfnDwGuIdeal.Facts] [hFfnDwGuRefIdeal : Cert.FfnDwGuRefIdeal.Facts] : Prop :=
  ∀ (m : (ℓ : Loc Cert.FfnDwGuIdeal.nD Cert.FfnDwGuIdeal.τ Cert.FfnDwGuIdeal.sig) → Buf (Elt Ideal) ℓ) (g : Dev Cert.FfnDwGuIdeal.nD → PrngReg)
    (m' : (ℓ : Loc Cert.FfnDwGuRefIdeal.nD Cert.FfnDwGuRefIdeal.τ Cert.FfnDwGuRefIdeal.sig) → Buf (Elt Ideal) ℓ) (g' : Dev Cert.FfnDwGuRefIdeal.nD → PrngReg), Pre_FfnDwGuIdeal m →
    (∀ c : Dev Cert.FfnDwGuIdeal.nD,
      m' ((c.tc : Thread Cert.FfnDwGuRefIdeal.nD Cert.FfnDwGuRefIdeal.τ).loc Cert.FfnDwGuRefIdeal.main_arg0) = m ((c.tc : Thread Cert.FfnDwGuIdeal.nD Cert.FfnDwGuIdeal.τ).loc Cert.FfnDwGuIdeal.main_arg0)
      ∧ m' ((c.tc : Thread Cert.FfnDwGuRefIdeal.nD Cert.FfnDwGuRefIdeal.τ).loc Cert.FfnDwGuRefIdeal.main_arg1) = m ((c.tc : Thread Cert.FfnDwGuIdeal.nD Cert.FfnDwGuIdeal.τ).loc Cert.FfnDwGuIdeal.main_arg1)) →
    ∃ (v0 : (c : Dev Cert.FfnDwGuIdeal.nD) → Buf (Elt Ideal) ((c.tc : Thread Cert.FfnDwGuIdeal.nD Cert.FfnDwGuIdeal.τ).loc Cert.FfnDwGuIdeal.main_v2)),
      θ_run (Cert.FfnDwGuIdeal.defs (F := Ideal)) (onTc (τ := Cert.FfnDwGuIdeal.τ) (Cert.FfnDwGuIdeal.main (F := Ideal))) ⟨m, fun _ => 0, g⟩ (fun r => ∀ c : Dev Cert.FfnDwGuIdeal.nD,
          r.2.mem ((c.tc : Thread Cert.FfnDwGuIdeal.nD Cert.FfnDwGuIdeal.τ).loc Cert.FfnDwGuIdeal.main_v2) = v0 c
          ∧ r.2.mem ((c.tc : Thread Cert.FfnDwGuIdeal.nD Cert.FfnDwGuIdeal.τ).loc Cert.FfnDwGuIdeal.main_arg0) = m ((c.tc : Thread Cert.FfnDwGuIdeal.nD Cert.FfnDwGuIdeal.τ).loc Cert.FfnDwGuIdeal.main_arg0)
          ∧ r.2.mem ((c.tc : Thread Cert.FfnDwGuIdeal.nD Cert.FfnDwGuIdeal.τ).loc Cert.FfnDwGuIdeal.main_arg1) = m ((c.tc : Thread Cert.FfnDwGuIdeal.nD Cert.FfnDwGuIdeal.τ).loc Cert.FfnDwGuIdeal.main_arg1))
      ∧ θ_run (Cert.FfnDwGuRefIdeal.defs (F := Ideal)) (onTc (τ := Cert.FfnDwGuRefIdeal.τ) (Cert.FfnDwGuRefIdeal.main (F := Ideal))) ⟨m', fun _ => 0, g'⟩ (fun r => ∀ c : Dev Cert.FfnDwGuRefIdeal.nD,
          r.2.mem ((c.tc : Thread Cert.FfnDwGuRefIdeal.nD Cert.FfnDwGuRefIdeal.τ).loc Cert.FfnDwGuRefIdeal.main_v6) = v0 c
          ∧ r.2.mem ((c.tc : Thread Cert.FfnDwGuRefIdeal.nD Cert.FfnDwGuRefIdeal.τ).loc Cert.FfnDwGuRefIdeal.main_arg0) = m' ((c.tc : Thread Cert.FfnDwGuRefIdeal.nD Cert.FfnDwGuRefIdeal.τ).loc Cert.FfnDwGuRefIdeal.main_arg0)
          ∧ r.2.mem ((c.tc : Thread Cert.FfnDwGuRefIdeal.nD Cert.FfnDwGuRefIdeal.τ).loc Cert.FfnDwGuRefIdeal.main_arg1) = m' ((c.tc : Thread Cert.FfnDwGuRefIdeal.nD Cert.FfnDwGuRefIdeal.τ).loc Cert.FfnDwGuRefIdeal.main_arg1))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)) →
    ∃ (v0 : (c : Dev Cert.FfnDhIdeal.nD) → Buf (Elt Ideal) ((c.tc : Thread Cert.FfnDhIdeal.nD Cert.FfnDhIdeal.τ).loc Cert.FfnDhIdeal.main_v4)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v4) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v2) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v4)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v4) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v0) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1))

def preserves_LruDh_LruDhIdeal : Prop :=
  True

def algebraic_LruDhIdeal_LruDhRefIdeal [hLruDhIdeal : Cert.LruDhIdeal.Facts] [hLruDhRefIdeal : Cert.LruDhRefIdeal.Facts] : Prop :=
  ∀ (m : (ℓ : Loc Cert.LruDhIdeal.nD Cert.LruDhIdeal.τ Cert.LruDhIdeal.sig) → Buf (Elt Ideal) ℓ) (g : Dev Cert.LruDhIdeal.nD → PrngReg)
    (m' : (ℓ : Loc Cert.LruDhRefIdeal.nD Cert.LruDhRefIdeal.τ Cert.LruDhRefIdeal.sig) → Buf (Elt Ideal) ℓ) (g' : Dev Cert.LruDhRefIdeal.nD → PrngReg), Pre_LruDhIdeal m →
    (∀ c : Dev Cert.LruDhIdeal.nD,
      m' ((c.tc : Thread Cert.LruDhRefIdeal.nD Cert.LruDhRefIdeal.τ).loc Cert.LruDhRefIdeal.main_arg0) = m ((c.tc : Thread Cert.LruDhIdeal.nD Cert.LruDhIdeal.τ).loc Cert.LruDhIdeal.main_arg0)
      ∧ m' ((c.tc : Thread Cert.LruDhRefIdeal.nD Cert.LruDhRefIdeal.τ).loc Cert.LruDhRefIdeal.main_arg1) = m ((c.tc : Thread Cert.LruDhIdeal.nD Cert.LruDhIdeal.τ).loc Cert.LruDhIdeal.main_arg1)) →
    ∃ (v0 : (c : Dev Cert.LruDhIdeal.nD) → Buf (Elt Ideal) ((c.tc : Thread Cert.LruDhIdeal.nD Cert.LruDhIdeal.τ).loc Cert.LruDhIdeal.main_v4)),
      θ_run (Cert.LruDhIdeal.defs (F := Ideal)) (onTc (τ := Cert.LruDhIdeal.τ) (Cert.LruDhIdeal.main (F := Ideal))) ⟨m, fun _ => 0, g⟩ (fun r => ∀ c : Dev Cert.LruDhIdeal.nD,
          r.2.mem ((c.tc : Thread Cert.LruDhIdeal.nD Cert.LruDhIdeal.τ).loc Cert.LruDhIdeal.main_v4) = v0 c
          ∧ r.2.mem ((c.tc : Thread Cert.LruDhIdeal.nD Cert.LruDhIdeal.τ).loc Cert.LruDhIdeal.main_arg0) = m ((c.tc : Thread Cert.LruDhIdeal.nD Cert.LruDhIdeal.τ).loc Cert.LruDhIdeal.main_arg0)
          ∧ r.2.mem ((c.tc : Thread Cert.LruDhIdeal.nD Cert.LruDhIdeal.τ).loc Cert.LruDhIdeal.main_arg1) = m ((c.tc : Thread Cert.LruDhIdeal.nD Cert.LruDhIdeal.τ).loc Cert.LruDhIdeal.main_arg1))
      ∧ θ_run (Cert.LruDhRefIdeal.defs (F := Ideal)) (onTc (τ := Cert.LruDhRefIdeal.τ) (Cert.LruDhRefIdeal.main (F := Ideal))) ⟨m', fun _ => 0, g'⟩ (fun r => ∀ c : Dev Cert.LruDhRefIdeal.nD,
          r.2.mem ((c.tc : Thread Cert.LruDhRefIdeal.nD Cert.LruDhRefIdeal.τ).loc Cert.LruDhRefIdeal.main_v2) = v0 c
          ∧ r.2.mem ((c.tc : Thread Cert.LruDhRefIdeal.nD Cert.LruDhRefIdeal.τ).loc Cert.LruDhRefIdeal.main_arg0) = m' ((c.tc : Thread Cert.LruDhRefIdeal.nD Cert.LruDhRefIdeal.τ).loc Cert.LruDhRefIdeal.main_arg0)
          ∧ r.2.mem ((c.tc : Thread Cert.LruDhRefIdeal.nD Cert.LruDhRefIdeal.τ).loc Cert.LruDhRefIdeal.main_arg1) = m' ((c.tc : Thread Cert.LruDhRefIdeal.nD Cert.LruDhRefIdeal.τ).loc Cert.LruDhRefIdeal.main_arg1))

def preserves_LruDwIn_LruDwInIdeal : Prop :=
  True

def algebraic_LruDwInIdeal_LruDwInRefIdeal [hLruDwInIdeal : Cert.LruDwInIdeal.Facts] [hLruDwInRefIdeal : Cert.LruDwInRefIdeal.Facts] : Prop :=
  ∀ (m : (ℓ : Loc Cert.LruDwInIdeal.nD Cert.LruDwInIdeal.τ Cert.LruDwInIdeal.sig) → Buf (Elt Ideal) ℓ) (g : Dev Cert.LruDwInIdeal.nD → PrngReg)
    (m' : (ℓ : Loc Cert.LruDwInRefIdeal.nD Cert.LruDwInRefIdeal.τ Cert.LruDwInRefIdeal.sig) → Buf (Elt Ideal) ℓ) (g' : Dev Cert.LruDwInRefIdeal.nD → PrngReg), Pre_LruDwInIdeal m →
    (∀ c : Dev Cert.LruDwInIdeal.nD,
      m' ((c.tc : Thread Cert.LruDwInRefIdeal.nD Cert.LruDwInRefIdeal.τ).loc Cert.LruDwInRefIdeal.main_arg0) = m ((c.tc : Thread Cert.LruDwInIdeal.nD Cert.LruDwInIdeal.τ).loc Cert.LruDwInIdeal.main_arg0)
      ∧ m' ((c.tc : Thread Cert.LruDwInRefIdeal.nD Cert.LruDwInRefIdeal.τ).loc Cert.LruDwInRefIdeal.main_arg1) = m ((c.tc : Thread Cert.LruDwInIdeal.nD Cert.LruDwInIdeal.τ).loc Cert.LruDwInIdeal.main_arg1)) →
    ∃ (v0 : (c : Dev Cert.LruDwInIdeal.nD) → Buf (Elt Ideal) ((c.tc : Thread Cert.LruDwInIdeal.nD Cert.LruDwInIdeal.τ).loc Cert.LruDwInIdeal.main_v2)),
      θ_run (Cert.LruDwInIdeal.defs (F := Ideal)) (onTc (τ := Cert.LruDwInIdeal.τ) (Cert.LruDwInIdeal.main (F := Ideal))) ⟨m, fun _ => 0, g⟩ (fun r => ∀ c : Dev Cert.LruDwInIdeal.nD,
          r.2.mem ((c.tc : Thread Cert.LruDwInIdeal.nD Cert.LruDwInIdeal.τ).loc Cert.LruDwInIdeal.main_v2) = v0 c
          ∧ r.2.mem ((c.tc : Thread Cert.LruDwInIdeal.nD Cert.LruDwInIdeal.τ).loc Cert.LruDwInIdeal.main_arg0) = m ((c.tc : Thread Cert.LruDwInIdeal.nD Cert.LruDwInIdeal.τ).loc Cert.LruDwInIdeal.main_arg0)
          ∧ r.2.mem ((c.tc : Thread Cert.LruDwInIdeal.nD Cert.LruDwInIdeal.τ).loc Cert.LruDwInIdeal.main_arg1) = m ((c.tc : Thread Cert.LruDwInIdeal.nD Cert.LruDwInIdeal.τ).loc Cert.LruDwInIdeal.main_arg1))
      ∧ θ_run (Cert.LruDwInRefIdeal.defs (F := Ideal)) (onTc (τ := Cert.LruDwInRefIdeal.τ) (Cert.LruDwInRefIdeal.main (F := Ideal))) ⟨m', fun _ => 0, g'⟩ (fun r => ∀ c : Dev Cert.LruDwInRefIdeal.nD,
          r.2.mem ((c.tc : Thread Cert.LruDwInRefIdeal.nD Cert.LruDwInRefIdeal.τ).loc Cert.LruDwInRefIdeal.main_v6) = v0 c
          ∧ r.2.mem ((c.tc : Thread Cert.LruDwInRefIdeal.nD Cert.LruDwInRefIdeal.τ).loc Cert.LruDwInRefIdeal.main_arg0) = m' ((c.tc : Thread Cert.LruDwInRefIdeal.nD Cert.LruDwInRefIdeal.τ).loc Cert.LruDwInRefIdeal.main_arg0)
          ∧ r.2.mem ((c.tc : Thread Cert.LruDwInRefIdeal.nD Cert.LruDwInRefIdeal.τ).loc Cert.LruDwInRefIdeal.main_arg1) = m' ((c.tc : Thread Cert.LruDwInRefIdeal.nD Cert.LruDwInRefIdeal.τ).loc Cert.LruDwInRefIdeal.main_arg1))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v4_0)) (v1 : (c : Dev Cert.AdamAdaIdeal.nD) → Buf (Elt Ideal) ((c.tc : Thread Cert.AdamAdaIdeal.nD Cert.AdamAdaIdeal.τ).loc Cert.AdamAdaIdeal.main_v4_1)) (v2 : (c : Dev Cert.AdamAdaIdeal.nD) → Buf (Elt Ideal) ((c.tc : Thread Cert.AdamAdaIdeal.nD Cert.AdamAdaIdeal.τ).loc Cert.AdamAdaIdeal.main_v4_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v4_0) = v0 c
          ∧ r.2.mem ((c.tc : Thread Cert.AdamAdaIdeal.nD Cert.AdamAdaIdeal.τ).loc Cert.AdamAdaIdeal.main_v4_1) = v1 c
          ∧ r.2.mem ((c.tc : Thread Cert.AdamAdaIdeal.nD Cert.AdamAdaIdeal.τ).loc Cert.AdamAdaIdeal.main_v4_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v24) = v0 c
          ∧ r.2.mem ((c.tc : Thread Cert.AdamAdaRefIdeal.nD Cert.AdamAdaRefIdeal.τ).loc Cert.AdamAdaRefIdeal.main_v25) = v1 c
          ∧ r.2.mem ((c.tc : Thread Cert.AdamAdaRefIdeal.nD Cert.AdamAdaRefIdeal.τ).loc Cert.AdamAdaRefIdeal.main_v26) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamS5Mid_AdamS5MidIdeal : Prop :=
  True

def algebraic_AdamS5MidIdeal_AdamS5MidRefIdeal [hAdamS5MidIdeal : Cert.AdamS5MidIdeal.Facts] [hAdamS5MidRefIdeal : Cert.AdamS5MidRefIdeal.Facts] : Prop :=
  ∀ (m : (ℓ : Loc Cert.AdamS5MidIdeal.nD Cert.AdamS5MidIdeal.τ Cert.AdamS5MidIdeal.sig) → Buf (Elt Ideal) ℓ) (g : Dev Cert.AdamS5MidIdeal.nD → PrngReg)
    (m' : (ℓ : Loc Cert.AdamS5MidRefIdeal.nD Cert.AdamS5MidRefIdeal.τ Cert.AdamS5MidRefIdeal.sig) → Buf (Elt Ideal) ℓ) (g' : Dev Cert.AdamS5MidRefIdeal.nD → PrngReg), Pre_AdamS5MidIdeal m →
    (∀ c : Dev Cert.AdamS5MidIdeal.nD,
      m' ((c.tc : Thread Cert.AdamS5MidRefIdeal.nD Cert.AdamS5MidRefIdeal.τ).loc Cert.AdamS5MidRefIdeal.main_arg0) = m ((c.tc : Thread Cert.AdamS5MidIdeal.nD Cert.AdamS5MidIdeal.τ).loc Cert.AdamS5MidIdeal.main_arg0)
      ∧ m' ((c.tc : Thread Cert.AdamS5MidRefIdeal.nD Cert.AdamS5MidRefIdeal.τ).loc Cert.AdamS5MidRefIdeal.main_arg1) = m ((c.tc : Thread Cert.AdamS5MidIdeal.nD Cert.AdamS5MidIdeal.τ).loc Cert.AdamS5MidIdeal.main_arg1)
      ∧ m' ((c.tc : Thread Cert.AdamS5MidRefIdeal.nD Cert.AdamS5MidRefIdeal.τ).loc Cert.AdamS5MidRefIdeal.main_arg2) = m ((c.tc : Thread Cert.AdamS5MidIdeal.nD Cert.AdamS5MidIdeal.τ).loc Cert.AdamS5MidIdeal.main_arg2)
      ∧ m' ((c.tc : Thread Cert.AdamS5MidRefIdeal.nD Cert.AdamS5MidRefIdeal.τ).loc Cert.AdamS5MidRefIdeal.main_arg3) = m ((c.tc : Thread Cert.AdamS5MidIdeal.nD Cert.AdamS5MidIdeal.τ).loc Cert.AdamS5MidIdeal.main_arg3)) →
    ∃ (v0 : (c : Dev Cert.AdamS5MidIdeal.nD) → Buf (Elt Ideal) ((c.tc : Thread Cert.AdamS5MidIdeal.nD Cert.AdamS5MidIdeal.τ).loc Cert.AdamS5MidIdeal.main_v4_0)) (v1 : (c : Dev Cert.AdamS5MidIdeal.nD) → Buf (Elt Ideal) ((c.tc : Thread Cert.AdamS5MidIdeal.nD Cert.AdamS5MidIdeal.τ).loc Cert.AdamS5MidIdeal.main_v4_1)) (v2 : (c : Dev Cert.AdamS5MidIdeal.nD) → Buf (Elt Ideal) ((c.tc : Thread Cert.AdamS5MidIdeal.nD Cert.AdamS5MidIdeal.τ).loc Cert.AdamS5MidIdeal.main_v4_2)),
      θ_run (Cert.AdamS5MidIdeal.defs (F := Ideal)) (onTc (τ := Cert.AdamS5MidIdeal.τ) (Cert.AdamS5MidIdeal.main (F := Ideal))) ⟨m, fun _ => 0, g⟩ (fun r => ∀ c : Dev Cert.AdamS5MidIdeal.nD,
          r.2.mem ((c.tc : Thread Cert.AdamS5MidIdeal.nD Cert.AdamS5MidIdeal.τ).loc Cert.AdamS5MidIdeal.main_v4_0) = v0 c
          ∧ r.2.mem ((c.tc : Thread Cert.AdamS5MidIdeal.nD Cert.AdamS5MidIdeal.τ).loc Cert.AdamS5MidIdeal.main_v4_1) = v1 c
          ∧ r.2.mem ((c.tc : Thread Cert.AdamS5MidIdeal.nD Cert.AdamS5MidIdeal.τ).loc Cert.AdamS5MidIdeal.main_v4_2) = v2 c
          ∧ r.2.mem ((c.tc : Thread Cert.AdamS5MidIdeal.nD Cert.AdamS5MidIdeal.τ).loc Cert.AdamS5MidIdeal.main_arg0) = m ((c.tc : Thread Cert.AdamS5MidIdeal.nD Cert.AdamS5MidIdeal.τ).loc Cert.AdamS5MidIdeal.main_arg0)
          ∧ r.2.mem ((c.tc : Thread Cert.AdamS5MidIdeal.nD Cert.AdamS5MidIdeal.τ).loc Cert.AdamS5MidIdeal.main_arg1) = m ((c.tc : Thread Cert.AdamS5MidIdeal.nD Cert.AdamS5MidIdeal.τ).loc Cert.AdamS5MidIdeal.main_arg1)
          ∧ r.2.mem ((c.tc : Thread Cert.AdamS5MidIdeal.nD Cert.AdamS5MidIdeal.τ).loc Cert.AdamS5MidIdeal.main_arg2) = m ((c.tc : Thread Cert.AdamS5MidIdeal.nD Cert.AdamS5MidIdeal.τ).loc Cert.AdamS5MidIdeal.main_arg2)
          ∧ r.2.mem ((c.tc : Thread Cert.AdamS5MidIdeal.nD Cert.AdamS5MidIdeal.τ).loc Cert.AdamS5MidIdeal.main_arg3) = m ((c.tc : Thread Cert.AdamS5MidIdeal.nD Cert.AdamS5MidIdeal.τ).loc Cert.AdamS5MidIdeal.main_arg3))
      ∧ θ_run (Cert.AdamS5MidRefIdeal.defs (F := Ideal)) (onTc (τ := Cert.AdamS5MidRefIdeal.τ) (Cert.AdamS5MidRefIdeal.main (F := Ideal))) ⟨m', fun _ => 0, g'⟩ (fun r => ∀ c : Dev Cert.AdamS5MidRefIdeal.nD,
          r.2.mem ((c.tc : Thread Cert.AdamS5MidRefIdeal.nD Cert.AdamS5MidRefIdeal.τ).loc Cert.AdamS5MidRefIdeal.main_v24) = v0 c
          ∧ r.2.mem ((c.tc : Thread Cert.AdamS5MidRefIdeal.nD Cert.AdamS5MidRefIdeal.τ).loc Cert.AdamS5MidRefIdeal.main_v25) = v1 c
          ∧ r.2.mem ((c.tc : Thread Cert.AdamS5MidRefIdeal.nD Cert.AdamS5MidRefIdeal.τ).loc Cert.AdamS5MidRefIdeal.main_v26) = v2 c
          ∧ r.2.mem ((c.tc : Thread Cert.AdamS5MidRefIdeal.nD Cert.AdamS5MidRefIdeal.τ).loc Cert.AdamS5MidRefIdeal.main_arg0) = m' ((c.tc : Thread Cert.AdamS5MidRefIdeal.nD Cert.AdamS5MidRefIdeal.τ).loc Cert.AdamS5MidRefIdeal.main_arg0)
          ∧ r.2.mem ((c.tc : Thread Cert.AdamS5MidRefIdeal.nD Cert.AdamS5MidRefIdeal.τ).loc Cert.AdamS5MidRefIdeal.main_arg1) = m' ((c.tc : Thread Cert.AdamS5MidRefIdeal.nD Cert.AdamS5MidRefIdeal.τ).loc Cert.AdamS5MidRefIdeal.main_arg1)
          ∧ r.2.mem ((c.tc : Thread Cert.AdamS5MidRefIdeal.nD Cert.AdamS5MidRefIdeal.τ).loc Cert.AdamS5MidRefIdeal.main_arg2) = m' ((c.tc : Thread Cert.AdamS5MidRefIdeal.nD Cert.AdamS5MidRefIdeal.τ).loc Cert.AdamS5MidRefIdeal.main_arg2)
          ∧ r.2.mem ((c.tc : Thread Cert.AdamS5MidRefIdeal.nD Cert.AdamS5MidRefIdeal.τ).loc Cert.AdamS5MidRefIdeal.main_arg3) = m' ((c.tc : Thread Cert.AdamS5MidRefIdeal.nD Cert.AdamS5MidRefIdeal.τ).loc Cert.AdamS5MidRefIdeal.main_arg3))

def preserves_AdamLruGate_AdamLruGateIdeal : Prop :=
  True

def algebraic_AdamLruGateIdeal_AdamLruGateRefIdeal [hAdamLruGateIdeal : Cert.AdamLruGateIdeal.Facts] [hAdamLruGateRefIdeal : Cert.AdamLruGateRefIdeal.Facts] : Prop :=
  ∀ (m : (ℓ : Loc Cert.AdamLruGateIdeal.nD Cert.AdamLruGateIdeal.τ Cert.AdamLruGateIdeal.sig) → Buf (Elt Ideal) ℓ) (g : Dev Cert.AdamLruGateIdeal.nD → PrngReg)
    (m' : (ℓ : Loc Cert.AdamLruGateRefIdeal.nD Cert.AdamLruGateRefIdeal.τ Cert.AdamLruGateRefIdeal.sig) → Buf (Elt Ideal) ℓ) (g' : Dev Cert.AdamLruGateRefIdeal.nD → PrngReg), Pre_AdamLruGateIdeal m →
    (∀ c : Dev Cert.AdamLruGateIdeal.nD,
      m' ((c.tc : Thread Cert.AdamLruGateRefIdeal.nD Cert.AdamLruGateRefIdeal.τ).loc Cert.AdamLruGateRefIdeal.main_arg0) = m ((c.tc : Thread Cert.AdamLruGateIdeal.nD Cert.AdamLruGateIdeal.τ).loc Cert.AdamLruGateIdeal.main_arg0)
      ∧ m' ((c.tc : Thread Cert.AdamLruGateRefIdeal.nD Cert.AdamLruGateRefIdeal.τ).loc Cert.AdamLruGateRefIdeal.main_arg1) = m ((c.tc : Thread Cert.AdamLruGateIdeal.nD Cert.AdamLruGateIdeal.τ).loc Cert.AdamLruGateIdeal.main_arg1)
      ∧ m' ((c.tc : Thread Cert.AdamLruGateRefIdeal.nD Cert.AdamLruGateRefIdeal.τ).loc Cert.AdamLruGateRefIdeal.main_arg2) = m ((c.tc : Thread Cert.AdamLruGateIdeal.nD Cert.AdamLruGateIdeal.τ).loc Cert.AdamLruGateIdeal.main_arg2)
      ∧ m' ((c.tc : Thread Cert.AdamLruGateRefIdeal.nD Cert.AdamLruGateRefIdeal.τ).loc Cert.AdamLruGateRefIdeal.main_arg3) = m ((c.tc : Thread Cert.AdamLruGateIdeal.nD Cert.AdamLruGateIdeal.τ).loc Cert.AdamLruGateIdeal.main_arg3)) →
    ∃ (v0 : (c : Dev Cert.AdamLruGateIdeal.nD) → Buf (Elt Ideal) ((c.tc : Thread Cert.AdamLruGateIdeal.nD Cert.AdamLruGateIdeal.τ).loc Cert.AdamLruGateIdeal.main_v4_0)) (v1 : (c : Dev Cert.AdamLruGateIdeal.nD) → Buf (Elt Ideal) ((c.tc : Thread Cert.AdamLruGateIdeal.nD Cert.AdamLruGateIdeal.τ).loc Cert.AdamLruGateIdeal.main_v4_1)) (v2 : (c : Dev Cert.AdamLruGateIdeal.nD) → Buf (Elt Ideal) ((c.tc : Thread Cert.AdamLruGateIdeal.nD Cert.AdamLruGateIdeal.τ).loc Cert.AdamLruGateIdeal.main_v4_2)),
      θ_run (Cert.AdamLruGateIdeal.defs (F := Ideal)) (onTc (τ := Cert.AdamLruGateIdeal.τ) (Cert.AdamLruGateIdeal.main (F := Ideal))) ⟨m, fun _ => 0, g⟩ (fun r => ∀ c : Dev Cert.AdamLruGateIdeal.nD,
          r.2.mem ((c.tc : Thread Cert.AdamLruGateIdeal.nD Cert.AdamLruGateIdeal.τ).loc Cert.AdamLruGateIdeal.main_v4_0) = v0 c
          ∧ r.2.mem ((c.tc : Thread Cert.AdamLruGateIdeal.nD Cert.AdamLruGateIdeal.τ).loc Cert.AdamLruGateIdeal.main_v4_1) = v1 c
          ∧ r.2.mem ((c.tc : Thread Cert.AdamLruGateIdeal.nD Cert.AdamLruGateIdeal.τ).loc Cert.AdamLruGateIdeal.main_v4_2) = v2 c
          ∧ r.2.mem ((c.tc : Thread Cert.AdamLruGateIdeal.nD Cert.AdamLruGateIdeal.τ).loc Cert.AdamLruGateIdeal.main_arg0) = m ((c.tc : Thread Cert.AdamLruGateIdeal.nD Cert.AdamLruGateIdeal.τ).loc Cert.AdamLruGateIdeal.main_arg0)
          ∧ r.2.mem ((c.tc : Thread Cert.AdamLruGateIdeal.nD Cert.AdamLruGateIdeal.τ).loc Cert.AdamLruGateIdeal.main_arg1) = m ((c.tc : Thread Cert.AdamLruGateIdeal.nD Cert.AdamLruGateIdeal.τ).loc Cert.AdamLruGateIdeal.main_arg1)
          ∧ r.2.mem ((c.tc : Thread Cert.AdamLruGateIdeal.nD Cert.AdamLruGateIdeal.τ).loc Cert.AdamLruGateIdeal.main_arg2) = m ((c.tc : Thread Cert.AdamLruGateIdeal.nD Cert.AdamLruGateIdeal.τ).loc Cert.AdamLruGateIdeal.main_arg2)
          ∧ r.2.mem ((c.tc : Thread Cert.AdamLruGateIdeal.nD Cert.AdamLruGateIdeal.τ).loc Cert.AdamLruGateIdeal.main_arg3) = m ((c.tc : Thread Cert.AdamLruGateIdeal.nD Cert.AdamLruGateIdeal.τ).loc Cert.AdamLruGateIdeal.main_arg3))
      ∧ θ_run (Cert.AdamLruGateRefIdeal.defs (F := Ideal)) (onTc (τ := Cert.AdamLruGateRefIdeal.τ) (Cert.AdamLruGateRefIdeal.main (F := Ideal))) ⟨m', fun _ => 0, g'⟩ (fun r => ∀ c : Dev Cert.AdamLruGateRefIdeal.nD,
          r.2.mem ((c.tc : Thread Cert.AdamLruGateRefIdeal.nD Cert.AdamLruGateRefIdeal.τ).loc Cert.AdamLruGateRefIdeal.main_v24) = v0 c
          ∧ r.2.mem ((c.tc : Thread Cert.AdamLruGateRefIdeal.nD Cert.AdamLruGateRefIdeal.τ).loc Cert.AdamLruGateRefIdeal.main_v25) = v1 c
          ∧ r.2.mem ((c.tc : Thread Cert.AdamLruGateRefIdeal.nD Cert.AdamLruGateRefIdeal.τ).loc Cert.AdamLruGateRefIdeal.main_v26) = v2 c
          ∧ r.2.mem ((c.tc : Thread Cert.AdamLruGateRefIdeal.nD Cert.AdamLruGateRefIdeal.τ).loc Cert.AdamLruGateRefIdeal.main_arg0) = m' ((c.tc : Thread Cert.AdamLruGateRefIdeal.nD Cert.AdamLruGateRefIdeal.τ).loc Cert.AdamLruGateRefIdeal.main_arg0)
          ∧ r.2.mem ((c.tc : Thread Cert.AdamLruGateRefIdeal.nD Cert.AdamLruGateRefIdeal.τ).loc Cert.AdamLruGateRefIdeal.main_arg1) = m' ((c.tc : Thread Cert.AdamLruGateRefIdeal.nD Cert.AdamLruGateRefIdeal.τ).loc Cert.AdamLruGateRefIdeal.main_arg1)
          ∧ r.2.mem ((c.tc : Thread Cert.AdamLruGateRefIdeal.nD Cert.AdamLruGateRefIdeal.τ).loc Cert.AdamLruGateRefIdeal.main_arg2) = m' ((c.tc : Thread Cert.AdamLruGateRefIdeal.nD Cert.AdamLruGateRefIdeal.τ).loc Cert.AdamLruGateRefIdeal.main_arg2)
          ∧ r.2.mem ((c.tc : Thread Cert.AdamLruGateRefIdeal.nD Cert.AdamLruGateRefIdeal.τ).loc Cert.AdamLruGateRefIdeal.main_arg3) = m' ((c.tc : Thread Cert.AdamLruGateRefIdeal.nD Cert.AdamLruGateRefIdeal.τ).loc Cert.AdamLruGateRefIdeal.main_arg3))

def preserves_AdamS5In_AdamS5InIdeal : Prop :=
  True

def algebraic_AdamS5InIdeal_AdamS5InRefIdeal [hAdamS5InIdeal : Cert.AdamS5InIdeal.Facts] [hAdamS5InRefIdeal : Cert.AdamS5InRefIdeal.Facts] : Prop :=
  ∀ (m : (ℓ : Loc Cert.AdamS5InIdeal.nD Cert.AdamS5InIdeal.τ Cert.AdamS5InIdeal.sig) → Buf (Elt Ideal) ℓ) (g : Dev Cert.AdamS5InIdeal.nD → PrngReg)
    (m' : (ℓ : Loc Cert.AdamS5InRefIdeal.nD Cert.AdamS5InRefIdeal.τ Cert.AdamS5InRefIdeal.sig) → Buf (Elt Ideal) ℓ) (g' : Dev Cert.AdamS5InRefIdeal.nD → PrngReg), Pre_AdamS5InIdeal m →
    (∀ c : Dev Cert.AdamS5InIdeal.nD,
      m' ((c.tc : Thread Cert.AdamS5InRefIdeal.nD Cert.AdamS5InRefIdeal.τ).loc Cert.AdamS5InRefIdeal.main_arg0) = m ((c.tc : Thread Cert.AdamS5InIdeal.nD Cert.AdamS5InIdeal.τ).loc Cert.AdamS5InIdeal.main_arg0)
      ∧ m' ((c.tc : Thread Cert.AdamS5InRefIdeal.nD Cert.AdamS5InRefIdeal.τ).loc Cert.AdamS5InRefIdeal.main_arg1) = m ((c.tc : Thread Cert.AdamS5InIdeal.nD Cert.AdamS5InIdeal.τ).loc Cert.AdamS5InIdeal.main_arg1)
      ∧ m' ((c.tc : Thread Cert.AdamS5InRefIdeal.nD Cert.AdamS5InRefIdeal.τ).loc Cert.AdamS5InRefIdeal.main_arg2) = m ((c.tc : Thread Cert.AdamS5InIdeal.nD Cert.AdamS5InIdeal.τ).loc Cert.AdamS5InIdeal.main_arg2)
      ∧ m' ((c.tc : Thread Cert.AdamS5InRefIdeal.nD Cert.AdamS5InRefIdeal.τ).loc Cert.AdamS5InRefIdeal.main_arg3) = m ((c.tc : Thread Cert.AdamS5InIdeal.nD Cert.AdamS5InIdeal.τ).loc Cert.AdamS5InIdeal.main_arg3)) →
    ∃ (v0 : (c : Dev Cert.AdamS5InIdeal.nD) → Buf (Elt Ideal) ((c.tc : Thread Cert.AdamS5InIdeal.nD Cert.AdamS5InIdeal.τ).loc Cert.AdamS5InIdeal.main_v4_0)) (v1 : (c : Dev Cert.AdamS5InIdeal.nD) → Buf (Elt Ideal) ((c.tc : Thread Cert.AdamS5InIdeal.nD Cert.AdamS5InIdeal.τ).loc Cert.AdamS5InIdeal.main_v4_1)) (v2 : (c : Dev Cert.AdamS5InIdeal.nD) → Buf (Elt Ideal) ((c.tc : Thread Cert.AdamS5InIdeal.nD Cert.AdamS5InIdeal.τ).loc Cert.AdamS5InIdeal.main_v4_2)),
      θ_run (Cert.AdamS5InIdeal.defs (F := Ideal)) (onTc (τ := Cert.AdamS5InIdeal.τ) (Cert.AdamS5InIdeal.main (F := Ideal))) ⟨m, fun _ => 0, g⟩ (fun r => ∀ c : Dev Cert.AdamS5InIdeal.nD,
          r.2.mem ((c.tc : Thread Cert.AdamS5InIdeal.nD Cert.AdamS5InIdeal.τ).loc Cert.AdamS5InIdeal.main_v4_0) = v0 c
          ∧ r.2.mem ((c.tc : Thread Cert.AdamS5InIdeal.nD Cert.AdamS5InIdeal.τ).loc Cert.AdamS5InIdeal.main_v4_1) = v1 c
          ∧ r.2.mem ((c.tc : Thread Cert.AdamS5InIdeal.nD Cert.AdamS5InIdeal.τ).loc Cert.AdamS5InIdeal.main_v4_2) = v2 c
          ∧ r.2.mem ((c.tc : Thread Cert.AdamS5InIdeal.nD Cert.AdamS5InIdeal.τ).loc Cert.AdamS5InIdeal.main_arg0) = m ((c.tc : Thread Cert.AdamS5InIdeal.nD Cert.AdamS5InIdeal.τ).loc Cert.AdamS5InIdeal.main_arg0)
          ∧ r.2.mem ((c.tc : Thread Cert.AdamS5InIdeal.nD Cert.AdamS5InIdeal.τ).loc Cert.AdamS5InIdeal.main_arg1) = m ((c.tc : Thread Cert.AdamS5InIdeal.nD Cert.AdamS5InIdeal.τ).loc Cert.AdamS5InIdeal.main_arg1)
          ∧ r.2.mem ((c.tc : Thread Cert.AdamS5InIdeal.nD Cert.AdamS5InIdeal.τ).loc Cert.AdamS5InIdeal.main_arg2) = m ((c.tc : Thread Cert.AdamS5InIdeal.nD Cert.AdamS5InIdeal.τ).loc Cert.AdamS5InIdeal.main_arg2)
          ∧ r.2.mem ((c.tc : Thread Cert.AdamS5InIdeal.nD Cert.AdamS5InIdeal.τ).loc Cert.AdamS5InIdeal.main_arg3) = m ((c.tc : Thread Cert.AdamS5InIdeal.nD Cert.AdamS5InIdeal.τ).loc Cert.AdamS5InIdeal.main_arg3))
      ∧ θ_run (Cert.AdamS5InRefIdeal.defs (F := Ideal)) (onTc (τ := Cert.AdamS5InRefIdeal.τ) (Cert.AdamS5InRefIdeal.main (F := Ideal))) ⟨m', fun _ => 0, g'⟩ (fun r => ∀ c : Dev Cert.AdamS5InRefIdeal.nD,
          r.2.mem ((c.tc : Thread Cert.AdamS5InRefIdeal.nD Cert.AdamS5InRefIdeal.τ).loc Cert.AdamS5InRefIdeal.main_v24) = v0 c
          ∧ r.2.mem ((c.tc : Thread Cert.AdamS5InRefIdeal.nD Cert.AdamS5InRefIdeal.τ).loc Cert.AdamS5InRefIdeal.main_v25) = v1 c
          ∧ r.2.mem ((c.tc : Thread Cert.AdamS5InRefIdeal.nD Cert.AdamS5InRefIdeal.τ).loc Cert.AdamS5InRefIdeal.main_v26) = v2 c
          ∧ r.2.mem ((c.tc : Thread Cert.AdamS5InRefIdeal.nD Cert.AdamS5InRefIdeal.τ).loc Cert.AdamS5InRefIdeal.main_arg0) = m' ((c.tc : Thread Cert.AdamS5InRefIdeal.nD Cert.AdamS5InRefIdeal.τ).loc Cert.AdamS5InRefIdeal.main_arg0)
          ∧ r.2.mem ((c.tc : Thread Cert.AdamS5InRefIdeal.nD Cert.AdamS5InRefIdeal.τ).loc Cert.AdamS5InRefIdeal.main_arg1) = m' ((c.tc : Thread Cert.AdamS5InRefIdeal.nD Cert.AdamS5InRefIdeal.τ).loc Cert.AdamS5InRefIdeal.main_arg1)
          ∧ r.2.mem ((c.tc : Thread Cert.AdamS5InRefIdeal.nD Cert.AdamS5InRefIdeal.τ).loc Cert.AdamS5InRefIdeal.main_arg2) = m' ((c.tc : Thread Cert.AdamS5InRefIdeal.nD Cert.AdamS5InRefIdeal.τ).loc Cert.AdamS5InRefIdeal.main_arg2)
          ∧ r.2.mem ((c.tc : Thread Cert.AdamS5InRefIdeal.nD Cert.AdamS5InRefIdeal.τ).loc Cert.AdamS5InRefIdeal.main_arg3) = m' ((c.tc : Thread Cert.AdamS5InRefIdeal.nD Cert.AdamS5InRefIdeal.τ).loc Cert.AdamS5InRefIdeal.main_arg3))

def preserves_AdamS5Glu_AdamS5GluIdeal : Prop :=
  True

def algebraic_AdamS5GluIdeal_AdamS5GluRefIdeal [hAdamS5GluIdeal : Cert.AdamS5GluIdeal.Facts] [hAdamS5GluRefIdeal : Cert.AdamS5GluRefIdeal.Facts] : Prop :=
  ∀ (m : (ℓ : Loc Cert.AdamS5GluIdeal.nD Cert.AdamS5GluIdeal.τ Cert.AdamS5GluIdeal.sig) → Buf (Elt Ideal) ℓ) (g : Dev Cert.AdamS5GluIdeal.nD → PrngReg)
    (m' : (ℓ : Loc Cert.AdamS5GluRefIdeal.nD Cert.AdamS5GluRefIdeal.τ Cert.AdamS5GluRefIdeal.sig) → Buf (Elt Ideal) ℓ) (g' : Dev Cert.AdamS5GluRefIdeal.nD → PrngReg), Pre_AdamS5GluIdeal m →
    (∀ c : Dev Cert.AdamS5GluIdeal.nD,
      m' ((c.tc : Thread Cert.AdamS5GluRefIdeal.nD Cert.AdamS5GluRefIdeal.τ).loc Cert.AdamS5GluRefIdeal.main_arg0) = m ((c.tc : Thread Cert.AdamS5GluIdeal.nD Cert.AdamS5GluIdeal.τ).loc Cert.AdamS5GluIdeal.main_arg0)
      ∧ m' ((c.tc : Thread Cert.AdamS5GluRefIdeal.nD Cert.AdamS5GluRefIdeal.τ).loc Cert.AdamS5GluRefIdeal.main_arg1) = m ((c.tc : Thread Cert.AdamS5GluIdeal.nD Cert.AdamS5GluIdeal.τ).loc Cert.AdamS5GluIdeal.main_arg1)
      ∧ m' ((c.tc : Thread Cert.AdamS5GluRefIdeal.nD Cert.AdamS5GluRefIdeal.τ).loc Cert.AdamS5GluRefIdeal.main_arg2) = m ((c.tc : Thread Cert.AdamS5GluIdeal.nD Cert.AdamS5GluIdeal.τ).loc Cert.AdamS5GluIdeal.main_arg2)
      ∧ m' ((c.tc : Thread Cert.AdamS5GluRefIdeal.nD Cert.AdamS5GluRefIdeal.τ).loc Cert.AdamS5GluRefIdeal.main_arg3) = m ((c.tc : Thread Cert.AdamS5GluIdeal.nD Cert.AdamS5GluIdeal.τ).loc Cert.AdamS5GluIdeal.main_arg3)) →
    ∃ (v0 : (c : Dev Cert.AdamS5GluIdeal.nD) → Buf (Elt Ideal) ((c.tc : Thread Cert.AdamS5GluIdeal.nD Cert.AdamS5GluIdeal.τ).loc Cert.AdamS5GluIdeal.main_v4_0)) (v1 : (c : Dev Cert.AdamS5GluIdeal.nD) → Buf (Elt Ideal) ((c.tc : Thread Cert.AdamS5GluIdeal.nD Cert.AdamS5GluIdeal.τ).loc Cert.AdamS5GluIdeal.main_v4_1)) (v2 : (c : Dev Cert.AdamS5GluIdeal.nD) → Buf (Elt Ideal) ((c.tc : Thread Cert.AdamS5GluIdeal.nD Cert.AdamS5GluIdeal.τ).loc Cert.AdamS5GluIdeal.main_v4_2)),
      θ_run (Cert.AdamS5GluIdeal.defs (F := Ideal)) (onTc (τ := Cert.AdamS5GluIdeal.τ) (Cert.AdamS5GluIdeal.main (F := Ideal))) ⟨m, fun _ => 0, g⟩ (fun r => ∀ c : Dev Cert.AdamS5GluIdeal.nD,
          r.2.mem ((c.tc : Thread Cert.AdamS5GluIdeal.nD Cert.AdamS5GluIdeal.τ).loc Cert.AdamS5GluIdeal.main_v4_0) = v0 c
          ∧ r.2.mem ((c.tc : Thread Cert.AdamS5GluIdeal.nD Cert.AdamS5GluIdeal.τ).loc Cert.AdamS5GluIdeal.main_v4_1) = v1 c
          ∧ r.2.mem ((c.tc : Thread Cert.AdamS5GluIdeal.nD Cert.AdamS5GluIdeal.τ).loc Cert.AdamS5GluIdeal.main_v4_2) = v2 c
          ∧ r.2.mem ((c.tc : Thread Cert.AdamS5GluIdeal.nD Cert.AdamS5GluIdeal.τ).loc Cert.AdamS5GluIdeal.main_arg0) = m ((c.tc : Thread Cert.AdamS5GluIdeal.nD Cert.AdamS5GluIdeal.τ).loc Cert.AdamS5GluIdeal.main_arg0)
          ∧ r.2.mem ((c.tc : Thread Cert.AdamS5GluIdeal.nD Cert.AdamS5GluIdeal.τ).loc Cert.AdamS5GluIdeal.main_arg1) = m ((c.tc : Thread Cert.AdamS5GluIdeal.nD Cert.AdamS5GluIdeal.τ).loc Cert.AdamS5GluIdeal.main_arg1)
          ∧ r.2.mem ((c.tc : Thread Cert.AdamS5GluIdeal.nD Cert.AdamS5GluIdeal.τ).loc Cert.AdamS5GluIdeal.main_arg2) = m ((c.tc : Thread Cert.AdamS5GluIdeal.nD Cert.AdamS5GluIdeal.τ).loc Cert.AdamS5GluIdeal.main_arg2)
          ∧ r.2.mem ((c.tc : Thread Cert.AdamS5GluIdeal.nD Cert.AdamS5GluIdeal.τ).loc Cert.AdamS5GluIdeal.main_arg3) = m ((c.tc : Thread Cert.AdamS5GluIdeal.nD Cert.AdamS5GluIdeal.τ).loc Cert.AdamS5GluIdeal.main_arg3))
      ∧ θ_run (Cert.AdamS5GluRefIdeal.defs (F := Ideal)) (onTc (τ := Cert.AdamS5GluRefIdeal.τ) (Cert.AdamS5GluRefIdeal.main (F := Ideal))) ⟨m', fun _ => 0, g'⟩ (fun r => ∀ c : Dev Cert.AdamS5GluRefIdeal.nD,
          r.2.mem ((c.tc : Thread Cert.AdamS5GluRefIdeal.nD Cert.AdamS5GluRefIdeal.τ).loc Cert.AdamS5GluRefIdeal.main_v24) = v0 c
          ∧ r.2.mem ((c.tc : Thread Cert.AdamS5GluRefIdeal.nD Cert.AdamS5GluRefIdeal.τ).loc Cert.AdamS5GluRefIdeal.main_v25) = v1 c
          ∧ r.2.mem ((c.tc : Thread Cert.AdamS5GluRefIdeal.nD Cert.AdamS5GluRefIdeal.τ).loc Cert.AdamS5GluRefIdeal.main_v26) = v2 c
          ∧ r.2.mem ((c.tc : Thread Cert.AdamS5GluRefIdeal.nD Cert.AdamS5GluRefIdeal.τ).loc Cert.AdamS5GluRefIdeal.main_arg0) = m' ((c.tc : Thread Cert.AdamS5GluRefIdeal.nD Cert.AdamS5GluRefIdeal.τ).loc Cert.AdamS5GluRefIdeal.main_arg0)
          ∧ r.2.mem ((c.tc : Thread Cert.AdamS5GluRefIdeal.nD Cert.AdamS5GluRefIdeal.τ).loc Cert.AdamS5GluRefIdeal.main_arg1) = m' ((c.tc : Thread Cert.AdamS5GluRefIdeal.nD Cert.AdamS5GluRefIdeal.τ).loc Cert.AdamS5GluRefIdeal.main_arg1)
          ∧ r.2.mem ((c.tc : Thread Cert.AdamS5GluRefIdeal.nD Cert.AdamS5GluRefIdeal.τ).loc Cert.AdamS5GluRefIdeal.main_arg2) = m' ((c.tc : Thread Cert.AdamS5GluRefIdeal.nD Cert.AdamS5GluRefIdeal.τ).loc Cert.AdamS5GluRefIdeal.main_arg2)
          ∧ r.2.mem ((c.tc : Thread Cert.AdamS5GluRefIdeal.nD Cert.AdamS5GluRefIdeal.τ).loc Cert.AdamS5GluRefIdeal.main_arg3) = m' ((c.tc : Thread Cert.AdamS5GluRefIdeal.nD Cert.AdamS5GluRefIdeal.τ).loc Cert.AdamS5GluRefIdeal.main_arg3))

def preserves_AdamLruIn_AdamLruInIdeal : Prop :=
  True

def algebraic_AdamLruInIdeal_AdamLruInRefIdeal [hAdamLruInIdeal : Cert.AdamLruInIdeal.Facts] [hAdamLruInRefIdeal : Cert.AdamLruInRefIdeal.Facts] : Prop :=
  ∀ (m : (ℓ : Loc Cert.AdamLruInIdeal.nD Cert.AdamLruInIdeal.τ Cert.AdamLruInIdeal.sig) → Buf (Elt Ideal) ℓ) (g : Dev Cert.AdamLruInIdeal.nD → PrngReg)
    (m' : (ℓ : Loc Cert.AdamLruInRefIdeal.nD Cert.AdamLruInRefIdeal.τ Cert.AdamLruInRefIdeal.sig) → Buf (Elt Ideal) ℓ) (g' : Dev Cert.AdamLruInRefIdeal.nD → PrngReg), Pre_AdamLruInIdeal m →
    (∀ c : Dev Cert.AdamLruInIdeal.nD,
      m' ((c.tc : Thread Cert.AdamLruInRefIdeal.nD Cert.AdamLruInRefIdeal.τ).loc Cert.AdamLruInRefIdeal.main_arg0) = m ((c.tc : Thread Cert.AdamLruInIdeal.nD Cert.AdamLruInIdeal.τ).loc Cert.AdamLruInIdeal.main_arg0)
      ∧ m' ((c.tc : Thread Cert.AdamLruInRefIdeal.nD Cert.AdamLruInRefIdeal.τ).loc Cert.AdamLruInRefIdeal.main_arg1) = m ((c.tc : Thread Cert.AdamLruInIdeal.nD Cert.AdamLruInIdeal.τ).loc Cert.AdamLruInIdeal.main_arg1)
      ∧ m' ((c.tc : Thread Cert.AdamLruInRefIdeal.nD Cert.AdamLruInRefIdeal.τ).loc Cert.AdamLruInRefIdeal.main_arg2) = m ((c.tc : Thread Cert.AdamLruInIdeal.nD Cert.AdamLruInIdeal.τ).loc Cert.AdamLruInIdeal.main_arg2)
      ∧ m' ((c.tc : Thread Cert.AdamLruInRefIdeal.nD Cert.AdamLruInRefIdeal.τ).loc Cert.AdamLruInRefIdeal.main_arg3) = m ((c.tc : Thread Cert.AdamLruInIdeal.nD Cert.AdamLruInIdeal.τ).loc Cert.AdamLruInIdeal.main_arg3)) →
    ∃ (v0 : (c : Dev Cert.AdamLruInIdeal.nD) → Buf (Elt Ideal) ((c.tc : Thread Cert.AdamLruInIdeal.nD Cert.AdamLruInIdeal.τ).loc Cert.AdamLruInIdeal.main_v4_0)) (v1 : (c : Dev Cert.AdamLruInIdeal.nD) → Buf (Elt Ideal) ((c.tc : Thread Cert.AdamLruInIdeal.nD Cert.AdamLruInIdeal.τ).loc Cert.AdamLruInIdeal.main_v4_1)) (v2 : (c : Dev Cert.AdamLruInIdeal.nD) → Buf (Elt Ideal) ((c.tc : Thread Cert.AdamLruInIdeal.nD Cert.AdamLruInIdeal.τ).loc Cert.AdamLruInIdeal.main_v4_2)),
      θ_run (Cert.AdamLruInIdeal.defs (F := Ideal)) (onTc (τ := Cert.AdamLruInIdeal.τ) (Cert.AdamLruInIdeal.main (F := Ideal))) ⟨m, fun _ => 0, g⟩ (fun r => ∀ c : Dev Cert.AdamLruInIdeal.nD,
          r.2.mem ((c.tc : Thread Cert.AdamLruInIdeal.nD Cert.AdamLruInIdeal.τ).loc Cert.AdamLruInIdeal.main_v4_0) = v0 c
          ∧ r.2.mem ((c.tc : Thread Cert.AdamLruInIdeal.nD Cert.AdamLruInIdeal.τ).loc Cert.AdamLruInIdeal.main_v4_1) = v1 c
          ∧ r.2.mem ((c.tc : Thread Cert.AdamLruInIdeal.nD Cert.AdamLruInIdeal.τ).loc Cert.AdamLruInIdeal.main_v4_2) = v2 c
          ∧ r.2.mem ((c.tc : Thread Cert.AdamLruInIdeal.nD Cert.AdamLruInIdeal.τ).loc Cert.AdamLruInIdeal.main_arg0) = m ((c.tc : Thread Cert.AdamLruInIdeal.nD Cert.AdamLruInIdeal.τ).loc Cert.AdamLruInIdeal.main_arg0)
          ∧ r.2.mem ((c.tc : Thread Cert.AdamLruInIdeal.nD Cert.AdamLruInIdeal.τ).loc Cert.AdamLruInIdeal.main_arg1) = m ((c.tc : Thread Cert.AdamLruInIdeal.nD Cert.AdamLruInIdeal.τ).loc Cert.AdamLruInIdeal.main_arg1)
          ∧ r.2.mem ((c.tc : Thread Cert.AdamLruInIdeal.nD Cert.AdamLruInIdeal.τ).loc Cert.AdamLruInIdeal.main_arg2) = m ((c.tc : Thread Cert.AdamLruInIdeal.nD Cert.AdamLruInIdeal.τ).loc Cert.AdamLruInIdeal.main_arg2)
          ∧ r.2.mem ((c.tc : Thread Cert.AdamLruInIdeal.nD Cert.AdamLruInIdeal.τ).loc Cert.AdamLruInIdeal.main_arg3) = m ((c.tc : Thread Cert.AdamLruInIdeal.nD Cert.AdamLruInIdeal.τ).loc Cert.AdamLruInIdeal.main_arg3))
      ∧ θ_run (Cert.AdamLruInRefIdeal.defs (F := Ideal)) (onTc (τ := Cert.AdamLruInRefIdeal.τ) (Cert.AdamLruInRefIdeal.main (F := Ideal))) ⟨m', fun _ => 0, g'⟩ (fun r => ∀ c : Dev Cert.AdamLruInRefIdeal.nD,
          r.2.mem ((c.tc : Thread Cert.AdamLruInRefIdeal.nD Cert.AdamLruInRefIdeal.τ).loc Cert.AdamLruInRefIdeal.main_v24) = v0 c
          ∧ r.2.mem ((c.tc : Thread Cert.AdamLruInRefIdeal.nD Cert.AdamLruInRefIdeal.τ).loc Cert.AdamLruInRefIdeal.main_v25) = v1 c
          ∧ r.2.mem ((c.tc : Thread Cert.AdamLruInRefIdeal.nD Cert.AdamLruInRefIdeal.τ).loc Cert.AdamLruInRefIdeal.main_v26) = v2 c
          ∧ r.2.mem ((c.tc : Thread Cert.AdamLruInRefIdeal.nD Cert.AdamLruInRefIdeal.τ).loc Cert.AdamLruInRefIdeal.main_arg0) = m' ((c.tc : Thread Cert.AdamLruInRefIdeal.nD Cert.AdamLruInRefIdeal.τ).loc Cert.AdamLruInRefIdeal.main_arg0)
          ∧ r.2.mem ((c.tc : Thread Cert.AdamLruInRefIdeal.nD Cert.AdamLruInRefIdeal.τ).loc Cert.AdamLruInRefIdeal.main_arg1) = m' ((c.tc : Thread Cert.AdamLruInRefIdeal.nD Cert.AdamLruInRefIdeal.τ).loc Cert.AdamLruInRefIdeal.main_arg1)
          ∧ r.2.mem ((c.tc : Thread Cert.AdamLruInRefIdeal.nD Cert.AdamLruInRefIdeal.τ).loc Cert.AdamLruInRefIdeal.main_arg2) = m' ((c.tc : Thread Cert.AdamLruInRefIdeal.nD Cert.AdamLruInRefIdeal.τ).loc Cert.AdamLruInRefIdeal.main_arg2)
          ∧ r.2.mem ((c.tc : Thread Cert.AdamLruInRefIdeal.nD Cert.AdamLruInRefIdeal.τ).loc Cert.AdamLruInRefIdeal.main_arg3) = m' ((c.tc : Thread Cert.AdamLruInRefIdeal.nD Cert.AdamLruInRefIdeal.τ).loc Cert.AdamLruInRefIdeal.main_arg3))

def preserves_AdamLruOut_AdamLruOutIdeal : Prop :=
  True

def algebraic_AdamLruOutIdeal_AdamLruOutRefIdeal [hAdamLruOutIdeal : Cert.AdamLruOutIdeal.Facts] [hAdamLruOutRefIdeal : Cert.AdamLruOutRefIdeal.Facts] : Prop :=
  ∀ (m : (ℓ : Loc Cert.AdamLruOutIdeal.nD Cert.AdamLruOutIdeal.τ Cert.AdamLruOutIdeal.sig) → Buf (Elt Ideal) ℓ) (g : Dev Cert.AdamLruOutIdeal.nD → PrngReg)
    (m' : (ℓ : Loc Cert.AdamLruOutRefIdeal.nD Cert.AdamLruOutRefIdeal.τ Cert.AdamLruOutRefIdeal.sig) → Buf (Elt Ideal) ℓ) (g' : Dev Cert.AdamLruOutRefIdeal.nD → PrngReg), Pre_AdamLruOutIdeal m →
    (∀ c : Dev Cert.AdamLruOutIdeal.nD,
      m' ((c.tc : Thread Cert.AdamLruOutRefIdeal.nD Cert.AdamLruOutRefIdeal.τ).loc Cert.AdamLruOutRefIdeal.main_arg0) = m ((c.tc : Thread Cert.AdamLruOutIdeal.nD Cert.AdamLruOutIdeal.τ).loc Cert.AdamLruOutIdeal.main_arg0)
      ∧ m' ((c.tc : Thread Cert.AdamLruOutRefIdeal.nD Cert.AdamLruOutRefIdeal.τ).loc Cert.AdamLruOutRefIdeal.main_arg1) = m ((c.tc : Thread Cert.AdamLruOutIdeal.nD Cert.AdamLruOutIdeal.τ).loc Cert.AdamLruOutIdeal.main_arg1)
      ∧ m' ((c.tc : Thread Cert.AdamLruOutRefIdeal.nD Cert.AdamLruOutRefIdeal.τ).loc Cert.AdamLruOutRefIdeal.main_arg2) = m ((c.tc : Thread Cert.AdamLruOutIdeal.nD Cert.AdamLruOutIdeal.τ).loc Cert.AdamLruOutIdeal.main_arg2)
      ∧ m' ((c.tc : Thread Cert.AdamLruOutRefIdeal.nD Cert.AdamLruOutRefIdeal.τ).loc Cert.AdamLruOutRefIdeal.main_arg3) = m ((c.tc : Thread Cert.AdamLruOutIdeal.nD Cert.AdamLruOutIdeal.τ).loc Cert.AdamLruOutIdeal.main_arg3)) →
    ∃ (v0 : (c : Dev Cert.AdamLruOutIdeal.nD) → Buf (Elt Ideal) ((c.tc : Thread Cert.AdamLruOutIdeal.nD Cert.AdamLruOutIdeal.τ).loc Cert.AdamLruOutIdeal.main_v4_0)) (v1 : (c : Dev Cert.AdamLruOutIdeal.nD) → Buf (Elt Ideal) ((c.tc : Thread Cert.AdamLruOutIdeal.nD Cert.AdamLruOutIdeal.τ).loc Cert.AdamLruOutIdeal.main_v4_1)) (v2 : (c : Dev Cert.AdamLruOutIdeal.nD) → Buf (Elt Ideal) ((c.tc : Thread Cert.AdamLruOutIdeal.nD Cert.AdamLruOutIdeal.τ).loc Cert.AdamLruOutIdeal.main_v4_2)),
      θ_run (Cert.AdamLruOutIdeal.defs (F := Ideal)) (onTc (τ := Cert.AdamLruOutIdeal.τ) (Cert.AdamLruOutIdeal.main (F := Ideal))) ⟨m, fun _ => 0, g⟩ (fun r => ∀ c : Dev Cert.AdamLruOutIdeal.nD,
          r.2.mem ((c.tc : Thread Cert.AdamLruOutIdeal.nD Cert.AdamLruOutIdeal.τ).loc Cert.AdamLruOutIdeal.main_v4_0) = v0 c
          ∧ r.2.mem ((c.tc : Thread Cert.AdamLruOutIdeal.nD Cert.AdamLruOutIdeal.τ).loc Cert.AdamLruOutIdeal.main_v4_1) = v1 c
          ∧ r.2.mem ((c.tc : Thread Cert.AdamLruOutIdeal.nD Cert.AdamLruOutIdeal.τ).loc Cert.AdamLruOutIdeal.main_v4_2) = v2 c
          ∧ r.2.mem ((c.tc : Thread Cert.AdamLruOutIdeal.nD Cert.AdamLruOutIdeal.τ).loc Cert.AdamLruOutIdeal.main_arg0) = m ((c.tc : Thread Cert.AdamLruOutIdeal.nD Cert.AdamLruOutIdeal.τ).loc Cert.AdamLruOutIdeal.main_arg0)
          ∧ r.2.mem ((c.tc : Thread Cert.AdamLruOutIdeal.nD Cert.AdamLruOutIdeal.τ).loc Cert.AdamLruOutIdeal.main_arg1) = m ((c.tc : Thread Cert.AdamLruOutIdeal.nD Cert.AdamLruOutIdeal.τ).loc Cert.AdamLruOutIdeal.main_arg1)
          ∧ r.2.mem ((c.tc : Thread Cert.AdamLruOutIdeal.nD Cert.AdamLruOutIdeal.τ).loc Cert.AdamLruOutIdeal.main_arg2) = m ((c.tc : Thread Cert.AdamLruOutIdeal.nD Cert.AdamLruOutIdeal.τ).loc Cert.AdamLruOutIdeal.main_arg2)
          ∧ r.2.mem ((c.tc : Thread Cert.AdamLruOutIdeal.nD Cert.AdamLruOutIdeal.τ).loc Cert.AdamLruOutIdeal.main_arg3) = m ((c.tc : Thread Cert.AdamLruOutIdeal.nD Cert.AdamLruOutIdeal.τ).loc Cert.AdamLruOutIdeal.main_arg3))
      ∧ θ_run (Cert.AdamLruOutRefIdeal.defs (F := Ideal)) (onTc (τ := Cert.AdamLruOutRefIdeal.τ) (Cert.AdamLruOutRefIdeal.main (F := Ideal))) ⟨m', fun _ => 0, g'⟩ (fun r => ∀ c : Dev Cert.AdamLruOutRefIdeal.nD,
          r.2.mem ((c.tc : Thread Cert.AdamLruOutRefIdeal.nD Cert.AdamLruOutRefIdeal.τ).loc Cert.AdamLruOutRefIdeal.main_v24) = v0 c
          ∧ r.2.mem ((c.tc : Thread Cert.AdamLruOutRefIdeal.nD Cert.AdamLruOutRefIdeal.τ).loc Cert.AdamLruOutRefIdeal.main_v25) = v1 c
          ∧ r.2.mem ((c.tc : Thread Cert.AdamLruOutRefIdeal.nD Cert.AdamLruOutRefIdeal.τ).loc Cert.AdamLruOutRefIdeal.main_v26) = v2 c
          ∧ r.2.mem ((c.tc : Thread Cert.AdamLruOutRefIdeal.nD Cert.AdamLruOutRefIdeal.τ).loc Cert.AdamLruOutRefIdeal.main_arg0) = m' ((c.tc : Thread Cert.AdamLruOutRefIdeal.nD Cert.AdamLruOutRefIdeal.τ).loc Cert.AdamLruOutRefIdeal.main_arg0)
          ∧ r.2.mem ((c.tc : Thread Cert.AdamLruOutRefIdeal.nD Cert.AdamLruOutRefIdeal.τ).loc Cert.AdamLruOutRefIdeal.main_arg1) = m' ((c.tc : Thread Cert.AdamLruOutRefIdeal.nD Cert.AdamLruOutRefIdeal.τ).loc Cert.AdamLruOutRefIdeal.main_arg1)
          ∧ r.2.mem ((c.tc : Thread Cert.AdamLruOutRefIdeal.nD Cert.AdamLruOutRefIdeal.τ).loc Cert.AdamLruOutRefIdeal.main_arg2) = m' ((c.tc : Thread Cert.AdamLruOutRefIdeal.nD Cert.AdamLruOutRefIdeal.τ).loc Cert.AdamLruOutRefIdeal.main_arg2)
          ∧ r.2.mem ((c.tc : Thread Cert.AdamLruOutRefIdeal.nD Cert.AdamLruOutRefIdeal.τ).loc Cert.AdamLruOutRefIdeal.main_arg3) = m' ((c.tc : Thread Cert.AdamLruOutRefIdeal.nD Cert.AdamLruOutRefIdeal.τ).loc Cert.AdamLruOutRefIdeal.main_arg3))

def preserves_AdamFfnGu_AdamFfnGuIdeal : Prop :=
  True

def algebraic_AdamFfnGuIdeal_AdamFfnGuRefIdeal [hAdamFfnGuIdeal : Cert.AdamFfnGuIdeal.Facts] [hAdamFfnGuRefIdeal : Cert.AdamFfnGuRefIdeal.Facts] : Prop :=
  ∀ (m : (ℓ : Loc Cert.AdamFfnGuIdeal.nD Cert.AdamFfnGuIdeal.τ Cert.AdamFfnGuIdeal.sig) → Buf (Elt Ideal) ℓ) (g : Dev Cert.AdamFfnGuIdeal.nD → PrngReg)
    (m' : (ℓ : Loc Cert.AdamFfnGuRefIdeal.nD Cert.AdamFfnGuRefIdeal.τ Cert.AdamFfnGuRefIdeal.sig) → Buf (Elt Ideal) ℓ) (g' : Dev Cert.AdamFfnGuRefIdeal.nD → PrngReg), Pre_AdamFfnGuIdeal m →
    (∀ c : Dev Cert.AdamFfnGuIdeal.nD,
      m' ((c.tc : Thread Cert.AdamFfnGuRefIdeal.nD Cert.AdamFfnGuRefIdeal.τ).loc Cert.AdamFfnGuRefIdeal.main_arg0) = m ((c.tc : Thread Cert.AdamFfnGuIdeal.nD Cert.AdamFfnGuIdeal.τ).loc Cert.AdamFfnGuIdeal.main_arg0)
      ∧ m' ((c.tc : Thread Cert.AdamFfnGuRefIdeal.nD Cert.AdamFfnGuRefIdeal.τ).loc Cert.AdamFfnGuRefIdeal.main_arg1) = m ((c.tc : Thread Cert.AdamFfnGuIdeal.nD Cert.AdamFfnGuIdeal.τ).loc Cert.AdamFfnGuIdeal.main_arg1)
      ∧ m' ((c.tc : Thread Cert.AdamFfnGuRefIdeal.nD Cert.AdamFfnGuRefIdeal.τ).loc Cert.AdamFfnGuRefIdeal.main_arg2) = m ((c.tc : Thread Cert.AdamFfnGuIdeal.nD Cert.AdamFfnGuIdeal.τ).loc Cert.AdamFfnGuIdeal.main_arg2)
      ∧ m' ((c.tc : Thread Cert.AdamFfnGuRefIdeal.nD Cert.AdamFfnGuRefIdeal.τ).loc Cert.AdamFfnGuRefIdeal.main_arg3) = m ((c.tc : Thread Cert.AdamFfnGuIdeal.nD Cert.AdamFfnGuIdeal.τ).loc Cert.AdamFfnGuIdeal.main_arg3)) →
    ∃ (v0 : (c : Dev Cert.AdamFfnGuIdeal.nD) → Buf (Elt Ideal) ((c.tc : Thread Cert.AdamFfnGuIdeal.nD Cert.AdamFfnGuIdeal.τ).loc Cert.AdamFfnGuIdeal.main_v4_0)) (v1 : (c : Dev Cert.AdamFfnGuIdeal.nD) → Buf (Elt Ideal) ((c.tc : Thread Cert.AdamFfnGuIdeal.nD Cert.AdamFfnGuIdeal.τ).loc Cert.AdamFfnGuIdeal.main_v4_1)) (v2 : (c : Dev Cert.AdamFfnGuIdeal.nD) → Buf (Elt Ideal) ((c.tc : Thread Cert.AdamFfnGuIdeal.nD Cert.AdamFfnGuIdeal.τ).loc Cert.AdamFfnGuIdeal.main_v4_2)),
      θ_run (Cert.AdamFfnGuIdeal.defs (F := Ideal)) (onTc (τ := Cert.AdamFfnGuIdeal.τ) (Cert.AdamFfnGuIdeal.main (F := Ideal))) ⟨m, fun _ => 0, g⟩ (fun r => ∀ c : Dev Cert.AdamFfnGuIdeal.nD,
          r.2.mem ((c.tc : Thread Cert.AdamFfnGuIdeal.nD Cert.AdamFfnGuIdeal.τ).loc Cert.AdamFfnGuIdeal.main_v4_0) = v0 c
          ∧ r.2.mem ((c.tc : Thread Cert.AdamFfnGuIdeal.nD Cert.AdamFfnGuIdeal.τ).loc Cert.AdamFfnGuIdeal.main_v4_1) = v1 c
          ∧ r.2.mem ((c.tc : Thread Cert.AdamFfnGuIdeal.nD Cert.AdamFfnGuIdeal.τ).loc Cert.AdamFfnGuIdeal.main_v4_2) = v2 c
          ∧ r.2.mem ((c.tc : Thread Cert.AdamFfnGuIdeal.nD Cert.AdamFfnGuIdeal.τ).loc Cert.AdamFfnGuIdeal.main_arg0) = m ((c.tc : Thread Cert.AdamFfnGuIdeal.nD Cert.AdamFfnGuIdeal.τ).loc Cert.AdamFfnGuIdeal.main_arg0)
          ∧ r.2.mem ((c.tc : Thread Cert.AdamFfnGuIdeal.nD Cert.AdamFfnGuIdeal.τ).loc Cert.AdamFfnGuIdeal.main_arg1) = m ((c.tc : Thread Cert.AdamFfnGuIdeal.nD Cert.AdamFfnGuIdeal.τ).loc Cert.AdamFfnGuIdeal.main_arg1)
          ∧ r.2.mem ((c.tc : Thread Cert.AdamFfnGuIdeal.nD Cert.AdamFfnGuIdeal.τ).loc Cert.AdamFfnGuIdeal.main_arg2) = m ((c.tc : Thread Cert.AdamFfnGuIdeal.nD Cert.AdamFfnGuIdeal.τ).loc Cert.AdamFfnGuIdeal.main_arg2)
          ∧ r.2.mem ((c.tc : Thread Cert.AdamFfnGuIdeal.nD Cert.AdamFfnGuIdeal.τ).loc Cert.AdamFfnGuIdeal.main_arg3) = m ((c.tc : Thread Cert.AdamFfnGuIdeal.nD Cert.AdamFfnGuIdeal.τ).loc Cert.AdamFfnGuIdeal.main_arg3))
      ∧ θ_run (Cert.AdamFfnGuRefIdeal.defs (F := Ideal)) (onTc (τ := Cert.AdamFfnGuRefIdeal.τ) (Cert.AdamFfnGuRefIdeal.main (F := Ideal))) ⟨m', fun _ => 0, g'⟩ (fun r => ∀ c : Dev Cert.AdamFfnGuRefIdeal.nD,
          r.2.mem ((c.tc : Thread Cert.AdamFfnGuRefIdeal.nD Cert.AdamFfnGuRefIdeal.τ).loc Cert.AdamFfnGuRefIdeal.main_v24) = v0 c
          ∧ r.2.mem ((c.tc : Thread Cert.AdamFfnGuRefIdeal.nD Cert.AdamFfnGuRefIdeal.τ).loc Cert.AdamFfnGuRefIdeal.main_v25) = v1 c
          ∧ r.2.mem ((c.tc : Thread Cert.AdamFfnGuRefIdeal.nD Cert.AdamFfnGuRefIdeal.τ).loc Cert.AdamFfnGuRefIdeal.main_v26) = v2 c
          ∧ r.2.mem ((c.tc : Thread Cert.AdamFfnGuRefIdeal.nD Cert.AdamFfnGuRefIdeal.τ).loc Cert.AdamFfnGuRefIdeal.main_arg0) = m' ((c.tc : Thread Cert.AdamFfnGuRefIdeal.nD Cert.AdamFfnGuRefIdeal.τ).loc Cert.AdamFfnGuRefIdeal.main_arg0)
          ∧ r.2.mem ((c.tc : Thread Cert.AdamFfnGuRefIdeal.nD Cert.AdamFfnGuRefIdeal.τ).loc Cert.AdamFfnGuRefIdeal.main_arg1) = m' ((c.tc : Thread Cert.AdamFfnGuRefIdeal.nD Cert.AdamFfnGuRefIdeal.τ).loc Cert.AdamFfnGuRefIdeal.main_arg1)
          ∧ r.2.mem ((c.tc : Thread Cert.AdamFfnGuRefIdeal.nD Cert.AdamFfnGuRefIdeal.τ).loc Cert.AdamFfnGuRefIdeal.main_arg2) = m' ((c.tc : Thread Cert.AdamFfnGuRefIdeal.nD Cert.AdamFfnGuRefIdeal.τ).loc Cert.AdamFfnGuRefIdeal.main_arg2)
          ∧ r.2.mem ((c.tc : Thread Cert.AdamFfnGuRefIdeal.nD Cert.AdamFfnGuRefIdeal.τ).loc Cert.AdamFfnGuRefIdeal.main_arg3) = m' ((c.tc : Thread Cert.AdamFfnGuRefIdeal.nD Cert.AdamFfnGuRefIdeal.τ).loc Cert.AdamFfnGuRefIdeal.main_arg3))

def preserves_AdamFfnDown_AdamFfnDownIdeal : Prop :=
  True

def algebraic_AdamFfnDownIdeal_AdamFfnDownRefIdeal [hAdamFfnDownIdeal : Cert.AdamFfnDownIdeal.Facts] [hAdamFfnDownRefIdeal : Cert.AdamFfnDownRefIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownRefIdeal.nD Cert.AdamFfnDownRefIdeal.τ Cert.AdamFfnDownRefIdeal.sig) → Buf (Elt Ideal) ℓ) (g' : Dev Cert.AdamFfnDownRefIdeal.nD → PrngReg), Pre_AdamFfnDownIdeal m →
    (∀ c : Dev Cert.AdamFfnDownIdeal.nD,
      m' ((c.tc : Thread Cert.AdamFfnDownRefIdeal.nD Cert.AdamFfnDownRefIdeal.τ).loc Cert.AdamFfnDownRefIdeal.main_arg0) = m ((c.tc : Thread Cert.AdamFfnDownIdeal.nD Cert.AdamFfnDownIdeal.τ).loc Cert.AdamFfnDownIdeal.main_arg0)
      ∧ m' ((c.tc : Thread Cert.AdamFfnDownRefIdeal.nD Cert.AdamFfnDownRefIdeal.τ).loc Cert.AdamFfnDownRefIdeal.main_arg1) = m ((c.tc : Thread Cert.AdamFfnDownIdeal.nD Cert.AdamFfnDownIdeal.τ).loc Cert.AdamFfnDownIdeal.main_arg1)
      ∧ m' ((c.tc : Thread Cert.AdamFfnDownRefIdeal.nD Cert.AdamFfnDownRefIdeal.τ).loc Cert.AdamFfnDownRefIdeal.main_arg2) = m ((c.tc : Thread Cert.AdamFfnDownIdeal.nD Cert.AdamFfnDownIdeal.τ).loc Cert.AdamFfnDownIdeal.main_arg2)
      ∧ m' ((c.tc : Thread Cert.AdamFfnDownRefIdeal.nD Cert.AdamFfnDownRefIdeal.τ).loc Cert.AdamFfnDownRefIdeal.main_arg3) = m ((c.tc : Thread Cert.AdamFfnDownIdeal.nD Cert.AdamFfnDownIdeal.τ).loc Cert.AdamFfnDownIdeal.main_arg3)) →
    ∃ (v0 : (c : Dev Cert.AdamFfnDownIdeal.nD) → Buf (Elt Ideal) ((c.tc : Thread Cert.AdamFfnDownIdeal.nD Cert.AdamFfnDownIdeal.τ).loc Cert.AdamFfnDownIdeal.main_v4_0)) (v1 : (c : Dev Cert.AdamFfnDownIdeal.nD) → Buf (Elt Ideal) ((c.tc : Thread Cert.AdamFfnDownIdeal.nD Cert.AdamFfnDownIdeal.τ).loc Cert.AdamFfnDownIdeal.main_v4_1)) (v2 : (c : Dev Cert.AdamFfnDownIdeal.nD) → Buf (Elt Ideal) ((c.tc : Thread Cert.AdamFfnDownIdeal.nD Cert.AdamFfnDownIdeal.τ).loc Cert.AdamFfnDownIdeal.main_v4_2)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v4_0) = v0 c
          ∧ r.2.mem ((c.tc : Thread Cert.AdamFfnDownIdeal.nD Cert.AdamFfnDownIdeal.τ).loc Cert.AdamFfnDownIdeal.main_v4_1) = v1 c
          ∧ r.2.mem ((c.tc : Thread Cert.AdamFfnDownIdeal.nD Cert.AdamFfnDownIdeal.τ).loc Cert.AdamFfnDownIdeal.main_v4_2) = v2 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ θ_run (Cert.AdamFfnDownRefIdeal.defs (F := Ideal)) (onTc (τ := Cert.AdamFfnDownRefIdeal.τ) (Cert.AdamFfnDownRefIdeal.main (F := Ideal))) ⟨m', fun _ => 0, g'⟩ (fun r => ∀ c : Dev Cert.AdamFfnDownRefIdeal.nD,
          r.2.mem ((c.tc : Thread Cert.AdamFfnDownRefIdeal.nD Cert.AdamFfnDownRefIdeal.τ).loc Cert.AdamFfnDownRefIdeal.main_v24) = v0 c
          ∧ r.2.mem ((c.tc : Thread Cert.AdamFfnDownRefIdeal.nD Cert.AdamFfnDownRefIdeal.τ).loc Cert.AdamFfnDownRefIdeal.main_v25) = v1 c
          ∧ r.2.mem ((c.tc : Thread Cert.AdamFfnDownRefIdeal.nD Cert.AdamFfnDownRefIdeal.τ).loc Cert.AdamFfnDownRefIdeal.main_v26) = v2 c
          ∧ r.2.mem ((c.tc : Thread Cert.AdamFfnDownRefIdeal.nD Cert.AdamFfnDownRefIdeal.τ).loc Cert.AdamFfnDownRefIdeal.main_arg0) = m' ((c.tc : Thread Cert.AdamFfnDownRefIdeal.nD Cert.AdamFfnDownRefIdeal.τ).loc Cert.AdamFfnDownRefIdeal.main_arg0)
          ∧ r.2.mem ((c.tc : Thread Cert.AdamFfnDownRefIdeal.nD Cert.AdamFfnDownRefIdeal.τ).loc Cert.AdamFfnDownRefIdeal.main_arg1) = m' ((c.tc : Thread Cert.AdamFfnDownRefIdeal.nD Cert.AdamFfnDownRefIdeal.τ).loc Cert.AdamFfnDownRefIdeal.main_arg1)
          ∧ r.2.mem ((c.tc : Thread Cert.AdamFfnDownRefIdeal.nD Cert.AdamFfnDownRefIdeal.τ).loc Cert.AdamFfnDownRefIdeal.main_arg2) = m' ((c.tc : Thread Cert.AdamFfnDownRefIdeal.nD Cert.AdamFfnDownRefIdeal.τ).loc Cert.AdamFfnDownRefIdeal.main_arg2)
          ∧ r.2.mem ((c.tc : Thread Cert.AdamFfnDownRefIdeal.nD Cert.AdamFfnDownRefIdeal.τ).loc Cert.AdamFfnDownRefIdeal.main_arg3) = m' ((c.tc : Thread Cert.AdamFfnDownRefIdeal.nD Cert.AdamFfnDownRefIdeal.τ).loc Cert.AdamFfnDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)) →
    ∃ (v0 : (c : Dev Cert.AdamSmallIdeal.nD) → Buf (Elt Ideal) ((c.tc : Thread Cert.AdamSmallIdeal.nD Cert.AdamSmallIdeal.τ).loc Cert.AdamSmallIdeal.main_v56_0)) (v1 : (c : Dev Cert.AdamSmallIdeal.nD) → Buf (Elt Ideal) ((c.tc : Thread Cert.AdamSmallIdeal.nD Cert.AdamSmallIdeal.τ).loc Cert.AdamSmallIdeal.main_v56_1)) (v2 : (c : Dev Cert.AdamSmallIdeal.nD) → Buf (Elt Ideal) ((c.tc : Thread Cert.AdamSmallIdeal.nD Cert.AdamSmallIdeal.τ).loc Cert.AdamSmallIdeal.main_v56_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v56_0) = v0 c
          ∧ r.2.mem ((c.tc : Thread Cert.AdamSmallIdeal.nD Cert.AdamSmallIdeal.τ).loc Cert.AdamSmallIdeal.main_v56_1) = v1 c
          ∧ r.2.mem ((c.tc : Thread Cert.AdamSmallIdeal.nD Cert.AdamSmallIdeal.τ).loc Cert.AdamSmallIdeal.main_v56_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v301) = v0 c
          ∧ r.2.mem ((c.tc : Thread Cert.AdamSmallRefIdeal.nD Cert.AdamSmallRefIdeal.τ).loc Cert.AdamSmallRefIdeal.main_v315) = v1 c
          ∧ r.2.mem ((c.tc : Thread Cert.AdamSmallRefIdeal.nD Cert.AdamSmallRefIdeal.τ).loc Cert.AdamSmallRefIdeal.main_v329) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumS5c_SumS5cIdeal : Prop :=
  True

def algebraic_SumS5cIdeal_SumS5cRefIdeal [hSumS5cIdeal : Cert.SumS5cIdeal.Facts] [hSumS5cRefIdeal : Cert.SumS5cRefIdeal.Facts] : Prop :=
  ∀ (m : (ℓ : Loc Cert.SumS5cIdeal.nD Cert.SumS5cIdeal.τ Cert.SumS5cIdeal.sig) → Buf (Elt Ideal) ℓ) (g : Dev Cert.SumS5cIdeal.nD → PrngReg)
    (m' : (ℓ : Loc Cert.SumS5cRefIdeal.nD Cert.SumS5cRefIdeal.τ Cert.SumS5cRefIdeal.sig) → Buf (Elt Ideal) ℓ) (g' : Dev Cert.SumS5cRefIdeal.nD → PrngReg), Pre_SumS5cIdeal m →
    (∀ c : Dev Cert.SumS5cIdeal.nD,
      m' ((c.tc : Thread Cert.SumS5cRefIdeal.nD Cert.SumS5cRefIdeal.τ).loc Cert.SumS5cRefIdeal.main_arg0) = m ((c.tc : Thread Cert.SumS5cIdeal.nD Cert.SumS5cIdeal.τ).loc Cert.SumS5cIdeal.main_arg0)) →
    ∃ (v0 : (c : Dev Cert.SumS5cIdeal.nD) → Buf (Elt Ideal) ((c.tc : Thread Cert.SumS5cIdeal.nD Cert.SumS5cIdeal.τ).loc Cert.SumS5cIdeal.main_v0)),
      θ_run (Cert.SumS5cIdeal.defs (F := Ideal)) (onTc (τ := Cert.SumS5cIdeal.τ) (Cert.SumS5cIdeal.main (F := Ideal))) ⟨m, fun _ => 0, g⟩ (fun r => ∀ c : Dev Cert.SumS5cIdeal.nD,
          r.2.mem ((c.tc : Thread Cert.SumS5cIdeal.nD Cert.SumS5cIdeal.τ).loc Cert.SumS5cIdeal.main_v0) = v0 c
          ∧ r.2.mem ((c.tc : Thread Cert.SumS5cIdeal.nD Cert.SumS5cIdeal.τ).loc Cert.SumS5cIdeal.main_arg0) = m ((c.tc : Thread Cert.SumS5cIdeal.nD Cert.SumS5cIdeal.τ).loc Cert.SumS5cIdeal.main_arg0))
      ∧ θ_run (Cert.SumS5cRefIdeal.defs (F := Ideal)) (onTc (τ := Cert.SumS5cRefIdeal.τ) (Cert.SumS5cRefIdeal.main (F := Ideal))) ⟨m', fun _ => 0, g'⟩ (fun r => ∀ c : Dev Cert.SumS5cRefIdeal.nD,
          r.2.mem ((c.tc : Thread Cert.SumS5cRefIdeal.nD Cert.SumS5cRefIdeal.τ).loc Cert.SumS5cRefIdeal.main_v1) = v0 c
          ∧ r.2.mem ((c.tc : Thread Cert.SumS5cRefIdeal.nD Cert.SumS5cRefIdeal.τ).loc Cert.SumS5cRefIdeal.main_arg0) = m' ((c.tc : Thread Cert.SumS5cRefIdeal.nD Cert.SumS5cRefIdeal.τ).loc Cert.SumS5cRefIdeal.main_arg0))

def preserves_SumGate_SumGateIdeal : Prop :=
  True

def algebraic_SumGateIdeal_SumGateRefIdeal [hSumGateIdeal : Cert.SumGateIdeal.Facts] [hSumGateRefIdeal : Cert.SumGateRefIdeal.Facts] : Prop :=
  ∀ (m : (ℓ : Loc Cert.SumGateIdeal.nD Cert.SumGateIdeal.τ Cert.SumGateIdeal.sig) → Buf (Elt Ideal) ℓ) (g : Dev Cert.SumGateIdeal.nD → PrngReg)
    (m' : (ℓ : Loc Cert.SumGateRefIdeal.nD Cert.SumGateRefIdeal.τ Cert.SumGateRefIdeal.sig) → Buf (Elt Ideal) ℓ) (g' : Dev Cert.SumGateRefIdeal.nD → PrngReg), Pre_SumGateIdeal m →
    (∀ c : Dev Cert.SumGateIdeal.nD,
      m' ((c.tc : Thread Cert.SumGateRefIdeal.nD Cert.SumGateRefIdeal.τ).loc Cert.SumGateRefIdeal.main_arg0) = m ((c.tc : Thread Cert.SumGateIdeal.nD Cert.SumGateIdeal.τ).loc Cert.SumGateIdeal.main_arg0)) →
    ∃ (v0 : (c : Dev Cert.SumGateIdeal.nD) → Buf (Elt Ideal) ((c.tc : Thread Cert.SumGateIdeal.nD Cert.SumGateIdeal.τ).loc Cert.SumGateIdeal.main_v0)),
      θ_run (Cert.SumGateIdeal.defs (F := Ideal)) (onTc (τ := Cert.SumGateIdeal.τ) (Cert.SumGateIdeal.main (F := Ideal))) ⟨m, fun _ => 0, g⟩ (fun r => ∀ c : Dev Cert.SumGateIdeal.nD,
          r.2.mem ((c.tc : Thread Cert.SumGateIdeal.nD Cert.SumGateIdeal.τ).loc Cert.SumGateIdeal.main_v0) = v0 c
          ∧ r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0))
      ∧ θ_run (Cert.SumGateRefIdeal.defs (F := Ideal)) (onTc (τ := Cert.SumGateRefIdeal.τ) (Cert.SumGateRefIdeal.main (F := Ideal))) ⟨m', fun _ => 0, g'⟩ (fun r => ∀ c : Dev Cert.SumGateRefIdeal.nD,
          r.2.mem ((c.tc : Thread Cert.SumGateRefIdeal.nD Cert.SumGateRefIdeal.τ).loc Cert.SumGateRefIdeal.main_v1) = v0 c
          ∧ r.2.mem ((c.tc : Thread Cert.SumGateRefIdeal.nD Cert.SumGateRefIdeal.τ).loc Cert.SumGateRefIdeal.main_arg0) = m' ((c.tc : Thread Cert.SumGateRefIdeal.nD Cert.SumGateRefIdeal.τ).loc Cert.SumGateRefIdeal.main_arg0))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v1)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v1) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v11) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v49) = v0 c
          ∧ r.2.mem ((c.tc : Thread Cert.NormBwdRefIdeal.nD Cert.NormBwdRefIdeal.τ).loc Cert.NormBwdRefIdeal.main_v32) = v1 c
          ∧ r.2.mem ((c.tc : Thread Cert.NormBwdRefIdeal.nD Cert.NormBwdRefIdeal.τ).loc Cert.NormBwdRefIdeal.main_v27) = v2 c
          ∧ r.2.mem ((c.tc : Thread Cert.NormBwdRefIdeal.nD Cert.NormBwdRefIdeal.τ).loc Cert.NormBwdRefIdeal.main_v24) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v48) = v0 c
          ∧ r.2.mem ((c.tc : Thread Cert.LossHeadRefIdeal.nD Cert.LossHeadRefIdeal.τ).loc Cert.LossHeadRefIdeal.main_v49) = v1 c
          ∧ r.2.mem ((c.tc : Thread Cert.LossHeadRefIdeal.nD Cert.LossHeadRefIdeal.τ).loc Cert.LossHeadRefIdeal.main_v32) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_SumDisc_SumDiscIdeal : Prop :=
  True

def algebraic_SumDiscIdeal_SumDiscRefIdeal [hSumDiscIdeal : Cert.SumDiscIdeal.Facts] [hSumDiscRefIdeal : Cert.SumDiscRefIdeal.Facts] : Prop :=
  ∀ (m : (ℓ : Loc Cert.SumDiscIdeal.nD Cert.SumDiscIdeal.τ Cert.SumDiscIdeal.sig) → Buf (Elt Ideal) ℓ) (g : Dev Cert.SumDiscIdeal.nD → PrngReg)
    (m' : (ℓ : Loc Cert.SumDiscRefIdeal.nD Cert.SumDiscRefIdeal.τ Cert.SumDiscRefIdeal.sig) → Buf (Elt Ideal) ℓ) (g' : Dev Cert.SumDiscRefIdeal.nD → PrngReg), Pre_SumDiscIdeal m →
    (∀ c : Dev Cert.SumDiscIdeal.nD,
      m' ((c.tc : Thread Cert.SumDiscRefIdeal.nD Cert.SumDiscRefIdeal.τ).loc Cert.SumDiscRefIdeal.main_arg0) = m ((c.tc : Thread Cert.SumDiscIdeal.nD Cert.SumDiscIdeal.τ).loc Cert.SumDiscIdeal.main_arg0)
      ∧ m' ((c.tc : Thread Cert.SumDiscRefIdeal.nD Cert.SumDiscRefIdeal.τ).loc Cert.SumDiscRefIdeal.main_arg1) = m ((c.tc : Thread Cert.SumDiscIdeal.nD Cert.SumDiscIdeal.τ).loc Cert.SumDiscIdeal.main_arg1)
      ∧ m' ((c.tc : Thread Cert.SumDiscRefIdeal.nD Cert.SumDiscRefIdeal.τ).loc Cert.SumDiscRefIdeal.main_arg2) = m ((c.tc : Thread Cert.SumDiscIdeal.nD Cert.SumDiscIdeal.τ).loc Cert.SumDiscIdeal.main_arg2)
      ∧ m' ((c.tc : Thread Cert.SumDiscRefIdeal.nD Cert.SumDiscRefIdeal.τ).loc Cert.SumDiscRefIdeal.main_arg3) = m ((c.tc : Thread Cert.SumDiscIdeal.nD Cert.SumDiscIdeal.τ).loc Cert.SumDiscIdeal.main_arg3)
      ∧ m' ((c.tc : Thread Cert.SumDiscRefIdeal.nD Cert.SumDiscRefIdeal.τ).loc Cert.SumDiscRefIdeal.main_arg4) = m ((c.tc : Thread Cert.SumDiscIdeal.nD Cert.SumDiscIdeal.τ).loc Cert.SumDiscIdeal.main_arg4)
      ∧ m' ((c.tc : Thread Cert.SumDiscRefIdeal.nD Cert.SumDiscRefIdeal.τ).loc Cert.SumDiscRefIdeal.main_arg5) = m ((c.tc : Thread Cert.SumDiscIdeal.nD Cert.SumDiscIdeal.τ).loc Cert.SumDiscIdeal.main_arg5)
      ∧ m' ((c.tc : Thread Cert.SumDiscRefIdeal.nD Cert.SumDiscRefIdeal.τ).loc Cert.SumDiscRefIdeal.main_arg6) = m ((c.tc : Thread Cert.SumDiscIdeal.nD Cert.SumDiscIdeal.τ).loc Cert.SumDiscIdeal.main_arg6)
      ∧ m' ((c.tc : Thread Cert.SumDiscRefIdeal.nD Cert.SumDiscRefIdeal.τ).loc Cert.SumDiscRefIdeal.main_arg7) = m ((c.tc : Thread Cert.SumDiscIdeal.nD Cert.SumDiscIdeal.τ).loc Cert.SumDiscIdeal.main_arg7)
      ∧ m' ((c.tc : Thread Cert.SumDiscRefIdeal.nD Cert.SumDiscRefIdeal.τ).loc Cert.SumDiscRefIdeal.main_arg8) = m ((c.tc : Thread Cert.SumDiscIdeal.nD Cert.SumDiscIdeal.τ).loc Cert.SumDiscIdeal.main_arg8)) →
    ∃ (v0 : (c : Dev Cert.SumDiscIdeal.nD) → Buf (Elt Ideal) ((c.tc : Thread Cert.SumDiscIdeal.nD Cert.SumDiscIdeal.τ).loc Cert.SumDiscIdeal.main_v146)) (v1 : (c : Dev Cert.SumDiscIdeal.nD) → Buf (Elt Ideal) ((c.tc : Thread Cert.SumDiscIdeal.nD Cert.SumDiscIdeal.τ).loc Cert.SumDiscIdeal.main_v138)) (v2 : (c : Dev Cert.SumDiscIdeal.nD) → Buf (Elt Ideal) ((c.tc : Thread Cert.SumDiscIdeal.nD Cert.SumDiscIdeal.τ).loc Cert.SumDiscIdeal.main_v148)) (v3 : (c : Dev Cert.SumDiscIdeal.nD) → Buf (Elt Ideal) ((c.tc : Thread Cert.SumDiscIdeal.nD Cert.SumDiscIdeal.τ).loc Cert.SumDiscIdeal.main_v80)) (v4 : (c : Dev Cert.SumDiscIdeal.nD) → Buf (Elt Ideal) ((c.tc : Thread Cert.SumDiscIdeal.nD Cert.SumDiscIdeal.τ).loc Cert.SumDiscIdeal.main_v72)),
      θ_run (Cert.SumDiscIdeal.defs (F := Ideal)) (onTc (τ := Cert.SumDiscIdeal.τ) (Cert.SumDiscIdeal.main (F := Ideal))) ⟨m, fun _ => 0, g⟩ (fun r => ∀ c : Dev Cert.SumDiscIdeal.nD,
          r.2.mem ((c.tc : Thread Cert.SumDiscIdeal.nD Cert.SumDiscIdeal.τ).loc Cert.SumDiscIdeal.main_v146) = v0 c
          ∧ r.2.mem ((c.tc : Thread Cert.SumDiscIdeal.nD Cert.SumDiscIdeal.τ).loc Cert.SumDiscIdeal.main_v138) = v1 c
          ∧ r.2.mem ((c.tc : Thread Cert.SumDiscIdeal.nD Cert.SumDiscIdeal.τ).loc Cert.SumDiscIdeal.main_v148) = v2 c
          ∧ r.2.mem ((c.tc : Thread Cert.SumDiscIdeal.nD Cert.SumDiscIdeal.τ).loc Cert.SumDiscIdeal.main_v80) = v3 c
          ∧ r.2.mem ((c.tc : Thread Cert.SumDiscIdeal.nD Cert.SumDiscIdeal.τ).loc Cert.SumDiscIdeal.main_v72) = v4 c
          ∧ r.2.mem ((c.tc : Thread Cert.SumDiscIdeal.nD Cert.SumDiscIdeal.τ).loc Cert.SumDiscIdeal.main_arg0) = m ((c.tc : Thread Cert.SumDiscIdeal.nD Cert.SumDiscIdeal.τ).loc Cert.SumDiscIdeal.main_arg0)
          ∧ r.2.mem ((c.tc : Thread Cert.SumDiscIdeal.nD Cert.SumDiscIdeal.τ).loc Cert.SumDiscIdeal.main_arg1) = m ((c.tc : Thread Cert.SumDiscIdeal.nD Cert.SumDiscIdeal.τ).loc Cert.SumDiscIdeal.main_arg1)
          ∧ r.2.mem ((c.tc : Thread Cert.SumDiscIdeal.nD Cert.SumDiscIdeal.τ).loc Cert.SumDiscIdeal.main_arg2) = m ((c.tc : Thread Cert.SumDiscIdeal.nD Cert.SumDiscIdeal.τ).loc Cert.SumDiscIdeal.main_arg2)
          ∧ r.2.mem ((c.tc : Thread Cert.SumDiscIdeal.nD Cert.SumDiscIdeal.τ).loc Cert.SumDiscIdeal.main_arg3) = m ((c.tc : Thread Cert.SumDiscIdeal.nD Cert.SumDiscIdeal.τ).loc Cert.SumDiscIdeal.main_arg3)
          ∧ r.2.mem ((c.tc : Thread Cert.SumDiscIdeal.nD Cert.SumDiscIdeal.τ).loc Cert.SumDiscIdeal.main_arg4) = m ((c.tc : Thread Cert.SumDiscIdeal.nD Cert.SumDiscIdeal.τ).loc Cert.SumDiscIdeal.main_arg4)
          ∧ r.2.mem ((c.tc : Thread Cert.SumDiscIdeal.nD Cert.SumDiscIdeal.τ).loc Cert.SumDiscIdeal.main_arg5) = m ((c.tc : Thread Cert.SumDiscIdeal.nD Cert.SumDiscIdeal.τ).loc Cert.SumDiscIdeal.main_arg5)
          ∧ r.2.mem ((c.tc : Thread Cert.SumDiscIdeal.nD Cert.SumDiscIdeal.τ).loc Cert.SumDiscIdeal.main_arg6) = m ((c.tc : Thread Cert.SumDiscIdeal.nD Cert.SumDiscIdeal.τ).loc Cert.SumDiscIdeal.main_arg6)
          ∧ r.2.mem ((c.tc : Thread Cert.SumDiscIdeal.nD Cert.SumDiscIdeal.τ).loc Cert.SumDiscIdeal.main_arg7) = m ((c.tc : Thread Cert.SumDiscIdeal.nD Cert.SumDiscIdeal.τ).loc Cert.SumDiscIdeal.main_arg7)
          ∧ r.2.mem ((c.tc : Thread Cert.SumDiscIdeal.nD Cert.SumDiscIdeal.τ).loc Cert.SumDiscIdeal.main_arg8) = m ((c.tc : Thread Cert.SumDiscIdeal.nD Cert.SumDiscIdeal.τ).loc Cert.SumDiscIdeal.main_arg8))
      ∧ θ_run (Cert.SumDiscRefIdeal.defs (F := Ideal)) (onTc (τ := Cert.SumDiscRefIdeal.τ) (Cert.SumDiscRefIdeal.main (F := Ideal))) ⟨m', fun _ => 0, g'⟩ (fun r => ∀ c : Dev Cert.SumDiscRefIdeal.nD,
          r.2.mem ((c.tc : Thread Cert.SumDiscRefIdeal.nD Cert.SumDiscRefIdeal.τ).loc Cert.SumDiscRefIdeal.main_v147) = v0 c
          ∧ r.2.mem ((c.tc : Thread Cert.SumDiscRefIdeal.nD Cert.SumDiscRefIdeal.τ).loc Cert.SumDiscRefIdeal.main_v139) = v1 c
          ∧ r.2.mem ((c.tc : Thread Cert.SumDiscRefIdeal.nD Cert.SumDiscRefIdeal.τ).loc Cert.SumDiscRefIdeal.main_v149) = v2 c
          ∧ r.2.mem ((c.tc : Thread Cert.SumDiscRefIdeal.nD Cert.SumDiscRefIdeal.τ).loc Cert.SumDiscRefIdeal.main_v81) = v3 c
          ∧ r.2.mem ((c.tc : Thread Cert.SumDiscRefIdeal.nD Cert.SumDiscRefIdeal.τ).loc Cert.SumDiscRefIdeal.main_v73) = v4 c
          ∧ r.2.mem ((c.tc : Thread Cert.SumDiscRefIdeal.nD Cert.SumDiscRefIdeal.τ).loc Cert.SumDiscRefIdeal.main_arg0) = m' ((c.tc : Thread Cert.SumDiscRefIdeal.nD Cert.SumDiscRefIdeal.τ).loc Cert.SumDiscRefIdeal.main_arg0)
          ∧ r.2.mem ((c.tc : Thread Cert.SumDiscRefIdeal.nD Cert.SumDiscRefIdeal.τ).loc Cert.SumDiscRefIdeal.main_arg1) = m' ((c.tc : Thread Cert.SumDiscRefIdeal.nD Cert.SumDiscRefIdeal.τ).loc Cert.SumDiscRefIdeal.main_arg1)
          ∧ r.2.mem ((c.tc : Thread Cert.SumDiscRefIdeal.nD Cert.SumDiscRefIdeal.τ).loc Cert.SumDiscRefIdeal.main_arg2) = m' ((c.tc : Thread Cert.SumDiscRefIdeal.nD Cert.SumDiscRefIdeal.τ).loc Cert.SumDiscRefIdeal.main_arg2)
          ∧ r.2.mem ((c.tc : Thread Cert.SumDiscRefIdeal.nD Cert.SumDiscRefIdeal.τ).loc Cert.SumDiscRefIdeal.main_arg3) = m' ((c.tc : Thread Cert.SumDiscRefIdeal.nD Cert.SumDiscRefIdeal.τ).loc Cert.SumDiscRefIdeal.main_arg3)
          ∧ r.2.mem ((c.tc : Thread Cert.SumDiscRefIdeal.nD Cert.SumDiscRefIdeal.τ).loc Cert.SumDiscRefIdeal.main_arg4) = m' ((c.tc : Thread Cert.SumDiscRefIdeal.nD Cert.SumDiscRefIdeal.τ).loc Cert.SumDiscRefIdeal.main_arg4)
          ∧ r.2.mem ((c.tc : Thread Cert.SumDiscRefIdeal.nD Cert.SumDiscRefIdeal.τ).loc Cert.SumDiscRefIdeal.main_arg5) = m' ((c.tc : Thread Cert.SumDiscRefIdeal.nD Cert.SumDiscRefIdeal.τ).loc Cert.SumDiscRefIdeal.main_arg5)
          ∧ r.2.mem ((c.tc : Thread Cert.SumDiscRefIdeal.nD Cert.SumDiscRefIdeal.τ).loc Cert.SumDiscRefIdeal.main_arg6) = m' ((c.tc : Thread Cert.SumDiscRefIdeal.nD Cert.SumDiscRefIdeal.τ).loc Cert.SumDiscRefIdeal.main_arg6)
          ∧ r.2.mem ((c.tc : Thread Cert.SumDiscRefIdeal.nD Cert.SumDiscRefIdeal.τ).loc Cert.SumDiscRefIdeal.main_arg7) = m' ((c.tc : Thread Cert.SumDiscRefIdeal.nD Cert.SumDiscRefIdeal.τ).loc Cert.SumDiscRefIdeal.main_arg7)
          ∧ r.2.mem ((c.tc : Thread Cert.SumDiscRefIdeal.nD Cert.SumDiscRefIdeal.τ).loc Cert.SumDiscRefIdeal.main_arg8) = m' ((c.tc : Thread Cert.SumDiscRefIdeal.nD Cert.SumDiscRefIdeal.τ).loc Cert.SumDiscRefIdeal.main_arg8))

def preserves_S5Bwd_S5BwdIdeal : Prop :=
  True

def Claim : Prop :=
  ∃ (hFfnGu : Cert.FfnGu.Facts) (hFfnGuIdeal : Cert.FfnGuIdeal.Facts) (hFfnGuRefIdeal : Cert.FfnGuRefIdeal.Facts) (hFfnDown : Cert.FfnDown.Facts) (hFfnDownIdeal : Cert.FfnDownIdeal.Facts) (hFfnDownRefIdeal : Cert.FfnDownRefIdeal.Facts) (hFfnDact : Cert.FfnDact.Facts) (hFfnDactIdeal : Cert.FfnDactIdeal.Facts) (hFfnDactRefIdeal : Cert.FfnDactRefIdeal.Facts) (hFfnDwDown : Cert.FfnDwDown.Facts) (hFfnDwDownIdeal : Cert.FfnDwDownIdeal.Facts) (hFfnDwDownRefIdeal : Cert.FfnDwDownRefIdeal.Facts) (hFfnDwGu : Cert.FfnDwGu.Facts) (hFfnDwGuIdeal : Cert.FfnDwGuIdeal.Facts) (hFfnDwGuRefIdeal : Cert.FfnDwGuRefIdeal.Facts) (hFfnDh : Cert.FfnDh.Facts) (hFfnDhIdeal : Cert.FfnDhIdeal.Facts) (hFfnDhRefIdeal : Cert.FfnDhRefIdeal.Facts) (hLruIn : Cert.LruIn.Facts) (hLruInIdeal : Cert.LruInIdeal.Facts) (hLruInRefIdeal : Cert.LruInRefIdeal.Facts) (hLruDh : Cert.LruDh.Facts) (hLruDhIdeal : Cert.LruDhIdeal.Facts) (hLruDhRefIdeal : Cert.LruDhRefIdeal.Facts) (hLruDwIn : Cert.LruDwIn.Facts) (hLruDwInIdeal : Cert.LruDwInIdeal.Facts) (hLruDwInRefIdeal : Cert.LruDwInRefIdeal.Facts) (hAdamAda : Cert.AdamAda.Facts) (hAdamAdaIdeal : Cert.AdamAdaIdeal.Facts) (hAdamAdaRefIdeal : Cert.AdamAdaRefIdeal.Facts) (hAdamS5Mid : Cert.AdamS5Mid.Facts) (hAdamS5MidIdeal : Cert.AdamS5MidIdeal.Facts) (hAdamS5MidRefIdeal : Cert.AdamS5MidRefIdeal.Facts) (hAdamLruGate : Cert.AdamLruGate.Facts) (hAdamLruGateIdeal : Cert.AdamLruGateIdeal.Facts) (hAdamLruGateRefIdeal : Cert.AdamLruGateRefIdeal.Facts) (hAdamS5In : Cert.AdamS5In.Facts) (hAdamS5InIdeal : Cert.AdamS5InIdeal.Facts) (hAdamS5InRefIdeal : Cert.AdamS5InRefIdeal.Facts) (hAdamS5Glu : Cert.AdamS5Glu.Facts) (hAdamS5GluIdeal : Cert.AdamS5GluIdeal.Facts) (hAdamS5GluRefIdeal : Cert.AdamS5GluRefIdeal.Facts) (hAdamLruIn : Cert.AdamLruIn.Facts) (hAdamLruInIdeal : Cert.AdamLruInIdeal.Facts) (hAdamLruInRefIdeal : Cert.AdamLruInRefIdeal.Facts) (hAdamLruOut : Cert.AdamLruOut.Facts) (hAdamLruOutIdeal : Cert.AdamLruOutIdeal.Facts) (hAdamLruOutRefIdeal : Cert.AdamLruOutRefIdeal.Facts) (hAdamFfnGu : Cert.AdamFfnGu.Facts) (hAdamFfnGuIdeal : Cert.AdamFfnGuIdeal.Facts) (hAdamFfnGuRefIdeal : Cert.AdamFfnGuRefIdeal.Facts) (hAdamFfnDown : Cert.AdamFfnDown.Facts) (hAdamFfnDownIdeal : Cert.AdamFfnDownIdeal.Facts) (hAdamFfnDownRefIdeal : Cert.AdamFfnDownRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hSumS5c : Cert.SumS5c.Facts) (hSumS5cIdeal : Cert.SumS5cIdeal.Facts) (hSumS5cRefIdeal : Cert.SumS5cRefIdeal.Facts) (hSumGate : Cert.SumGate.Facts) (hSumGateIdeal : Cert.SumGateIdeal.Facts) (hSumGateRefIdeal : Cert.SumGateRefIdeal.Facts) (hAdaDw : Cert.AdaDw.Facts) (hAdaDwIdeal : Cert.AdaDwIdeal.Facts) (hAdaDwRefIdeal : Cert.AdaDwRefIdeal.Facts) (hNormBwd : Cert.NormBwd.Facts) (hNormBwdIdeal : Cert.NormBwdIdeal.Facts) (hNormBwdRefIdeal : Cert.NormBwdRefIdeal.Facts) (hLossHead : Cert.LossHead.Facts) (hLossHeadIdeal : Cert.LossHeadIdeal.Facts) (hLossHeadRefIdeal : Cert.LossHeadRefIdeal.Facts) (hSumDisc : Cert.SumDisc.Facts) (hSumDiscIdeal : Cert.SumDiscIdeal.Facts) (hSumDiscRefIdeal : Cert.SumDiscRefIdeal.Facts) (hS5Bwd : Cert.S5Bwd.Facts) (hS5BwdIdeal : Cert.S5BwdIdeal.Facts),
    quiescent_FfnGu (hFfnGu := hFfnGu)
    ∧ quiescent_FfnGuIdeal (hFfnGuIdeal := hFfnGuIdeal)
    ∧ quiescent_FfnGuRefIdeal (hFfnGuRefIdeal := hFfnGuRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDact (hFfnDact := hFfnDact)
    ∧ quiescent_FfnDactIdeal (hFfnDactIdeal := hFfnDactIdeal)
    ∧ quiescent_FfnDactRefIdeal (hFfnDactRefIdeal := hFfnDactRefIdeal)
    ∧ quiescent_FfnDwDown (hFfnDwDown := hFfnDwDown)
    ∧ quiescent_FfnDwDownIdeal (hFfnDwDownIdeal := hFfnDwDownIdeal)
    ∧ quiescent_FfnDwDownRefIdeal (hFfnDwDownRefIdeal := hFfnDwDownRefIdeal)
    ∧ quiescent_FfnDwGu (hFfnDwGu := hFfnDwGu)
    ∧ quiescent_FfnDwGuIdeal (hFfnDwGuIdeal := hFfnDwGuIdeal)
    ∧ quiescent_FfnDwGuRefIdeal (hFfnDwGuRefIdeal := hFfnDwGuRefIdeal)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_LruDh (hLruDh := hLruDh)
    ∧ quiescent_LruDhIdeal (hLruDhIdeal := hLruDhIdeal)
    ∧ quiescent_LruDhRefIdeal (hLruDhRefIdeal := hLruDhRefIdeal)
    ∧ quiescent_LruDwIn (hLruDwIn := hLruDwIn)
    ∧ quiescent_LruDwInIdeal (hLruDwInIdeal := hLruDwInIdeal)
    ∧ quiescent_LruDwInRefIdeal (hLruDwInRefIdeal := hLruDwInRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamS5Mid (hAdamS5Mid := hAdamS5Mid)
    ∧ quiescent_AdamS5MidIdeal (hAdamS5MidIdeal := hAdamS5MidIdeal)
    ∧ quiescent_AdamS5MidRefIdeal (hAdamS5MidRefIdeal := hAdamS5MidRefIdeal)
    ∧ quiescent_AdamLruGate (hAdamLruGate := hAdamLruGate)
    ∧ quiescent_AdamLruGateIdeal (hAdamLruGateIdeal := hAdamLruGateIdeal)
    ∧ quiescent_AdamLruGateRefIdeal (hAdamLruGateRefIdeal := hAdamLruGateRefIdeal)
    ∧ quiescent_AdamS5In (hAdamS5In := hAdamS5In)
    ∧ quiescent_AdamS5InIdeal (hAdamS5InIdeal := hAdamS5InIdeal)
    ∧ quiescent_AdamS5InRefIdeal (hAdamS5InRefIdeal := hAdamS5InRefIdeal)
    ∧ quiescent_AdamS5Glu (hAdamS5Glu := hAdamS5Glu)
    ∧ quiescent_AdamS5GluIdeal (hAdamS5GluIdeal := hAdamS5GluIdeal)
    ∧ quiescent_AdamS5GluRefIdeal (hAdamS5GluRefIdeal := hAdamS5GluRefIdeal)
    ∧ quiescent_AdamLruIn (hAdamLruIn := hAdamLruIn)
    ∧ quiescent_AdamLruInIdeal (hAdamLruInIdeal := hAdamLruInIdeal)
    ∧ quiescent_AdamLruInRefIdeal (hAdamLruInRefIdeal := hAdamLruInRefIdeal)
    ∧ quiescent_AdamLruOut (hAdamLruOut := hAdamLruOut)
    ∧ quiescent_AdamLruOutIdeal (hAdamLruOutIdeal := hAdamLruOutIdeal)
    ∧ quiescent_AdamLruOutRefIdeal (hAdamLruOutRefIdeal := hAdamLruOutRefIdeal)
    ∧ quiescent_AdamFfnGu (hAdamFfnGu := hAdamFfnGu)
    ∧ quiescent_AdamFfnGuIdeal (hAdamFfnGuIdeal := hAdamFfnGuIdeal)
    ∧ quiescent_AdamFfnGuRefIdeal (hAdamFfnGuRefIdeal := hAdamFfnGuRefIdeal)
    ∧ quiescent_AdamFfnDown (hAdamFfnDown := hAdamFfnDown)
    ∧ quiescent_AdamFfnDownIdeal (hAdamFfnDownIdeal := hAdamFfnDownIdeal)
    ∧ quiescent_AdamFfnDownRefIdeal (hAdamFfnDownRefIdeal := hAdamFfnDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumS5c (hSumS5c := hSumS5c)
    ∧ quiescent_SumS5cIdeal (hSumS5cIdeal := hSumS5cIdeal)
    ∧ quiescent_SumS5cRefIdeal (hSumS5cRefIdeal := hSumS5cRefIdeal)
    ∧ quiescent_SumGate (hSumGate := hSumGate)
    ∧ quiescent_SumGateIdeal (hSumGateIdeal := hSumGateIdeal)
    ∧ quiescent_SumGateRefIdeal (hSumGateRefIdeal := hSumGateRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_SumDisc (hSumDisc := hSumDisc)
    ∧ quiescent_SumDiscIdeal (hSumDiscIdeal := hSumDiscIdeal)
    ∧ quiescent_SumDiscRefIdeal (hSumDiscRefIdeal := hSumDiscRefIdeal)
    ∧ quiescent_S5Bwd (hS5Bwd := hS5Bwd)
    ∧ quiescent_S5BwdIdeal (hS5BwdIdeal := hS5BwdIdeal)
    ∧ preserves_FfnGu_FfnGuIdeal
    ∧ algebraic_FfnGuIdeal_FfnGuRefIdeal (hFfnGuIdeal := hFfnGuIdeal) (hFfnGuRefIdeal := hFfnGuRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDact_FfnDactIdeal
    ∧ algebraic_FfnDactIdeal_FfnDactRefIdeal (hFfnDactIdeal := hFfnDactIdeal) (hFfnDactRefIdeal := hFfnDactRefIdeal)
    ∧ preserves_FfnDwDown_FfnDwDownIdeal
    ∧ algebraic_FfnDwDownIdeal_FfnDwDownRefIdeal (hFfnDwDownIdeal := hFfnDwDownIdeal) (hFfnDwDownRefIdeal := hFfnDwDownRefIdeal)
    ∧ preserves_FfnDwGu_FfnDwGuIdeal
    ∧ algebraic_FfnDwGuIdeal_FfnDwGuRefIdeal (hFfnDwGuIdeal := hFfnDwGuIdeal) (hFfnDwGuRefIdeal := hFfnDwGuRefIdeal)
    ∧ preserves_FfnDh_FfnDhIdeal
    ∧ algebraic_FfnDhIdeal_FfnDhRefIdeal (hFfnDhIdeal := hFfnDhIdeal) (hFfnDhRefIdeal := hFfnDhRefIdeal)
    ∧ preserves_LruIn_LruInIdeal
    ∧ algebraic_LruInIdeal_LruInRefIdeal (hLruInIdeal := hLruInIdeal) (hLruInRefIdeal := hLruInRefIdeal)
    ∧ preserves_LruDh_LruDhIdeal
    ∧ algebraic_LruDhIdeal_LruDhRefIdeal (hLruDhIdeal := hLruDhIdeal) (hLruDhRefIdeal := hLruDhRefIdeal)
    ∧ preserves_LruDwIn_LruDwInIdeal
    ∧ algebraic_LruDwInIdeal_LruDwInRefIdeal (hLruDwInIdeal := hLruDwInIdeal) (hLruDwInRefIdeal := hLruDwInRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamS5Mid_AdamS5MidIdeal
    ∧ algebraic_AdamS5MidIdeal_AdamS5MidRefIdeal (hAdamS5MidIdeal := hAdamS5MidIdeal) (hAdamS5MidRefIdeal := hAdamS5MidRefIdeal)
    ∧ preserves_AdamLruGate_AdamLruGateIdeal
    ∧ algebraic_AdamLruGateIdeal_AdamLruGateRefIdeal (hAdamLruGateIdeal := hAdamLruGateIdeal) (hAdamLruGateRefIdeal := hAdamLruGateRefIdeal)
    ∧ preserves_AdamS5In_AdamS5InIdeal
    ∧ algebraic_AdamS5InIdeal_AdamS5InRefIdeal (hAdamS5InIdeal := hAdamS5InIdeal) (hAdamS5InRefIdeal := hAdamS5InRefIdeal)
    ∧ preserves_AdamS5Glu_AdamS5GluIdeal
    ∧ algebraic_AdamS5GluIdeal_AdamS5GluRefIdeal (hAdamS5GluIdeal := hAdamS5GluIdeal) (hAdamS5GluRefIdeal := hAdamS5GluRefIdeal)
    ∧ preserves_AdamLruIn_AdamLruInIdeal
    ∧ algebraic_AdamLruInIdeal_AdamLruInRefIdeal (hAdamLruInIdeal := hAdamLruInIdeal) (hAdamLruInRefIdeal := hAdamLruInRefIdeal)
    ∧ preserves_AdamLruOut_AdamLruOutIdeal
    ∧ algebraic_AdamLruOutIdeal_AdamLruOutRefIdeal (hAdamLruOutIdeal := hAdamLruOutIdeal) (hAdamLruOutRefIdeal := hAdamLruOutRefIdeal)
    ∧ preserves_AdamFfnGu_AdamFfnGuIdeal
    ∧ algebraic_AdamFfnGuIdeal_AdamFfnGuRefIdeal (hAdamFfnGuIdeal := hAdamFfnGuIdeal) (hAdamFfnGuRefIdeal := hAdamFfnGuRefIdeal)
    ∧ preserves_AdamFfnDown_AdamFfnDownIdeal
    ∧ algebraic_AdamFfnDownIdeal_AdamFfnDownRefIdeal (hAdamFfnDownIdeal := hAdamFfnDownIdeal) (hAdamFfnDownRefIdeal := hAdamFfnDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumS5c_SumS5cIdeal
    ∧ algebraic_SumS5cIdeal_SumS5cRefIdeal (hSumS5cIdeal := hSumS5cIdeal) (hSumS5cRefIdeal := hSumS5cRefIdeal)
    ∧ preserves_SumGate_SumGateIdeal
    ∧ algebraic_SumGateIdeal_SumGateRefIdeal (hSumGateIdeal := hSumGateIdeal) (hSumGateRefIdeal := hSumGateRefIdeal)
    ∧ preserves_AdaDw_AdaDwIdeal
    ∧ algebraic_AdaDwIdeal_AdaDwRefIdeal (hAdaDwIdeal := hAdaDwIdeal) (hAdaDwRefIdeal := hAdaDwRefIdeal)
    ∧ preserves_NormBwd_NormBwdIdeal
    ∧ algebraic_NormBwdIdeal_NormBwdRefIdeal (hNormBwdIdeal := hNormBwdIdeal) (hNormBwdRefIdeal := hNormBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_SumDisc_SumDiscIdeal
    ∧ algebraic_SumDiscIdeal_SumDiscRefIdeal (hSumDiscIdeal := hSumDiscIdeal) (hSumDiscRefIdeal := hSumDiscRefIdeal)
    ∧ preserves_S5Bwd_S5BwdIdeal
-- ==== FfnGu.lean ====
abbrev S2048x2048 : Shape := ⟨2, ![2048, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x11264, .bf16⟩
  | .hbm, ⟨4, _⟩ => ⟨S2048x4x2816, .bf16⟩
  | .hbm, ⟨5, _⟩ => ⟨S4x2048x2816, .bf16⟩
  | .hbm, ⟨6, _⟩ => ⟨S2048x11264, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 8, 2], ![false, false, false, false]⟩

def k0_cond2 (i : grid0.Coords) : BitVec 1 :=
  let arg3 : BitVec 32 := BitVec.ofNat 32 (i 3).val
  let c1_i32 : BitVec 32 := 1#32
  let v3 : BitVec 1 := Scalar.cmpi .eq arg3 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg3.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FfnGuRefIdeal.lean ====
abbrev S2048x2048 : Shape := ⟨2, ![2048, 2048]⟩
abbrev S2048x11264 : Shape := ⟨2, ![2048, 11264]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x11264, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnDown.lean ====
abbrev S2048x5632 : Shape := ⟨2, ![2048, 5632]⟩
abbrev S5632x2048 : Shape := ⟨2, ![5632, 2048]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x5632, .bf16⟩
  | .hbm, ⟨3, _⟩ => ⟨S5632x2048, .bf16⟩
  | .hbm, ⟨4, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32_3 : BitVec 32 := 3#32
  let v8 : BitVec 1 := Scalar.cmpi .eq arg3 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg3
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FfnDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnDact.lean ====
abbrev S2048x2048 : Shape := ⟨2, ![2048, 2048]⟩
abbrev S5632x2048 : Shape := ⟨2, ![5632, 2048]⟩
abbrev S2048x5632 : Shape := ⟨2, ![2048, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x2048, .bf16⟩
  | .hbm, ⟨3, _⟩ => ⟨S5632x2048, .bf16⟩
  | .hbm, ⟨4, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 4, 2], ![false, false, false, false]⟩

def k0_cond2 (i : grid0.Coords) : BitVec 1 :=
  let arg3 : BitVec 32 := BitVec.ofNat 32 (i 3).val
  let c1_i32 : BitVec 32 := 1#32
  let v3 : BitVec 1 := Scalar.cmpi .eq arg3 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FfnDactRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnDwDown.lean ====
abbrev S2048x5632 : Shape := ⟨2, ![2048, 5632]⟩
abbrev S2048x2048 : Shape := ⟨2, ![2048, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 2], ![false, false, false, false]⟩

def k0_cond2 (i : grid0.Coords) : BitVec 1 :=
  let arg3 : BitVec 32 := BitVec.ofNat 32 (i 3).val
  let c1_i32 : BitVec 32 := 1#32
  let v3 : BitVec 1 := Scalar.cmpi .eq arg3 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== FfnDwDownRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDwGu.lean ====
abbrev S2048x2048 : Shape := ⟨2, ![2048, 2048]⟩
abbrev S2048x11264 : Shape := ⟨2, ![2048, 11264]⟩
abbrev S4x2048x2816 : Shape := ⟨3, ![4, 2048, 2816]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x11264, .bf16⟩
  | .hbm, ⟨4, _⟩ => ⟨S4x2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 8, 2], ![false, false, false, false]⟩

def k0_cond2 (i : grid0.Coords) : BitVec 1 :=
  let arg3 : BitVec 32 := BitVec.ofNat 32 (i 3).val
  let c1_i32 : BitVec 32 := 1#32
  let v3 : BitVec 1 := Scalar.cmpi .eq arg3 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== FfnDwGuRefIdeal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S_, .f32⟩
  | .hbm, ⟨3, _⟩ => ⟨S2048x11264, .f32⟩
  | .hbm, ⟨4, _⟩ => ⟨S2048x11264, .f32⟩
  | .hbm, ⟨5, _⟩ => ⟨S11264x2048, .f32⟩
  | .hbm, ⟨6, _⟩ => ⟨S2048x11264, .f32⟩
  | .hbm, ⟨7, _⟩ => ⟨S2048x11264, .bf16⟩
  | .hbm, ⟨8, _⟩ => ⟨S2048x4x2816, .bf16⟩
  | .hbm, ⟨9, _⟩ => ⟨S4x2048x2816, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDh.lean ====
abbrev S2048x11264 : Shape := ⟨2, ![2048, 11264]⟩
abbrev S2048x4x2816 : Shape := ⟨3, ![2048, 4, 2816]⟩
abbrev S4x2048x2816 : Shape := ⟨3, ![4, 2048, 2816]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S2048x11264, .bf16⟩
  | .hbm, ⟨3, _⟩ => ⟨S2048x11264, .bf16⟩
  | .hbm, ⟨4, _⟩ => ⟨S2048x4x2816, .bf16⟩
  | .hbm, ⟨5, _⟩ => ⟨S4x2048x2816, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 8], ![false, false, false, false]⟩

def k0_cond3 (i : grid0.Coords) : BitVec 1 :=
  let arg3 : BitVec 32 := BitVec.ofNat 32 (i 3).val
  let c7_i32_3 : BitVec 32 := 7#32
  let v8 : BitVec 1 := Scalar.cmpi .eq arg3 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg3 c2_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg3 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg3 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FfnDhRefIdeal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LruIn.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .bf16⟩
  | .hbm, ⟨3, _⟩ => ⟨S2048x5632, .bf16⟩
  | .hbm, ⟨4, _⟩ => ⟨S2048x4x1408, .bf16⟩
  | .hbm, ⟨5, _⟩ => ⟨S4x2048x1408, .bf16⟩
  | .hbm, ⟨6, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 4, 2], ![false, false, false, false]⟩

def k0_cond2 (i : grid0.Coords) : BitVec 1 :=
  let arg3 : BitVec 32 := BitVec.ofNat 32 (i 3).val
  let c1_i32 : BitVec 32 := 1#32
  let v3 : BitVec 1 := Scalar.cmpi .eq arg3 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg3.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== LruInRefIdeal.lean ====
abbrev S2048x2048 : Shape := ⟨2, ![2048, 2048]⟩
abbrev S2048x5632 : Shape := ⟨2, ![2048, 5632]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LruDh.lean ====
abbrev S2048x5632 : Shape := ⟨2, ![2048, 5632]⟩
abbrev S2048x4x1408 : Shape := ⟨3, ![2048, 4, 1408]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .bf16⟩
  | .hbm, ⟨3, _⟩ => ⟨S2048x5632, .bf16⟩
  | .hbm, ⟨4, _⟩ => ⟨S2048x4x1408, .bf16⟩
  | .hbm, ⟨5, _⟩ => ⟨S4x2048x1408, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32_3 : BitVec 32 := 3#32
  let v8 : BitVec 1 := Scalar.cmpi .eq arg3 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== LruDhRefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S_, .f32⟩
  | .hbm, ⟨3, _⟩ => ⟨S2048x2048, .f32⟩
  | .hbm, ⟨4, _⟩ => ⟨S2048x5632, .f32⟩
  | .hbm, ⟨5, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LruDwIn.lean ====
abbrev S2048x2048 : Shape := ⟨2, ![2048, 2048]⟩
abbrev S2048x5632 : Shape := ⟨2, ![2048, 5632]⟩
abbrev S4x2048x1408 : Shape := ⟨3, ![4, 2048, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .bf16⟩
  | .hbm, ⟨3, _⟩ => ⟨S2048x5632, .bf16⟩
  | .hbm, ⟨4, _⟩ => ⟨S4x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 4, 2], ![false, false, false, false]⟩

def k0_cond2 (i : grid0.Coords) : BitVec 1 :=
  let arg3 : BitVec 32 := BitVec.ofNat 32 (i 3).val
  let c1_i32 : BitVec 32 := 1#32
  let v3 : BitVec 1 := Scalar.cmpi .eq arg3 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== LruDwInRefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S_, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048x5632, .f32⟩
  | .hbm, ⟨7, _⟩ => ⟨S2048x5632, .bf16⟩
  | .hbm, ⟨8, _⟩ => ⟨S2048x4x1408, .bf16⟩
  | .hbm, ⟨9, _⟩ => ⟨S4x2048x1408, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamAda.lean ====
abbrev S2x2048x3072 : Shape := ⟨3, ![2, 2048, 3072]⟩
abbrev S4096x3072 : Shape := ⟨2, ![4096, 3072]⟩
abbrev S128x3072 : Shape := ⟨2, ![128, 3072]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S2x2048x3072 : Shape := ⟨3, ![2, 2048, 3072]⟩
abbrev S_ : Shape := ⟨0, ![]⟩
abbrev S4096x3072 : Shape := ⟨2, ![4096, 3072]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S_, .f32⟩
  | .hbm, ⟨5, _⟩ => ⟨S2x2048x3072, .f32⟩
  | .hbm, ⟨6, _⟩ => ⟨S2x2048x3072, .f32⟩
  | .hbm, ⟨7, _⟩ => ⟨S_, .f32⟩
  | .hbm, ⟨8, _⟩ => ⟨S2x2048x3072, .f32⟩
  | .hbm, ⟨9, _⟩ => ⟨S2x2048x3072, .f32⟩
  | .hbm, ⟨10, _⟩ => ⟨S2x2048x3072, .f32⟩
  | .hbm, ⟨11, _⟩ => ⟨S_, .f32⟩
  | .hbm, ⟨12, _⟩ => ⟨S2x2048x3072, .f32⟩
  | .hbm, ⟨13, _⟩ => ⟨S2x2048x3072, .f32⟩
  | .hbm, ⟨14, _⟩ => ⟨S2x2048x3072, .f32⟩
  | .hbm, ⟨15, _⟩ => ⟨S_, .f32⟩
  | .hbm, ⟨16, _⟩ => ⟨S2x2048x3072, .f32⟩
  | .hbm, ⟨17, _⟩ => ⟨S2x2048x3072, .f32⟩
  | .hbm, ⟨18, _⟩ => ⟨S2x2048x3072, .f32⟩
  | .hbm, ⟨19, _⟩ => ⟨S_, .f32⟩
  | .hbm, ⟨20, _⟩ => ⟨S2x2048x3072, .f32⟩
  | .hbm, ⟨21, _⟩ => ⟨S2x2048x3072, .f32⟩
  | .hbm, ⟨22, _⟩ => ⟨S_, .f32⟩
  | .hbm, ⟨23, _⟩ => ⟨S2x2048x3072, .f32⟩
  | .hbm, ⟨24, _⟩ => ⟨S2x2048x3072, .f32⟩
  | .hbm, ⟨25, _⟩ => ⟨S2x2048x3072, .f32⟩
  | .hbm, ⟨26, _⟩ => ⟨S_, .f32⟩
  | .hbm, ⟨27, _⟩ => ⟨S2x2048x3072, .f32⟩
  | .hbm, ⟨28, _⟩ => ⟨S2x2048x3072, .f32⟩
  | .hbm, ⟨29, _⟩ => ⟨S2x2048x3072, .f32⟩
  | .hbm, ⟨30, _⟩ => ⟨S_, .f32⟩
  | .hbm, ⟨31, _⟩ => ⟨S2x2048x3072, .f32⟩
  | .hbm, ⟨32, _⟩ => ⟨S2x2048x3072, .f32⟩
  | .hbm, ⟨33, _⟩ => ⟨S2x2048x3072, .f32⟩
  | .hbm, ⟨34, _⟩ => ⟨S_, .f32⟩
  | .hbm, ⟨35, _⟩ => ⟨S2x2048x3072, .f32⟩
  | .hbm, ⟨36, _⟩ => ⟨S2x2048x3072, .f32⟩
  | .hbm, ⟨37, _⟩ => ⟨S4096x3072, .f32⟩
  | .hbm, ⟨38, _⟩ => ⟨S4096x3072, .f32⟩
  | .hbm, ⟨39, _⟩ => ⟨S4096x3072, .f32⟩
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5Mid.lean ====
abbrev S1x128x64x16 : Shape := ⟨4, ![1, 128, 64, 16]⟩
abbrev S128x1024 : Shape := ⟨2, ![128, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x128x64x16, .f32⟩
  | .hbm, ⟨1, _⟩ => ⟨S1x128x64x16, .f32⟩
  | .hbm, ⟨2, _⟩ => ⟨S1x128x64x16, .f32⟩
  | .hbm, ⟨3, _⟩ => ⟨S1x128x64x16, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S1x128x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5MidRefIdeal.lean ====
abbrev S1x128x64x16 : Shape := ⟨4, ![1, 128, 64, 16]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x128x64x16, .f32⟩
  | .hbm, ⟨1, _⟩ => ⟨S1x128x64x16, .f32⟩
  | .hbm, ⟨2, _⟩ => ⟨S1x128x64x16, .f32⟩
  | .hbm, ⟨3, _⟩ => ⟨S1x128x64x16, .f32⟩
  | .hbm, ⟨4, _⟩ => ⟨S_, .f32⟩
  | .hbm, ⟨5, _⟩ => ⟨S1x128x64x16, .f32⟩
  | .hbm, ⟨6, _⟩ => ⟨S1x128x64x16, .f32⟩
  | .hbm, ⟨7, _⟩ => ⟨S_, .f32⟩
  | .hbm, ⟨8, _⟩ => ⟨S1x128x64x16, .f32⟩
  | .hbm, ⟨9, _⟩ => ⟨S1x128x64x16, .f32⟩
  | .hbm, ⟨10, _⟩ => ⟨S1x128x64x16, .f32⟩
  | .hbm, ⟨11, _⟩ => ⟨S_, .f32⟩
  | .hbm, ⟨12, _⟩ => ⟨S1x128x64x16, .f32⟩
  | .hbm, ⟨13, _⟩ => ⟨S1x128x64x16, .f32⟩
  | .hbm, ⟨14, _⟩ => ⟨S1x128x64x16, .f32⟩
  | .hbm, ⟨15, _⟩ => ⟨S_, .f32⟩
  | .hbm, ⟨16, _⟩ => ⟨S1x128x64x16, .f32⟩
  | .hbm, ⟨17, _⟩ => ⟨S1x128x64x16, .f32⟩
  | .hbm, ⟨18, _⟩ => ⟨S1x128x64x16, .f32⟩
  | .hbm, ⟨19, _⟩ => ⟨S_, .f32⟩
  | .hbm, ⟨20, _⟩ => ⟨S1x128x64x16, .f32⟩
  | .hbm, ⟨21, _⟩ => ⟨S1x128x64x16, .f32⟩
  | .hbm, ⟨22, _⟩ => ⟨S_, .f32⟩
  | .hbm, ⟨23, _⟩ => ⟨S1x128x64x16, .f32⟩
  | .hbm, ⟨24, _⟩ => ⟨S1x128x64x16, .f32⟩
  | .hbm, ⟨25, _⟩ => ⟨S1x128x64x16, .f32⟩
  | .hbm, ⟨26, _⟩ => ⟨S_, .f32⟩
  | .hbm, ⟨27, _⟩ => ⟨S1x128x64x16, .f32⟩
  | .hbm, ⟨28, _⟩ => ⟨S1x128x64x16, .f32⟩
  | .hbm, ⟨29, _⟩ => ⟨S1x128x64x16, .f32⟩
  | .hbm, ⟨30, _⟩ => ⟨S_, .f32⟩
  | .hbm, ⟨31, _⟩ => ⟨S1x128x64x16, .f32⟩
  | .hbm, ⟨32, _⟩ => ⟨S1x128x64x16, .f32⟩
  | .hbm, ⟨33, _⟩ => ⟨S1x128x64x16, .f32⟩
  | .hbm, ⟨34, _⟩ => ⟨S_, .f32⟩
  | .hbm, ⟨35, _⟩ => ⟨S1x128x64x16, .f32⟩
  | .hbm, ⟨36, _⟩ => ⟨S1x128x64x16, .f32⟩
  | .hbm, ⟨37, _⟩ => ⟨S128x1024, .f32⟩
  | .hbm, ⟨38, _⟩ => ⟨S128x1024, .f32⟩
  | .hbm, ⟨39, _⟩ => ⟨S128x1024, .f32⟩
  | _, _ => ⟨S1x128x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLruGate.lean ====
abbrev S1x16x176x176 : Shape := ⟨4, ![1, 16, 176, 176]⟩
abbrev S16x30976 : Shape := ⟨2, ![16, 30976]⟩

abbrev nBuf : Space → Nat
  | .hbm => 11
  | .vmem => 7
  | .smem => 0
  | _ => 0

abbrev bufTy : (tb : Table) → Fin (tcTables nBuf tb) → BufTy
  | .hbm, ⟨0, _⟩ => ⟨S1x16x176x176, .f32⟩
  | .hbm, ⟨1, _⟩ => ⟨S1x16x176x176, .f32⟩
  | .hbm, ⟨2, _⟩ => ⟨S1x16x176x176, .f32⟩
  | .hbm, ⟨3, _⟩ => ⟨S1x16x176x176, .f32⟩
  | .hbm, ⟨4, _⟩ => ⟨S16x30976, .f32⟩
  | .hbm, ⟨5, _⟩ => ⟨S16x30976, .f32⟩
  | .hbm, ⟨6, _⟩ => ⟨S16x30976, .f32⟩
  | .hbm, ⟨7, _⟩ => ⟨S16x30976, .f32⟩
  | .hbm, ⟨8, _⟩ => ⟨S16x30976, .f32⟩
  | .hbm, ⟨9, _⟩ => ⟨S16x30976, .f32⟩
  | .hbm, ⟨10, _⟩ => ⟨S16x30976, .f32⟩
  | .local _ .vmem, ⟨0, _⟩ => ⟨S16x30976, .f32⟩
  | .local _ .vmem, ⟨1, _⟩ => ⟨S16x30976, .f32⟩
  | .local _ .vmem, ⟨2, _⟩ => ⟨S16x30976, .f32⟩
  | .local _ .vmem, ⟨3, _⟩ => ⟨S16x30976, .f32⟩
  | .local _ .vmem, ⟨4, _⟩ => ⟨S16x30976, .f32⟩
  | .local _ .vmem, ⟨5, _⟩ => ⟨S16x30976, .f32⟩
  | .local _ .vmem, ⟨6, _⟩ => ⟨S16x30976, .f32⟩
  | _, _ => ⟨S1x16x176x176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x30976 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x30976 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x30976 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x30976 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x30976 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x30976 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x30976 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruGateRefIdeal.lean ====
abbrev S1x16x176x176 : Shape := ⟨4, ![1, 16, 176, 176]⟩
abbrev S_ : Shape := ⟨0, ![]⟩
abbrev S16x30976 : Shape := ⟨2, ![16, 30976]⟩

abbrev nBuf : Space → Nat
  | .hbm => 40
  | .vmem => 0
  | .smem => 0
  | _ => 0

abbrev bufTy : (tb : Table) → Fin (tcTables nBuf tb) → BufTy
  | .hbm, ⟨0, _⟩ => ⟨S1x16x176x176, .f32⟩
  | .hbm, ⟨1, _⟩ => ⟨S1x16x176x176, .f32⟩
  | .hbm, ⟨2, _⟩ => ⟨S1x16x176x176, .f32⟩
  | .hbm, ⟨3, _⟩ => ⟨S1x16x176x176, .f32⟩
  | .hbm, ⟨4, _⟩ => ⟨S_, .f32⟩
  | .hbm, ⟨5, _⟩ => ⟨S1x16x176x176, .f32⟩
  | .hbm, ⟨6, _⟩ => ⟨S1x16x176x176, .f32⟩
  | .hbm, ⟨7, _⟩ => ⟨S_, .f32⟩
  | .hbm, ⟨8, _⟩ => ⟨S1x16x176x176, .f32⟩
  | .hbm, ⟨9, _⟩ => ⟨S1x16x176x176, .f32⟩
  | .hbm, ⟨10, _⟩ => ⟨S1x16x176x176, .f32⟩
  | .hbm, ⟨11, _⟩ => ⟨S_, .f32⟩
  | .hbm, ⟨12, _⟩ => ⟨S1x16x176x176, .f32⟩
  | .hbm, ⟨13, _⟩ => ⟨S1x16x176x176, .f32⟩
  | .hbm, ⟨14, _⟩ => ⟨S1x16x176x176, .f32⟩
  | .hbm, ⟨15, _⟩ => ⟨S_, .f32⟩
  | .hbm, ⟨16, _⟩ => ⟨S1x16x176x176, .f32⟩
  | .hbm, ⟨17, _⟩ => ⟨S1x16x176x176, .f32⟩
  | .hbm, ⟨18, _⟩ => ⟨S1x16x176x176, .f32⟩
  | .hbm, ⟨19, _⟩ => ⟨S_, .f32⟩
  | .hbm, ⟨20, _⟩ => ⟨S1x16x176x176, .f32⟩
  | .hbm, ⟨21, _⟩ => ⟨S1x16x176x176, .f32⟩
  | .hbm, ⟨22, _⟩ => ⟨S_, .f32⟩
  | .hbm, ⟨23, _⟩ => ⟨S1x16x176x176, .f32⟩
  | .hbm, ⟨24, _⟩ => ⟨S1x16x176x176, .f32⟩
  | .hbm, ⟨25, _⟩ => ⟨S1x16x176x176, .f32⟩
  | .hbm, ⟨26, _⟩ => ⟨S_, .f32⟩
  | .hbm, ⟨27, _⟩ => ⟨S1x16x176x176, .f32⟩
  | .hbm, ⟨28, _⟩ => ⟨S1x16x176x176, .f32⟩
  | .hbm, ⟨29, _⟩ => ⟨S1x16x176x176, .f32⟩
  | .hbm, ⟨30, _⟩ => ⟨S_, .f32⟩
  | .hbm, ⟨31, _⟩ => ⟨S1x16x176x176, .f32⟩
  | .hbm, ⟨32, _⟩ => ⟨S1x16x176x176, .f32⟩
  | .hbm, ⟨33, _⟩ => ⟨S1x16x176x176, .f32⟩
  | .hbm, ⟨34, _⟩ => ⟨S_, .f32⟩
  | .hbm, ⟨35, _⟩ => ⟨S1x16x176x176, .f32⟩
  | .hbm, ⟨36, _⟩ => ⟨S1x16x176x176, .f32⟩
  | .hbm, ⟨37, _⟩ => ⟨S16x30976, .f32⟩
  | .hbm, ⟨38, _⟩ => ⟨S16x30976, .f32⟩
  | .hbm, ⟨39, _⟩ => ⟨S16x30976, .f32⟩
  | _, _ => ⟨S1x16x176x176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5In.lean ====
abbrev S1x512x2048 : Shape := ⟨3, ![1, 512, 2048]⟩
abbrev S512x2048 : Shape := ⟨2, ![512, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamS5InRefIdeal.lean ====
abbrev S1x512x2048 : Shape := ⟨3, ![1, 512, 2048]⟩
abbrev S_ : Shape := ⟨0, ![]⟩
abbrev S512x2048 : Shape := ⟨2, ![512, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S512x2048, .f32⟩
  | .hbm, ⟨38, _⟩ => ⟨S512x2048, .f32⟩
  | .hbm, ⟨39, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5Glu.lean ====
abbrev S1x2048x1024 : Shape := ⟨3, ![1, 2048, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamS5GluRefIdeal.lean ====
abbrev S1x2048x1024 : Shape := ⟨3, ![1, 2048, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048x1024, .f32⟩
  | .hbm, ⟨6, _⟩ => ⟨S1x2048x1024, .f32⟩
  | .hbm, ⟨7, _⟩ => ⟨S_, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S_, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S_, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLruIn.lean ====
abbrev S1x2048x1408 : Shape := ⟨3, ![1, 2048, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1408, .f32⟩
  | .hbm, ⟨1, _⟩ => ⟨S1x2048x1408, .f32⟩
  | .hbm, ⟨2, _⟩ => ⟨S1x2048x1408, .f32⟩
  | .hbm, ⟨3, _⟩ => ⟨S1x2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLruInRefIdeal.lean ====
abbrev S1x2048x1408 : Shape := ⟨3, ![1, 2048, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1408, .f32⟩
  | .hbm, ⟨1, _⟩ => ⟨S1x2048x1408, .f32⟩
  | .hbm, ⟨2, _⟩ => ⟨S1x2048x1408, .f32⟩
  | .hbm, ⟨3, _⟩ => ⟨S1x2048x1408, .f32⟩
  | .hbm, ⟨4, _⟩ => ⟨S_, .f32⟩
  | .hbm, ⟨5, _⟩ => ⟨S1x2048x1408, .f32⟩
  | .hbm, ⟨6, _⟩ => ⟨S1x2048x1408, .f32⟩
  | .hbm, ⟨7, _⟩ => ⟨S_, .f32⟩
  | .hbm, ⟨8, _⟩ => ⟨S1x2048x1408, .f32⟩
  | .hbm, ⟨9, _⟩ => ⟨S1x2048x1408, .f32⟩
  | .hbm, ⟨10, _⟩ => ⟨S1x2048x1408, .f32⟩
  | .hbm, ⟨11, _⟩ => ⟨S_, .f32⟩
  | .hbm, ⟨12, _⟩ => ⟨S1x2048x1408, .f32⟩
  | .hbm, ⟨13, _⟩ => ⟨S1x2048x1408, .f32⟩
  | .hbm, ⟨14, _⟩ => ⟨S1x2048x1408, .f32⟩
  | .hbm, ⟨15, _⟩ => ⟨S_, .f32⟩
  | .hbm, ⟨16, _⟩ => ⟨S1x2048x1408, .f32⟩
  | .hbm, ⟨17, _⟩ => ⟨S1x2048x1408, .f32⟩
  | .hbm, ⟨18, _⟩ => ⟨S1x2048x1408, .f32⟩
  | .hbm, ⟨19, _⟩ => ⟨S_, .f32⟩
  | .hbm, ⟨20, _⟩ => ⟨S1x2048x1408, .f32⟩
  | .hbm, ⟨21, _⟩ => ⟨S1x2048x1408, .f32⟩
  | .hbm, ⟨22, _⟩ => ⟨S_, .f32⟩
  | .hbm, ⟨23, _⟩ => ⟨S1x2048x1408, .f32⟩
  | .hbm, ⟨24, _⟩ => ⟨S1x2048x1408, .f32⟩
  | .hbm, ⟨25, _⟩ => ⟨S1x2048x1408, .f32⟩
  | .hbm, ⟨26, _⟩ => ⟨S_, .f32⟩
  | .hbm, ⟨27, _⟩ => ⟨S1x2048x1408, .f32⟩
  | .hbm, ⟨28, _⟩ => ⟨S1x2048x1408, .f32⟩
  | .hbm, ⟨29, _⟩ => ⟨S1x2048x1408, .f32⟩
  | .hbm, ⟨30, _⟩ => ⟨S_, .f32⟩
  | .hbm, ⟨31, _⟩ => ⟨S1x2048x1408, .f32⟩
  | .hbm, ⟨32, _⟩ => ⟨S1x2048x1408, .f32⟩
  | .hbm, ⟨33, _⟩ => ⟨S1x2048x1408, .f32⟩
  | .hbm, ⟨34, _⟩ => ⟨S_, .f32⟩
  | .hbm, ⟨35, _⟩ => ⟨S1x2048x1408, .f32⟩
  | .hbm, ⟨36, _⟩ => ⟨S1x2048x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S1x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLruOut.lean ====
abbrev S1x704x2048 : Shape := ⟨3, ![1, 704, 2048]⟩
abbrev S704x2048 : Shape := ⟨2, ![704, 2048]⟩
abbrev S64x2048 : Shape := ⟨2, ![64, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x704x2048, .f32⟩
  | .hbm, ⟨1, _⟩ => ⟨S1x704x2048, .f32⟩
  | .hbm, ⟨2, _⟩ => ⟨S1x704x2048, .f32⟩
  | .hbm, ⟨3, _⟩ => ⟨S1x704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .hbm, ⟨10, _⟩ => ⟨S704x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S1x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLruOutRefIdeal.lean ====
abbrev S1x704x2048 : Shape := ⟨3, ![1, 704, 2048]⟩
abbrev S_ : Shape := ⟨0, ![]⟩
abbrev S704x2048 : Shape := ⟨2, ![704, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x704x2048, .f32⟩
  | .hbm, ⟨1, _⟩ => ⟨S1x704x2048, .f32⟩
  | .hbm, ⟨2, _⟩ => ⟨S1x704x2048, .f32⟩
  | .hbm, ⟨3, _⟩ => ⟨S1x704x2048, .f32⟩
  | .hbm, ⟨4, _⟩ => ⟨S_, .f32⟩
  | .hbm, ⟨5, _⟩ => ⟨S1x704x2048, .f32⟩
  | .hbm, ⟨6, _⟩ => ⟨S1x704x2048, .f32⟩
  | .hbm, ⟨7, _⟩ => ⟨S_, .f32⟩
  | .hbm, ⟨8, _⟩ => ⟨S1x704x2048, .f32⟩
  | .hbm, ⟨9, _⟩ => ⟨S1x704x2048, .f32⟩
  | .hbm, ⟨10, _⟩ => ⟨S1x704x2048, .f32⟩
  | .hbm, ⟨11, _⟩ => ⟨S_, .f32⟩
  | .hbm, ⟨12, _⟩ => ⟨S1x704x2048, .f32⟩
  | .hbm, ⟨13, _⟩ => ⟨S1x704x2048, .f32⟩
  | .hbm, ⟨14, _⟩ => ⟨S1x704x2048, .f32⟩
  | .hbm, ⟨15, _⟩ => ⟨S_, .f32⟩
  | .hbm, ⟨16, _⟩ => ⟨S1x704x2048, .f32⟩
  | .hbm, ⟨17, _⟩ => ⟨S1x704x2048, .f32⟩
  | .hbm, ⟨18, _⟩ => ⟨S1x704x2048, .f32⟩
  | .hbm, ⟨19, _⟩ => ⟨S_, .f32⟩
  | .hbm, ⟨20, _⟩ => ⟨S1x704x2048, .f32⟩
  | .hbm, ⟨21, _⟩ => ⟨S1x704x2048, .f32⟩
  | .hbm, ⟨22, _⟩ => ⟨S_, .f32⟩
  | .hbm, ⟨23, _⟩ => ⟨S1x704x2048, .f32⟩
  | .hbm, ⟨24, _⟩ => ⟨S1x704x2048, .f32⟩
  | .hbm, ⟨25, _⟩ => ⟨S1x704x2048, .f32⟩
  | .hbm, ⟨26, _⟩ => ⟨S_, .f32⟩
  | .hbm, ⟨27, _⟩ => ⟨S1x704x2048, .f32⟩
  | .hbm, ⟨28, _⟩ => ⟨S1x704x2048, .f32⟩
  | .hbm, ⟨29, _⟩ => ⟨S1x704x2048, .f32⟩
  | .hbm, ⟨30, _⟩ => ⟨S_, .f32⟩
  | .hbm, ⟨31, _⟩ => ⟨S1x704x2048, .f32⟩
  | .hbm, ⟨32, _⟩ => ⟨S1x704x2048, .f32⟩
  | .hbm, ⟨33, _⟩ => ⟨S1x704x2048, .f32⟩
  | .hbm, ⟨34, _⟩ => ⟨S_, .f32⟩
  | .hbm, ⟨35, _⟩ => ⟨S1x704x2048, .f32⟩
  | .hbm, ⟨36, _⟩ => ⟨S1x704x2048, .f32⟩
  | .hbm, ⟨37, _⟩ => ⟨S704x2048, .f32⟩
  | .hbm, ⟨38, _⟩ => ⟨S704x2048, .f32⟩
  | .hbm, ⟨39, _⟩ => ⟨S704x2048, .f32⟩
  | _, _ => ⟨S1x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfnGu.lean ====
abbrev S2x2048x2816 : Shape := ⟨3, ![2, 2048, 2816]⟩
abbrev S4096x2816 : Shape := ⟨2, ![4096, 2816]⟩
abbrev S128x2816 : Shape := ⟨2, ![128, 2816]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnGuRefIdeal.lean ====
abbrev S2x2048x2816 : Shape := ⟨3, ![2, 2048, 2816]⟩
abbrev S_ : Shape := ⟨0, ![]⟩
abbrev S4096x2816 : Shape := ⟨2, ![4096, 2816]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S_, .f32⟩
  | .hbm, ⟨5, _⟩ => ⟨S2x2048x2816, .f32⟩
  | .hbm, ⟨6, _⟩ => ⟨S2x2048x2816, .f32⟩
  | .hbm, ⟨7, _⟩ => ⟨S_, .f32⟩
  | .hbm, ⟨8, _⟩ => ⟨S2x2048x2816, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S_, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S_, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S_, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S4096x2816, .f32⟩
  | .hbm, ⟨38, _⟩ => ⟨S4096x2816, .f32⟩
  | .hbm, ⟨39, _⟩ => ⟨S4096x2816, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfnDown.lean ====
abbrev S2x1408x2048 : Shape := ⟨3, ![2, 1408, 2048]⟩
abbrev S2816x2048 : Shape := ⟨2, ![2816, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnDownRefIdeal.lean ====
abbrev S2x1408x2048 : Shape := ⟨3, ![2, 1408, 2048]⟩
abbrev S_ : Shape := ⟨0, ![]⟩
abbrev S2816x2048 : Shape := ⟨2, ![2816, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S_, .f32⟩
  | .hbm, ⟨5, _⟩ => ⟨S2x1408x2048, .f32⟩
  | .hbm, ⟨6, _⟩ => ⟨S2x1408x2048, .f32⟩
  | .hbm, ⟨7, _⟩ => ⟨S_, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S_, .f32⟩
  | .hbm, ⟨23, _⟩ => ⟨S2x1408x2048, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | .hbm, ⟨37, _⟩ => ⟨S2816x2048, .f32⟩
  | .hbm, ⟨38, _⟩ => ⟨S2816x2048, .f32⟩
  | .hbm, ⟨39, _⟩ => ⟨S2816x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S2x2x512 : Shape := ⟨3, ![2, 2, 512]⟩
abbrev S2x12288 : Shape := ⟨2, ![2, 12288]⟩
abbrev S1x128x64 : Shape := ⟨3, ![1, 128, 64]⟩
abbrev S1x128 : Shape := ⟨2, ![1, 128]⟩
abbrev S1x2048 : Shape := ⟨2, ![1, 2048]⟩
abbrev S1x4x1x704 : Shape := ⟨4, ![1, 4, 1, 704]⟩
abbrev S1x704 : Shape := ⟨2, ![1, 704]⟩
abbrev S2048 : Shape := ⟨1, ![2048]⟩
abbrev S24576 : Shape := ⟨1, ![24576]⟩
abbrev S8192 : Shape := ⟨1, ![8192]⟩
abbrev S128 : Shape := ⟨1, ![128]⟩
abbrev S2816 : Shape := ⟨1, ![2816]⟩
abbrev S704 : Shape := ⟨1, ![704]⟩
abbrev S52864 : Shape := ⟨1, ![52864]⟩
abbrev S_ : Shape := ⟨0, ![]⟩
abbrev S57344 : Shape := ⟨1, ![57344]⟩
abbrev S56x1024 : Shape := ⟨2, ![56, 1024]⟩
abbrev S8x1024 : Shape := ⟨2, ![8, 1024]⟩

abbrev nBuf : Space → Nat
  | .hbm => 115
  | .vmem => 14
  | .smem => 0
  | _ => 0

abbrev bufTy : (tb : Table) → Fin (tcTables nBuf tb) → BufTy
  | .hbm, ⟨0, _⟩ => ⟨S2x2x512, .f32⟩
  | .hbm, ⟨1, _⟩ => ⟨S2x12288, .f32⟩
  | .hbm, ⟨2, _⟩ => ⟨S1x128x64, .f32⟩
  | .hbm, ⟨3, _⟩ => ⟨S1x128x64, .f32⟩
  | .hbm, ⟨4, _⟩ => ⟨S1x128, .f32⟩
  | .hbm, ⟨5, _⟩ => ⟨S1x2048, .f32⟩
  | .hbm, ⟨6, _⟩ => ⟨S1x4x1x704, .f32⟩
  | .hbm, ⟨7, _⟩ => ⟨S1x704, .f32⟩
  | .hbm, ⟨8, _⟩ => ⟨S1x704, .f32⟩
  | .hbm, ⟨9, _⟩ => ⟨S1x704, .f32⟩
  | .hbm, ⟨10, _⟩ => ⟨S1x704, .f32⟩
  | .hbm, ⟨11, _⟩ => ⟨S2048, .f32⟩
  | .hbm, ⟨12, _⟩ => ⟨S2x2x512, .f32⟩
  | .hbm, ⟨13, _⟩ => ⟨S2x12288, .f32⟩
  | .hbm, ⟨14, _⟩ => ⟨S1x128x64, .f32⟩
  | .hbm, ⟨15, _⟩ => ⟨S1x128x64, .f32⟩
  | .hbm, ⟨16, _⟩ => ⟨S1x128, .f32⟩
  | .hbm, ⟨17, _⟩ => ⟨S1x2048, .f32⟩
  | .hbm, ⟨18, _⟩ => ⟨S1x4x1x704, .f32⟩
  | .hbm, ⟨19, _⟩ => ⟨S1x704, .f32⟩
  | .hbm, ⟨20, _⟩ => ⟨S1x704, .f32⟩
  | .hbm, ⟨21, _⟩ => ⟨S1x704, .f32⟩
  | .hbm, ⟨22, _⟩ => ⟨S1x704, .f32⟩
  | .hbm, ⟨23, _⟩ => ⟨S2048, .f32⟩
  | .hbm, ⟨24, _⟩ => ⟨S2x2x512, .f32⟩
  | .hbm, ⟨25, _⟩ => ⟨S2x12288, .f32⟩
  | .hbm, ⟨26, _⟩ => ⟨S1x128x64, .f32⟩
  | .hbm, ⟨27, _⟩ => ⟨S1x128x64, .f32⟩
  | .hbm, ⟨28, _⟩ => ⟨S1x128, .f32⟩
  | .hbm, ⟨29, _⟩ => ⟨S1x2048, .f32⟩
  | .hbm, ⟨30, _⟩ => ⟨S1x4x1x704, .f32⟩
  | .hbm, ⟨31, _⟩ => ⟨S1x704, .f32⟩
  | .hbm, ⟨32, _⟩ => ⟨S1x704, .f32⟩
  | .hbm, ⟨33, _⟩ => ⟨S1x704, .f32⟩
  | .hbm, ⟨34, _⟩ => ⟨S1x704, .f32⟩
  | .hbm, ⟨35, _⟩ => ⟨S2048, .f32⟩
  | .hbm, ⟨36, _⟩ => ⟨S2x2x512, .f32⟩
  | .hbm, ⟨37, _⟩ => ⟨S2x12288, .f32⟩
  | .hbm, ⟨38, _⟩ => ⟨S1x128x64, .f32⟩
  | .hbm, ⟨39, _⟩ => ⟨S1x128x64, .f32⟩
  | .hbm, ⟨40, _⟩ => ⟨S1x128, .f32⟩
  | .hbm, ⟨41, _⟩ => ⟨S1x2048, .f32⟩
  | .hbm, ⟨42, _⟩ => ⟨S1x4x1x704, .f32⟩
  | .hbm, ⟨43, _⟩ => ⟨S1x704, .f32⟩
  | .hbm, ⟨44, _⟩ => ⟨S1x704, .f32⟩
  | .hbm, ⟨45, _⟩ => ⟨S1x704, .f32⟩
  | .hbm, ⟨46, _⟩ => ⟨S1x704, .f32⟩
  | .hbm, ⟨47, _⟩ => ⟨S2048, .f32⟩
  | .hbm, ⟨48, _⟩ => ⟨S2048, .f32⟩
  | .hbm, ⟨49, _⟩ => ⟨S24576, .f32⟩
  | .hbm, ⟨50, _⟩ => ⟨S8192, .f32⟩
  | .hbm, ⟨51, _⟩ => ⟨S8192, .f32⟩
  | .hbm, ⟨52, _⟩ => ⟨S128, .f32⟩
  | .hbm, ⟨53, _⟩ => ⟨S2048, .f32⟩
  | .hbm, ⟨54, _⟩ => ⟨S2816, .f32⟩
  | .hbm, ⟨55, _⟩ => ⟨S704, .f32⟩
  | .hbm, ⟨56, _⟩ => ⟨S704, .f32⟩
  | .hbm, ⟨57, _⟩ => ⟨S704, .f32⟩
  | .hbm, ⟨58, _⟩ => ⟨S704, .f32⟩
  | .hbm, ⟨59, _⟩ => ⟨S52864, .f32⟩
  | .hbm, ⟨60, _⟩ => ⟨S_, .i32⟩
  | .hbm, ⟨61, _⟩ => ⟨S_, .f32⟩
  | .hbm, ⟨62, _⟩ => ⟨S57344, .f32⟩
  | .hbm, ⟨63, _⟩ => ⟨S56x1024, .f32⟩
  | .hbm, ⟨64, _⟩ => ⟨S2048, .f32⟩
  | .hbm, ⟨65, _⟩ => ⟨S24576, .f32⟩
  | .hbm, ⟨66, _⟩ => ⟨S8192, .f32⟩
  | .hbm, ⟨67, _⟩ => ⟨S8192, .f32⟩
  | .hbm, ⟨68, _⟩ => ⟨S128, .f32⟩
  | .hbm, ⟨69, _⟩ => ⟨S2048, .f32⟩
  | .hbm, ⟨70, _⟩ => ⟨S2816, .f32⟩
  | .hbm, ⟨71, _⟩ => ⟨S704, .f32⟩
  | .hbm, ⟨72, _⟩ => ⟨S704, .f32⟩
  | .hbm, ⟨73, _⟩ => ⟨S704, .f32⟩
  | .hbm, ⟨74, _⟩ => ⟨S704, .f32⟩
  | .hbm, ⟨75, _⟩ => ⟨S52864, .f32⟩
  | .hbm, ⟨76, _⟩ => ⟨S_, .i32⟩
  | .hbm, ⟨77, _⟩ => ⟨S_, .f32⟩
  | .hbm, ⟨78, _⟩ => ⟨S57344, .f32⟩
  | .hbm, ⟨79, _⟩ => ⟨S56x1024, .f32⟩
  | .hbm, ⟨80, _⟩ => ⟨S2048, .f32⟩
  | .hbm, ⟨81, _⟩ => ⟨S24576, .f32⟩
  | .hbm, ⟨82, _⟩ => ⟨S8192, .f32⟩
  | .hbm, ⟨83, _⟩ => ⟨S8192, .f32⟩
  | .hbm, ⟨84, _⟩ => ⟨S128, .f32⟩
  | .hbm, ⟨85, _⟩ => ⟨S2048, .f32⟩
  | .hbm, ⟨86, _⟩ => ⟨S2816, .f32⟩
  | .hbm, ⟨87, _⟩ => ⟨S704, .f32⟩
  | .hbm, ⟨88, _⟩ => ⟨S704, .f32⟩
  | .hbm, ⟨89, _⟩ => ⟨S704, .f32⟩
  | .hbm, ⟨90, _⟩ => ⟨S704, .f32⟩
  | .hbm, ⟨91, _⟩ => ⟨S52864, .f32⟩
  | .hbm, ⟨92, _⟩ => ⟨S_, .i32⟩
  | .hbm, ⟨93, _⟩ => ⟨S_, .f32⟩
  | .hbm, ⟨94, _⟩ => ⟨S57344, .f32⟩
  | .hbm, ⟨95, _⟩ => ⟨S56x1024, .f32⟩
  | .hbm, ⟨96, _⟩ => ⟨S2048, .f32⟩
  | .hbm, ⟨97, _⟩ => ⟨S24576, .f32⟩
  | .hbm, ⟨98, _⟩ => ⟨S8192, .f32⟩
  | .hbm, ⟨99, _⟩ => ⟨S8192, .f32⟩
  | .hbm, ⟨100, _⟩ => ⟨S128, .f32⟩
  | .hbm, ⟨101, _⟩ => ⟨S2048, .f32⟩
  | .hbm, ⟨102, _⟩ => ⟨S2816, .f32⟩
  | .hbm, ⟨103, _⟩ => ⟨S704, .f32⟩
  | .hbm, ⟨104, _⟩ => ⟨S704, .f32⟩
  | .hbm, ⟨105, _⟩ => ⟨S704, .f32⟩
  | .hbm, ⟨106, _⟩ => ⟨S704, .f32⟩
  | .hbm, ⟨107, _⟩ => ⟨S52864, .f32⟩
  | .hbm, ⟨108, _⟩ => ⟨S_, .i32⟩
  | .hbm, ⟨109, _⟩ => ⟨S_, .f32⟩
  | .hbm, ⟨110, _⟩ => ⟨S57344, .f32⟩
  | .hbm, ⟨111, _⟩ => ⟨S56x1024, .f32⟩
  | .hbm, ⟨112, _⟩ => ⟨S56x1024, .f32⟩
  | .hbm, ⟨113, _⟩ => ⟨S56x1024, .f32⟩
  | .hbm, ⟨114, _⟩ => ⟨S56x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S2x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_c : Ref sig .tc := ⟨.hbm, 60, rfl⟩
abbrev main_call0_v0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_0 : Ref sig .tc := ⟨.hbm, 76, rfl⟩
abbrev main_call1_v0 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_c_1 : Ref sig .tc := ⟨.hbm, 92, rfl⟩
abbrev main_call2_v0 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_2 : Ref sig .tc := ⟨.hbm, 108, rfl⟩
abbrev main_call3_v0 : Ref sig .tc := ⟨.hbm, 109, rfl⟩
abbrev main_v54 : Ref sig .tc := ⟨.hbm, 110, rfl⟩
abbrev main_v55 : Ref sig .tc := ⟨.hbm, 111, rfl⟩
abbrev main_v56_0 : Ref sig .tc := ⟨.hbm, 112, rfl⟩
abbrev main_v56_1 : Ref sig .tc := ⟨.hbm, 113, rfl⟩
abbrev main_v56_2 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S2x2x512 : Shape := ⟨3, ![2, 2, 512]⟩
abbrev S2x12288 : Shape := ⟨2, ![2, 12288]⟩
abbrev S1x128x64 : Shape := ⟨3, ![1, 128, 64]⟩
abbrev S1x128 : Shape := ⟨2, ![1, 128]⟩
abbrev S1x2048 : Shape := ⟨2, ![1, 2048]⟩
abbrev S1x4x1x704 : Shape := ⟨4, ![1, 4, 1, 704]⟩
abbrev S1x704 : Shape := ⟨2, ![1, 704]⟩
abbrev S2048 : Shape := ⟨1, ![2048]⟩
abbrev S_ : Shape := ⟨0, ![]⟩
abbrev S24576 : Shape := ⟨1, ![24576]⟩
abbrev S8192 : Shape := ⟨1, ![8192]⟩
abbrev S128 : Shape := ⟨1, ![128]⟩
abbrev S2816 : Shape := ⟨1, ![2816]⟩
abbrev S704 : Shape := ⟨1, ![704]⟩
abbrev S52864 : Shape := ⟨1, ![52864]⟩
abbrev S57344 : Shape := ⟨1, ![57344]⟩
abbrev S56x1024 : Shape := ⟨2, ![56, 1024]⟩

abbrev nBuf : Space → Nat
  | .hbm => 492
  | .vmem => 0
  | .smem => 0
  | _ => 0

abbrev hbmTy0_0 (i : Nat) : BufTy := match i % 128 with
  | 0 => ⟨S2x2x512, .f32⟩
  | 1 => ⟨S2x12288, .f32⟩
  | 2 => ⟨S1x128x64, .f32⟩
  | 3 => ⟨S1x128x64, .f32⟩
  | 4 => ⟨S1x128, .f32⟩
  | 5 => ⟨S1x2048, .f32⟩
  | 6 => ⟨S1x4x1x704, .f32⟩
  | 7 => ⟨S1x704, .f32⟩
  | 8 => ⟨S1x704, .f32⟩
  | 9 => ⟨S1x704, .f32⟩
  | 10 => ⟨S1x704, .f32⟩
  | 11 => ⟨S2048, .f32⟩
  | 12 => ⟨S2x2x512, .f32⟩
  | 13 => ⟨S2x12288, .f32⟩
  | 14 => ⟨S1x128x64, .f32⟩
  | 15 => ⟨S1x128x64, .f32⟩
  | 16 => ⟨S1x128, .f32⟩
  | 17 => ⟨S1x2048, .f32⟩
  | 18 => ⟨S1x4x1x704, .f32⟩
  | 19 => ⟨S1x704, .f32⟩
  | 20 => ⟨S1x704, .f32⟩
  | 21 => ⟨S1x704, .f32⟩
  | 22 => ⟨S1x704, .f32⟩
  | 23 => ⟨S2048, .f32⟩
  | 24 => ⟨S2x2x512, .f32⟩
  | 25 => ⟨S2x12288, .f32⟩
  | 26 => ⟨S1x128x64, .f32⟩
  | 27 => ⟨S1x128x64, .f32⟩
  | 28 => ⟨S1x128, .f32⟩
  | 29 => ⟨S1x2048, .f32⟩
  | 30 => ⟨S1x4x1x704, .f32⟩
  | 31 => ⟨S1x704, .f32⟩
  | 32 => ⟨S1x704, .f32⟩
  | 33 => ⟨S1x704, .f32⟩
  | 34 => ⟨S1x704, .f32⟩
  | 35 => ⟨S2048, .f32⟩
  | 36 => ⟨S2x2x512, .f32⟩
  | 37 => ⟨S2x12288, .f32⟩
  | 38 => ⟨S1x128x64, .f32⟩
  | 39 => ⟨S1x128x64, .f32⟩
  | 40 => ⟨S1x128, .f32⟩
  | 41 => ⟨S1x2048, .f32⟩
  | 42 => ⟨S1x4x1x704, .f32⟩
  | 43 => ⟨S1x704, .f32⟩
  | 44 => ⟨S1x704, .f32⟩
  | 45 => ⟨S1x704, .f32⟩
  | 46 => ⟨S1x704, .f32⟩
  | 47 => ⟨S2048, .f32⟩
  | 48 => ⟨S_, .f32⟩
  | 49 => ⟨S2x2x512, .f32⟩
  | 50 => ⟨S2x2x512, .f32⟩
  | 51 => ⟨S_, .f32⟩
  | 52 => ⟨S2x2x512, .f32⟩
  | 53 => ⟨S2x2x512, .f32⟩
  | 54 => ⟨S2x2x512, .f32⟩
  | 55 => ⟨S_, .f32⟩
  | 56 => ⟨S2x2x512, .f32⟩
  | 57 => ⟨S2x2x512, .f32⟩
  | 58 => ⟨S2x2x512, .f32⟩
  | 59 => ⟨S_, .f32⟩
  | 60 => ⟨S2x2x512, .f32⟩
  | 61 => ⟨S2x2x512, .f32⟩
  | 62 => ⟨S2x2x512, .f32⟩
  | 63 => ⟨S_, .f32⟩
  | 64 => ⟨S2x2x512, .f32⟩
  | 65 => ⟨S2x2x512, .f32⟩
  | 66 => ⟨S_, .f32⟩
  | 67 => ⟨S2x2x512, .f32⟩
  | 68 => ⟨S2x2x512, .f32⟩
  | 69 => ⟨S2x2x512, .f32⟩
  | 70 => ⟨S_, .f32⟩
  | 71 => ⟨S2x2x512, .f32⟩
  | 72 => ⟨S2x2x512, .f32⟩
  | 73 => ⟨S2x2x512, .f32⟩
  | 74 => ⟨S_, .f32⟩
  | 75 => ⟨S2x2x512, .f32⟩
  | 76 => ⟨S2x2x512, .f32⟩
  | 77 => ⟨S2x2x512, .f32⟩
  | 78 => ⟨S_, .f32⟩
  | 79 => ⟨S2x2x512, .f32⟩
  | 80 => ⟨S2x2x512, .f32⟩
  | 81 => ⟨S_, .f32⟩
  | 82 => ⟨S2x12288, .f32⟩
  | 83 => ⟨S2x12288, .f32⟩
  | 84 => ⟨S_, .f32⟩
  | 85 => ⟨S2x12288, .f32⟩
  | 86 => ⟨S2x12288, .f32⟩
  | 87 => ⟨S2x12288, .f32⟩
  | 88 => ⟨S_, .f32⟩
  | 89 => ⟨S2x12288, .f32⟩
  | 90 => ⟨S2x12288, .f32⟩
  | 91 => ⟨S2x12288, .f32⟩
  | 92 => ⟨S_, .f32⟩
  | 93 => ⟨S2x12288, .f32⟩
  | 94 => ⟨S2x12288, .f32⟩
  | 95 => ⟨S2x12288, .f32⟩
  | 96 => ⟨S_, .f32⟩
  | 97 => ⟨S2x12288, .f32⟩
  | 98 => ⟨S2x12288, .f32⟩
  | 99 => ⟨S_, .f32⟩
  | 100 => ⟨S2x12288, .f32⟩
  | 101 => ⟨S2x12288, .f32⟩
  | 102 => ⟨S2x12288, .f32⟩
  | 103 => ⟨S_, .f32⟩
  | 104 => ⟨S2x12288, .f32⟩
  | 105 => ⟨S2x12288, .f32⟩
  | 106 => ⟨S2x12288, .f32⟩
  | 107 => ⟨S_, .f32⟩
  | 108 => ⟨S2x12288, .f32⟩
  | 109 => ⟨S2x12288, .f32⟩
  | 110 => ⟨S2x12288, .f32⟩
  | 111 => ⟨S_, .f32⟩
  | 112 => ⟨S2x12288, .f32⟩
  | 113 => ⟨S2x12288, .f32⟩
  | 114 => ⟨S_, .f32⟩
  | 115 => ⟨S1x128x64, .f32⟩
  | 116 => ⟨S1x128x64, .f32⟩
  | 117 => ⟨S_, .f32⟩
  | 118 => ⟨S1x128x64, .f32⟩
  | 119 => ⟨S1x128x64, .f32⟩
  | 120 => ⟨S1x128x64, .f32⟩
  | 121 => ⟨S_, .f32⟩
  | 122 => ⟨S1x128x64, .f32⟩
  | 123 => ⟨S1x128x64, .f32⟩
  | 124 => ⟨S1x128x64, .f32⟩
  | 125 => ⟨S_, .f32⟩
  | 126 => ⟨S1x128x64, .f32⟩
  | 127 => ⟨S1x128x64, .f32⟩
  | _ => ⟨S2x2x512, .f32⟩

abbrev hbmTy0_1 (i : Nat) : BufTy := match i % 128 with
  | 0 => ⟨S1x128x64, .f32⟩
  | 1 => ⟨S_, .f32⟩
  | 2 => ⟨S1x128x64, .f32⟩
  | 3 => ⟨S1x128x64, .f32⟩
  | 4 => ⟨S_, .f32⟩
  | 5 => ⟨S1x128x64, .f32⟩
  | 6 => ⟨S1x128x64, .f32⟩
  | 7 => ⟨S1x128x64, .f32⟩
  | 8 => ⟨S_, .f32⟩
  | 9 => ⟨S1x128x64, .f32⟩
  | 10 => ⟨S1x128x64, .f32⟩
  | 11 => ⟨S1x128x64, .f32⟩
  | 12 => ⟨S_, .f32⟩
  | 13 => ⟨S1x128x64, .f32⟩
  | 14 => ⟨S1x128x64, .f32⟩
  | 15 => ⟨S1x128x64, .f32⟩
  | 16 => ⟨S_, .f32⟩
  | 17 => ⟨S1x128x64, .f32⟩
  | 18 => ⟨S1x128x64, .f32⟩
  | 19 => ⟨S_, .f32⟩
  | 20 => ⟨S1x128x64, .f32⟩
  | 21 => ⟨S1x128x64, .f32⟩
  | 22 => ⟨S_, .f32⟩
  | 23 => ⟨S1x128x64, .f32⟩
  | 24 => ⟨S1x128x64, .f32⟩
  | 25 => ⟨S1x128x64, .f32⟩
  | 26 => ⟨S_, .f32⟩
  | 27 => ⟨S1x128x64, .f32⟩
  | 28 => ⟨S1x128x64, .f32⟩
  | 29 => ⟨S1x128x64, .f32⟩
  | 30 => ⟨S_, .f32⟩
  | 31 => ⟨S1x128x64, .f32⟩
  | 32 => ⟨S1x128x64, .f32⟩
  | 33 => ⟨S1x128x64, .f32⟩
  | 34 => ⟨S_, .f32⟩
  | 35 => ⟨S1x128x64, .f32⟩
  | 36 => ⟨S1x128x64, .f32⟩
  | 37 => ⟨S_, .f32⟩
  | 38 => ⟨S1x128x64, .f32⟩
  | 39 => ⟨S1x128x64, .f32⟩
  | 40 => ⟨S1x128x64, .f32⟩
  | 41 => ⟨S_, .f32⟩
  | 42 => ⟨S1x128x64, .f32⟩
  | 43 => ⟨S1x128x64, .f32⟩
  | 44 => ⟨S1x128x64, .f32⟩
  | 45 => ⟨S_, .f32⟩
  | 46 => ⟨S1x128x64, .f32⟩
  | 47 => ⟨S1x128x64, .f32⟩
  | 48 => ⟨S1x128x64, .f32⟩
  | 49 => ⟨S_, .f32⟩
  | 50 => ⟨S1x128x64, .f32⟩
  | 51 => ⟨S1x128x64, .f32⟩
  | 52 => ⟨S_, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S_, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S1x2048, .f32⟩
  | 100 => ⟨S_, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S1x2048, .f32⟩
  | 111 => ⟨S_, .f32⟩
  | 112 => ⟨S1x2048, .f32⟩
  | 113 => ⟨S1x2048, .f32⟩
  | 114 => ⟨S1x2048, .f32⟩
  | 115 => ⟨S_, .f32⟩
  | 116 => ⟨S1x2048, .f32⟩
  | 117 => ⟨S1x2048, .f32⟩
  | 118 => ⟨S_, .f32⟩
  | 119 => ⟨S1x4x1x704, .f32⟩
  | 120 => ⟨S1x4x1x704, .f32⟩
  | 121 => ⟨S_, .f32⟩
  | 122 => ⟨S1x4x1x704, .f32⟩
  | 123 => ⟨S1x4x1x704, .f32⟩
  | 124 => ⟨S1x4x1x704, .f32⟩
  | 125 => ⟨S_, .f32⟩
  | 126 => ⟨S1x4x1x704, .f32⟩
  | 127 => ⟨S1x4x1x704, .f32⟩
  | _ => ⟨S2x2x512, .f32⟩

abbrev hbmTy0_2 (i : Nat) : BufTy := match i % 128 with
  | 0 => ⟨S1x4x1x704, .f32⟩
  | 1 => ⟨S_, .f32⟩
  | 2 => ⟨S1x4x1x704, .f32⟩
  | 3 => ⟨S1x4x1x704, .f32⟩
  | 4 => ⟨S1x4x1x704, .f32⟩
  | 5 => ⟨S_, .f32⟩
  | 6 => ⟨S1x4x1x704, .f32⟩
  | 7 => ⟨S1x4x1x704, .f32⟩
  | 8 => ⟨S_, .f32⟩
  | 9 => ⟨S1x4x1x704, .f32⟩
  | 10 => ⟨S1x4x1x704, .f32⟩
  | 11 => ⟨S1x4x1x704, .f32⟩
  | 12 => ⟨S_, .f32⟩
  | 13 => ⟨S1x4x1x704, .f32⟩
  | 14 => ⟨S1x4x1x704, .f32⟩
  | 15 => ⟨S1x4x1x704, .f32⟩
  | 16 => ⟨S_, .f32⟩
  | 17 => ⟨S1x4x1x704, .f32⟩
  | 18 => ⟨S1x4x1x704, .f32⟩
  | 19 => ⟨S1x4x1x704, .f32⟩
  | 20 => ⟨S_, .f32⟩
  | 21 => ⟨S1x4x1x704, .f32⟩
  | 22 => ⟨S1x4x1x704, .f32⟩
  | 23 => ⟨S_, .f32⟩
  | 24 => ⟨S1x704, .f32⟩
  | 25 => ⟨S1x704, .f32⟩
  | 26 => ⟨S_, .f32⟩
  | 27 => ⟨S1x704, .f32⟩
  | 28 => ⟨S1x704, .f32⟩
  | 29 => ⟨S1x704, .f32⟩
  | 30 => ⟨S_, .f32⟩
  | 31 => ⟨S1x704, .f32⟩
  | 32 => ⟨S1x704, .f32⟩
  | 33 => ⟨S1x704, .f32⟩
  | 34 => ⟨S_, .f32⟩
  | 35 => ⟨S1x704, .f32⟩
  | 36 => ⟨S1x704, .f32⟩
  | 37 => ⟨S1x704, .f32⟩
  | 38 => ⟨S_, .f32⟩
  | 39 => ⟨S1x704, .f32⟩
  | 40 => ⟨S1x704, .f32⟩
  | 41 => ⟨S_, .f32⟩
  | 42 => ⟨S1x704, .f32⟩
  | 43 => ⟨S1x704, .f32⟩
  | 44 => ⟨S1x704, .f32⟩
  | 45 => ⟨S_, .f32⟩
  | 46 => ⟨S1x704, .f32⟩
  | 47 => ⟨S1x704, .f32⟩
  | 48 => ⟨S1x704, .f32⟩
  | 49 => ⟨S_, .f32⟩
  | 50 => ⟨S1x704, .f32⟩
  | 51 => ⟨S1x704, .f32⟩
  | 52 => ⟨S1x704, .f32⟩
  | 53 => ⟨S_, .f32⟩
  | 54 => ⟨S1x704, .f32⟩
  | 55 => ⟨S1x704, .f32⟩
  | 56 => ⟨S_, .f32⟩
  | 57 => ⟨S1x704, .f32⟩
  | 58 => ⟨S1x704, .f32⟩
  | 59 => ⟨S_, .f32⟩
  | 60 => ⟨S1x704, .f32⟩
  | 61 => ⟨S1x704, .f32⟩
  | 62 => ⟨S1x704, .f32⟩
  | 63 => ⟨S_, .f32⟩
  | 64 => ⟨S1x704, .f32⟩
  | 65 => ⟨S1x704, .f32⟩
  | 66 => ⟨S1x704, .f32⟩
  | 67 => ⟨S_, .f32⟩
  | 68 => ⟨S1x704, .f32⟩
  | 69 => ⟨S1x704, .f32⟩
  | 70 => ⟨S1x704, .f32⟩
  | 71 => ⟨S_, .f32⟩
  | 72 => ⟨S1x704, .f32⟩
  | 73 => ⟨S1x704, .f32⟩
  | 74 => ⟨S_, .f32⟩
  | 75 => ⟨S1x704, .f32⟩
  | 76 => ⟨S1x704, .f32⟩
  | 77 => ⟨S1x704, .f32⟩
  | 78 => ⟨S_, .f32⟩
  | 79 => ⟨S1x704, .f32⟩
  | 80 => ⟨S1x704, .f32⟩
  | 81 => ⟨S1x704, .f32⟩
  | 82 => ⟨S_, .f32⟩
  | 83 => ⟨S1x704, .f32⟩
  | 84 => ⟨S1x704, .f32⟩
  | 85 => ⟨S1x704, .f32⟩
  | 86 => ⟨S_, .f32⟩
  | 87 => ⟨S1x704, .f32⟩
  | 88 => ⟨S1x704, .f32⟩
  | 89 => ⟨S_, .f32⟩
  | 90 => ⟨S1x704, .f32⟩
  | 91 => ⟨S1x704, .f32⟩
  | 92 => ⟨S_, .f32⟩
  | 93 => ⟨S1x704, .f32⟩
  | 94 => ⟨S1x704, .f32⟩
  | 95 => ⟨S1x704, .f32⟩
  | 96 => ⟨S_, .f32⟩
  | 97 => ⟨S1x704, .f32⟩
  | 98 => ⟨S1x704, .f32⟩
  | 99 => ⟨S1x704, .f32⟩
  | 100 => ⟨S_, .f32⟩
  | 101 => ⟨S1x704, .f32⟩
  | 102 => ⟨S1x704, .f32⟩
  | 103 => ⟨S1x704, .f32⟩
  | 104 => ⟨S_, .f32⟩
  | 105 => ⟨S1x704, .f32⟩
  | 106 => ⟨S1x704, .f32⟩
  | 107 => ⟨S_, .f32⟩
  | 108 => ⟨S1x704, .f32⟩
  | 109 => ⟨S1x704, .f32⟩
  | 110 => ⟨S1x704, .f32⟩
  | 111 => ⟨S_, .f32⟩
  | 112 => ⟨S1x704, .f32⟩
  | 113 => ⟨S1x704, .f32⟩
  | 114 => ⟨S1x704, .f32⟩
  | 115 => ⟨S_, .f32⟩
  | 116 => ⟨S1x704, .f32⟩
  | 117 => ⟨S1x704, .f32⟩
  | 118 => ⟨S1x704, .f32⟩
  | 119 => ⟨S_, .f32⟩
  | 120 => ⟨S1x704, .f32⟩
  | 121 => ⟨S1x704, .f32⟩
  | 122 => ⟨S_, .f32⟩
  | 123 => ⟨S1x704, .f32⟩
  | 124 => ⟨S1x704, .f32⟩
  | 125 => ⟨S_, .f32⟩
  | 126 => ⟨S1x704, .f32⟩
  | 127 => ⟨S1x704, .f32⟩
  | _ => ⟨S2x2x512, .f32⟩

abbrev hbmTy0_3 (i : Nat) : BufTy := match i % 128 with
  | 0 => ⟨S1x704, .f32⟩
  | 1 => ⟨S_, .f32⟩
  | 2 => ⟨S1x704, .f32⟩
  | 3 => ⟨S1x704, .f32⟩
  | 4 => ⟨S1x704, .f32⟩
  | 5 => ⟨S_, .f32⟩
  | 6 => ⟨S1x704, .f32⟩
  | 7 => ⟨S1x704, .f32⟩
  | 8 => ⟨S1x704, .f32⟩
  | 9 => ⟨S_, .f32⟩
  | 10 => ⟨S1x704, .f32⟩
  | 11 => ⟨S1x704, .f32⟩
  | 12 => ⟨S_, .f32⟩
  | 13 => ⟨S1x704, .f32⟩
  | 14 => ⟨S1x704, .f32⟩
  | 15 => ⟨S1x704, .f32⟩
  | 16 => ⟨S_, .f32⟩
  | 17 => ⟨S1x704, .f32⟩
  | 18 => ⟨S1x704, .f32⟩
  | 19 => ⟨S1x704, .f32⟩
  | 20 => ⟨S_, .f32⟩
  | 21 => ⟨S1x704, .f32⟩
  | 22 => ⟨S1x704, .f32⟩
  | 23 => ⟨S1x704, .f32⟩
  | 24 => ⟨S_, .f32⟩
  | 25 => ⟨S1x704, .f32⟩
  | 26 => ⟨S1x704, .f32⟩
  | 27 => ⟨S_, .f32⟩
  | 28 => ⟨S2048, .f32⟩
  | 29 => ⟨S2048, .f32⟩
  | 30 => ⟨S_, .f32⟩
  | 31 => ⟨S2048, .f32⟩
  | 32 => ⟨S2048, .f32⟩
  | 33 => ⟨S2048, .f32⟩
  | 34 => ⟨S_, .f32⟩
  | 35 => ⟨S2048, .f32⟩
  | 36 => ⟨S2048, .f32⟩
  | 37 => ⟨S2048, .f32⟩
  | 38 => ⟨S_, .f32⟩
  | 39 => ⟨S2048, .f32⟩
  | 40 => ⟨S2048, .f32⟩
  | 41 => ⟨S2048, .f32⟩
  | 42 => ⟨S_, .f32⟩
  | 43 => ⟨S2048, .f32⟩
  | 44 => ⟨S2048, .f32⟩
  | 45 => ⟨S_, .f32⟩
  | 46 => ⟨S2048, .f32⟩
  | 47 => ⟨S2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S_, .f32⟩
  | 54 => ⟨S2048, .f32⟩
  | 55 => ⟨S2048, .f32⟩
  | 56 => ⟨S2048, .f32⟩
  | 57 => ⟨S_, .f32⟩
  | 58 => ⟨S2048, .f32⟩
  | 59 => ⟨S2048, .f32⟩
  | 60 => ⟨S2048, .f32⟩
  | 61 => ⟨S24576, .f32⟩
  | 62 => ⟨S8192, .f32⟩
  | 63 => ⟨S8192, .f32⟩
  | 64 => ⟨S128, .f32⟩
  | 65 => ⟨S2048, .f32⟩
  | 66 => ⟨S2816, .f32⟩
  | 67 => ⟨S704, .f32⟩
  | 68 => ⟨S704, .f32⟩
  | 69 => ⟨S704, .f32⟩
  | 70 => ⟨S704, .f32⟩
  | 71 => ⟨S52864, .f32⟩
  | 72 => ⟨S_, .i32⟩
  | 73 => ⟨S_, .f32⟩
  | 74 => ⟨S57344, .f32⟩
  | 75 => ⟨S56x1024, .f32⟩
  | 76 => ⟨S2048, .f32⟩
  | 77 => ⟨S24576, .f32⟩
  | 78 => ⟨S8192, .f32⟩
  | 79 => ⟨S8192, .f32⟩
  | 80 => ⟨S128, .f32⟩
  | 81 => ⟨S2048, .f32⟩
  | 82 => ⟨S2816, .f32⟩
  | 83 => ⟨S704, .f32⟩
  | 84 => ⟨S704, .f32⟩
  | 85 => ⟨S704, .f32⟩
  | 86 => ⟨S704, .f32⟩
  | 87 => ⟨S52864, .f32⟩
  | 88 => ⟨S_, .i32⟩
  | 89 => ⟨S_, .f32⟩
  | 90 => ⟨S57344, .f32⟩
  | 91 => ⟨S56x1024, .f32⟩
  | 92 => ⟨S2048, .f32⟩
  | 93 => ⟨S24576, .f32⟩
  | 94 => ⟨S8192, .f32⟩
  | 95 => ⟨S8192, .f32⟩
  | 96 => ⟨S128, .f32⟩
  | 97 => ⟨S2048, .f32⟩
  | 98 => ⟨S2816, .f32⟩
  | 99 => ⟨S704, .f32⟩
  | 100 => ⟨S704, .f32⟩
  | 101 => ⟨S704, .f32⟩
  | 102 => ⟨S704, .f32⟩
  | 103 => ⟨S52864, .f32⟩
  | 104 => ⟨S_, .i32⟩
  | 105 => ⟨S_, .f32⟩
  | 106 => ⟨S57344, .f32⟩
  | 107 => ⟨S56x1024, .f32⟩
  | _ => ⟨S2x2x512, .f32⟩

abbrev hbmTy (i : Nat) : BufTy := match i / 128 with
  | 0 => hbmTy0_0 i
  | 1 => hbmTy0_1 i
  | 2 => hbmTy0_2 i
  | 3 => hbmTy0_3 i
  | _ => ⟨S2x2x512, .f32⟩

abbrev bufTy : (tb : Table) → Fin (tcTables nBuf tb) → BufTy
  | .hbm, ⟨i, _⟩ => hbmTy i
  | _, _ => ⟨S2x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩
abbrev main_v288 : Ref sig .tc := ⟨.hbm, 444, rfl⟩
abbrev main_v289 : Ref sig .tc := ⟨.hbm, 445, rfl⟩
abbrev main_v290 : Ref sig .tc := ⟨.hbm, 446, rfl⟩
abbrev main_v291 : Ref sig .tc := ⟨.hbm, 447, rfl⟩
abbrev main_v292 : Ref sig .tc := ⟨.hbm, 448, rfl⟩
abbrev main_v293 : Ref sig .tc := ⟨.hbm, 449, rfl⟩
abbrev main_v294 : Ref sig .tc := ⟨.hbm, 450, rfl⟩
abbrev main_v295 : Ref sig .tc := ⟨.hbm, 451, rfl⟩
abbrev main_v296 : Ref sig .tc := ⟨.hbm, 452, rfl⟩
abbrev main_v297 : Ref sig .tc := ⟨.hbm, 453, rfl⟩
abbrev main_v298 : Ref sig .tc := ⟨.hbm, 454, rfl⟩
abbrev main_v299 : Ref sig .tc := ⟨.hbm, 455, rfl⟩
abbrev main_c : Ref sig .tc := ⟨.hbm, 456, rfl⟩
abbrev main_call0_v0 : Ref sig .tc := ⟨.hbm, 457, rfl⟩
abbrev main_v300 : Ref sig .tc := ⟨.hbm, 458, rfl⟩
abbrev main_v301 : Ref sig .tc := ⟨.hbm, 459, rfl⟩
abbrev main_v302 : Ref sig .tc := ⟨.hbm, 460, rfl⟩
abbrev main_v303 : Ref sig .tc := ⟨.hbm, 461, rfl⟩
abbrev main_v304 : Ref sig .tc := ⟨.hbm, 462, rfl⟩
abbrev main_v305 : Ref sig .tc := ⟨.hbm, 463, rfl⟩
abbrev main_v306 : Ref sig .tc := ⟨.hbm, 464, rfl⟩
abbrev main_v307 : Ref sig .tc := ⟨.hbm, 465, rfl⟩
abbrev main_v308 : Ref sig .tc := ⟨.hbm, 466, rfl⟩
abbrev main_v309 : Ref sig .tc := ⟨.hbm, 467, rfl⟩
abbrev main_v310 : Ref sig .tc := ⟨.hbm, 468, rfl⟩
abbrev main_v311 : Ref sig .tc := ⟨.hbm, 469, rfl⟩
abbrev main_v312 : Ref sig .tc := ⟨.hbm, 470, rfl⟩
abbrev main_v313 : Ref sig .tc := ⟨.hbm, 471, rfl⟩
abbrev main_c_107 : Ref sig .tc := ⟨.hbm, 472, rfl⟩
abbrev main_call1_v0 : Ref sig .tc := ⟨.hbm, 473, rfl⟩
abbrev main_v314 : Ref sig .tc := ⟨.hbm, 474, rfl⟩
abbrev main_v315 : Ref sig .tc := ⟨.hbm, 475, rfl⟩
abbrev main_v316 : Ref sig .tc := ⟨.hbm, 476, rfl⟩
abbrev main_v317 : Ref sig .tc := ⟨.hbm, 477, rfl⟩
abbrev main_v318 : Ref sig .tc := ⟨.hbm, 478, rfl⟩
abbrev main_v319 : Ref sig .tc := ⟨.hbm, 479, rfl⟩
abbrev main_v320 : Ref sig .tc := ⟨.hbm, 480, rfl⟩
abbrev main_v321 : Ref sig .tc := ⟨.hbm, 481, rfl⟩
abbrev main_v322 : Ref sig .tc := ⟨.hbm, 482, rfl⟩
abbrev main_v323 : Ref sig .tc := ⟨.hbm, 483, rfl⟩
abbrev main_v324 : Ref sig .tc := ⟨.hbm, 484, rfl⟩
abbrev main_v325 : Ref sig .tc := ⟨.hbm, 485, rfl⟩
abbrev main_v326 : Ref sig .tc := ⟨.hbm, 486, rfl⟩
abbrev main_v327 : Ref sig .tc := ⟨.hbm, 487, rfl⟩
abbrev main_c_108 : Ref sig .tc := ⟨.hbm, 488, rfl⟩
abbrev main_call2_v0 : Ref sig .tc := ⟨.hbm, 489, rfl⟩
abbrev main_v328 : Ref sig .tc := ⟨.hbm, 490, rfl⟩
abbrev main_v329 : Ref sig .tc := ⟨.hbm, 491, rfl⟩

abbrev nD : Nat := 1
abbrev τ : Topo := Topo.v7x

variable {F : FTy → Type} [FloatOps F]
-- ==== SumSmall.lean ====
abbrev S8x80x1024 : Shape := ⟨3, ![8, 80, 1024]⟩
abbrev S80x1024 : Shape := ⟨2, ![80, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | _, _ => ⟨S8x80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x80x1024 : Shape := ⟨3, ![8, 80, 1024]⟩
abbrev S_ : Shape := ⟨0, ![]⟩
abbrev S80x1024 : Shape := ⟨2, ![80, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumS5c.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumS5cRefIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumGate.lean ====
abbrev S8x16x30976 : Shape := ⟨3, ![8, 16, 30976]⟩
abbrev S16x30976 : Shape := ⟨2, ![16, 30976]⟩
abbrev S1x16x30976 : Shape := ⟨3, ![1, 16, 30976]⟩

abbrev nBuf : Space → Nat
  | .hbm => 2
  | .vmem => 2
  | .smem => 0
  | _ => 0

abbrev bufTy : (tb : Table) → Fin (tcTables nBuf tb) → BufTy
  | .hbm, ⟨0, _⟩ => ⟨S8x16x30976, .bf16⟩
  | .hbm, ⟨1, _⟩ => ⟨S16x30976, .f32⟩
  | .local _ .vmem, ⟨0, _⟩ => ⟨S8x16x30976, .bf16⟩
  | .local _ .vmem, ⟨1, _⟩ => ⟨S16x30976, .f32⟩
  | _, _ => ⟨S8x16x30976, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x30976 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x30976 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumGateRefIdeal.lean ====
abbrev S8x16x30976 : Shape := ⟨3, ![8, 16, 30976]⟩
abbrev S_ : Shape := ⟨0, ![]⟩
abbrev S16x30976 : Shape := ⟨2, ![16, 30976]⟩

abbrev nBuf : Space → Nat
  | .hbm => 4
  | .vmem => 0
  | .smem => 0
  | _ => 0

abbrev bufTy : (tb : Table) → Fin (tcTables nBuf tb) → BufTy
  | .hbm, ⟨0, _⟩ => ⟨S8x16x30976, .bf16⟩
  | .hbm, ⟨1, _⟩ => ⟨S8x16x30976, .f32⟩
  | .hbm, ⟨2, _⟩ => ⟨S_, .f32⟩
  | .hbm, ⟨3, _⟩ => ⟨S16x30976, .f32⟩
  | _, _ => ⟨S8x16x30976, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdaDw.lean ====
abbrev S16x2048 : Shape := ⟨2, ![16, 2048]⟩
abbrev S16x6144 : Shape := ⟨2, ![16, 6144]⟩
abbrev S16x4096 : Shape := ⟨2, ![16, 4096]⟩
abbrev S2x2048x3072 : Shape := ⟨3, ![2, 2048, 3072]⟩
abbrev S16x1024 : Shape := ⟨2, ![16, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S16x6144, .f32⟩
  | .hbm, ⟨2, _⟩ => ⟨S16x4096, .f32⟩
  | .hbm, ⟨3, _⟩ => ⟨S2x2048x3072, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 3, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg0 c3_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== AdaDwRefIdeal.lean ====
abbrev S16x2048 : Shape := ⟨2, ![16, 2048]⟩
abbrev S16x6144 : Shape := ⟨2, ![16, 6144]⟩
abbrev S_ : Shape := ⟨0, ![]⟩
abbrev S2048x3072 : Shape := ⟨2, ![2048, 3072]⟩
abbrev S16x3072 : Shape := ⟨2, ![16, 3072]⟩
abbrev S3072x2048 : Shape := ⟨2, ![3072, 2048]⟩
abbrev S1x2048x3072 : Shape := ⟨3, ![1, 2048, 3072]⟩
abbrev S2x2048x3072 : Shape := ⟨3, ![2, 2048, 3072]⟩

abbrev nBuf : Space → Nat
  | .hbm => 15
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x6144, .f32⟩
  | .hbm, ⟨2, _⟩ => ⟨S_, .f32⟩
  | .hbm, ⟨3, _⟩ => ⟨S2048x3072, .f32⟩
  | .hbm, ⟨4, _⟩ => ⟨S16x3072, .f32⟩
  | .hbm, ⟨5, _⟩ => ⟨S16x3072, .f32⟩
  | .hbm, ⟨6, _⟩ => ⟨S16x3072, .f32⟩
  | .hbm, ⟨7, _⟩ => ⟨S3072x2048, .f32⟩
  | .hbm, ⟨8, _⟩ => ⟨S2048x3072, .f32⟩
  | .hbm, ⟨9, _⟩ => ⟨S16x3072, .f32⟩
  | .hbm, ⟨10, _⟩ => ⟨S3072x2048, .f32⟩
  | .hbm, ⟨11, _⟩ => ⟨S2048x3072, .f32⟩
  | .hbm, ⟨12, _⟩ => ⟨S1x2048x3072, .f32⟩
  | .hbm, ⟨13, _⟩ => ⟨S1x2048x3072, .f32⟩
  | .hbm, ⟨14, _⟩ => ⟨S2x2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== NormBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== LossHead.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S8x128, .f32⟩
  | .local _ .vmem, ⟨8, _⟩ => ⟨S1x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v48 : BitVec 1 := Scalar.cmpi .eq arg0 c7_i32
  let v49 : BitVec 32 := Scalar.extui v48
  let c0_i32_23 : BitVec 32 := 0#32
  let v50 : BitVec 1 := Scalar.cmpi .ne v49 c0_i32_23
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== SumDisc.lean ====
abbrev S1x128x64 : Shape := ⟨3, ![1, 128, 64]⟩
abbrev S1x128 : Shape := ⟨2, ![1, 128]⟩
abbrev S1x128x64x16 : Shape := ⟨4, ![1, 128, 64, 16]⟩
abbrev S128x64 : Shape := ⟨2, ![128, 64]⟩
abbrev S128x64x16 : Shape := ⟨3, ![128, 64, 16]⟩
abbrev S8x128x1024 : Shape := ⟨3, ![8, 128, 1024]⟩
abbrev S128 : Shape := ⟨1, ![128]⟩
abbrev S128x1 : Shape := ⟨2, ![128, 1]⟩
abbrev S_ : Shape := ⟨0, ![]⟩
abbrev S128x64x1 : Shape := ⟨3, ![128, 64, 1]⟩
abbrev S128x1024 : Shape := ⟨2, ![128, 1024]⟩
abbrev S1x128x1024 : Shape := ⟨3, ![1, 128, 1024]⟩

abbrev nBuf : Space → Nat
  | .hbm => 173
  | .vmem => 2
  | .smem => 0
  | _ => 0

abbrev hbmTy0_0 (i : Nat) : BufTy := match i % 128 with
  | 0 => ⟨S1x128x64, .f32⟩
  | 1 => ⟨S1x128x64, .f32⟩
  | 2 => ⟨S1x128, .f32⟩
  | 3 => ⟨S1x128x64x16, .f32⟩
  | 4 => ⟨S1x128x64x16, .f32⟩
  | 5 => ⟨S128x64, .f32⟩
  | 6 => ⟨S128x64, .f32⟩
  | 7 => ⟨S128x64x16, .f32⟩
  | 8 => ⟨S8x128x1024, .bf16⟩
  | 9 => ⟨S128x64, .f32⟩
  | 10 => ⟨S128x64, .f32⟩
  | 11 => ⟨S128, .f32⟩
  | 12 => ⟨S128x64x16, .f32⟩
  | 13 => ⟨S128x64x16, .f32⟩
  | 14 => ⟨S128, .f32⟩
  | 15 => ⟨S128x1, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S_, .f32⟩
  | 30 => ⟨S128x64, .f32⟩
  | 31 => ⟨S128x64, .f32⟩
  | 32 => ⟨S128x64, .f32⟩
  | 33 => ⟨S128x64, .f32⟩
  | 34 => ⟨S128x64, .f32⟩
  | 35 => ⟨S128x64, .f32⟩
  | 36 => ⟨S128x64, .f32⟩
  | 37 => ⟨S128x64, .f32⟩
  | 38 => ⟨S128x64, .f32⟩
  | 39 => ⟨S128x64, .f32⟩
  | 40 => ⟨S_, .f32⟩
  | 41 => ⟨S128x64, .f32⟩
  | 42 => ⟨S128x64, .f32⟩
  | 43 => ⟨S128x64, .f32⟩
  | 44 => ⟨S128x64, .f32⟩
  | 45 => ⟨S128x64, .f32⟩
  | 46 => ⟨S128x64, .f32⟩
  | 47 => ⟨S128x64, .f32⟩
  | 48 => ⟨S_, .f32⟩
  | 49 => ⟨S128x64, .f32⟩
  | 50 => ⟨S128x64, .f32⟩
  | 51 => ⟨S128x64x1, .f32⟩
  | 52 => ⟨S128x64x16, .f32⟩
  | 53 => ⟨S128x64x16, .f32⟩
  | 54 => ⟨S128x64x1, .f32⟩
  | 55 => ⟨S128x64x16, .f32⟩
  | 56 => ⟨S128x64x16, .f32⟩
  | 57 => ⟨S128x64x16, .f32⟩
  | 58 => ⟨S128x64x1, .f32⟩
  | 59 => ⟨S128x64x16, .f32⟩
  | 60 => ⟨S128x64x16, .f32⟩
  | 61 => ⟨S128x64x1, .f32⟩
  | 62 => ⟨S128x64x16, .f32⟩
  | 63 => ⟨S128x64x16, .f32⟩
  | 64 => ⟨S128x64x16, .f32⟩
  | 65 => ⟨S128x1024, .f32⟩
  | 66 => ⟨S128x64x16, .f32⟩
  | 67 => ⟨S128x64x16, .f32⟩
  | 68 => ⟨S128x64x16, .f32⟩
  | 69 => ⟨S128x64x16, .f32⟩
  | 70 => ⟨S128x64x16, .f32⟩
  | 71 => ⟨S128x64x16, .f32⟩
  | 72 => ⟨S_, .f32⟩
  | 73 => ⟨S128x64, .f32⟩
  | 74 => ⟨S128x64x1, .f32⟩
  | 75 => ⟨S_, .f32⟩
  | 76 => ⟨S128x64, .f32⟩
  | 77 => ⟨S128x64x16, .f32⟩
  | 78 => ⟨S128x64x16, .f32⟩
  | 79 => ⟨S128x64x16, .f32⟩
  | 80 => ⟨S_, .f32⟩
  | 81 => ⟨S128x64, .f32⟩
  | 82 => ⟨S128x64x1, .f32⟩
  | 83 => ⟨S_, .f32⟩
  | 84 => ⟨S128x64, .f32⟩
  | 85 => ⟨S128x64x16, .f32⟩
  | 86 => ⟨S128x64x16, .f32⟩
  | 87 => ⟨S128x64x16, .f32⟩
  | 88 => ⟨S128x64x16, .f32⟩
  | 89 => ⟨S128x64x16, .f32⟩
  | 90 => ⟨S_, .f32⟩
  | 91 => ⟨S128x64, .f32⟩
  | 92 => ⟨S128x64x1, .f32⟩
  | 93 => ⟨S_, .f32⟩
  | 94 => ⟨S128x64, .f32⟩
  | 95 => ⟨S128x64, .f32⟩
  | 96 => ⟨S128x64x16, .f32⟩
  | 97 => ⟨S128x64x16, .f32⟩
  | 98 => ⟨S128x64x16, .f32⟩
  | 99 => ⟨S128x64x16, .f32⟩
  | 100 => ⟨S_, .f32⟩
  | 101 => ⟨S128x64, .f32⟩
  | 102 => ⟨S128x64x1, .f32⟩
  | 103 => ⟨S_, .f32⟩
  | 104 => ⟨S128x64, .f32⟩
  | 105 => ⟨S128x64, .f32⟩
  | 106 => ⟨S128x64, .f32⟩
  | 107 => ⟨S128x64, .f32⟩
  | 108 => ⟨S128x64, .f32⟩
  | 109 => ⟨S128x64, .f32⟩
  | 110 => ⟨S128x64, .f32⟩
  | 111 => ⟨S128x64, .f32⟩
  | 112 => ⟨S128x64, .f32⟩
  | 113 => ⟨S128x64, .f32⟩
  | 114 => ⟨S128x64, .f32⟩
  | 115 => ⟨S128x64, .f32⟩
  | 116 => ⟨S128x64, .f32⟩
  | 117 => ⟨S128x64, .f32⟩
  | 118 => ⟨S128x64, .f32⟩
  | 119 => ⟨S128x64, .f32⟩
  | 120 => ⟨S128x64, .f32⟩
  | 121 => ⟨S128x64, .f32⟩
  | 122 => ⟨S128x64, .f32⟩
  | 123 => ⟨S128x64, .f32⟩
  | 124 => ⟨S128x64, .f32⟩
  | 125 => ⟨S128x64, .f32⟩
  | 126 => ⟨S128x64, .f32⟩
  | 127 => ⟨S128x64, .f32⟩
  | _ => ⟨S1x128x64, .f32⟩

abbrev hbmTy0_1 (i : Nat) : BufTy := match i % 128 with
  | 0 => ⟨S128x64, .f32⟩
  | 1 => ⟨S128x64, .f32⟩
  | 2 => ⟨S128x64, .f32⟩
  | 3 => ⟨S128x64, .f32⟩
  | 4 => ⟨S128x64, .f32⟩
  | 5 => ⟨S128x64, .f32⟩
  | 6 => ⟨S128x64, .f32⟩
  | 7 => ⟨S128x64, .f32⟩
  | 8 => ⟨S128x64, .f32⟩
  | 9 => ⟨S128x64, .f32⟩
  | 10 => ⟨S128x64, .f32⟩
  | 11 => ⟨S128x64, .f32⟩
  | 12 => ⟨S128x64, .f32⟩
  | 13 => ⟨S128x64, .f32⟩
  | 14 => ⟨S_, .f32⟩
  | 15 => ⟨S128, .f32⟩
  | 16 => ⟨S128x1, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S_, .f32⟩
  | 27 => ⟨S128, .f32⟩
  | 28 => ⟨S128x1, .f32⟩
  | 29 => ⟨S128x1, .f32⟩
  | 30 => ⟨S128x64, .f32⟩
  | 31 => ⟨S128x64, .f32⟩
  | 32 => ⟨S128x64, .f32⟩
  | 33 => ⟨S128x64, .f32⟩
  | 34 => ⟨S128x64, .f32⟩
  | 35 => ⟨S_, .f32⟩
  | 36 => ⟨S128, .f32⟩
  | 37 => ⟨S128x1, .f32⟩
  | 38 => ⟨S128x1, .f32⟩
  | 39 => ⟨S128x64, .f32⟩
  | 40 => ⟨S128x64, .f32⟩
  | 41 => ⟨S128x64, .f32⟩
  | 42 => ⟨S_, .f32⟩
  | 43 => ⟨S128, .f32⟩
  | 44 => ⟨S128, .f32⟩
  | _ => ⟨S1x128x64, .f32⟩

abbrev hbmTy (i : Nat) : BufTy := match i / 128 with
  | 0 => hbmTy0_0 i
  | 1 => hbmTy0_1 i
  | _ => ⟨S1x128x64, .f32⟩

abbrev bufTy : (tb : Table) → Fin (tcTables nBuf tb) → BufTy
  | .hbm, ⟨i, _⟩ => hbmTy i
  | .local _ .vmem, ⟨0, _⟩ => ⟨S8x128x1024, .bf16⟩
  | .local _ .vmem, ⟨1, _⟩ => ⟨S128x1024, .f32⟩
  | _, _ => ⟨S1x128x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_2 : Ref sig .tc := ⟨.hbm, 72, rfl⟩
abbrev main_v60 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_6 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_v83 : Ref sig .tc := ⟨.hbm, 102, rfl⟩
abbrev main_cst_9 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_10 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_11 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_cst_12 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_cst_13 : Ref sig .tc := ⟨.hbm, 170, rfl⟩
abbrev main_v147 : Ref sig .tc := ⟨.hbm, 171, rfl⟩
abbrev main_v148 : Ref sig .tc := ⟨.hbm, 172, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumDiscRefIdeal.lean ====
abbrev S1x128x64 : Shape := ⟨3, ![1, 128, 64]⟩
abbrev S1x128 : Shape := ⟨2, ![1, 128]⟩
abbrev S1x128x64x16 : Shape := ⟨4, ![1, 128, 64, 16]⟩
abbrev S128x64 : Shape := ⟨2, ![128, 64]⟩
abbrev S128x64x16 : Shape := ⟨3, ![128, 64, 16]⟩
abbrev S8x128x1024 : Shape := ⟨3, ![8, 128, 1024]⟩
abbrev S_ : Shape := ⟨0, ![]⟩
abbrev S128x1024 : Shape := ⟨2, ![128, 1024]⟩
abbrev S128 : Shape := ⟨1, ![128]⟩
abbrev S128x1 : Shape := ⟨2, ![128, 1]⟩
abbrev S128x64x1 : Shape := ⟨3, ![128, 64, 1]⟩

abbrev nBuf : Space → Nat
  | .hbm => 175
  | .vmem => 0
  | .smem => 0
  | _ => 0

abbrev hbmTy0_0 (i : Nat) : BufTy := match i % 128 with
  | 0 => ⟨S1x128x64, .f32⟩
  | 1 => ⟨S1x128x64, .f32⟩
  | 2 => ⟨S1x128, .f32⟩
  | 3 => ⟨S1x128x64x16, .f32⟩
  | 4 => ⟨S1x128x64x16, .f32⟩
  | 5 => ⟨S128x64, .f32⟩
  | 6 => ⟨S128x64, .f32⟩
  | 7 => ⟨S128x64x16, .f32⟩
  | 8 => ⟨S8x128x1024, .bf16⟩
  | 9 => ⟨S8x128x1024, .f32⟩
  | 10 => ⟨S_, .f32⟩
  | 11 => ⟨S128x1024, .f32⟩
  | 12 => ⟨S128x64x16, .f32⟩
  | 13 => ⟨S128x64, .f32⟩
  | 14 => ⟨S128x64, .f32⟩
  | 15 => ⟨S128, .f32⟩
  | 16 => ⟨S128x64x16, .f32⟩
  | 17 => ⟨S128x64x16, .f32⟩
  | 18 => ⟨S128, .f32⟩
  | 19 => ⟨S128x1, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S_, .f32⟩
  | 34 => ⟨S128x64, .f32⟩
  | 35 => ⟨S128x64, .f32⟩
  | 36 => ⟨S128x64, .f32⟩
  | 37 => ⟨S128x64, .f32⟩
  | 38 => ⟨S128x64, .f32⟩
  | 39 => ⟨S128x64, .f32⟩
  | 40 => ⟨S128x64, .f32⟩
  | 41 => ⟨S128x64, .f32⟩
  | 42 => ⟨S128x64, .f32⟩
  | 43 => ⟨S128x64, .f32⟩
  | 44 => ⟨S_, .f32⟩
  | 45 => ⟨S128x64, .f32⟩
  | 46 => ⟨S128x64, .f32⟩
  | 47 => ⟨S128x64, .f32⟩
  | 48 => ⟨S128x64, .f32⟩
  | 49 => ⟨S128x64, .f32⟩
  | 50 => ⟨S128x64, .f32⟩
  | 51 => ⟨S128x64, .f32⟩
  | 52 => ⟨S_, .f32⟩
  | 53 => ⟨S128x64, .f32⟩
  | 54 => ⟨S128x64, .f32⟩
  | 55 => ⟨S128x64x1, .f32⟩
  | 56 => ⟨S128x64x16, .f32⟩
  | 57 => ⟨S128x64x16, .f32⟩
  | 58 => ⟨S128x64x1, .f32⟩
  | 59 => ⟨S128x64x16, .f32⟩
  | 60 => ⟨S128x64x16, .f32⟩
  | 61 => ⟨S128x64x16, .f32⟩
  | 62 => ⟨S128x64x1, .f32⟩
  | 63 => ⟨S128x64x16, .f32⟩
  | 64 => ⟨S128x64x16, .f32⟩
  | 65 => ⟨S128x64x1, .f32⟩
  | 66 => ⟨S128x64x16, .f32⟩
  | 67 => ⟨S128x64x16, .f32⟩
  | 68 => ⟨S128x64x16, .f32⟩
  | 69 => ⟨S128x64x16, .f32⟩
  | 70 => ⟨S128x64x16, .f32⟩
  | 71 => ⟨S128x64x16, .f32⟩
  | 72 => ⟨S128x64x16, .f32⟩
  | 73 => ⟨S128x64x16, .f32⟩
  | 74 => ⟨S_, .f32⟩
  | 75 => ⟨S128x64, .f32⟩
  | 76 => ⟨S128x64x1, .f32⟩
  | 77 => ⟨S_, .f32⟩
  | 78 => ⟨S128x64, .f32⟩
  | 79 => ⟨S128x64x16, .f32⟩
  | 80 => ⟨S128x64x16, .f32⟩
  | 81 => ⟨S128x64x16, .f32⟩
  | 82 => ⟨S_, .f32⟩
  | 83 => ⟨S128x64, .f32⟩
  | 84 => ⟨S128x64x1, .f32⟩
  | 85 => ⟨S_, .f32⟩
  | 86 => ⟨S128x64, .f32⟩
  | 87 => ⟨S128x64x16, .f32⟩
  | 88 => ⟨S128x64x16, .f32⟩
  | 89 => ⟨S128x64x16, .f32⟩
  | 90 => ⟨S128x64x16, .f32⟩
  | 91 => ⟨S128x64x16, .f32⟩
  | 92 => ⟨S_, .f32⟩
  | 93 => ⟨S128x64, .f32⟩
  | 94 => ⟨S128x64x1, .f32⟩
  | 95 => ⟨S_, .f32⟩
  | 96 => ⟨S128x64, .f32⟩
  | 97 => ⟨S128x64, .f32⟩
  | 98 => ⟨S128x64x16, .f32⟩
  | 99 => ⟨S128x64x16, .f32⟩
  | 100 => ⟨S128x64x16, .f32⟩
  | 101 => ⟨S128x64x16, .f32⟩
  | 102 => ⟨S_, .f32⟩
  | 103 => ⟨S128x64, .f32⟩
  | 104 => ⟨S128x64x1, .f32⟩
  | 105 => ⟨S_, .f32⟩
  | 106 => ⟨S128x64, .f32⟩
  | 107 => ⟨S128x64, .f32⟩
  | 108 => ⟨S128x64, .f32⟩
  | 109 => ⟨S128x64, .f32⟩
  | 110 => ⟨S128x64, .f32⟩
  | 111 => ⟨S128x64, .f32⟩
  | 112 => ⟨S128x64, .f32⟩
  | 113 => ⟨S128x64, .f32⟩
  | 114 => ⟨S128x64, .f32⟩
  | 115 => ⟨S128x64, .f32⟩
  | 116 => ⟨S128x64, .f32⟩
  | 117 => ⟨S128x64, .f32⟩
  | 118 => ⟨S128x64, .f32⟩
  | 119 => ⟨S128x64, .f32⟩
  | 120 => ⟨S128x64, .f32⟩
  | 121 => ⟨S128x64, .f32⟩
  | 122 => ⟨S128x64, .f32⟩
  | 123 => ⟨S128x64, .f32⟩
  | 124 => ⟨S128x64, .f32⟩
  | 125 => ⟨S128x64, .f32⟩
  | 126 => ⟨S128x64, .f32⟩
  | 127 => ⟨S128x64, .f32⟩
  | _ => ⟨S1x128x64, .f32⟩

abbrev hbmTy0_1 (i : Nat) : BufTy := match i % 128 with
  | 0 => ⟨S128x64, .f32⟩
  | 1 => ⟨S128x64, .f32⟩
  | 2 => ⟨S128x64, .f32⟩
  | 3 => ⟨S128x64, .f32⟩
  | 4 => ⟨S128x64, .f32⟩
  | 5 => ⟨S128x64, .f32⟩
  | 6 => ⟨S128x64, .f32⟩
  | 7 => ⟨S128x64, .f32⟩
  | 8 => ⟨S128x64, .f32⟩
  | 9 => ⟨S128x64, .f32⟩
  | 10 => ⟨S128x64, .f32⟩
  | 11 => ⟨S128x64, .f32⟩
  | 12 => ⟨S128x64, .f32⟩
  | 13 => ⟨S128x64, .f32⟩
  | 14 => ⟨S128x64, .f32⟩
  | 15 => ⟨S128x64, .f32⟩
  | 16 => ⟨S_, .f32⟩
  | 17 => ⟨S128, .f32⟩
  | 18 => ⟨S128x1, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S_, .f32⟩
  | 29 => ⟨S128, .f32⟩
  | 30 => ⟨S128x1, .f32⟩
  | 31 => ⟨S128x1, .f32⟩
  | 32 => ⟨S128x64, .f32⟩
  | 33 => ⟨S128x64, .f32⟩
  | 34 => ⟨S128x64, .f32⟩
  | 35 => ⟨S128x64, .f32⟩
  | 36 => ⟨S128x64, .f32⟩
  | 37 => ⟨S_, .f32⟩
  | 38 => ⟨S128, .f32⟩
  | 39 => ⟨S128x1, .f32⟩
  | 40 => ⟨S128x1, .f32⟩
  | 41 => ⟨S128x64, .f32⟩
  | 42 => ⟨S128x64, .f32⟩
  | 43 => ⟨S128x64, .f32⟩
  | 44 => ⟨S_, .f32⟩
  | 45 => ⟨S128, .f32⟩
  | 46 => ⟨S128, .f32⟩
  | _ => ⟨S1x128x64, .f32⟩

abbrev hbmTy (i : Nat) : BufTy := match i / 128 with
  | 0 => hbmTy0_0 i
  | 1 => hbmTy0_1 i
  | _ => ⟨S1x128x64, .f32⟩

abbrev bufTy : (tb : Table) → Fin (tcTables nBuf tb) → BufTy
  | .hbm, ⟨i, _⟩ => hbmTy i
  | _, _ => ⟨S1x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_v62 : Ref sig .tc := ⟨.hbm, 76, rfl⟩
abbrev main_cst_4 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_5 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_7 : Ref sig .tc := ⟨.hbm, 92, rfl⟩
abbrev main_v75 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_cst_10 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_11 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_cst_12 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_cst_13 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_cst_14 : Ref sig .tc := ⟨.hbm, 172, rfl⟩
abbrev main_v148 : Ref sig .tc := ⟨.hbm, 173, rfl⟩
abbrev main_v149 : Ref sig .tc := ⟨.hbm, 174, rfl⟩

abbrev nD : Nat := 1
abbrev τ : Topo := Topo.v7x

variable {F : FTy → Type} [FloatOps F]
-- ==== S5Bwd.lean ====
abbrev S2048x2048 : Shape := ⟨2, ![2048, 2048]⟩
abbrev S2048x16384 : Shape := ⟨2, ![2048, 16384]⟩
abbrev S1x2048 : Shape := ⟨2, ![1, 2048]⟩
abbrev S16x128x1024 : Shape := ⟨3, ![16, 128, 1024]⟩
abbrev S16x1024x128 : Shape := ⟨3, ![16, 1024, 128]⟩
abbrev S16x4x8x1024 : Shape := ⟨4, ![16, 4, 8, 1024]⟩
abbrev S2x16x1x1024 : Shape := ⟨4, ![2, 16, 1, 1024]⟩
abbrev S16x1x1024 : Shape := ⟨3, ![16, 1, 1024]⟩
abbrev S1024x128 : Shape := ⟨2, ![1024, 128]⟩
abbrev S1024x1024 : Shape := ⟨2, ![1024, 1024]⟩
abbrev S1x128 : Shape := ⟨2, ![1, 128]⟩
abbrev S1x1024x128 : Shape := ⟨3, ![1, 1024, 128]⟩
abbrev S1x128x1024 : Shape := ⟨3, ![1, 128, 1024]⟩
abbrev S1x4x8x1024 : Shape := ⟨4, ![1, 4, 8, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S128x1024 : Shape := ⟨2, ![128, 1024]⟩
abbrev S128 : Shape := ⟨1, ![128]⟩
abbrev S8x512 : Shape := ⟨2, ![8, 512]⟩
abbrev S1x512 : Shape := ⟨2, ![1, 512]⟩
abbrev S1x1x8x512 : Shape := ⟨4, ![1, 1, 8, 512]⟩
abbrev S1x1x1x512 : Shape := ⟨4, ![1, 1, 1, 512]⟩
abbrev S1x1x512 : Shape := ⟨3, ![1, 1, 512]⟩
abbrev S512 : Shape := ⟨1, ![512]⟩

abbrev nBuf : Space → Nat
  | .hbm => 18
  | .vmem => 30
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x16384, .f32⟩
  | .hbm, ⟨4, _⟩ => ⟨S1x2048, .f32⟩
  | .hbm, ⟨5, _⟩ => ⟨S16x128x1024, .f32⟩
  | .hbm, ⟨6, _⟩ => ⟨S16x1024x128, .f32⟩
  | .hbm, ⟨7, _⟩ => ⟨S16x4x8x1024, .f32⟩
  | .hbm, ⟨8, _⟩ => ⟨S2x16x1x1024, .f32⟩
  | .hbm, ⟨9, _⟩ => ⟨S16x1024x128, .f32⟩
  | .hbm, ⟨10, _⟩ => ⟨S16x1024x128, .bf16⟩
  | .hbm, ⟨11, _⟩ => ⟨S16x128x1024, .f32⟩
  | .hbm, ⟨12, _⟩ => ⟨S16x128x1024, .bf16⟩
  | .hbm, ⟨13, _⟩ => ⟨S2048x2048, .bf16⟩
  | .hbm, ⟨14, _⟩ => ⟨S16x128x1024, .f32⟩
  | .hbm, ⟨15, _⟩ => ⟨S16x1024x128, .f32⟩
  | .hbm, ⟨16, _⟩ => ⟨S16x1x1024, .f32⟩
  | .hbm, ⟨17, _⟩ => ⟨S1x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x1024, .f32⟩
  | .local _ .vmem, ⟨7, _⟩ => ⟨S1024x1024, .f32⟩
  | .local _ .vmem, ⟨8, _⟩ => ⟨S1x128, .f32⟩
  | .local _ .vmem, ⟨9, _⟩ => ⟨S1x128, .f32⟩
  | .local _ .vmem, ⟨10, _⟩ => ⟨S1x1024x128, .bf16⟩
  | .local _ .vmem, ⟨11, _⟩ => ⟨S1x1024x128, .bf16⟩
  | .local _ .vmem, ⟨12, _⟩ => ⟨S1x128x1024, .bf16⟩
  | .local _ .vmem, ⟨13, _⟩ => ⟨S1x128x1024, .bf16⟩
  | .local _ .vmem, ⟨14, _⟩ => ⟨S1x4x8x1024, .f32⟩
  | .local _ .vmem, ⟨15, _⟩ => ⟨S1x4x8x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1024x128, .bf16⟩
  | .local _ .vmem, ⟨19, _⟩ => ⟨S1024x128, .bf16⟩
  | .local _ .vmem, ⟨20, _⟩ => ⟨S1x128x1024, .f32⟩
  | .local _ .vmem, ⟨21, _⟩ => ⟨S1x128x1024, .f32⟩
  | .local _ .vmem, ⟨22, _⟩ => ⟨S1x1024x128, .f32⟩
  | .local _ .vmem, ⟨23, _⟩ => ⟨S1x1024x128, .f32⟩
  | .local _ .vmem, ⟨24, _⟩ => ⟨S1x1x1024, .f32⟩
  | .local _ .vmem, ⟨25, _⟩ => ⟨S1x1x1024, .f32⟩
  | .local _ .vmem, ⟨26, _⟩ => ⟨S1x128, .f32⟩
  | .local _ .vmem, ⟨27, _⟩ => ⟨S1x128, .f32⟩
  | .local _ .vmem, ⟨28, _⟩ => ⟨S1024x1024, .f32⟩
  | .local _ .vmem, ⟨29, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32_29 : BitVec 32 := 0#32
  let c128_i32 : BitVec 32 := 128#32
  let v52 : BitVec 32 := Scalar.addi c0_i32_29 c128_i32
  let c1_i32 : BitVec 32 := 1#32
  ⟨c0_i32_29, v52, c1_i32⟩
def k0_mult1 (k0_t1 : Fin k0_t1_loop.trips) : BitVec 32 :=
  let c127_i32 : BitVec 32 := 127#32
  let c0_i32_29 : BitVec 32 := 0#32
  let c1_i32 : BitVec 32 := 1#32
  let arg18 : BitVec 32 := Scf.iv c0_i32_29 c1_i32 k0_t1
  let v103 : BitVec 32 := Scalar.subi c127_i32 arg18
  let c8_i32 : BitVec 32 := 8#32
  let v104 : BitVec 32 := Scalar.muli v103 c8_i32
  v104
def k0_off1 (k0_t1 : Fin k0_t1_loop.trips) : Fin 2 → Nat :=
  let c127_i32 : BitVec 32 := 127#32
  let c0_i32_29 : BitVec 32 := 0#32
  let c1_i32 : BitVec 32 := 1#32
  let arg18 : BitVec 32 := Scf.iv c0_i32_29 c1_i32 k0_t1
  let v103 : BitVec 32 := Scalar.subi c127_i32 arg18
  let c8_i32 : BitVec 32 := 8#32
  let v104 : BitVec 32 := Scalar.muli v103 c8_i32
  let v105 : BitVec 32 := v104
  let v106 : Index := Scalar.indexCast v105
  let c0_75 : Index := 0#32
  ![v106.toNat, 0]
def k0_off2 (k0_t1 : Fin k0_t1_loop.trips) : Fin 2 → Nat :=
  let c127_i32 : BitVec 32 := 127#32
  let c0_i32_29 : BitVec 32 := 0#32
  let c1_i32 : BitVec 32 := 1#32
  let arg18 : BitVec 32 := Scf.iv c0_i32_29 c1_i32 k0_t1
  let v103 : BitVec 32 := Scalar.subi c127_i32 arg18
  let c8_i32 : BitVec 32 := 8#32
  let v104 : BitVec 32 := Scalar.muli v103 c8_i32
  let v105 : BitVec 32 := v104
  let v108 : Index := Scalar.indexCast v105
  let c512_76 : Index := 512#32
  ![v108.toNat, 512]
def k0_mult2 (k0_t1 : Fin k0_t1_loop.trips) : BitVec 32 :=
  let c127_i32 : BitVec 32 := 127#32
  let c0_i32_29 : BitVec 32 := 0#32
  let c1_i32 : BitVec 32 := 1#32
  let arg18 : BitVec 32 := Scf.iv c0_i32_29 c1_i32 k0_t1
  let v103 : BitVec 32 := Scalar.subi c127_i32 arg18
  let c1_i32_111 : BitVec 32 := 1#32
  let v176 : BitVec 32 := Scalar.subi v103 c1_i32_111
  let c0_i32_112 : BitVec 32 := 0#32
  let v177 : BitVec 32 := Scalar.maxsi v176 c0_i32_112
  let c8_i32_113 : BitVec 32 := 8#32
  let v178 : BitVec 32 := Scalar.muli v177 c8_i32_113
  v178
def k0_off3 (k0_t1 : Fin k0_t1_loop.trips) : Fin 2 → Nat :=
  let c127_i32 : BitVec 32 := 127#32
  let c0_i32_29 : BitVec 32 := 0#32
  let c1_i32 : BitVec 32 := 1#32
  let arg18 : BitVec 32 := Scf.iv c0_i32_29 c1_i32 k0_t1
  let v103 : BitVec 32 := Scalar.subi c127_i32 arg18
  let c1_i32_111 : BitVec 32 := 1#32
  let v176 : BitVec 32 := Scalar.subi v103 c1_i32_111
  let c0_i32_112 : BitVec 32 := 0#32
  let v177 : BitVec 32 := Scalar.maxsi v176 c0_i32_112
  let c8_i32_113 : BitVec 32 := 8#32
  let v178 : BitVec 32 := Scalar.muli v177 c8_i32_113
  let v179 : BitVec 32 := v178
  let v183 : Index := Scalar.indexCast v179
  let c0_119 : Index := 0#32
  ![v183.toNat, 0]
def k0_off4 (k0_t1 : Fin k0_t1_loop.trips) : Fin 2 → Nat :=
  let c127_i32 : BitVec 32 := 127#32
  let c0_i32_29 : BitVec 32 := 0#32
  let c1_i32 : BitVec 32 := 1#32
  let arg18 : BitVec 32 := Scf.iv c0_i32_29 c1_i32 k0_t1
  let v103 : BitVec 32 := Scalar.subi c127_i32 arg18
  let c1_i32_111 : BitVec 32 := 1#32
  let v176 : BitVec 32 := Scalar.subi v103 c1_i32_111
  let c0_i32_112 : BitVec 32 := 0#32
  let v177 : BitVec 32 := Scalar.maxsi v176 c0_i32_112
  let c8_i32_113 : BitVec 32 := 8#32
  let v178 : BitVec 32 := Scalar.muli v177 c8_i32_113
  let v179 : BitVec 32 := v178
  let v189 : Index := Scalar.indexCast v179
  let c512_124 : Index := 512#32
  ![v189.toNat, 512]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Proof.FfnGu.lean ====
/-
  The array the idealized `FfnGu` leaves is the reference's product: the tiles of the contracted axis, added one by one
  into the accumulator, are the whole contraction.
-/
module

public import proofs.«01_k».proof.Defs
public import proofs.«01_k».proof.Proof.Gen.FfnGuIdeal.Value
public import proofs.«01_k».proof.Proof.Gen.FfnGuRefIdeal.Run
public import Idealize.ShloMosaic.Lib.Pipeline.ValueKit
public import Idealize.ShloMosaic.Lib.Pointwise

@[expose] public section

set_option maxRecDepth 16384

noncomputable section

namespace Cert.FfnGuIdeal.Value

open Cert.FfnGuIdeal Cert.FfnGuIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its two arguments. -/
abbrev REF (X : FVec Ideal S2048x2048 .f32) (W : FVec Ideal S2048x11264 .f32) : FVec Ideal S2048x11264 .bf16 :=
  truncf .bf16 (Host.dotGeneral Cert.FfnGuRefIdeal.dot_S2048x2048_S2048x11264_S2048x11264_1_0_0_1_n_n none X W) Cert.FfnGuRefIdeal.Gen.bitsLt_bf16_f32

/-- Where the blocks sit: every window's block index at every point. -/
theorem idx : ∀ t : Fin cfg0.N, win0_0.index t = ![t.val / 16, t.val % 2] ∧ win0_1.index t = ![t.val / 4 % 4, t.val % 2, t.val / 2 % 2] ∧ win0_2.index t = ![t.val / 16, t.val / 2 % 8] :=
  (by decide +kernel : ∀ t : Fin grid0.N, _)

/-- The first tile's product. -/
theorem hpay1 (x : FVec Ideal S1024x1024 .bf16) (w : FVec Ideal S1x1024x1408 .bf16) (j : S1024x1408.Idx) :
    k0_pay1 (F := Ideal) x w j = 0 + ∑ k : Fin 1024, x (ix2 (j 0) k) * w (ix3 0 k (j 1)) := by
  pointwise [k0_pay1]

/-- The last tile's product, added to what came before. -/
theorem hpay2 (acc : FVec Ideal S1024x1408 .f32) (x : FVec Ideal S1024x1024 .bf16) (w : FVec Ideal S1x1024x1408 .bf16) (j : S1024x1408.Idx) :
    k0_pay2 (F := Ideal) acc x w j = acc j + ∑ k : Fin 1024, x (ix2 (j 0) k) * w (ix3 0 k (j 1)) := by
  pointwise [k0_pay2]

/-- The reference's product at an index. -/
theorem href (X : FVec Ideal S2048x2048 .f32) (W : FVec Ideal S2048x11264 .f32) (j : S2048x11264.Idx) :
    REF X W j = ∑ l : Fin 2048, X (ix2 (j 0) l) * W (ix2 l (j 1)) := by
  pointwise [REF]

/-- The partial sum the run has after point `n`: in the output at the run's last point, in the scratch before. -/
def part (c : Dev nD) (n : ℕ) (h : n < cfg0.N) : FVec Ideal S1024x1408 .f32 :=
  if n % 2 = 1 then (show FVec Ideal S1024x1408 .f32 from (outsAt0 m c n h).1) else (outsAt0 m c n h).2

theorem part_reset (c : Dev nD) (t : Fin cfg0.N) (h : t.val % 2 = 0) (j : S1024x1408.Idx) :
    part m c t.val t.isLt j = 0 + ∑ k : Fin 1024, (show FVec Ideal S1024x1024 .bf16 from iblk m c 0 t) (ix2 (j 0) k) * (show FVec Ideal S1x1024x1408 .bf16 from iblk m c 1 t) (ix3 0 k (j 1)) := by
  have e : part m c t.val t.isLt = (outsAt0 m c t.val t.isLt).2 := if_neg (by omega)
  rw [e, outsAt0_A m c t h (by omega)]; frame_out; rw [hpay1]

theorem part_step (c : Dev nD) (t : Fin cfg0.N) (h : ¬t.val % 2 = 0) (j : S1024x1408.Idx) :
    part m c t.val t.isLt j = part m c (t.val - 1) (Nat.lt_of_le_of_lt (Nat.sub_le _ _) t.isLt) j
      + ∑ k : Fin 1024, (show FVec Ideal S1024x1024 .bf16 from iblk m c 0 t) (ix2 (j 0) k) * (show FVec Ideal S1x1024x1408 .bf16 from iblk m c 1 t) (ix3 0 k (j 1)) := by
  have e' : part m c (t.val - 1) (Nat.lt_of_le_of_lt (Nat.sub_le _ _) t.isLt) = (outsAt0 m c (t.val - 1) (Nat.lt_of_le_of_lt (Nat.sub_le _ _) t.isLt)).2 := if_neg (by omega)
  have e : part m c t.val t.isLt = (show FVec Ideal S1024x1408 .f32 from (outsAt0 m c t.val t.isLt).1) := if_pos (by omega)
  rw [e, e', outsAt0_B m c t h (by omega)]; frame_out; rw [hpay2, (Memref.isWhole_whole _).read_unread]

/-- The array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, show (outsAt0 m c t.val t.isLt).1 = part m c t.val t.isLt from (if_pos h3).symm,
    Pipeline.eq_sum_fin_of_reset_step_apply_of_flush (fun n h => part m c n h) 2 (fun _ => 0) _
      (fun t h j => part_reset m c t h j) (fun t h j => part_step m c t h j) t h3 _, zero_add, href]
  refine Fin.sum_mul_add_congr fun s k hl => ?_
  blk_point [iblk, V, idx t, idx ⟨_, Pipeline.run_point_lt_of_flush t h3 s⟩]

/-- The kernel and its reference, from equal arguments, end with equal results. -/
theorem algebraic : Cert.algebraic_FfnGuIdeal_FfnGuRefIdeal := by
  intro m ρ m' ρ' _ hagree
  refine ⟨fun c => REF (m ((c : Thread nD τ).loc main_arg0)) (m ((c : Thread nD τ).loc main_arg1)),
    (θ_run defs _ _).mono (fun _ h c => ⟨(h c).1.trans (final m c), (h c).2⟩) (run_blocks (F := Ideal) m ρ),
    (θ_run Cert.FfnGuRefIdeal.defs _ _).mono (fun _ h c => ⟨?_, (h c).2⟩) (Cert.FfnGuRefIdeal.Value.run (F := Ideal) m' ρ')⟩
  rw [(h c).1, (hagree c).1, (hagree c).2]

/-- The reference runs to its end. -/
theorem quiescent_ref : Cert.quiescent_FfnGuRefIdeal := fun m ρ _ =>
  (θ_run Cert.FfnGuRefIdeal.defs _ _).mono (fun r h => ⟨fun c => (h c).2, sem_eq_zero_of_no_sems (by decide) r.2⟩)
    (Cert.FfnGuRefIdeal.Value.run (F := Ideal) m ρ)

end Cert.FfnGuIdeal.Value

end
-- ==== Proof.FfnDown.lean ====
/-
  The array the idealized `FfnDown` leaves is the reference's product: the tiles of the contracted axis, added one by one
  into the accumulator, are the whole contraction.
-/
module

public import proofs.«01_k».proof.Defs
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pointwise

@[expose] public section

set_option maxRecDepth 16384

noncomputable section

namespace Cert.FfnDownIdeal.Value

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its two arguments. -/
abbrev REF (X : FVec Ideal S2048x5632 .f32) (W : FVec Ideal S5632x2048 .f32) : FVec Ideal S2048x2048 .f32 :=
  Host.dotGeneral Cert.FfnDownRefIdeal.dot_S2048x5632_S5632x2048_S2048x2048_1_0_0_1_n_n none X W

/-- Where the blocks sit: every window's block index at every point. -/
theorem idx : ∀ t : Fin cfg0.N, win0_0.index t = ![t.val / 8, t.val % 4] ∧ win0_1.index t = ![t.val % 4, t.val / 4 % 2] ∧ win0_2.index t = ![t.val / 8, t.val / 4 % 2] :=
  (by decide +kernel : ∀ t : Fin grid0.N, _)

/-- The first tile's product. -/
theorem hpay1 (x : FVec Ideal S1024x1408 .bf16) (w : FVec Ideal S1408x1024 .bf16) (j : S1024x1024.Idx) :
    k0_pay1 (F := Ideal) x w j = 0 + ∑ k : Fin 1408, x (ix2 (j 0) k) * w (ix2 k (j 1)) := by
  pointwise [k0_pay1]

/-- A middle tile's product, added to what came before. -/
theorem hpay2 (acc : FVec Ideal S1024x1024 .f32) (x : FVec Ideal S1024x1408 .bf16) (w : FVec Ideal S1408x1024 .bf16) (j : S1024x1024.Idx) :
    k0_pay2 (F := Ideal) acc x w j = acc j + ∑ k : Fin 1408, x (ix2 (j 0) k) * w (ix2 k (j 1)) := by
  pointwise [k0_pay2]

/-- The last tile's product, added to what came before. -/
theorem hpay3 (acc : FVec Ideal S1024x1024 .f32) (x : FVec Ideal S1024x1408 .bf16) (w : FVec Ideal S1408x1024 .bf16) (j : S1024x1024.Idx) :
    k0_pay3 (F := Ideal) acc x w j = acc j + ∑ k : Fin 1408, x (ix2 (j 0) k) * w (ix2 k (j 1)) := by
  pointwise [k0_pay3]

/-- The reference's product at an index. -/
theorem href (X : FVec Ideal S2048x5632 .f32) (W : FVec Ideal S5632x2048 .f32) (j : S2048x2048.Idx) :
    REF X W j = ∑ l : Fin 5632, X (ix2 (j 0) l) * W (ix2 l (j 1)) := by
  pointwise [REF]

/-- The partial sum the run has after point `n`: in the output at the run's last point, in the scratch before. -/
def part (c : Dev nD) (n : ℕ) (h : n < cfg0.N) : FVec Ideal S1024x1024 .f32 :=
  if n % 4 = 3 then (show FVec Ideal S1024x1024 .f32 from (outsAt0 m c n h).1) else (outsAt0 m c n h).2

theorem part_reset (c : Dev nD) (t : Fin cfg0.N) (h : t.val % 4 = 0) (j : S1024x1024.Idx) :
    part m c t.val t.isLt j = 0 + ∑ k : Fin 1408, (show FVec Ideal S1024x1408 .bf16 from iblk m c 0 t) (ix2 (j 0) k) * (show FVec Ideal S1408x1024 .bf16 from iblk m c 1 t) (ix2 k (j 1)) := by
  have e : part m c t.val t.isLt = (outsAt0 m c t.val t.isLt).2 := if_neg (by omega)
  rw [e, outsAt0_A m c t h (by omega) (by omega)]; frame_out; rw [hpay1]

theorem part_step (c : Dev nD) (t : Fin cfg0.N) (h : ¬t.val % 4 = 0) (j : S1024x1024.Idx) :
    part m c t.val t.isLt j = part m c (t.val - 1) (Nat.lt_of_le_of_lt (Nat.sub_le _ _) t.isLt) j
      + ∑ k : Fin 1408, (show FVec Ideal S1024x1408 .bf16 from iblk m c 0 t) (ix2 (j 0) k) * (show FVec Ideal S1408x1024 .bf16 from iblk m c 1 t) (ix2 k (j 1)) := by
  have e' : part m c (t.val - 1) (Nat.lt_of_le_of_lt (Nat.sub_le _ _) t.isLt) = (outsAt0 m c (t.val - 1) (Nat.lt_of_le_of_lt (Nat.sub_le _ _) t.isLt)).2 := if_neg (by omega)
  by_cases h3 : t.val % 4 = 3
  · have e : part m c t.val t.isLt = (show FVec Ideal S1024x1024 .f32 from (outsAt0 m c t.val t.isLt).1) := if_pos h3
    rw [e, e', outsAt0_C m c t h (by omega) h3]; frame_out; rw [hpay3, (Memref.isWhole_whole _).read_unread]
  · have e : part m c t.val t.isLt = (outsAt0 m c t.val t.isLt).2 := if_neg h3
    rw [e, e', outsAt0_B m c t h (by omega) h3]; frame_out; rw [hpay2, (Memref.isWhole_whole _).read_unread]

/-- The array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, show (outsAt0 m c t.val t.isLt).1 = part m c t.val t.isLt from (if_pos h3).symm,
    Pipeline.eq_sum_fin_of_reset_step_apply_of_flush (fun n h => part m c n h) 4 (fun _ => 0) _
      (fun t h j => part_reset m c t h j) (fun t h j => part_step m c t h j) t h3 _, zero_add, href]
  refine Fin.sum_mul_add_congr fun s k hl => ?_
  blk_point [iblk, V, idx t, idx ⟨_, Pipeline.run_point_lt_of_flush t h3 s⟩]

/-- The kernel and its reference, from equal arguments, end with equal results. -/
theorem algebraic : Cert.algebraic_FfnDownIdeal_FfnDownRefIdeal := by
  intro m ρ m' ρ' _ hagree
  refine ⟨fun c => REF (m ((c : Thread nD τ).loc main_arg0)) (m ((c : Thread nD τ).loc main_arg1)),
    (θ_run defs _ _).mono (fun _ h c => ⟨(h c).1.trans (final m c), (h c).2⟩) (run_blocks (F := Ideal) m ρ),
    (θ_run Cert.FfnDownRefIdeal.defs _ _).mono (fun _ h c => ⟨?_, (h c).2⟩) (Cert.FfnDownRefIdeal.Value.run (F := Ideal) m' ρ')⟩
  rw [(h c).1, (hagree c).1, (hagree c).2]

/-- The reference runs to its end. -/
theorem quiescent_ref : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

end Cert.FfnDownIdeal.Value

end
-- ==== Proof.FfnDact.lean ====
/-
  The array the idealized `FfnDact` leaves is the reference's product: the tiles of the contracted axis, added one by one
  into the accumulator, are the whole contraction.
-/
module

public import proofs.«01_k».proof.Defs
public import proofs.«01_k».proof.Proof.Gen.FfnDactIdeal.Value
public import proofs.«01_k».proof.Proof.Gen.FfnDactRefIdeal.Run
public import Idealize.ShloMosaic.Lib.Pipeline.ValueKit
public import Idealize.ShloMosaic.Lib.Pointwise

@[expose] public section

set_option maxRecDepth 16384

noncomputable section

namespace Cert.FfnDactIdeal.Value

open Cert.FfnDactIdeal Cert.FfnDactIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its two arguments. -/
abbrev REF (X : FVec Ideal S2048x2048 .f32) (W : FVec Ideal S5632x2048 .f32) : FVec Ideal S2048x5632 .f32 :=
  Host.dotGeneral Cert.FfnDactRefIdeal.dot_S2048x2048_S5632x2048_S2048x5632_1_1_0_0_n_n none X W

/-- Where the blocks sit: every window's block index at every point. -/
theorem idx : ∀ t : Fin cfg0.N, win0_0.index t = ![t.val / 8, t.val % 2] ∧ win0_1.index t = ![t.val / 2 % 4, t.val % 2] ∧ win0_2.index t = ![t.val / 8, t.val / 2 % 4] :=
  (by decide +kernel : ∀ t : Fin grid0.N, _)

/-- The first tile's product. -/
theorem hpay1 (x : FVec Ideal S1024x1024 .bf16) (w : FVec Ideal S1408x1024 .bf16) (j : S1024x1408.Idx) :
    k0_pay1 (F := Ideal) x w j = 0 + ∑ k : Fin 1024, x (ix2 (j 0) k) * w (ix2 (j 1) k) := by
  pointwise [k0_pay1]

/-- The last tile's product, added to what came before. -/
theorem hpay2 (acc : FVec Ideal S1024x1408 .f32) (x : FVec Ideal S1024x1024 .bf16) (w : FVec Ideal S1408x1024 .bf16) (j : S1024x1408.Idx) :
    k0_pay2 (F := Ideal) acc x w j = acc j + ∑ k : Fin 1024, x (ix2 (j 0) k) * w (ix2 (j 1) k) := by
  pointwise [k0_pay2]

/-- The reference's product at an index. -/
theorem href (X : FVec Ideal S2048x2048 .f32) (W : FVec Ideal S5632x2048 .f32) (j : S2048x5632.Idx) :
    REF X W j = ∑ l : Fin 2048, X (ix2 (j 0) l) * W (ix2 (j 1) l) := by
  pointwise [REF]

/-- The partial sum the run has after point `n`: in the output at the run's last point, in the scratch before. -/
def part (c : Dev nD) (n : ℕ) (h : n < cfg0.N) : FVec Ideal S1024x1408 .f32 :=
  if n % 2 = 1 then (show FVec Ideal S1024x1408 .f32 from (outsAt0 m c n h).1) else (outsAt0 m c n h).2

theorem part_reset (c : Dev nD) (t : Fin cfg0.N) (h : t.val % 2 = 0) (j : S1024x1408.Idx) :
    part m c t.val t.isLt j = 0 + ∑ k : Fin 1024, (show FVec Ideal S1024x1024 .bf16 from iblk m c 0 t) (ix2 (j 0) k) * (show FVec Ideal S1408x1024 .bf16 from iblk m c 1 t) (ix2 (j 1) k) := by
  have e : part m c t.val t.isLt = (outsAt0 m c t.val t.isLt).2 := if_neg (by omega)
  rw [e, outsAt0_A m c t h (by omega)]; frame_out; rw [hpay1]

theorem part_step (c : Dev nD) (t : Fin cfg0.N) (h : ¬t.val % 2 = 0) (j : S1024x1408.Idx) :
    part m c t.val t.isLt j = part m c (t.val - 1) (Nat.lt_of_le_of_lt (Nat.sub_le _ _) t.isLt) j
      + ∑ k : Fin 1024, (show FVec Ideal S1024x1024 .bf16 from iblk m c 0 t) (ix2 (j 0) k) * (show FVec Ideal S1408x1024 .bf16 from iblk m c 1 t) (ix2 (j 1) k) := by
  have e' : part m c (t.val - 1) (Nat.lt_of_le_of_lt (Nat.sub_le _ _) t.isLt) = (outsAt0 m c (t.val - 1) (Nat.lt_of_le_of_lt (Nat.sub_le _ _) t.isLt)).2 := if_neg (by omega)
  have e : part m c t.val t.isLt = (show FVec Ideal S1024x1408 .f32 from (outsAt0 m c t.val t.isLt).1) := if_pos (by omega)
  rw [e, e', outsAt0_B m c t h (by omega)]; frame_out; rw [hpay2, (Memref.isWhole_whole _).read_unread]

/-- The array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, show (outsAt0 m c t.val t.isLt).1 = part m c t.val t.isLt from (if_pos h3).symm,
    Pipeline.eq_sum_fin_of_reset_step_apply_of_flush (fun n h => part m c n h) 2 (fun _ => 0) _
      (fun t h j => part_reset m c t h j) (fun t h j => part_step m c t h j) t h3 _, zero_add, href]
  refine Fin.sum_mul_add_congr fun s k hl => ?_
  blk_point [iblk, V, idx t, idx ⟨_, Pipeline.run_point_lt_of_flush t h3 s⟩]

/-- The kernel and its reference, from equal arguments, end with equal results. -/
theorem algebraic : Cert.algebraic_FfnDactIdeal_FfnDactRefIdeal := by
  intro m ρ m' ρ' _ hagree
  refine ⟨fun c => REF (m ((c : Thread nD τ).loc main_arg0)) (m ((c : Thread nD τ).loc main_arg1)),
    (θ_run defs _ _).mono (fun _ h c => ⟨(h c).1.trans (final m c), (h c).2⟩) (run_blocks (F := Ideal) m ρ),
    (θ_run Cert.FfnDactRefIdeal.defs _ _).mono (fun _ h c => ⟨?_, (h c).2⟩) (Cert.FfnDactRefIdeal.Value.run (F := Ideal) m' ρ')⟩
  rw [(h c).1, (hagree c).1, (hagree c).2]

/-- The reference runs to its end. -/
theorem quiescent_ref : Cert.quiescent_FfnDactRefIdeal := fun m ρ _ =>
  (θ_run Cert.FfnDactRefIdeal.defs _ _).mono (fun r h => ⟨fun c => (h c).2, sem_eq_zero_of_no_sems (by decide) r.2⟩)
    (Cert.FfnDactRefIdeal.Value.run (F := Ideal) m ρ)

end Cert.FfnDactIdeal.Value

end
-- ==== Proof.FfnDwDown.lean ====
/-
  The array the idealized `FfnDwDown` leaves is the reference's product: the tiles of the contracted axis, added one by one
  into the accumulator, are the whole contraction.
-/
module

public import proofs.«01_k».proof.Defs
public import proofs.«01_k».proof.Proof.Gen.FfnDwDownIdeal.Value
public import proofs.«01_k».proof.Proof.Gen.FfnDwDownRefIdeal.Run
public import Idealize.ShloMosaic.Lib.Pipeline.ValueKit
public import Idealize.ShloMosaic.Lib.Pointwise

@[expose] public section

set_option maxRecDepth 16384

noncomputable section

namespace Cert.FfnDwDownIdeal.Value

open Cert.FfnDwDownIdeal Cert.FfnDwDownIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its two arguments. -/
abbrev REF (X : FVec Ideal S2048x5632 .f32) (W : FVec Ideal S2048x2048 .f32) : FVec Ideal S5632x2048 .bf16 :=
  truncf .bf16 (transpose S5632x2048 [1, 0] (Host.dotGeneral Cert.FfnDwDownRefIdeal.dot_S2048x2048_S2048x5632_S2048x5632_0_0_1_1_n_n none W X) Cert.FfnDwDownRefIdeal.Gen.transposes_S2048x5632_S5632x2048_1_0) Cert.FfnDwDownRefIdeal.Gen.bitsLt_bf16_f32

/-- Where the blocks sit: every window's block index at every point. -/
theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

/-- The first tile's product. -/
theorem hpay1 (x : FVec Ideal S1024x1408 .bf16) (w : FVec Ideal S1024x1024 .bf16) (j : S1408x1024.Idx) :
    k0_pay1 (F := Ideal) x w j = 0 + ∑ k : Fin 1024, x (ix2 k (j 0)) * w (ix2 k (j 1)) := by
  pointwise [k0_pay1]

/-- The last tile's product, added to what came before. -/
theorem hpay2 (acc : FVec Ideal S1408x1024 .f32) (x : FVec Ideal S1024x1408 .bf16) (w : FVec Ideal S1024x1024 .bf16) (j : S1408x1024.Idx) :
    k0_pay2 (F := Ideal) acc x w j = acc j + ∑ k : Fin 1024, x (ix2 k (j 0)) * w (ix2 k (j 1)) := by
  pointwise [k0_pay2]

/-- The reference's product at an index. -/
theorem href (X : FVec Ideal S2048x5632 .f32) (W : FVec Ideal S2048x2048 .f32) (j : S5632x2048.Idx) :
    REF X W j = ∑ l : Fin 2048, X (ix2 l (j 0)) * W (ix2 l (j 1)) := by
  pointwise [REF]
  exact Finset.sum_congr rfl fun l _ => mul_comm _ _

/-- The partial sum the run has after point `n`: in the output at the run's last point, in the scratch before. -/
def part (c : Dev nD) (n : ℕ) (h : n < cfg0.N) : FVec Ideal S1408x1024 .f32 :=
  if n % 2 = 1 then (show FVec Ideal S1408x1024 .f32 from (outsAt0 m c n h).1) else (outsAt0 m c n h).2

theorem part_reset (c : Dev nD) (t : Fin cfg0.N) (h : t.val % 2 = 0) (j : S1408x1024.Idx) :
    part m c t.val t.isLt j = 0 + ∑ k : Fin 1024, (show FVec Ideal S1024x1408 .bf16 from iblk m c 0 t) (ix2 k (j 0)) * (show FVec Ideal S1024x1024 .bf16 from iblk m c 1 t) (ix2 k (j 1)) := by
  have e : part m c t.val t.isLt = (outsAt0 m c t.val t.isLt).2 := if_neg (by omega)
  rw [e, outsAt0_A m c t h (by omega)]; frame_out; rw [hpay1]

theorem part_step (c : Dev nD) (t : Fin cfg0.N) (h : ¬t.val % 2 = 0) (j : S1408x1024.Idx) :
    part m c t.val t.isLt j = part m c (t.val - 1) (Nat.lt_of_le_of_lt (Nat.sub_le _ _) t.isLt) j
      + ∑ k : Fin 1024, (show FVec Ideal S1024x1408 .bf16 from iblk m c 0 t) (ix2 k (j 0)) * (show FVec Ideal S1024x1024 .bf16 from iblk m c 1 t) (ix2 k (j 1)) := by
  have e' : part m c (t.val - 1) (Nat.lt_of_le_of_lt (Nat.sub_le _ _) t.isLt) = (outsAt0 m c (t.val - 1) (Nat.lt_of_le_of_lt (Nat.sub_le _ _) t.isLt)).2 := if_neg (by omega)
  have e : part m c t.val t.isLt = (show FVec Ideal S1408x1024 .f32 from (outsAt0 m c t.val t.isLt).1) := if_pos (by omega)
  rw [e, e', outsAt0_B m c t h (by omega)]; frame_out; rw [hpay2, (Memref.isWhole_whole _).read_unread]

/-- The array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, show (outsAt0 m c t.val t.isLt).1 = part m c t.val t.isLt from (if_pos h3).symm,
    Pipeline.eq_sum_fin_of_reset_step_apply_of_flush (fun n h => part m c n h) 2 (fun _ => 0) _
      (fun t h j => part_reset m c t h j) (fun t h j => part_step m c t h j) t h3 _, zero_add, href]
  refine Fin.sum_mul_add_congr fun s k hl => ?_
  blk_point [iblk, V, idx t, idx ⟨_, Pipeline.run_point_lt_of_flush t h3 s⟩]

/-- The kernel and its reference, from equal arguments, end with equal results. -/
theorem algebraic : Cert.algebraic_FfnDwDownIdeal_FfnDwDownRefIdeal := by
  intro m ρ m' ρ' _ hagree
  refine ⟨fun c => REF (m ((c : Thread nD τ).loc main_arg0)) (m ((c : Thread nD τ).loc main_arg1)),
    (θ_run defs _ _).mono (fun _ h c => ⟨(h c).1.trans (final m c), (h c).2⟩) (run_blocks (F := Ideal) m ρ),
    (θ_run Cert.FfnDwDownRefIdeal.defs _ _).mono (fun _ h c => ⟨?_, (h c).2⟩) (Cert.FfnDwDownRefIdeal.Value.run (F := Ideal) m' ρ')⟩
  rw [(h c).1, (hagree c).1, (hagree c).2]

/-- The reference runs to its end. -/
theorem quiescent_ref : Cert.quiescent_FfnDwDownRefIdeal := fun m ρ _ =>
  (θ_run Cert.FfnDwDownRefIdeal.defs _ _).mono (fun r h => ⟨fun c => (h c).2, sem_eq_zero_of_no_sems (by decide) r.2⟩)
    (Cert.FfnDwDownRefIdeal.Value.run (F := Ideal) m ρ)

end Cert.FfnDwDownIdeal.Value

end
-- ==== Proof.FfnDwGu.lean ====
/-
  The array the idealized `FfnDwGu` leaves is the reference's product: the tiles of the contracted axis, added one by one
  into the accumulator, are the whole contraction.
-/
module

public import proofs.«01_k».proof.Defs
public import proofs.«01_k».proof.Proof.Gen.FfnDwGuIdeal.Value
public import proofs.«01_k».proof.Proof.Gen.FfnDwGuRefIdeal.Run
public import Idealize.ShloMosaic.Lib.Pipeline.ValueKit
public import Idealize.ShloMosaic.Lib.Pointwise

@[expose] public section

set_option maxRecDepth 16384

noncomputable section

namespace Cert.FfnDwGuIdeal.Value

open Cert.FfnDwGuIdeal Cert.FfnDwGuIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its two arguments. -/
abbrev REF (X : FVec Ideal S2048x2048 .f32) (W : FVec Ideal S2048x11264 .f32) : FVec Ideal S4x2048x2816 .bf16 :=
  transpose S4x2048x2816 [1, 0, 2] (shapeCast _ (truncf .bf16 (transpose S2048x11264 [1, 0] (Host.dotGeneral Cert.FfnDwGuRefIdeal.dot_S2048x11264_S2048x2048_S11264x2048_0_0_1_1_n_n none W X) Cert.FfnDwGuRefIdeal.Gen.transposes_S11264x2048_S2048x11264_1_0) Cert.FfnDwGuRefIdeal.Gen.bitsLt_bf16_f32) Cert.FfnDwGuRefIdeal.Gen.shapeCasts_S2048x11264_S2048x4x2816) Cert.FfnDwGuRefIdeal.Gen.transposes_S2048x4x2816_S4x2048x2816_1_0_2

/-- Where the blocks sit: every window's block index at every point. -/
theorem idx : ∀ t : Fin cfg0.N, win0_0.index t = ![t.val % 2, t.val / 16] ∧ win0_1.index t = ![t.val % 2, t.val / 2 % 8] ∧ win0_2.index t = ![t.val / 4 % 4, t.val / 16, t.val / 2 % 2] :=
  (by decide +kernel : ∀ t : Fin grid0.N, _)

/-- The first tile's product. -/
theorem hpay1 (x : FVec Ideal S1024x1024 .bf16) (w : FVec Ideal S1024x1408 .bf16) (j : S1024x1408.Idx) :
    k0_pay1 (F := Ideal) x w j = 0 + ∑ k : Fin 1024, x (ix2 k (j 0)) * w (ix2 k (j 1)) := by
  pointwise [k0_pay1]

/-- The last tile's product, added to what came before. -/
theorem hpay2 (acc : FVec Ideal S1024x1408 .f32) (x : FVec Ideal S1024x1024 .bf16) (w : FVec Ideal S1024x1408 .bf16) (j : S1024x1408.Idx) :
    k0_pay2 (F := Ideal) acc x w (ix3 0 (j 0) (j 1)) = acc j + ∑ k : Fin 1024, x (ix2 k (j 0)) * w (ix2 k (j 1)) := by
  pointwise [k0_pay2]

/-- The reference's product at an index. -/
theorem href (X : FVec Ideal S2048x2048 .f32) (W : FVec Ideal S2048x11264 .f32) (j : S4x2048x2816.Idx) :
    REF X W j = ∑ l : Fin 2048, X (ix2 l (j 1)) * W (ix2 l ⟨(j 0).val * 2816 + (j 2).val, by have h0 : (j 0).val < 4 := (j 0).isLt; have h2 : (j 2).val < 2816 := (j 2).isLt; omega⟩) := by
  pointwise [REF]
  exact Finset.sum_congr rfl fun l _ => mul_comm _ _

/-- The partial sum the run has after point `n`: in the output at the run's last point, in the scratch before. -/
def part (c : Dev nD) (n : ℕ) (h : n < cfg0.N) : FVec Ideal S1024x1408 .f32 :=
  if n % 2 = 1 then (show FVec Ideal S1024x1408 .f32 from fun j => (show FVec Ideal S1x1024x1408 .bf16 from (outsAt0 m c n h).1) (ix3 0 (j 0) (j 1))) else (outsAt0 m c n h).2

theorem part_reset (c : Dev nD) (t : Fin cfg0.N) (h : t.val % 2 = 0) (j : S1024x1408.Idx) :
    part m c t.val t.isLt j = 0 + ∑ k : Fin 1024, (show FVec Ideal S1024x1024 .bf16 from iblk m c 0 t) (ix2 k (j 0)) * (show FVec Ideal S1024x1408 .bf16 from iblk m c 1 t) (ix2 k (j 1)) := by
  have e : part m c t.val t.isLt = (outsAt0 m c t.val t.isLt).2 := if_neg (by omega)
  rw [e, outsAt0_A m c t h (by omega)]; frame_out; rw [hpay1]

theorem part_step (c : Dev nD) (t : Fin cfg0.N) (h : ¬t.val % 2 = 0) (j : S1024x1408.Idx) :
    part m c t.val t.isLt j = part m c (t.val - 1) (Nat.lt_of_le_of_lt (Nat.sub_le _ _) t.isLt) j
      + ∑ k : Fin 1024, (show FVec Ideal S1024x1024 .bf16 from iblk m c 0 t) (ix2 k (j 0)) * (show FVec Ideal S1024x1408 .bf16 from iblk m c 1 t) (ix2 k (j 1)) := by
  have e' : part m c (t.val - 1) (Nat.lt_of_le_of_lt (Nat.sub_le _ _) t.isLt) = (outsAt0 m c (t.val - 1) (Nat.lt_of_le_of_lt (Nat.sub_le _ _) t.isLt)).2 := if_neg (by omega)
  have e : part m c t.val t.isLt = (show FVec Ideal S1024x1408 .f32 from fun j => (show FVec Ideal S1x1024x1408 .bf16 from (outsAt0 m c t.val t.isLt).1) (ix3 0 (j 0) (j 1))) := if_pos (by omega)
  rw [e, e', outsAt0_B m c t h (by omega)]
  show (show FVec Ideal S1x1024x1408 .bf16 from _) (ix3 0 (j 0) (j 1)) = _
  frame_out; rw [hpay2, (Memref.isWhole_whole _).read_unread]

/-- The array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  obtain ⟨y0, y1, y2, rfl⟩ : ∃ (y0 : Fin 1) (y1 : Fin 1024) (y2 : Fin 1408), y = ix3 y0 y1 y2 := ⟨_, _, _, eq_ix3 y⟩
  obtain rfl : y0 = 0 := Subsingleton.elim _ _
  rw [after0_2]
  have hp : part m c t.val t.isLt (ix2 y1 y2) = (outsAt0 m c t.val t.isLt).1 (ix3 0 y1 y2) := congrFun (if_pos h3) _
  refine hp.symm.trans ?_
  rw [Pipeline.eq_sum_fin_of_reset_step_apply_of_flush (fun n h => part m c n h) 2 (fun _ => 0) _
      (fun t h j => part_reset m c t h j) (fun t h j => part_step m c t h j) t h3 _, zero_add, href]
  refine Fin.sum_mul_add_congr fun s k hl => ?_
  blk_point [iblk, V, idx t, idx ⟨_, Pipeline.run_point_lt_of_flush t h3 s⟩]

/-- The kernel and its reference, from equal arguments, end with equal results. -/
theorem algebraic : Cert.algebraic_FfnDwGuIdeal_FfnDwGuRefIdeal := by
  intro m ρ m' ρ' _ hagree
  refine ⟨fun c => REF (m ((c : Thread nD τ).loc main_arg0)) (m ((c : Thread nD τ).loc main_arg1)),
    (θ_run defs _ _).mono (fun _ h c => ⟨(h c).1.trans (final m c), (h c).2⟩) (run_blocks (F := Ideal) m ρ),
    (θ_run Cert.FfnDwGuRefIdeal.defs _ _).mono (fun _ h c => ⟨?_, (h c).2⟩) (Cert.FfnDwGuRefIdeal.Value.run (F := Ideal) m' ρ')⟩
  rw [(h c).1, (hagree c).1, (hagree c).2]

/-- The reference runs to its end. -/
theorem quiescent_ref : Cert.quiescent_FfnDwGuRefIdeal := fun m ρ _ =>
  (θ_run Cert.FfnDwGuRefIdeal.defs _ _).mono (fun r h => ⟨fun c => (h c).2, sem_eq_zero_of_no_sems (by decide) r.2⟩)
    (Cert.FfnDwGuRefIdeal.Value.run (F := Ideal) m ρ)

end Cert.FfnDwGuIdeal.Value

end
-- ==== Proof.FfnDh.lean ====
/-
  The array the idealized `FfnDh` leaves is the reference's product: the tiles of the contracted axis, added one by one
  into the accumulator, are the whole contraction.
-/
module

public import proofs.«01_k».proof.Defs
public import proofs.«01_k».proof.Proof.Gen.FfnDhIdeal.Value
public import proofs.«01_k».proof.Proof.Gen.FfnDhRefIdeal.Run
public import Idealize.ShloMosaic.Lib.Pipeline.ValueKit
public import Idealize.ShloMosaic.Lib.Pointwise

@[expose] public section

set_option maxRecDepth 16384

noncomputable section

namespace Cert.FfnDhIdeal.Value

open Cert.FfnDhIdeal Cert.FfnDhIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its two arguments. -/
abbrev REF (X : FVec Ideal S2048x11264 .f32) (W : FVec Ideal S2048x11264 .f32) : FVec Ideal S2048x2048 .f32 :=
  Host.dotGeneral Cert.FfnDhRefIdeal.dot_S2048x11264_S2048x11264_S2048x2048_1_1_0_0_n_n none X W

/-- Where the blocks sit: every window's block index at every point. -/
theorem idx : ∀ t : Fin cfg0.N, win0_0.index t = ![t.val / 16, t.val % 8] ∧ win0_1.index t = ![t.val / 2 % 4, t.val / 8 % 2, t.val % 2] ∧ win0_2.index t = ![t.val / 16, t.val / 8 % 2] :=
  (by decide +kernel : ∀ t : Fin grid0.N, _)

/-- The first tile's product. -/
theorem hpay1 (x : FVec Ideal S1024x1408 .bf16) (w : FVec Ideal S1x1024x1408 .bf16) (j : S1024x1024.Idx) :
    k0_pay1 (F := Ideal) x w j = 0 + ∑ k : Fin 1408, x (ix2 (j 0) k) * w (ix3 0 (j 1) k) := by
  pointwise [k0_pay1]

/-- A middle tile's product, added to what came before. -/
theorem hpay2 (acc : FVec Ideal S1024x1024 .f32) (x : FVec Ideal S1024x1408 .bf16) (w : FVec Ideal S1x1024x1408 .bf16) (j : S1024x1024.Idx) :
    k0_pay2 (F := Ideal) acc x w j = acc j + ∑ k : Fin 1408, x (ix2 (j 0) k) * w (ix3 0 (j 1) k) := by
  pointwise [k0_pay2]

/-- The last tile's product, added to what came before. -/
theorem hpay3 (acc : FVec Ideal S1024x1024 .f32) (x : FVec Ideal S1024x1408 .bf16) (w : FVec Ideal S1x1024x1408 .bf16) (j : S1024x1024.Idx) :
    k0_pay3 (F := Ideal) acc x w j = acc j + ∑ k : Fin 1408, x (ix2 (j 0) k) * w (ix3 0 (j 1) k) := by
  pointwise [k0_pay3]

/-- The reference's product at an index. -/
theorem href (X : FVec Ideal S2048x11264 .f32) (W : FVec Ideal S2048x11264 .f32) (j : S2048x2048.Idx) :
    REF X W j = ∑ l : Fin 11264, X (ix2 (j 0) l) * W (ix2 (j 1) l) := by
  pointwise [REF]

/-- The partial sum the run has after point `n`: in the output at the run's last point, in the scratch before. -/
def part (c : Dev nD) (n : ℕ) (h : n < cfg0.N) : FVec Ideal S1024x1024 .f32 :=
  if n % 8 = 7 then (show FVec Ideal S1024x1024 .f32 from (outsAt0 m c n h).1) else (outsAt0 m c n h).2

theorem part_reset (c : Dev nD) (t : Fin cfg0.N) (h : t.val % 8 = 0) (j : S1024x1024.Idx) :
    part m c t.val t.isLt j = 0 + ∑ k : Fin 1408, (show FVec Ideal S1024x1408 .bf16 from iblk m c 0 t) (ix2 (j 0) k) * (show FVec Ideal S1x1024x1408 .bf16 from iblk m c 1 t) (ix3 0 (j 1) k) := by
  have e : part m c t.val t.isLt = (outsAt0 m c t.val t.isLt).2 := if_neg (by omega)
  rw [e, outsAt0_A m c t h (by omega) (by omega)]; frame_out; rw [hpay1]

theorem part_step (c : Dev nD) (t : Fin cfg0.N) (h : ¬t.val % 8 = 0) (j : S1024x1024.Idx) :
    part m c t.val t.isLt j = part m c (t.val - 1) (Nat.lt_of_le_of_lt (Nat.sub_le _ _) t.isLt) j
      + ∑ k : Fin 1408, (show FVec Ideal S1024x1408 .bf16 from iblk m c 0 t) (ix2 (j 0) k) * (show FVec Ideal S1x1024x1408 .bf16 from iblk m c 1 t) (ix3 0 (j 1) k) := by
  have e' : part m c (t.val - 1) (Nat.lt_of_le_of_lt (Nat.sub_le _ _) t.isLt) = (outsAt0 m c (t.val - 1) (Nat.lt_of_le_of_lt (Nat.sub_le _ _) t.isLt)).2 := if_neg (by omega)
  by_cases h3 : t.val % 8 = 7
  · have e : part m c t.val t.isLt = (show FVec Ideal S1024x1024 .f32 from (outsAt0 m c t.val t.isLt).1) := if_pos h3
    rw [e, e', outsAt0_C m c t h (by omega) h3]; frame_out; rw [hpay3, (Memref.isWhole_whole _).read_unread]
  · have e : part m c t.val t.isLt = (outsAt0 m c t.val t.isLt).2 := if_neg h3
    rw [e, e', outsAt0_B m c t h (by omega) h3]; frame_out; rw [hpay2, (Memref.isWhole_whole _).read_unread]

/-- The array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, show (outsAt0 m c t.val t.isLt).1 = part m c t.val t.isLt from (if_pos h3).symm,
    Pipeline.eq_sum_fin_of_reset_step_apply_of_flush (fun n h => part m c n h) 8 (fun _ => 0) _
      (fun t h j => part_reset m c t h j) (fun t h j => part_step m c t h j) t h3 _, zero_add, href]
  refine Fin.sum_mul_add_congr fun s k hl => ?_
  blk_point [iblk, V, idx t, idx ⟨_, Pipeline.run_point_lt_of_flush t h3 s⟩]

/-- The kernel and its reference, from equal arguments, end with equal results. -/
theorem algebraic : Cert.algebraic_FfnDhIdeal_FfnDhRefIdeal := by
  intro m ρ m' ρ' _ hagree
  refine ⟨fun c => REF (m ((c : Thread nD τ).loc main_arg0)) (m ((c : Thread nD τ).loc main_arg1)),
    (θ_run defs _ _).mono (fun _ h c => ⟨(h c).1.trans (final m c), (h c).2⟩) (run_blocks (F := Ideal) m ρ),
    (θ_run Cert.FfnDhRefIdeal.defs _ _).mono (fun _ h c => ⟨?_, (h c).2⟩) (Cert.FfnDhRefIdeal.Value.run (F := Ideal) m' ρ')⟩
  rw [(h c).1, (hagree c).1, (hagree c).2]

/-- The reference runs to its end. -/
theorem quiescent_ref : Cert.quiescent_FfnDhRefIdeal := fun m ρ _ =>
  (θ_run Cert.FfnDhRefIdeal.defs _ _).mono (fun r h => ⟨fun c => (h c).2, sem_eq_zero_of_no_sems (by decide) r.2⟩)
    (Cert.FfnDhRefIdeal.Value.run (F := Ideal) m ρ)

end Cert.FfnDhIdeal.Value

end
-- ==== Proof.LruIn.lean ====
/-
  The array the idealized `LruIn` leaves is the reference's product: the tiles of the contracted axis, added one by one
  into the accumulator, are the whole contraction.
-/
module

public import proofs.«01_k».proof.Defs
public import proofs.«01_k».proof.Proof.Gen.LruInIdeal.Value
public import proofs.«01_k».proof.Proof.Gen.LruInRefIdeal.Run
public import Idealize.ShloMosaic.Lib.Pipeline.ValueKit
public import Idealize.ShloMosaic.Lib.Pointwise

@[expose] public section

set_option maxRecDepth 16384

noncomputable section

namespace Cert.LruInIdeal.Value

open Cert.LruInIdeal Cert.LruInIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its two arguments. -/
abbrev REF (X : FVec Ideal S2048x2048 .f32) (W : FVec Ideal S2048x5632 .f32) : FVec Ideal S2048x5632 .f32 :=
  Host.dotGeneral Cert.LruInRefIdeal.dot_S2048x2048_S2048x5632_S2048x5632_1_0_0_1_n_n none X W

/-- Where the blocks sit: every window's block index at every point. -/
theorem idx : ∀ t : Fin cfg0.N, win0_0.index t = ![t.val / 8, t.val % 2] ∧ win0_1.index t = ![t.val / 2 % 4, t.val % 2, 0] ∧ win0_2.index t = ![t.val / 8, t.val / 2 % 4] :=
  (by decide +kernel : ∀ t : Fin grid0.N, _)

/-- The first tile's product. -/
theorem hpay1 (x : FVec Ideal S1024x1024 .bf16) (w : FVec Ideal S1x1024x1408 .bf16) (j : S1024x1408.Idx) :
    k0_pay1 (F := Ideal) x w j = 0 + ∑ k : Fin 1024, x (ix2 (j 0) k) * w (ix3 0 k (j 1)) := by
  pointwise [k0_pay1]

/-- The last tile's product, added to what came before. -/
theorem hpay2 (acc : FVec Ideal S1024x1408 .f32) (x : FVec Ideal S1024x1024 .bf16) (w : FVec Ideal S1x1024x1408 .bf16) (j : S1024x1408.Idx) :
    k0_pay2 (F := Ideal) acc x w j = acc j + ∑ k : Fin 1024, x (ix2 (j 0) k) * w (ix3 0 k (j 1)) := by
  pointwise [k0_pay2]

/-- The reference's product at an index. -/
theorem href (X : FVec Ideal S2048x2048 .f32) (W : FVec Ideal S2048x5632 .f32) (j : S2048x5632.Idx) :
    REF X W j = ∑ l : Fin 2048, X (ix2 (j 0) l) * W (ix2 l (j 1)) := by
  pointwise [REF]

/-- The partial sum the run has after point `n`: in the output at the run's last point, in the scratch before. -/
def part (c : Dev nD) (n : ℕ) (h : n < cfg0.N) : FVec Ideal S1024x1408 .f32 :=
  if n % 2 = 1 then (show FVec Ideal S1024x1408 .f32 from (outsAt0 m c n h).1) else (outsAt0 m c n h).2

theorem part_reset (c : Dev nD) (t : Fin cfg0.N) (h : t.val % 2 = 0) (j : S1024x1408.Idx) :
    part m c t.val t.isLt j = 0 + ∑ k : Fin 1024, (show FVec Ideal S1024x1024 .bf16 from iblk m c 0 t) (ix2 (j 0) k) * (show FVec Ideal S1x1024x1408 .bf16 from iblk m c 1 t) (ix3 0 k (j 1)) := by
  have e : part m c t.val t.isLt = (outsAt0 m c t.val t.isLt).2 := if_neg (by omega)
  rw [e, outsAt0_A m c t h (by omega)]; frame_out; rw [hpay1]

theorem part_step (c : Dev nD) (t : Fin cfg0.N) (h : ¬t.val % 2 = 0) (j : S1024x1408.Idx) :
    part m c t.val t.isLt j = part m c (t.val - 1) (Nat.lt_of_le_of_lt (Nat.sub_le _ _) t.isLt) j
      + ∑ k : Fin 1024, (show FVec Ideal S1024x1024 .bf16 from iblk m c 0 t) (ix2 (j 0) k) * (show FVec Ideal S1x1024x1408 .bf16 from iblk m c 1 t) (ix3 0 k (j 1)) := by
  have e' : part m c (t.val - 1) (Nat.lt_of_le_of_lt (Nat.sub_le _ _) t.isLt) = (outsAt0 m c (t.val - 1) (Nat.lt_of_le_of_lt (Nat.sub_le _ _) t.isLt)).2 := if_neg (by omega)
  have e : part m c t.val t.isLt = (show FVec Ideal S1024x1408 .f32 from (outsAt0 m c t.val t.isLt).1) := if_pos (by omega)
  rw [e, e', outsAt0_B m c t h (by omega)]; frame_out; rw [hpay2, (Memref.isWhole_whole _).read_unread]

/-- The array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, show (outsAt0 m c t.val t.isLt).1 = part m c t.val t.isLt from (if_pos h3).symm,
    Pipeline.eq_sum_fin_of_reset_step_apply_of_flush (fun n h => part m c n h) 2 (fun _ => 0) _
      (fun t h j => part_reset m c t h j) (fun t h j => part_step m c t h j) t h3 _, zero_add, href]
  refine Fin.sum_mul_add_congr fun s k hl => ?_
  blk_point [iblk, V, idx t, idx ⟨_, Pipeline.run_point_lt_of_flush t h3 s⟩]

/-- The kernel and its reference, from equal arguments, end with equal results. -/
theorem algebraic : Cert.algebraic_LruInIdeal_LruInRefIdeal := by
  intro m ρ m' ρ' _ hagree
  refine ⟨fun c => REF (m ((c : Thread nD τ).loc main_arg0)) (m ((c : Thread nD τ).loc main_arg1)),
    (θ_run defs _ _).mono (fun _ h c => ⟨(h c).1.trans (final m c), (h c).2⟩) (run_blocks (F := Ideal) m ρ),
    (θ_run Cert.LruInRefIdeal.defs _ _).mono (fun _ h c => ⟨?_, (h c).2⟩) (Cert.LruInRefIdeal.Value.run (F := Ideal) m' ρ')⟩
  rw [(h c).1, (hagree c).1, (hagree c).2]

/-- The reference runs to its end. -/
theorem quiescent_ref : Cert.quiescent_LruInRefIdeal := fun m ρ _ =>
  (θ_run Cert.LruInRefIdeal.defs _ _).mono (fun r h => ⟨fun c => (h c).2, sem_eq_zero_of_no_sems (by decide) r.2⟩)
    (Cert.LruInRefIdeal.Value.run (F := Ideal) m ρ)

end Cert.LruInIdeal.Value

end
-- ==== Proof.LruDh.lean ====
/-
  The array the idealized `LruDh` leaves is the reference's product: the tiles of the contracted axis, added one by one
  into the accumulator, are the whole contraction.
-/
module

public import proofs.«01_k».proof.Defs
public import proofs.«01_k».proof.Proof.Gen.LruDhIdeal.Value
public import proofs.«01_k».proof.Proof.Gen.LruDhRefIdeal.Run
public import Idealize.ShloMosaic.Lib.Pipeline.ValueKit
public import Idealize.ShloMosaic.Lib.Pointwise

@[expose] public section

set_option maxRecDepth 16384

noncomputable section

namespace Cert.LruDhIdeal.Value

open Cert.LruDhIdeal Cert.LruDhIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its two arguments. -/
abbrev REF (X : FVec Ideal S2048x5632 .f32) (W : FVec Ideal S2048x5632 .f32) : FVec Ideal S2048x2048 .f32 :=
  Host.dotGeneral Cert.LruDhRefIdeal.dot_S2048x5632_S2048x5632_S2048x2048_1_1_0_0_n_n none X W

/-- Where the blocks sit: every window's block index at every point. -/
theorem idx : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, _)

/-- The first tile's product. -/
theorem hpay1 (x : FVec Ideal S1024x1408 .bf16) (w : FVec Ideal S1x1024x1408 .bf16) (j : S1024x1024.Idx) :
    k0_pay1 (F := Ideal) x w j = 0 + ∑ k : Fin 1408, x (ix2 (j 0) k) * w (ix3 0 (j 1) k) := by
  pointwise [k0_pay1]

/-- A middle tile's product, added to what came before. -/
theorem hpay2 (acc : FVec Ideal S1024x1024 .f32) (x : FVec Ideal S1024x1408 .bf16) (w : FVec Ideal S1x1024x1408 .bf16) (j : S1024x1024.Idx) :
    k0_pay2 (F := Ideal) acc x w j = acc j + ∑ k : Fin 1408, x (ix2 (j 0) k) * w (ix3 0 (j 1) k) := by
  pointwise [k0_pay2]

/-- The last tile's product, added to what came before. -/
theorem hpay3 (acc : FVec Ideal S1024x1024 .f32) (x : FVec Ideal S1024x1408 .bf16) (w : FVec Ideal S1x1024x1408 .bf16) (j : S1024x1024.Idx) :
    k0_pay3 (F := Ideal) acc x w j = acc j + ∑ k : Fin 1408, x (ix2 (j 0) k) * w (ix3 0 (j 1) k) := by
  pointwise [k0_pay3]

/-- The reference's product at an index. -/
theorem href (X : FVec Ideal S2048x5632 .f32) (W : FVec Ideal S2048x5632 .f32) (j : S2048x2048.Idx) :
    REF X W j = ∑ l : Fin 5632, X (ix2 (j 0) l) * W (ix2 (j 1) l) := by
  pointwise [REF]

/-- The partial sum the run has after point `n`: in the output at the run's last point, in the scratch before. -/
def part (c : Dev nD) (n : ℕ) (h : n < cfg0.N) : FVec Ideal S1024x1024 .f32 :=
  if n % 4 = 3 then (show FVec Ideal S1024x1024 .f32 from (outsAt0 m c n h).1) else (outsAt0 m c n h).2

theorem part_reset (c : Dev nD) (t : Fin cfg0.N) (h : t.val % 4 = 0) (j : S1024x1024.Idx) :
    part m c t.val t.isLt j = 0 + ∑ k : Fin 1408, (show FVec Ideal S1024x1408 .bf16 from iblk m c 0 t) (ix2 (j 0) k) * (show FVec Ideal S1x1024x1408 .bf16 from iblk m c 1 t) (ix3 0 (j 1) k) := by
  have e : part m c t.val t.isLt = (outsAt0 m c t.val t.isLt).2 := if_neg (by omega)
  rw [e, outsAt0_A m c t h (by omega) (by omega)]; frame_out; rw [hpay1]

theorem part_step (c : Dev nD) (t : Fin cfg0.N) (h : ¬t.val % 4 = 0) (j : S1024x1024.Idx) :
    part m c t.val t.isLt j = part m c (t.val - 1) (Nat.lt_of_le_of_lt (Nat.sub_le _ _) t.isLt) j
      + ∑ k : Fin 1408, (show FVec Ideal S1024x1408 .bf16 from iblk m c 0 t) (ix2 (j 0) k) * (show FVec Ideal S1x1024x1408 .bf16 from iblk m c 1 t) (ix3 0 (j 1) k) := by
  have e' : part m c (t.val - 1) (Nat.lt_of_le_of_lt (Nat.sub_le _ _) t.isLt) = (outsAt0 m c (t.val - 1) (Nat.lt_of_le_of_lt (Nat.sub_le _ _) t.isLt)).2 := if_neg (by omega)
  by_cases h3 : t.val % 4 = 3
  · have e : part m c t.val t.isLt = (show FVec Ideal S1024x1024 .f32 from (outsAt0 m c t.val t.isLt).1) := if_pos h3
    rw [e, e', outsAt0_C m c t h (by omega) h3]; frame_out; rw [hpay3, (Memref.isWhole_whole _).read_unread]
  · have e : part m c t.val t.isLt = (outsAt0 m c t.val t.isLt).2 := if_neg h3
    rw [e, e', outsAt0_B m c t h (by omega) h3]; frame_out; rw [hpay2, (Memref.isWhole_whole _).read_unread]

/-- The array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, show (outsAt0 m c t.val t.isLt).1 = part m c t.val t.isLt from (if_pos h3).symm,
    Pipeline.eq_sum_fin_of_reset_step_apply_of_flush (fun n h => part m c n h) 4 (fun _ => 0) _
      (fun t h j => part_reset m c t h j) (fun t h j => part_step m c t h j) t h3 _, zero_add, href]
  refine Fin.sum_mul_add_congr fun s k hl => ?_
  blk_point [iblk, V, idx t, idx ⟨_, Pipeline.run_point_lt_of_flush t h3 s⟩]

/-- The kernel and its reference, from equal arguments, end with equal results. -/
theorem algebraic : Cert.algebraic_LruDhIdeal_LruDhRefIdeal := by
  intro m ρ m' ρ' _ hagree
  refine ⟨fun c => REF (m ((c : Thread nD τ).loc main_arg0)) (m ((c : Thread nD τ).loc main_arg1)),
    (θ_run defs _ _).mono (fun _ h c => ⟨(h c).1.trans (final m c), (h c).2⟩) (run_blocks (F := Ideal) m ρ),
    (θ_run Cert.LruDhRefIdeal.defs _ _).mono (fun _ h c => ⟨?_, (h c).2⟩) (Cert.LruDhRefIdeal.Value.run (F := Ideal) m' ρ')⟩
  rw [(h c).1, (hagree c).1, (hagree c).2]

/-- The reference runs to its end. -/
theorem quiescent_ref : Cert.quiescent_LruDhRefIdeal := fun m ρ _ =>
  (θ_run Cert.LruDhRefIdeal.defs _ _).mono (fun r h => ⟨fun c => (h c).2, sem_eq_zero_of_no_sems (by decide) r.2⟩)
    (Cert.LruDhRefIdeal.Value.run (F := Ideal) m ρ)

end Cert.LruDhIdeal.Value

end
-- ==== Proof.LruDwIn.lean ====
/-
  The array the idealized `LruDwIn` leaves is the reference's product: the tiles of the contracted axis, added one by one
  into the accumulator, are the whole contraction.
-/
module

public import proofs.«01_k».proof.Defs
public import proofs.«01_k».proof.Proof.Gen.LruDwInIdeal.Value
public import proofs.«01_k».proof.Proof.Gen.LruDwInRefIdeal.Run
public import Idealize.ShloMosaic.Lib.Pipeline.ValueKit
public import Idealize.ShloMosaic.Lib.Pointwise

@[expose] public section

set_option maxRecDepth 16384

noncomputable section

namespace Cert.LruDwInIdeal.Value

open Cert.LruDwInIdeal Cert.LruDwInIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its two arguments. -/
abbrev REF (X : FVec Ideal S2048x2048 .f32) (W : FVec Ideal S2048x5632 .f32) : FVec Ideal S4x2048x1408 .bf16 :=
  transpose S4x2048x1408 [1, 0, 2] (shapeCast _ (truncf .bf16 (transpose S2048x5632 [1, 0] (Host.dotGeneral Cert.LruDwInRefIdeal.dot_S2048x5632_S2048x2048_S5632x2048_0_0_1_1_n_n none W X) Cert.LruDwInRefIdeal.Gen.transposes_S5632x2048_S2048x5632_1_0) Cert.LruDwInRefIdeal.Gen.bitsLt_bf16_f32) Cert.LruDwInRefIdeal.Gen.shapeCasts_S2048x5632_S2048x4x1408) Cert.LruDwInRefIdeal.Gen.transposes_S2048x4x1408_S4x2048x1408_1_0_2

/-- Where the blocks sit: every window's block index at every point. -/
theorem idx : ∀ t : Fin cfg0.N, win0_0.index t = ![t.val % 2, t.val / 8] ∧ win0_1.index t = ![t.val % 2, t.val / 2 % 4] ∧ win0_2.index t = ![t.val / 2 % 4, t.val / 8, 0] :=
  (by decide +kernel : ∀ t : Fin grid0.N, _)

/-- The first tile's product. -/
theorem hpay1 (x : FVec Ideal S1024x1024 .bf16) (w : FVec Ideal S1024x1408 .bf16) (j : S1024x1408.Idx) :
    k0_pay1 (F := Ideal) x w j = 0 + ∑ k : Fin 1024, x (ix2 k (j 0)) * w (ix2 k (j 1)) := by
  pointwise [k0_pay1]

/-- The last tile's product, added to what came before. -/
theorem hpay2 (acc : FVec Ideal S1024x1408 .f32) (x : FVec Ideal S1024x1024 .bf16) (w : FVec Ideal S1024x1408 .bf16) (j : S1024x1408.Idx) :
    k0_pay2 (F := Ideal) acc x w (ix3 0 (j 0) (j 1)) = acc j + ∑ k : Fin 1024, x (ix2 k (j 0)) * w (ix2 k (j 1)) := by
  pointwise [k0_pay2]

/-- The reference's product at an index. -/
theorem href (X : FVec Ideal S2048x2048 .f32) (W : FVec Ideal S2048x5632 .f32) (j : S4x2048x1408.Idx) :
    REF X W j = ∑ l : Fin 2048, X (ix2 l (j 1)) * W (ix2 l ⟨(j 0).val * 1408 + (j 2).val, by have h0 : (j 0).val < 4 := (j 0).isLt; have h2 : (j 2).val < 1408 := (j 2).isLt; omega⟩) := by
  pointwise [REF]
  exact Finset.sum_congr rfl fun l _ => mul_comm _ _

/-- The partial sum the run has after point `n`: in the output at the run's last point, in the scratch before. -/
def part (c : Dev nD) (n : ℕ) (h : n < cfg0.N) : FVec Ideal S1024x1408 .f32 :=
  if n % 2 = 1 then (show FVec Ideal S1024x1408 .f32 from fun j => (show FVec Ideal S1x1024x1408 .bf16 from (outsAt0 m c n h).1) (ix3 0 (j 0) (j 1))) else (outsAt0 m c n h).2

theorem part_reset (c : Dev nD) (t : Fin cfg0.N) (h : t.val % 2 = 0) (j : S1024x1408.Idx) :
    part m c t.val t.isLt j = 0 + ∑ k : Fin 1024, (show FVec Ideal S1024x1024 .bf16 from iblk m c 0 t) (ix2 k (j 0)) * (show FVec Ideal S1024x1408 .bf16 from iblk m c 1 t) (ix2 k (j 1)) := by
  have e : part m c t.val t.isLt = (outsAt0 m c t.val t.isLt).2 := if_neg (by omega)
  rw [e, outsAt0_A m c t h (by omega)]; frame_out; rw [hpay1]

theorem part_step (c : Dev nD) (t : Fin cfg0.N) (h : ¬t.val % 2 = 0) (j : S1024x1408.Idx) :
    part m c t.val t.isLt j = part m c (t.val - 1) (Nat.lt_of_le_of_lt (Nat.sub_le _ _) t.isLt) j
      + ∑ k : Fin 1024, (show FVec Ideal S1024x1024 .bf16 from iblk m c 0 t) (ix2 k (j 0)) * (show FVec Ideal S1024x1408 .bf16 from iblk m c 1 t) (ix2 k (j 1)) := by
  have e' : part m c (t.val - 1) (Nat.lt_of_le_of_lt (Nat.sub_le _ _) t.isLt) = (outsAt0 m c (t.val - 1) (Nat.lt_of_le_of_lt (Nat.sub_le _ _) t.isLt)).2 := if_neg (by omega)
  have e : part m c t.val t.isLt = (show FVec Ideal S1024x1408 .f32 from fun j => (show FVec Ideal S1x1024x1408 .bf16 from (outsAt0 m c t.val t.isLt).1) (ix3 0 (j 0) (j 1))) := if_pos (by omega)
  rw [e, e', outsAt0_B m c t h (by omega)]
  show (show FVec Ideal S1x1024x1408 .bf16 from _) (ix3 0 (j 0) (j 1)) = _
  frame_out; rw [hpay2, (Memref.isWhole_whole _).read_unread]

/-- The array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  obtain ⟨y0, y1, y2, rfl⟩ : ∃ (y0 : Fin 1) (y1 : Fin 1024) (y2 : Fin 1408), y = ix3 y0 y1 y2 := ⟨_, _, _, eq_ix3 y⟩
  obtain rfl : y0 = 0 := Subsingleton.elim _ _
  rw [after0_2]
  have hp : part m c t.val t.isLt (ix2 y1 y2) = (outsAt0 m c t.val t.isLt).1 (ix3 0 y1 y2) := congrFun (if_pos h3) _
  refine hp.symm.trans ?_
  rw [Pipeline.eq_sum_fin_of_reset_step_apply_of_flush (fun n h => part m c n h) 2 (fun _ => 0) _
      (fun t h j => part_reset m c t h j) (fun t h j => part_step m c t h j) t h3 _, zero_add, href]
  refine Fin.sum_mul_add_congr fun s k hl => ?_
  blk_point [iblk, V, idx t, idx ⟨_, Pipeline.run_point_lt_of_flush t h3 s⟩]

/-- The kernel and its reference, from equal arguments, end with equal results. -/
theorem algebraic : Cert.algebraic_LruDwInIdeal_LruDwInRefIdeal := by
  intro m ρ m' ρ' _ hagree
  refine ⟨fun c => REF (m ((c : Thread nD τ).loc main_arg0)) (m ((c : Thread nD τ).loc main_arg1)),
    (θ_run defs _ _).mono (fun _ h c => ⟨(h c).1.trans (final m c), (h c).2⟩) (run_blocks (F := Ideal) m ρ),
    (θ_run Cert.LruDwInRefIdeal.defs _ _).mono (fun _ h c => ⟨?_, (h c).2⟩) (Cert.LruDwInRefIdeal.Value.run (F := Ideal) m' ρ')⟩
  rw [(h c).1, (hagree c).1, (hagree c).2]

/-- The reference runs to its end. -/
theorem quiescent_ref : Cert.quiescent_LruDwInRefIdeal := fun m ρ _ =>
  (θ_run Cert.LruDwInRefIdeal.defs _ _).mono (fun r h => ⟨fun c => (h c).2, sem_eq_zero_of_no_sems (by decide) r.2⟩)
    (Cert.LruDwInRefIdeal.Value.run (F := Ideal) m ρ)

end Cert.LruDwInIdeal.Value

end
-- ==== Proof.AdamStep.lean ====
/-
  The optimiser's step of one element, over the extended reals: the formulas that every AdamW call of the training step
  and its reference are measured against.
-/
module

public import Idealize.ShloMosaic.Lib.Pipeline.ValueKit
public import Idealize.ShloMosaic.Lib.Pointwise

@[expose] public section

noncomputable section

namespace AdamStep

open Idealize.ShloMosaic

/-- A weight's element with its gradient and its two moments. -/
abbrev Quad : Type := Ideal .f32 × Ideal .f32 × Ideal .f32 × Ideal .f32

/-- Four arrays of one shape read together. -/
abbrev four {s : Shape} (w g m v : FVec Ideal s .f32) : s.Idx → Quad := fun i => (w i, g i, m i, v i)

/-- The new first moment of one element. -/
def newM (q : Quad) : Ideal .f32 :=
  FloatOps.addf (FloatOps.mulf (Scalar.ofBits .f32 0x3F666666#32) q.2.2.1) (FloatOps.mulf (Scalar.ofBits .f32 0x3DCCCCCD#32) q.2.1)

/-- The new second moment of one element. -/
def newV (q : Quad) : Ideal .f32 :=
  FloatOps.addf (FloatOps.mulf (Scalar.ofBits .f32 0x3F7FBE77#32) q.2.2.2)
    (FloatOps.mulf (Scalar.ofBits .f32 0x3A83126F#32) (FloatOps.mulf q.2.1 q.2.1))

/-- The step of one element of a weight. -/
def delta (q : Quad) : Ideal .f32 :=
  FloatOps.mulf (Scalar.ofBits .f32 0xBA83126F#32) (FloatOps.addf (FloatOps.hostDivf (FloatOps.hostDivf (newM q) (Scalar.ofBits .f32 0x3F26BD02#32))
    (FloatOps.addf (FloatOps.hostUnary .sqrt (FloatOps.hostDivf (newV q) (Scalar.ofBits .f32 0x3C231ACC#32))) (Scalar.ofBits .f32 0x322BCC77#32)))
    (FloatOps.mulf (Scalar.ofBits .f32 0x3C23D70A#32) q.1))

end AdamStep

end
-- ==== Proof.AdamAda.lean ====
/-
  What the idealized `AdamAda` leaves is the optimiser's step of the reference: the step of the weight and the two moments.
-/
module

public import proofs.«01_k».proof.Defs
public import proofs.«01_k».proof.Proof.AdamStep
public import proofs.«01_k».proof.Proof.Gen.AdamAdaIdeal.Value
public import proofs.«01_k».proof.Proof.Gen.AdamAdaRefIdeal.Run

@[expose] public section

set_option maxRecDepth 16384

noncomputable section

namespace Cert.AdamAdaIdeal.Value

open Cert.AdamAdaIdeal Cert.AdamAdaIdeal.Gen Idealize.ShloMosaic Idealize.ShloMosaic.TcCoe Idealize.SL.Sem AdamStep
open Idealize.ShloMosaic.Pipeline (Dat)

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step of the weight the run leaves, element by element. -/
theorem final0 (c : Dev nD) : (dats m 0 c).arrAt 4 (cfgs 0).N = fun j => delta (four (shapeCast S4096x3072 (m ((c : Thread nD τ).loc main_arg0)) shapeCasts_S2x2048x3072_S4096x3072) (shapeCast S4096x3072 (m ((c : Thread nD τ).loc main_arg1)) shapeCasts_S2x2048x3072_S4096x3072) (shapeCast S4096x3072 (m ((c : Thread nD τ).loc main_arg2)) shapeCasts_S2x2048x3072_S4096x3072) (shapeCast S4096x3072 (m ((c : Thread nD τ).loc main_arg3)) shapeCasts_S2x2048x3072_S4096x3072) j) := by
  show _ = fun j => delta (four (V m c main_v0 : FVec Ideal S4096x3072 .f32) (V m c main_v1 : FVec Ideal S4096x3072 .f32) (V m c main_v2 : FVec Ideal S4096x3072 .f32) (V m c main_v3 : FVec Ideal S4096x3072 .f32) j)
  refine (dats m 0 c).arrAt_eq_of_covers 4 _ (by decide +kernel) fun t hf y => ?_
  blk_simp
  rw [after0_4]
  frame_out
  pointwise [k0_pay1, k0_pay2, k0_pay3, k0_pay4, delta, newM, newV]
  blk_point [iblk, idx t]

/-- The first moment the run leaves, element by element. -/
theorem final1 (c : Dev nD) : (dats m 0 c).arrAt 5 (cfgs 0).N = fun j => newM (four (shapeCast S4096x3072 (m ((c : Thread nD τ).loc main_arg0)) shapeCasts_S2x2048x3072_S4096x3072) (shapeCast S4096x3072 (m ((c : Thread nD τ).loc main_arg1)) shapeCasts_S2x2048x3072_S4096x3072) (shapeCast S4096x3072 (m ((c : Thread nD τ).loc main_arg2)) shapeCasts_S2x2048x3072_S4096x3072) (shapeCast S4096x3072 (m ((c : Thread nD τ).loc main_arg3)) shapeCasts_S2x2048x3072_S4096x3072) j) := by
  show _ = fun j => newM (four (V m c main_v0 : FVec Ideal S4096x3072 .f32) (V m c main_v1 : FVec Ideal S4096x3072 .f32) (V m c main_v2 : FVec Ideal S4096x3072 .f32) (V m c main_v3 : FVec Ideal S4096x3072 .f32) j)
  refine (dats m 0 c).arrAt_eq_of_covers 5 _ (by decide +kernel) fun t hf y => ?_
  blk_simp
  rw [after0_5]
  frame_out
  pointwise [k0_pay1, k0_pay2, k0_pay3, k0_pay4, delta, newM, newV]
  blk_point [iblk, idx t]

/-- The second moment the run leaves, element by element. -/
theorem final2 (c : Dev nD) : (dats m 0 c).arrAt 6 (cfgs 0).N = fun j => newV (four (shapeCast S4096x3072 (m ((c : Thread nD τ).loc main_arg0)) shapeCasts_S2x2048x3072_S4096x3072) (shapeCast S4096x3072 (m ((c : Thread nD τ).loc main_arg1)) shapeCasts_S2x2048x3072_S4096x3072) (shapeCast S4096x3072 (m ((c : Thread nD τ).loc main_arg2)) shapeCasts_S2x2048x3072_S4096x3072) (shapeCast S4096x3072 (m ((c : Thread nD τ).loc main_arg3)) shapeCasts_S2x2048x3072_S4096x3072) j) := by
  show _ = fun j => newV (four (V m c main_v0 : FVec Ideal S4096x3072 .f32) (V m c main_v1 : FVec Ideal S4096x3072 .f32) (V m c main_v2 : FVec Ideal S4096x3072 .f32) (V m c main_v3 : FVec Ideal S4096x3072 .f32) j)
  refine (dats m 0 c).arrAt_eq_of_covers 6 _ (by decide +kernel) fun t hf y => ?_
  blk_simp
  rw [after0_6]
  frame_out
  pointwise [k0_pay1, k0_pay2, k0_pay3, k0_pay4, delta, newM, newV]
  blk_point [iblk, idx t]

/-- The kernel and its reference, from equal arguments, end with equal results. -/
theorem algebraic : Cert.algebraic_AdamAdaIdeal_AdamAdaRefIdeal := by
  intro m ρ m' ρ' _ hagree
  refine ⟨fun c j => delta (four (shapeCast S4096x3072 (m ((c : Thread nD τ).loc main_arg0)) shapeCasts_S2x2048x3072_S4096x3072) (shapeCast S4096x3072 (m ((c : Thread nD τ).loc main_arg1)) shapeCasts_S2x2048x3072_S4096x3072) (shapeCast S4096x3072 (m ((c : Thread nD τ).loc main_arg2)) shapeCasts_S2x2048x3072_S4096x3072) (shapeCast S4096x3072 (m ((c : Thread nD τ).loc main_arg3)) shapeCasts_S2x2048x3072_S4096x3072) j),
    fun c j => newM (four (shapeCast S4096x3072 (m ((c : Thread nD τ).loc main_arg0)) shapeCasts_S2x2048x3072_S4096x3072) (shapeCast S4096x3072 (m ((c : Thread nD τ).loc main_arg1)) shapeCasts_S2x2048x3072_S4096x3072) (shapeCast S4096x3072 (m ((c : Thread nD τ).loc main_arg2)) shapeCasts_S2x2048x3072_S4096x3072) (shapeCast S4096x3072 (m ((c : Thread nD τ).loc main_arg3)) shapeCasts_S2x2048x3072_S4096x3072) j),
    fun c j => newV (four (shapeCast S4096x3072 (m ((c : Thread nD τ).loc main_arg0)) shapeCasts_S2x2048x3072_S4096x3072) (shapeCast S4096x3072 (m ((c : Thread nD τ).loc main_arg1)) shapeCasts_S2x2048x3072_S4096x3072) (shapeCast S4096x3072 (m ((c : Thread nD τ).loc main_arg2)) shapeCasts_S2x2048x3072_S4096x3072) (shapeCast S4096x3072 (m ((c : Thread nD τ).loc main_arg3)) shapeCasts_S2x2048x3072_S4096x3072) j),
    (θ_run defs _ _).mono (fun _ h c => ⟨(h c).1.trans (final0 m c), (h c).2.1.trans (final1 m c),
      (h c).2.2.1.trans (final2 m c), (h c).2.2.2⟩) (run_blocks (F := Ideal) m ρ),
    (θ_run Cert.AdamAdaRefIdeal.defs _ _).mono (fun _ h c => ⟨?_, ?_, ?_, (h c).2.2.2⟩) (Cert.AdamAdaRefIdeal.Value.run (F := Ideal) m' ρ')⟩
  · rw [(h c).1, (hagree c).1, (hagree c).2.1, (hagree c).2.2.1, (hagree c).2.2.2]; rfl
  · rw [(h c).2.1, (hagree c).2.1, (hagree c).2.2.1]; rfl
  · rw [(h c).2.2.1, (hagree c).2.1, (hagree c).2.2.2]; rfl

/-- The reference runs to its end. -/
theorem quiescent_ref : Cert.quiescent_AdamAdaRefIdeal := fun m ρ _ =>
  (θ_run Cert.AdamAdaRefIdeal.defs _ _).mono (fun r h => ⟨fun c => (h c).2.2.2, sem_eq_zero_of_no_sems (by decide) r.2⟩)
    (Cert.AdamAdaRefIdeal.Value.run (F := Ideal) m ρ)

end Cert.AdamAdaIdeal.Value

end
-- ==== Proof.AdamS5Mid.lean ====
/-
  What the idealized `AdamS5Mid` leaves is the optimiser's step of the reference: the step of the weight and the two moments.
-/
module

public import proofs.«01_k».proof.Defs
public import proofs.«01_k».proof.Proof.AdamStep
public import proofs.«01_k».proof.Proof.Gen.AdamS5MidIdeal.Value
public import proofs.«01_k».proof.Proof.Gen.AdamS5MidRefIdeal.Run

@[expose] public section

set_option maxRecDepth 16384

noncomputable section

namespace Cert.AdamS5MidIdeal.Value

open Cert.AdamS5MidIdeal Cert.AdamS5MidIdeal.Gen Idealize.ShloMosaic Idealize.ShloMosaic.TcCoe Idealize.SL.Sem AdamStep
open Idealize.ShloMosaic.Pipeline (Dat)

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step of the weight the run leaves, element by element. -/
theorem final0 (c : Dev nD) : (dats m 0 c).arrAt 4 (cfgs 0).N = fun j => delta (four (shapeCast S128x1024 (m ((c : Thread nD τ).loc main_arg0)) shapeCasts_S1x128x64x16_S128x1024) (shapeCast S128x1024 (m ((c : Thread nD τ).loc main_arg1)) shapeCasts_S1x128x64x16_S128x1024) (shapeCast S128x1024 (m ((c : Thread nD τ).loc main_arg2)) shapeCasts_S1x128x64x16_S128x1024) (shapeCast S128x1024 (m ((c : Thread nD τ).loc main_arg3)) shapeCasts_S1x128x64x16_S128x1024) j) := by
  show _ = fun j => delta (four (V m c main_v0 : FVec Ideal S128x1024 .f32) (V m c main_v1 : FVec Ideal S128x1024 .f32) (V m c main_v2 : FVec Ideal S128x1024 .f32) (V m c main_v3 : FVec Ideal S128x1024 .f32) j)
  refine (dats m 0 c).arrAt_eq_of_covers 4 _ (by decide +kernel) fun t hf y => ?_
  blk_simp
  rw [after0_4]
  frame_out
  pointwise [k0_pay1, k0_pay2, k0_pay3, k0_pay4, delta, newM, newV]
  blk_point [iblk, idx t]

/-- The first moment the run leaves, element by element. -/
theorem final1 (c : Dev nD) : (dats m 0 c).arrAt 5 (cfgs 0).N = fun j => newM (four (shapeCast S128x1024 (m ((c : Thread nD τ).loc main_arg0)) shapeCasts_S1x128x64x16_S128x1024) (shapeCast S128x1024 (m ((c : Thread nD τ).loc main_arg1)) shapeCasts_S1x128x64x16_S128x1024) (shapeCast S128x1024 (m ((c : Thread nD τ).loc main_arg2)) shapeCasts_S1x128x64x16_S128x1024) (shapeCast S128x1024 (m ((c : Thread nD τ).loc main_arg3)) shapeCasts_S1x128x64x16_S128x1024) j) := by
  show _ = fun j => newM (four (V m c main_v0 : FVec Ideal S128x1024 .f32) (V m c main_v1 : FVec Ideal S128x1024 .f32) (V m c main_v2 : FVec Ideal S128x1024 .f32) (V m c main_v3 : FVec Ideal S128x1024 .f32) j)
  refine (dats m 0 c).arrAt_eq_of_covers 5 _ (by decide +kernel) fun t hf y => ?_
  blk_simp
  rw [after0_5]
  frame_out
  pointwise [k0_pay1, k0_pay2, k0_pay3, k0_pay4, delta, newM, newV]
  blk_point [iblk, idx t]

/-- The second moment the run leaves, element by element. -/
theorem final2 (c : Dev nD) : (dats m 0 c).arrAt 6 (cfgs 0).N = fun j => newV (four (shapeCast S128x1024 (m ((c : Thread nD τ).loc main_arg0)) shapeCasts_S1x128x64x16_S128x1024) (shapeCast S128x1024 (m ((c : Thread nD τ).loc main_arg1)) shapeCasts_S1x128x64x16_S128x1024) (shapeCast S128x1024 (m ((c : Thread nD τ).loc main_arg2)) shapeCasts_S1x128x64x16_S128x1024) (shapeCast S128x1024 (m ((c : Thread nD τ).loc main_arg3)) shapeCasts_S1x128x64x16_S128x1024) j) := by
  show _ = fun j => newV (four (V m c main_v0 : FVec Ideal S128x1024 .f32) (V m c main_v1 : FVec Ideal S128x1024 .f32) (V m c main_v2 : FVec Ideal S128x1024 .f32) (V m c main_v3 : FVec Ideal S128x1024 .f32) j)
  refine (dats m 0 c).arrAt_eq_of_covers 6 _ (by decide +kernel) fun t hf y => ?_
  blk_simp
  rw [after0_6]
  frame_out
  pointwise [k0_pay1, k0_pay2, k0_pay3, k0_pay4, delta, newM, newV]
  blk_point [iblk, idx t]

/-- The kernel and its reference, from equal arguments, end with equal results. -/
theorem algebraic : Cert.algebraic_AdamS5MidIdeal_AdamS5MidRefIdeal := by
  intro m ρ m' ρ' _ hagree
  refine ⟨fun c j => delta (four (shapeCast S128x1024 (m ((c : Thread nD τ).loc main_arg0)) shapeCasts_S1x128x64x16_S128x1024) (shapeCast S128x1024 (m ((c : Thread nD τ).loc main_arg1)) shapeCasts_S1x128x64x16_S128x1024) (shapeCast S128x1024 (m ((c : Thread nD τ).loc main_arg2)) shapeCasts_S1x128x64x16_S128x1024) (shapeCast S128x1024 (m ((c : Thread nD τ).loc main_arg3)) shapeCasts_S1x128x64x16_S128x1024) j),
    fun c j => newM (four (shapeCast S128x1024 (m ((c : Thread nD τ).loc main_arg0)) shapeCasts_S1x128x64x16_S128x1024) (shapeCast S128x1024 (m ((c : Thread nD τ).loc main_arg1)) shapeCasts_S1x128x64x16_S128x1024) (shapeCast S128x1024 (m ((c : Thread nD τ).loc main_arg2)) shapeCasts_S1x128x64x16_S128x1024) (shapeCast S128x1024 (m ((c : Thread nD τ).loc main_arg3)) shapeCasts_S1x128x64x16_S128x1024) j),
    fun c j => newV (four (shapeCast S128x1024 (m ((c : Thread nD τ).loc main_arg0)) shapeCasts_S1x128x64x16_S128x1024) (shapeCast S128x1024 (m ((c : Thread nD τ).loc main_arg1)) shapeCasts_S1x128x64x16_S128x1024) (shapeCast S128x1024 (m ((c : Thread nD τ).loc main_arg2)) shapeCasts_S1x128x64x16_S128x1024) (shapeCast S128x1024 (m ((c : Thread nD τ).loc main_arg3)) shapeCasts_S1x128x64x16_S128x1024) j),
    (θ_run defs _ _).mono (fun _ h c => ⟨(h c).1.trans (final0 m c), (h c).2.1.trans (final1 m c),
      (h c).2.2.1.trans (final2 m c), (h c).2.2.2⟩) (run_blocks (F := Ideal) m ρ),
    (θ_run Cert.AdamS5MidRefIdeal.defs _ _).mono (fun _ h c => ⟨?_, ?_, ?_, (h c).2.2.2⟩) (Cert.AdamS5MidRefIdeal.Value.run (F := Ideal) m' ρ')⟩
  · rw [(h c).1, (hagree c).1, (hagree c).2.1, (hagree c).2.2.1, (hagree c).2.2.2]; rfl
  · rw [(h c).2.1, (hagree c).2.1, (hagree c).2.2.1]; rfl
  · rw [(h c).2.2.1, (hagree c).2.1, (hagree c).2.2.2]; rfl

/-- The reference runs to its end. -/
theorem quiescent_ref : Cert.quiescent_AdamS5MidRefIdeal := fun m ρ _ =>
  (θ_run Cert.AdamS5MidRefIdeal.defs _ _).mono (fun r h => ⟨fun c => (h c).2.2.2, sem_eq_zero_of_no_sems (by decide) r.2⟩)
    (Cert.AdamS5MidRefIdeal.Value.run (F := Ideal) m ρ)

end Cert.AdamS5MidIdeal.Value

end
-- ==== Proof.AdamLruGate.lean ====
/-
  What the idealized `AdamLruGate` leaves is the optimiser's step of the reference: the step of the weight and the two moments.
-/
module

public import proofs.«01_k».proof.Defs
public import proofs.«01_k».proof.Proof.AdamStep
public import proofs.«01_k».proof.Proof.Gen.AdamLruGateIdeal.Value
public import proofs.«01_k».proof.Proof.Gen.AdamLruGateRefIdeal.Run

@[expose] public section

set_option maxRecDepth 16384

noncomputable section

namespace Cert.AdamLruGateIdeal.Value

open Cert.AdamLruGateIdeal Cert.AdamLruGateIdeal.Gen Idealize.ShloMosaic Idealize.ShloMosaic.TcCoe Idealize.SL.Sem AdamStep
open Idealize.ShloMosaic.Pipeline (Dat)

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step of the weight the run leaves, element by element. -/
theorem final0 (c : Dev nD) : (dats m 0 c).arrAt 4 (cfgs 0).N = fun j => delta (four (shapeCast S16x30976 (m ((c : Thread nD τ).loc main_arg0)) shapeCasts_S1x16x176x176_S16x30976) (shapeCast S16x30976 (m ((c : Thread nD τ).loc main_arg1)) shapeCasts_S1x16x176x176_S16x30976) (shapeCast S16x30976 (m ((c : Thread nD τ).loc main_arg2)) shapeCasts_S1x16x176x176_S16x30976) (shapeCast S16x30976 (m ((c : Thread nD τ).loc main_arg3)) shapeCasts_S1x16x176x176_S16x30976) j) := by
  show _ = fun j => delta (four (V m c main_v0 : FVec Ideal S16x30976 .f32) (V m c main_v1 : FVec Ideal S16x30976 .f32) (V m c main_v2 : FVec Ideal S16x30976 .f32) (V m c main_v3 : FVec Ideal S16x30976 .f32) j)
  refine (dats m 0 c).arrAt_eq_of_covers 4 _ (by decide +kernel) fun t hf y => ?_
  blk_simp
  rw [after0_4]
  frame_out
  pointwise [k0_pay1, k0_pay2, k0_pay3, k0_pay4, delta, newM, newV]
  blk_point [iblk, idx t]

/-- The first moment the run leaves, element by element. -/
theorem final1 (c : Dev nD) : (dats m 0 c).arrAt 5 (cfgs 0).N = fun j => newM (four (shapeCast S16x30976 (m ((c : Thread nD τ).loc main_arg0)) shapeCasts_S1x16x176x176_S16x30976) (shapeCast S16x30976 (m ((c : Thread nD τ).loc main_arg1)) shapeCasts_S1x16x176x176_S16x30976) (shapeCast S16x30976 (m ((c : Thread nD τ).loc main_arg2)) shapeCasts_S1x16x176x176_S16x30976) (shapeCast S16x30976 (m ((c : Thread nD τ).loc main_arg3)) shapeCasts_S1x16x176x176_S16x30976) j) := by
  show _ = fun j => newM (four (V m c main_v0 : FVec Ideal S16x30976 .f32) (V m c main_v1 : FVec Ideal S16x30976 .f32) (V m c main_v2 : FVec Ideal S16x30976 .f32) (V m c main_v3 : FVec Ideal S16x30976 .f32) j)
  refine (dats m 0 c).arrAt_eq_of_covers 5 _ (by decide +kernel) fun t hf y => ?_
  blk_simp
  rw [after0_5]
  frame_out
  pointwise [k0_pay1, k0_pay2, k0_pay3, k0_pay4, delta, newM, newV]
  blk_point [iblk, idx t]

/-- The second moment the run leaves, element by element. -/
theorem final2 (c : Dev nD) : (dats m 0 c).arrAt 6 (cfgs 0).N = fun j => newV (four (shapeCast S16x30976 (m ((c : Thread nD τ).loc main_arg0)) shapeCasts_S1x16x176x176_S16x30976) (shapeCast S16x30976 (m ((c : Thread nD τ).loc main_arg1)) shapeCasts_S1x16x176x176_S16x30976) (shapeCast S16x30976 (m ((c : Thread nD τ).loc main_arg2)) shapeCasts_S1x16x176x176_S16x30976) (shapeCast S16x30976 (m ((c : Thread nD τ).loc main_arg3)) shapeCasts_S1x16x176x176_S16x30976) j) := by
  show _ = fun j => newV (four (V m c main_v0 : FVec Ideal S16x30976 .f32) (V m c main_v1 : FVec Ideal S16x30976 .f32) (V m c main_v2 : FVec Ideal S16x30976 .f32) (V m c main_v3 : FVec Ideal S16x30976 .f32) j)
  refine (dats m 0 c).arrAt_eq_of_covers 6 _ (by decide +kernel) fun t hf y => ?_
  blk_simp
  rw [after0_6]
  frame_out
  pointwise [k0_pay1, k0_pay2, k0_pay3, k0_pay4, delta, newM, newV]
  blk_point [iblk, idx t]

/-- The kernel and its reference, from equal arguments, end with equal results. -/
theorem algebraic : Cert.algebraic_AdamLruGateIdeal_AdamLruGateRefIdeal := by
  intro m ρ m' ρ' _ hagree
  refine ⟨fun c j => delta (four (shapeCast S16x30976 (m ((c : Thread nD τ).loc main_arg0)) shapeCasts_S1x16x176x176_S16x30976) (shapeCast S16x30976 (m ((c : Thread nD τ).loc main_arg1)) shapeCasts_S1x16x176x176_S16x30976) (shapeCast S16x30976 (m ((c : Thread nD τ).loc main_arg2)) shapeCasts_S1x16x176x176_S16x30976) (shapeCast S16x30976 (m ((c : Thread nD τ).loc main_arg3)) shapeCasts_S1x16x176x176_S16x30976) j),
    fun c j => newM (four (shapeCast S16x30976 (m ((c : Thread nD τ).loc main_arg0)) shapeCasts_S1x16x176x176_S16x30976) (shapeCast S16x30976 (m ((c : Thread nD τ).loc main_arg1)) shapeCasts_S1x16x176x176_S16x30976) (shapeCast S16x30976 (m ((c : Thread nD τ).loc main_arg2)) shapeCasts_S1x16x176x176_S16x30976) (shapeCast S16x30976 (m ((c : Thread nD τ).loc main_arg3)) shapeCasts_S1x16x176x176_S16x30976) j),
    fun c j => newV (four (shapeCast S16x30976 (m ((c : Thread nD τ).loc main_arg0)) shapeCasts_S1x16x176x176_S16x30976) (shapeCast S16x30976 (m ((c : Thread nD τ).loc main_arg1)) shapeCasts_S1x16x176x176_S16x30976) (shapeCast S16x30976 (m ((c : Thread nD τ).loc main_arg2)) shapeCasts_S1x16x176x176_S16x30976) (shapeCast S16x30976 (m ((c : Thread nD τ).loc main_arg3)) shapeCasts_S1x16x176x176_S16x30976) j),
    (θ_run defs _ _).mono (fun _ h c => ⟨(h c).1.trans (final0 m c), (h c).2.1.trans (final1 m c),
      (h c).2.2.1.trans (final2 m c), (h c).2.2.2⟩) (run_blocks (F := Ideal) m ρ),
    (θ_run Cert.AdamLruGateRefIdeal.defs _ _).mono (fun _ h c => ⟨?_, ?_, ?_, (h c).2.2.2⟩) (Cert.AdamLruGateRefIdeal.Value.run (F := Ideal) m' ρ')⟩
  · rw [(h c).1, (hagree c).1, (hagree c).2.1, (hagree c).2.2.1, (hagree c).2.2.2]; rfl
  · rw [(h c).2.1, (hagree c).2.1, (hagree c).2.2.1]; rfl
  · rw [(h c).2.2.1, (hagree c).2.1, (hagree c).2.2.2]; rfl

/-- The reference runs to its end. -/
theorem quiescent_ref : Cert.quiescent_AdamLruGateRefIdeal := fun m ρ _ =>
  (θ_run Cert.AdamLruGateRefIdeal.defs _ _).mono (fun r h => ⟨fun c => (h c).2.2.2, sem_eq_zero_of_no_sems (by decide) r.2⟩)
    (Cert.AdamLruGateRefIdeal.Value.run (F := Ideal) m ρ)

end Cert.AdamLruGateIdeal.Value

end
-- ==== Proof.AdamS5In.lean ====
/-
  What the idealized `AdamS5In` leaves is the optimiser's step of the reference: the step of the weight and the two moments.
-/
module

public import proofs.«01_k».proof.Defs
public import proofs.«01_k».proof.Proof.AdamStep
public import proofs.«01_k».proof.Proof.Gen.AdamS5InIdeal.Value
public import proofs.«01_k».proof.Proof.Gen.AdamS5InRefIdeal.Run

@[expose] public section

set_option maxRecDepth 16384

noncomputable section

namespace Cert.AdamS5InIdeal.Value

open Cert.AdamS5InIdeal Cert.AdamS5InIdeal.Gen Idealize.ShloMosaic Idealize.ShloMosaic.TcCoe Idealize.SL.Sem AdamStep
open Idealize.ShloMosaic.Pipeline (Dat)

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step of the weight the run leaves, element by element. -/
theorem final0 (c : Dev nD) : (dats m 0 c).arrAt 4 (cfgs 0).N = fun j => delta (four (shapeCast S512x2048 (m ((c : Thread nD τ).loc main_arg0)) shapeCasts_S1x512x2048_S512x2048) (shapeCast S512x2048 (m ((c : Thread nD τ).loc main_arg1)) shapeCasts_S1x512x2048_S512x2048) (shapeCast S512x2048 (m ((c : Thread nD τ).loc main_arg2)) shapeCasts_S1x512x2048_S512x2048) (shapeCast S512x2048 (m ((c : Thread nD τ).loc main_arg3)) shapeCasts_S1x512x2048_S512x2048) j) := by
  show _ = fun j => delta (four (V m c main_v0 : FVec Ideal S512x2048 .f32) (V m c main_v1 : FVec Ideal S512x2048 .f32) (V m c main_v2 : FVec Ideal S512x2048 .f32) (V m c main_v3 : FVec Ideal S512x2048 .f32) j)
  refine (dats m 0 c).arrAt_eq_of_covers 4 _ (by decide +kernel) fun t hf y => ?_
  blk_simp
  rw [after0_4]
  frame_out
  pointwise [k0_pay1, k0_pay2, k0_pay3, k0_pay4, delta, newM, newV]
  blk_point [iblk, idx t]

/-- The first moment the run leaves, element by element. -/
theorem final1 (c : Dev nD) : (dats m 0 c).arrAt 5 (cfgs 0).N = fun j => newM (four (shapeCast S512x2048 (m ((c : Thread nD τ).loc main_arg0)) shapeCasts_S1x512x2048_S512x2048) (shapeCast S512x2048 (m ((c : Thread nD τ).loc main_arg1)) shapeCasts_S1x512x2048_S512x2048) (shapeCast S512x2048 (m ((c : Thread nD τ).loc main_arg2)) shapeCasts_S1x512x2048_S512x2048) (shapeCast S512x2048 (m ((c : Thread nD τ).loc main_arg3)) shapeCasts_S1x512x2048_S512x2048) j) := by
  show _ = fun j => newM (four (V m c main_v0 : FVec Ideal S512x2048 .f32) (V m c main_v1 : FVec Ideal S512x2048 .f32) (V m c main_v2 : FVec Ideal S512x2048 .f32) (V m c main_v3 : FVec Ideal S512x2048 .f32) j)
  refine (dats m 0 c).arrAt_eq_of_covers 5 _ (by decide +kernel) fun t hf y => ?_
  blk_simp
  rw [after0_5]
  frame_out
  pointwise [k0_pay1, k0_pay2, k0_pay3, k0_pay4, delta, newM, newV]
  blk_point [iblk, idx t]

/-- The second moment the run leaves, element by element. -/
theorem final2 (c : Dev nD) : (dats m 0 c).arrAt 6 (cfgs 0).N = fun j => newV (four (shapeCast S512x2048 (m ((c : Thread nD τ).loc main_arg0)) shapeCasts_S1x512x2048_S512x2048) (shapeCast S512x2048 (m ((c : Thread nD τ).loc main_arg1)) shapeCasts_S1x512x2048_S512x2048) (shapeCast S512x2048 (m ((c : Thread nD τ).loc main_arg2)) shapeCasts_S1x512x2048_S512x2048) (shapeCast S512x2048 (m ((c : Thread nD τ).loc main_arg3)) shapeCasts_S1x512x2048_S512x2048) j) := by
  show _ = fun j => newV (four (V m c main_v0 : FVec Ideal S512x2048 .f32) (V m c main_v1 : FVec Ideal S512x2048 .f32) (V m c main_v2 : FVec Ideal S512x2048 .f32) (V m c main_v3 : FVec Ideal S512x2048 .f32) j)
  refine (dats m 0 c).arrAt_eq_of_covers 6 _ (by decide +kernel) fun t hf y => ?_
  blk_simp
  rw [after0_6]
  frame_out
  pointwise [k0_pay1, k0_pay2, k0_pay3, k0_pay4, delta, newM, newV]
  blk_point [iblk, idx t]

/-- The kernel and its reference, from equal arguments, end with equal results. -/
theorem algebraic : Cert.algebraic_AdamS5InIdeal_AdamS5InRefIdeal := by
  intro m ρ m' ρ' _ hagree
  refine ⟨fun c j => delta (four (shapeCast S512x2048 (m ((c : Thread nD τ).loc main_arg0)) shapeCasts_S1x512x2048_S512x2048) (shapeCast S512x2048 (m ((c : Thread nD τ).loc main_arg1)) shapeCasts_S1x512x2048_S512x2048) (shapeCast S512x2048 (m ((c : Thread nD τ).loc main_arg2)) shapeCasts_S1x512x2048_S512x2048) (shapeCast S512x2048 (m ((c : Thread nD τ).loc main_arg3)) shapeCasts_S1x512x2048_S512x2048) j),
    fun c j => newM (four (shapeCast S512x2048 (m ((c : Thread nD τ).loc main_arg0)) shapeCasts_S1x512x2048_S512x2048) (shapeCast S512x2048 (m ((c : Thread nD τ).loc main_arg1)) shapeCasts_S1x512x2048_S512x2048) (shapeCast S512x2048 (m ((c : Thread nD τ).loc main_arg2)) shapeCasts_S1x512x2048_S512x2048) (shapeCast S512x2048 (m ((c : Thread nD τ).loc main_arg3)) shapeCasts_S1x512x2048_S512x2048) j),
    fun c j => newV (four (shapeCast S512x2048 (m ((c : Thread nD τ).loc main_arg0)) shapeCasts_S1x512x2048_S512x2048) (shapeCast S512x2048 (m ((c : Thread nD τ).loc main_arg1)) shapeCasts_S1x512x2048_S512x2048) (shapeCast S512x2048 (m ((c : Thread nD τ).loc main_arg2)) shapeCasts_S1x512x2048_S512x2048) (shapeCast S512x2048 (m ((c : Thread nD τ).loc main_arg3)) shapeCasts_S1x512x2048_S512x2048) j),
    (θ_run defs _ _).mono (fun _ h c => ⟨(h c).1.trans (final0 m c), (h c).2.1.trans (final1 m c),
      (h c).2.2.1.trans (final2 m c), (h c).2.2.2⟩) (run_blocks (F := Ideal) m ρ),
    (θ_run Cert.AdamS5InRefIdeal.defs _ _).mono (fun _ h c => ⟨?_, ?_, ?_, (h c).2.2.2⟩) (Cert.AdamS5InRefIdeal.Value.run (F := Ideal) m' ρ')⟩
  · rw [(h c).1, (hagree c).1, (hagree c).2.1, (hagree c).2.2.1, (hagree c).2.2.2]; rfl
  · rw [(h c).2.1, (hagree c).2.1, (hagree c).2.2.1]; rfl
  · rw [(h c).2.2.1, (hagree c).2.1, (hagree c).2.2.2]; rfl

/-- The reference runs to its end. -/
theorem quiescent_ref : Cert.quiescent_AdamS5InRefIdeal := fun m ρ _ =>
  (θ_run Cert.AdamS5InRefIdeal.defs _ _).mono (fun r h => ⟨fun c => (h c).2.2.2, sem_eq_zero_of_no_sems (by decide) r.2⟩)
    (Cert.AdamS5InRefIdeal.Value.run (F := Ideal) m ρ)

end Cert.AdamS5InIdeal.Value

end
-- ==== Proof.AdamS5Glu.lean ====
/-
  What the idealized `AdamS5Glu` leaves is the optimiser's step of the reference: the step of the weight and the two moments.
-/
module

public import proofs.«01_k».proof.Defs
public import proofs.«01_k».proof.Proof.AdamStep
public import proofs.«01_k».proof.Proof.Gen.AdamS5GluIdeal.Value
public import proofs.«01_k».proof.Proof.Gen.AdamS5GluRefIdeal.Run

@[expose] public section

set_option maxRecDepth 16384

noncomputable section

namespace Cert.AdamS5GluIdeal.Value

open Cert.AdamS5GluIdeal Cert.AdamS5GluIdeal.Gen Idealize.ShloMosaic Idealize.ShloMosaic.TcCoe Idealize.SL.Sem AdamStep
open Idealize.ShloMosaic.Pipeline (Dat)

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step of the weight the run leaves, element by element. -/
theorem final0 (c : Dev nD) : (dats m 0 c).arrAt 4 (cfgs 0).N = fun j => delta (four (shapeCast S2048x1024 (m ((c : Thread nD τ).loc main_arg0)) shapeCasts_S1x2048x1024_S2048x1024) (shapeCast S2048x1024 (m ((c : Thread nD τ).loc main_arg1)) shapeCasts_S1x2048x1024_S2048x1024) (shapeCast S2048x1024 (m ((c : Thread nD τ).loc main_arg2)) shapeCasts_S1x2048x1024_S2048x1024) (shapeCast S2048x1024 (m ((c : Thread nD τ).loc main_arg3)) shapeCasts_S1x2048x1024_S2048x1024) j) := by
  show _ = fun j => delta (four (V m c main_v0 : FVec Ideal S2048x1024 .f32) (V m c main_v1 : FVec Ideal S2048x1024 .f32) (V m c main_v2 : FVec Ideal S2048x1024 .f32) (V m c main_v3 : FVec Ideal S2048x1024 .f32) j)
  refine (dats m 0 c).arrAt_eq_of_covers 4 _ (by decide +kernel) fun t hf y => ?_
  blk_simp
  rw [after0_4]
  frame_out
  pointwise [k0_pay1, k0_pay2, k0_pay3, k0_pay4, delta, newM, newV]
  blk_point [iblk, idx t]

/-- The first moment the run leaves, element by element. -/
theorem final1 (c : Dev nD) : (dats m 0 c).arrAt 5 (cfgs 0).N = fun j => newM (four (shapeCast S2048x1024 (m ((c : Thread nD τ).loc main_arg0)) shapeCasts_S1x2048x1024_S2048x1024) (shapeCast S2048x1024 (m ((c : Thread nD τ).loc main_arg1)) shapeCasts_S1x2048x1024_S2048x1024) (shapeCast S2048x1024 (m ((c : Thread nD τ).loc main_arg2)) shapeCasts_S1x2048x1024_S2048x1024) (shapeCast S2048x1024 (m ((c : Thread nD τ).loc main_arg3)) shapeCasts_S1x2048x1024_S2048x1024) j) := by
  show _ = fun j => newM (four (V m c main_v0 : FVec Ideal S2048x1024 .f32) (V m c main_v1 : FVec Ideal S2048x1024 .f32) (V m c main_v2 : FVec Ideal S2048x1024 .f32) (V m c main_v3 : FVec Ideal S2048x1024 .f32) j)
  refine (dats m 0 c).arrAt_eq_of_covers 5 _ (by decide +kernel) fun t hf y => ?_
  blk_simp
  rw [after0_5]
  frame_out
  pointwise [k0_pay1, k0_pay2, k0_pay3, k0_pay4, delta, newM, newV]
  blk_point [iblk, idx t]

/-- The second moment the run leaves, element by element. -/
theorem final2 (c : Dev nD) : (dats m 0 c).arrAt 6 (cfgs 0).N = fun j => newV (four (shapeCast S2048x1024 (m ((c : Thread nD τ).loc main_arg0)) shapeCasts_S1x2048x1024_S2048x1024) (shapeCast S2048x1024 (m ((c : Thread nD τ).loc main_arg1)) shapeCasts_S1x2048x1024_S2048x1024) (shapeCast S2048x1024 (m ((c : Thread nD τ).loc main_arg2)) shapeCasts_S1x2048x1024_S2048x1024) (shapeCast S2048x1024 (m ((c : Thread nD τ).loc main_arg3)) shapeCasts_S1x2048x1024_S2048x1024) j) := by
  show _ = fun j => newV (four (V m c main_v0 : FVec Ideal S2048x1024 .f32) (V m c main_v1 : FVec Ideal S2048x1024 .f32) (V m c main_v2 : FVec Ideal S2048x1024 .f32) (V m c main_v3 : FVec Ideal S2048x1024 .f32) j)
  refine (dats m 0 c).arrAt_eq_of_covers 6 _ (by decide +kernel) fun t hf y => ?_
  blk_simp
  rw [after0_6]
  frame_out
  pointwise [k0_pay1, k0_pay2, k0_pay3, k0_pay4, delta, newM, newV]
  blk_point [iblk, idx t]

/-- The kernel and its reference, from equal arguments, end with equal results. -/
theorem algebraic : Cert.algebraic_AdamS5GluIdeal_AdamS5GluRefIdeal := by
  intro m ρ m' ρ' _ hagree
  refine ⟨fun c j => delta (four (shapeCast S2048x1024 (m ((c : Thread nD τ).loc main_arg0)) shapeCasts_S1x2048x1024_S2048x1024) (shapeCast S2048x1024 (m ((c : Thread nD τ).loc main_arg1)) shapeCasts_S1x2048x1024_S2048x1024) (shapeCast S2048x1024 (m ((c : Thread nD τ).loc main_arg2)) shapeCasts_S1x2048x1024_S2048x1024) (shapeCast S2048x1024 (m ((c : Thread nD τ).loc main_arg3)) shapeCasts_S1x2048x1024_S2048x1024) j),
    fun c j => newM (four (shapeCast S2048x1024 (m ((c : Thread nD τ).loc main_arg0)) shapeCasts_S1x2048x1024_S2048x1024) (shapeCast S2048x1024 (m ((c : Thread nD τ).loc main_arg1)) shapeCasts_S1x2048x1024_S2048x1024) (shapeCast S2048x1024 (m ((c : Thread nD τ).loc main_arg2)) shapeCasts_S1x2048x1024_S2048x1024) (shapeCast S2048x1024 (m ((c : Thread nD τ).loc main_arg3)) shapeCasts_S1x2048x1024_S2048x1024) j),
    fun c j => newV (four (shapeCast S2048x1024 (m ((c : Thread nD τ).loc main_arg0)) shapeCasts_S1x2048x1024_S2048x1024) (shapeCast S2048x1024 (m ((c : Thread nD τ).loc main_arg1)) shapeCasts_S1x2048x1024_S2048x1024) (shapeCast S2048x1024 (m ((c : Thread nD τ).loc main_arg2)) shapeCasts_S1x2048x1024_S2048x1024) (shapeCast S2048x1024 (m ((c : Thread nD τ).loc main_arg3)) shapeCasts_S1x2048x1024_S2048x1024) j),
    (θ_run defs _ _).mono (fun _ h c => ⟨(h c).1.trans (final0 m c), (h c).2.1.trans (final1 m c),
      (h c).2.2.1.trans (final2 m c), (h c).2.2.2⟩) (run_blocks (F := Ideal) m ρ),
    (θ_run Cert.AdamS5GluRefIdeal.defs _ _).mono (fun _ h c => ⟨?_, ?_, ?_, (h c).2.2.2⟩) (Cert.AdamS5GluRefIdeal.Value.run (F := Ideal) m' ρ')⟩
  · rw [(h c).1, (hagree c).1, (hagree c).2.1, (hagree c).2.2.1, (hagree c).2.2.2]; rfl
  · rw [(h c).2.1, (hagree c).2.1, (hagree c).2.2.1]; rfl
  · rw [(h c).2.2.1, (hagree c).2.1, (hagree c).2.2.2]; rfl

/-- The reference runs to its end. -/
theorem quiescent_ref : Cert.quiescent_AdamS5GluRefIdeal := fun m ρ _ =>
  (θ_run Cert.AdamS5GluRefIdeal.defs _ _).mono (fun r h => ⟨fun c => (h c).2.2.2, sem_eq_zero_of_no_sems (by decide) r.2⟩)
    (Cert.AdamS5GluRefIdeal.Value.run (F := Ideal) m ρ)

end Cert.AdamS5GluIdeal.Value

end
-- ==== Proof.AdamLruIn.lean ====
/-
  What the idealized `AdamLruIn` leaves is the optimiser's step of the reference: the step of the weight and the two moments.
-/
module

public import proofs.«01_k».proof.Defs
public import proofs.«01_k».proof.Proof.AdamStep
public import proofs.«01_k».proof.Proof.Gen.AdamLruInIdeal.Value
public import proofs.«01_k».proof.Proof.Gen.AdamLruInRefIdeal.Run

@[expose] public section

set_option maxRecDepth 16384

noncomputable section

namespace Cert.AdamLruInIdeal.Value

open Cert.AdamLruInIdeal Cert.AdamLruInIdeal.Gen Idealize.ShloMosaic Idealize.ShloMosaic.TcCoe Idealize.SL.Sem AdamStep
open Idealize.ShloMosaic.Pipeline (Dat)

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step of the weight the run leaves, element by element. -/
theorem final0 (c : Dev nD) : (dats m 0 c).arrAt 4 (cfgs 0).N = fun j => delta (four (shapeCast S2048x1408 (m ((c : Thread nD τ).loc main_arg0)) shapeCasts_S1x2048x1408_S2048x1408) (shapeCast S2048x1408 (m ((c : Thread nD τ).loc main_arg1)) shapeCasts_S1x2048x1408_S2048x1408) (shapeCast S2048x1408 (m ((c : Thread nD τ).loc main_arg2)) shapeCasts_S1x2048x1408_S2048x1408) (shapeCast S2048x1408 (m ((c : Thread nD τ).loc main_arg3)) shapeCasts_S1x2048x1408_S2048x1408) j) := by
  show _ = fun j => delta (four (V m c main_v0 : FVec Ideal S2048x1408 .f32) (V m c main_v1 : FVec Ideal S2048x1408 .f32) (V m c main_v2 : FVec Ideal S2048x1408 .f32) (V m c main_v3 : FVec Ideal S2048x1408 .f32) j)
  refine (dats m 0 c).arrAt_eq_of_covers 4 _ (by decide +kernel) fun t hf y => ?_
  blk_simp
  rw [after0_4]
  frame_out
  pointwise [k0_pay1, k0_pay2, k0_pay3, k0_pay4, delta, newM, newV]
  blk_point [iblk, idx t]

/-- The first moment the run leaves, element by element. -/
theorem final1 (c : Dev nD) : (dats m 0 c).arrAt 5 (cfgs 0).N = fun j => newM (four (shapeCast S2048x1408 (m ((c : Thread nD τ).loc main_arg0)) shapeCasts_S1x2048x1408_S2048x1408) (shapeCast S2048x1408 (m ((c : Thread nD τ).loc main_arg1)) shapeCasts_S1x2048x1408_S2048x1408) (shapeCast S2048x1408 (m ((c : Thread nD τ).loc main_arg2)) shapeCasts_S1x2048x1408_S2048x1408) (shapeCast S2048x1408 (m ((c : Thread nD τ).loc main_arg3)) shapeCasts_S1x2048x1408_S2048x1408) j) := by
  show _ = fun j => newM (four (V m c main_v0 : FVec Ideal S2048x1408 .f32) (V m c main_v1 : FVec Ideal S2048x1408 .f32) (V m c main_v2 : FVec Ideal S2048x1408 .f32) (V m c main_v3 : FVec Ideal S2048x1408 .f32) j)
  refine (dats m 0 c).arrAt_eq_of_covers 5 _ (by decide +kernel) fun t hf y => ?_
  blk_simp
  rw [after0_5]
  frame_out
  pointwise [k0_pay1, k0_pay2, k0_pay3, k0_pay4, delta, newM, newV]
  blk_point [iblk, idx t]

/-- The second moment the run leaves, element by element. -/
theorem final2 (c : Dev nD) : (dats m 0 c).arrAt 6 (cfgs 0).N = fun j => newV (four (shapeCast S2048x1408 (m ((c : Thread nD τ).loc main_arg0)) shapeCasts_S1x2048x1408_S2048x1408) (shapeCast S2048x1408 (m ((c : Thread nD τ).loc main_arg1)) shapeCasts_S1x2048x1408_S2048x1408) (shapeCast S2048x1408 (m ((c : Thread nD τ).loc main_arg2)) shapeCasts_S1x2048x1408_S2048x1408) (shapeCast S2048x1408 (m ((c : Thread nD τ).loc main_arg3)) shapeCasts_S1x2048x1408_S2048x1408) j) := by
  show _ = fun j => newV (four (V m c main_v0 : FVec Ideal S2048x1408 .f32) (V m c main_v1 : FVec Ideal S2048x1408 .f32) (V m c main_v2 : FVec Ideal S2048x1408 .f32) (V m c main_v3 : FVec Ideal S2048x1408 .f32) j)
  refine (dats m 0 c).arrAt_eq_of_covers 6 _ (by decide +kernel) fun t hf y => ?_
  blk_simp
  rw [after0_6]
  frame_out
  pointwise [k0_pay1, k0_pay2, k0_pay3, k0_pay4, delta, newM, newV]
  blk_point [iblk, idx t]

/-- The kernel and its reference, from equal arguments, end with equal results. -/
theorem algebraic : Cert.algebraic_AdamLruInIdeal_AdamLruInRefIdeal := by
  intro m ρ m' ρ' _ hagree
  refine ⟨fun c j => delta (four (shapeCast S2048x1408 (m ((c : Thread nD τ).loc main_arg0)) shapeCasts_S1x2048x1408_S2048x1408) (shapeCast S2048x1408 (m ((c : Thread nD τ).loc main_arg1)) shapeCasts_S1x2048x1408_S2048x1408) (shapeCast S2048x1408 (m ((c : Thread nD τ).loc main_arg2)) shapeCasts_S1x2048x1408_S2048x1408) (shapeCast S2048x1408 (m ((c : Thread nD τ).loc main_arg3)) shapeCasts_S1x2048x1408_S2048x1408) j),
    fun c j => newM (four (shapeCast S2048x1408 (m ((c : Thread nD τ).loc main_arg0)) shapeCasts_S1x2048x1408_S2048x1408) (shapeCast S2048x1408 (m ((c : Thread nD τ).loc main_arg1)) shapeCasts_S1x2048x1408_S2048x1408) (shapeCast S2048x1408 (m ((c : Thread nD τ).loc main_arg2)) shapeCasts_S1x2048x1408_S2048x1408) (shapeCast S2048x1408 (m ((c : Thread nD τ).loc main_arg3)) shapeCasts_S1x2048x1408_S2048x1408) j),
    fun c j => newV (four (shapeCast S2048x1408 (m ((c : Thread nD τ).loc main_arg0)) shapeCasts_S1x2048x1408_S2048x1408) (shapeCast S2048x1408 (m ((c : Thread nD τ).loc main_arg1)) shapeCasts_S1x2048x1408_S2048x1408) (shapeCast S2048x1408 (m ((c : Thread nD τ).loc main_arg2)) shapeCasts_S1x2048x1408_S2048x1408) (shapeCast S2048x1408 (m ((c : Thread nD τ).loc main_arg3)) shapeCasts_S1x2048x1408_S2048x1408) j),
    (θ_run defs _ _).mono (fun _ h c => ⟨(h c).1.trans (final0 m c), (h c).2.1.trans (final1 m c),
      (h c).2.2.1.trans (final2 m c), (h c).2.2.2⟩) (run_blocks (F := Ideal) m ρ),
    (θ_run Cert.AdamLruInRefIdeal.defs _ _).mono (fun _ h c => ⟨?_, ?_, ?_, (h c).2.2.2⟩) (Cert.AdamLruInRefIdeal.Value.run (F := Ideal) m' ρ')⟩
  · rw [(h c).1, (hagree c).1, (hagree c).2.1, (hagree c).2.2.1, (hagree c).2.2.2]; rfl
  · rw [(h c).2.1, (hagree c).2.1, (hagree c).2.2.1]; rfl
  · rw [(h c).2.2.1, (hagree c).2.1, (hagree c).2.2.2]; rfl

/-- The reference runs to its end. -/
theorem quiescent_ref : Cert.quiescent_AdamLruInRefIdeal := fun m ρ _ =>
  (θ_run Cert.AdamLruInRefIdeal.defs _ _).mono (fun r h => ⟨fun c => (h c).2.2.2, sem_eq_zero_of_no_sems (by decide) r.2⟩)
    (Cert.AdamLruInRefIdeal.Value.run (F := Ideal) m ρ)

end Cert.AdamLruInIdeal.Value

end
-- ==== Proof.AdamLruOut.lean ====
/-
  What the idealized `AdamLruOut` leaves is the optimiser's step of the reference: the step of the weight and the two moments.
-/
module

public import proofs.«01_k».proof.Defs
public import proofs.«01_k».proof.Proof.AdamStep
public import proofs.«01_k».proof.Proof.Gen.AdamLruOutIdeal.Value
public import proofs.«01_k».proof.Proof.Gen.AdamLruOutRefIdeal.Run

@[expose] public section

set_option maxRecDepth 16384

noncomputable section

namespace Cert.AdamLruOutIdeal.Value

open Cert.AdamLruOutIdeal Cert.AdamLruOutIdeal.Gen Idealize.ShloMosaic Idealize.ShloMosaic.TcCoe Idealize.SL.Sem AdamStep
open Idealize.ShloMosaic.Pipeline (Dat)

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step of the weight the run leaves, element by element. -/
theorem final0 (c : Dev nD) : (dats m 0 c).arrAt 4 (cfgs 0).N = fun j => delta (four (shapeCast S704x2048 (m ((c : Thread nD τ).loc main_arg0)) shapeCasts_S1x704x2048_S704x2048) (shapeCast S704x2048 (m ((c : Thread nD τ).loc main_arg1)) shapeCasts_S1x704x2048_S704x2048) (shapeCast S704x2048 (m ((c : Thread nD τ).loc main_arg2)) shapeCasts_S1x704x2048_S704x2048) (shapeCast S704x2048 (m ((c : Thread nD τ).loc main_arg3)) shapeCasts_S1x704x2048_S704x2048) j) := by
  show _ = fun j => delta (four (V m c main_v0 : FVec Ideal S704x2048 .f32) (V m c main_v1 : FVec Ideal S704x2048 .f32) (V m c main_v2 : FVec Ideal S704x2048 .f32) (V m c main_v3 : FVec Ideal S704x2048 .f32) j)
  refine (dats m 0 c).arrAt_eq_of_covers 4 _ (by decide +kernel) fun t hf y => ?_
  blk_simp
  rw [after0_4]
  frame_out
  pointwise [k0_pay1, k0_pay2, k0_pay3, k0_pay4, delta, newM, newV]
  blk_point [iblk, idx t]

/-- The first moment the run leaves, element by element. -/
theorem final1 (c : Dev nD) : (dats m 0 c).arrAt 5 (cfgs 0).N = fun j => newM (four (shapeCast S704x2048 (m ((c : Thread nD τ).loc main_arg0)) shapeCasts_S1x704x2048_S704x2048) (shapeCast S704x2048 (m ((c : Thread nD τ).loc main_arg1)) shapeCasts_S1x704x2048_S704x2048) (shapeCast S704x2048 (m ((c : Thread nD τ).loc main_arg2)) shapeCasts_S1x704x2048_S704x2048) (shapeCast S704x2048 (m ((c : Thread nD τ).loc main_arg3)) shapeCasts_S1x704x2048_S704x2048) j) := by
  show _ = fun j => newM (four (V m c main_v0 : FVec Ideal S704x2048 .f32) (V m c main_v1 : FVec Ideal S704x2048 .f32) (V m c main_v2 : FVec Ideal S704x2048 .f32) (V m c main_v3 : FVec Ideal S704x2048 .f32) j)
  refine (dats m 0 c).arrAt_eq_of_covers 5 _ (by decide +kernel) fun t hf y => ?_
  blk_simp
  rw [after0_5]
  frame_out
  pointwise [k0_pay1, k0_pay2, k0_pay3, k0_pay4, delta, newM, newV]
  blk_point [iblk, idx t]

/-- The second moment the run leaves, element by element. -/
theorem final2 (c : Dev nD) : (dats m 0 c).arrAt 6 (cfgs 0).N = fun j => newV (four (shapeCast S704x2048 (m ((c : Thread nD τ).loc main_arg0)) shapeCasts_S1x704x2048_S704x2048) (shapeCast S704x2048 (m ((c : Thread nD τ).loc main_arg1)) shapeCasts_S1x704x2048_S704x2048) (shapeCast S704x2048 (m ((c : Thread nD τ).loc main_arg2)) shapeCasts_S1x704x2048_S704x2048) (shapeCast S704x2048 (m ((c : Thread nD τ).loc main_arg3)) shapeCasts_S1x704x2048_S704x2048) j) := by
  show _ = fun j => newV (four (V m c main_v0 : FVec Ideal S704x2048 .f32) (V m c main_v1 : FVec Ideal S704x2048 .f32) (V m c main_v2 : FVec Ideal S704x2048 .f32) (V m c main_v3 : FVec Ideal S704x2048 .f32) j)
  refine (dats m 0 c).arrAt_eq_of_covers 6 _ (by decide +kernel) fun t hf y => ?_
  blk_simp
  rw [after0_6]
  frame_out
  pointwise [k0_pay1, k0_pay2, k0_pay3, k0_pay4, delta, newM, newV]
  blk_point [iblk, idx t]

/-- The kernel and its reference, from equal arguments, end with equal results. -/
theorem algebraic : Cert.algebraic_AdamLruOutIdeal_AdamLruOutRefIdeal := by
  intro m ρ m' ρ' _ hagree
  refine ⟨fun c j => delta (four (shapeCast S704x2048 (m ((c : Thread nD τ).loc main_arg0)) shapeCasts_S1x704x2048_S704x2048) (shapeCast S704x2048 (m ((c : Thread nD τ).loc main_arg1)) shapeCasts_S1x704x2048_S704x2048) (shapeCast S704x2048 (m ((c : Thread nD τ).loc main_arg2)) shapeCasts_S1x704x2048_S704x2048) (shapeCast S704x2048 (m ((c : Thread nD τ).loc main_arg3)) shapeCasts_S1x704x2048_S704x2048) j),
    fun c j => newM (four (shapeCast S704x2048 (m ((c : Thread nD τ).loc main_arg0)) shapeCasts_S1x704x2048_S704x2048) (shapeCast S704x2048 (m ((c : Thread nD τ).loc main_arg1)) shapeCasts_S1x704x2048_S704x2048) (shapeCast S704x2048 (m ((c : Thread nD τ).loc main_arg2)) shapeCasts_S1x704x2048_S704x2048) (shapeCast S704x2048 (m ((c : Thread nD τ).loc main_arg3)) shapeCasts_S1x704x2048_S704x2048) j),
    fun c j => newV (four (shapeCast S704x2048 (m ((c : Thread nD τ).loc main_arg0)) shapeCasts_S1x704x2048_S704x2048) (shapeCast S704x2048 (m ((c : Thread nD τ).loc main_arg1)) shapeCasts_S1x704x2048_S704x2048) (shapeCast S704x2048 (m ((c : Thread nD τ).loc main_arg2)) shapeCasts_S1x704x2048_S704x2048) (shapeCast S704x2048 (m ((c : Thread nD τ).loc main_arg3)) shapeCasts_S1x704x2048_S704x2048) j),
    (θ_run defs _ _).mono (fun _ h c => ⟨(h c).1.trans (final0 m c), (h c).2.1.trans (final1 m c),
      (h c).2.2.1.trans (final2 m c), (h c).2.2.2⟩) (run_blocks (F := Ideal) m ρ),
    (θ_run Cert.AdamLruOutRefIdeal.defs _ _).mono (fun _ h c => ⟨?_, ?_, ?_, (h c).2.2.2⟩) (Cert.AdamLruOutRefIdeal.Value.run (F := Ideal) m' ρ')⟩
  · rw [(h c).1, (hagree c).1, (hagree c).2.1, (hagree c).2.2.1, (hagree c).2.2.2]; rfl
  · rw [(h c).2.1, (hagree c).2.1, (hagree c).2.2.1]; rfl
  · rw [(h c).2.2.1, (hagree c).2.1, (hagree c).2.2.2]; rfl

/-- The reference runs to its end. -/
theorem quiescent_ref : Cert.quiescent_AdamLruOutRefIdeal := fun m ρ _ =>
  (θ_run Cert.AdamLruOutRefIdeal.defs _ _).mono (fun r h => ⟨fun c => (h c).2.2.2, sem_eq_zero_of_no_sems (by decide) r.2⟩)
    (Cert.AdamLruOutRefIdeal.Value.run (F := Ideal) m ρ)

end Cert.AdamLruOutIdeal.Value

end
-- ==== Proof.AdamFfnGu.lean ====
/-
  What the idealized `AdamFfnGu` leaves is the optimiser's step of the reference: the step of the weight and the two moments.
-/
module

public import proofs.«01_k».proof.Defs
public import proofs.«01_k».proof.Proof.AdamStep
public import proofs.«01_k».proof.Proof.Gen.AdamFfnGuIdeal.Value
public import proofs.«01_k».proof.Proof.Gen.AdamFfnGuRefIdeal.Run

@[expose] public section

set_option maxRecDepth 16384

noncomputable section

namespace Cert.AdamFfnGuIdeal.Value

open Cert.AdamFfnGuIdeal Cert.AdamFfnGuIdeal.Gen Idealize.ShloMosaic Idealize.ShloMosaic.TcCoe Idealize.SL.Sem AdamStep
open Idealize.ShloMosaic.Pipeline (Dat)

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step of the weight the run leaves, element by element. -/
theorem final0 (c : Dev nD) : (dats m 0 c).arrAt 4 (cfgs 0).N = fun j => delta (four (shapeCast S4096x2816 (m ((c : Thread nD τ).loc main_arg0)) shapeCasts_S2x2048x2816_S4096x2816) (shapeCast S4096x2816 (m ((c : Thread nD τ).loc main_arg1)) shapeCasts_S2x2048x2816_S4096x2816) (shapeCast S4096x2816 (m ((c : Thread nD τ).loc main_arg2)) shapeCasts_S2x2048x2816_S4096x2816) (shapeCast S4096x2816 (m ((c : Thread nD τ).loc main_arg3)) shapeCasts_S2x2048x2816_S4096x2816) j) := by
  show _ = fun j => delta (four (V m c main_v0 : FVec Ideal S4096x2816 .f32) (V m c main_v1 : FVec Ideal S4096x2816 .f32) (V m c main_v2 : FVec Ideal S4096x2816 .f32) (V m c main_v3 : FVec Ideal S4096x2816 .f32) j)
  refine (dats m 0 c).arrAt_eq_of_covers 4 _ (by decide +kernel) fun t hf y => ?_
  blk_simp
  rw [after0_4]
  frame_out
  pointwise [k0_pay1, k0_pay2, k0_pay3, k0_pay4, delta, newM, newV]
  blk_point [iblk, idx t]

/-- The first moment the run leaves, element by element. -/
theorem final1 (c : Dev nD) : (dats m 0 c).arrAt 5 (cfgs 0).N = fun j => newM (four (shapeCast S4096x2816 (m ((c : Thread nD τ).loc main_arg0)) shapeCasts_S2x2048x2816_S4096x2816) (shapeCast S4096x2816 (m ((c : Thread nD τ).loc main_arg1)) shapeCasts_S2x2048x2816_S4096x2816) (shapeCast S4096x2816 (m ((c : Thread nD τ).loc main_arg2)) shapeCasts_S2x2048x2816_S4096x2816) (shapeCast S4096x2816 (m ((c : Thread nD τ).loc main_arg3)) shapeCasts_S2x2048x2816_S4096x2816) j) := by
  show _ = fun j => newM (four (V m c main_v0 : FVec Ideal S4096x2816 .f32) (V m c main_v1 : FVec Ideal S4096x2816 .f32) (V m c main_v2 : FVec Ideal S4096x2816 .f32) (V m c main_v3 : FVec Ideal S4096x2816 .f32) j)
  refine (dats m 0 c).arrAt_eq_of_covers 5 _ (by decide +kernel) fun t hf y => ?_
  blk_simp
  rw [after0_5]
  frame_out
  pointwise [k0_pay1, k0_pay2, k0_pay3, k0_pay4, delta, newM, newV]
  blk_point [iblk, idx t]

/-- The second moment the run leaves, element by element. -/
theorem final2 (c : Dev nD) : (dats m 0 c).arrAt 6 (cfgs 0).N = fun j => newV (four (shapeCast S4096x2816 (m ((c : Thread nD τ).loc main_arg0)) shapeCasts_S2x2048x2816_S4096x2816) (shapeCast S4096x2816 (m ((c : Thread nD τ).loc main_arg1)) shapeCasts_S2x2048x2816_S4096x2816) (shapeCast S4096x2816 (m ((c : Thread nD τ).loc main_arg2)) shapeCasts_S2x2048x2816_S4096x2816) (shapeCast S4096x2816 (m ((c : Thread nD τ).loc main_arg3)) shapeCasts_S2x2048x2816_S4096x2816) j) := by
  show _ = fun j => newV (four (V m c main_v0 : FVec Ideal S4096x2816 .f32) (V m c main_v1 : FVec Ideal S4096x2816 .f32) (V m c main_v2 : FVec Ideal S4096x2816 .f32) (V m c main_v3 : FVec Ideal S4096x2816 .f32) j)
  refine (dats m 0 c).arrAt_eq_of_covers 6 _ (by decide +kernel) fun t hf y => ?_
  blk_simp
  rw [after0_6]
  frame_out
  pointwise [k0_pay1, k0_pay2, k0_pay3, k0_pay4, delta, newM, newV]
  blk_point [iblk, idx t]

/-- The kernel and its reference, from equal arguments, end with equal results. -/
theorem algebraic : Cert.algebraic_AdamFfnGuIdeal_AdamFfnGuRefIdeal := by
  intro m ρ m' ρ' _ hagree
  refine ⟨fun c j => delta (four (shapeCast S4096x2816 (m ((c : Thread nD τ).loc main_arg0)) shapeCasts_S2x2048x2816_S4096x2816) (shapeCast S4096x2816 (m ((c : Thread nD τ).loc main_arg1)) shapeCasts_S2x2048x2816_S4096x2816) (shapeCast S4096x2816 (m ((c : Thread nD τ).loc main_arg2)) shapeCasts_S2x2048x2816_S4096x2816) (shapeCast S4096x2816 (m ((c : Thread nD τ).loc main_arg3)) shapeCasts_S2x2048x2816_S4096x2816) j),
    fun c j => newM (four (shapeCast S4096x2816 (m ((c : Thread nD τ).loc main_arg0)) shapeCasts_S2x2048x2816_S4096x2816) (shapeCast S4096x2816 (m ((c : Thread nD τ).loc main_arg1)) shapeCasts_S2x2048x2816_S4096x2816) (shapeCast S4096x2816 (m ((c : Thread nD τ).loc main_arg2)) shapeCasts_S2x2048x2816_S4096x2816) (shapeCast S4096x2816 (m ((c : Thread nD τ).loc main_arg3)) shapeCasts_S2x2048x2816_S4096x2816) j),
    fun c j => newV (four (shapeCast S4096x2816 (m ((c : Thread nD τ).loc main_arg0)) shapeCasts_S2x2048x2816_S4096x2816) (shapeCast S4096x2816 (m ((c : Thread nD τ).loc main_arg1)) shapeCasts_S2x2048x2816_S4096x2816) (shapeCast S4096x2816 (m ((c : Thread nD τ).loc main_arg2)) shapeCasts_S2x2048x2816_S4096x2816) (shapeCast S4096x2816 (m ((c : Thread nD τ).loc main_arg3)) shapeCasts_S2x2048x2816_S4096x2816) j),
    (θ_run defs _ _).mono (fun _ h c => ⟨(h c).1.trans (final0 m c), (h c).2.1.trans (final1 m c),
      (h c).2.2.1.trans (final2 m c), (h c).2.2.2⟩) (run_blocks (F := Ideal) m ρ),
    (θ_run Cert.AdamFfnGuRefIdeal.defs _ _).mono (fun _ h c => ⟨?_, ?_, ?_, (h c).2.2.2⟩) (Cert.AdamFfnGuRefIdeal.Value.run (F := Ideal) m' ρ')⟩
  · rw [(h c).1, (hagree c).1, (hagree c).2.1, (hagree c).2.2.1, (hagree c).2.2.2]; rfl
  · rw [(h c).2.1, (hagree c).2.1, (hagree c).2.2.1]; rfl
  · rw [(h c).2.2.1, (hagree c).2.1, (hagree c).2.2.2]; rfl

/-- The reference runs to its end. -/
theorem quiescent_ref : Cert.quiescent_AdamFfnGuRefIdeal := fun m ρ _ =>
  (θ_run Cert.AdamFfnGuRefIdeal.defs _ _).mono (fun r h => ⟨fun c => (h c).2.2.2, sem_eq_zero_of_no_sems (by decide) r.2⟩)
    (Cert.AdamFfnGuRefIdeal.Value.run (F := Ideal) m ρ)

end Cert.AdamFfnGuIdeal.Value

end
-- ==== Proof.AdamFfnDown.lean ====
/-
  What the idealized `AdamFfnDown` leaves is the optimiser's step of the reference: the step of the weight and the two moments.
-/
module

public import proofs.«01_k».proof.Defs
public import proofs.«01_k».proof.Proof.AdamStep
public import proofs.«01_k».proof.Proof.Gen.AdamFfnDownIdeal.Value
public import proofs.«01_k».proof.Proof.Gen.AdamFfnDownRefIdeal.Run

@[expose] public section

set_option maxRecDepth 16384

noncomputable section

namespace Cert.AdamFfnDownIdeal.Value

open Cert.AdamFfnDownIdeal Cert.AdamFfnDownIdeal.Gen Idealize.ShloMosaic Idealize.ShloMosaic.TcCoe Idealize.SL.Sem AdamStep
open Idealize.ShloMosaic.Pipeline (Dat)

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step of the weight the run leaves, element by element. -/
theorem final0 (c : Dev nD) : (dats m 0 c).arrAt 4 (cfgs 0).N = fun j => delta (four (shapeCast S2816x2048 (m ((c : Thread nD τ).loc main_arg0)) shapeCasts_S2x1408x2048_S2816x2048) (shapeCast S2816x2048 (m ((c : Thread nD τ).loc main_arg1)) shapeCasts_S2x1408x2048_S2816x2048) (shapeCast S2816x2048 (m ((c : Thread nD τ).loc main_arg2)) shapeCasts_S2x1408x2048_S2816x2048) (shapeCast S2816x2048 (m ((c : Thread nD τ).loc main_arg3)) shapeCasts_S2x1408x2048_S2816x2048) j) := by
  show _ = fun j => delta (four (V m c main_v0 : FVec Ideal S2816x2048 .f32) (V m c main_v1 : FVec Ideal S2816x2048 .f32) (V m c main_v2 : FVec Ideal S2816x2048 .f32) (V m c main_v3 : FVec Ideal S2816x2048 .f32) j)
  refine (dats m 0 c).arrAt_eq_of_covers 4 _ (by decide +kernel) fun t hf y => ?_
  blk_simp
  rw [after0_4]
  frame_out
  pointwise [k0_pay1, k0_pay2, k0_pay3, k0_pay4, delta, newM, newV]
  blk_point [iblk, idx t]

/-- The first moment the run leaves, element by element. -/
theorem final1 (c : Dev nD) : (dats m 0 c).arrAt 5 (cfgs 0).N = fun j => newM (four (shapeCast S2816x2048 (m ((c : Thread nD τ).loc main_arg0)) shapeCasts_S2x1408x2048_S2816x2048) (shapeCast S2816x2048 (m ((c : Thread nD τ).loc main_arg1)) shapeCasts_S2x1408x2048_S2816x2048) (shapeCast S2816x2048 (m ((c : Thread nD τ).loc main_arg2)) shapeCasts_S2x1408x2048_S2816x2048) (shapeCast S2816x2048 (m ((c : Thread nD τ).loc main_arg3)) shapeCasts_S2x1408x2048_S2816x2048) j) := by
  show _ = fun j => newM (four (V m c main_v0 : FVec Ideal S2816x2048 .f32) (V m c main_v1 : FVec Ideal S2816x2048 .f32) (V m c main_v2 : FVec Ideal S2816x2048 .f32) (V m c main_v3 : FVec Ideal S2816x2048 .f32) j)
  refine (dats m 0 c).arrAt_eq_of_covers 5 _ (by decide +kernel) fun t hf y => ?_
  blk_simp
  rw [after0_5]
  frame_out
  pointwise [k0_pay1, k0_pay2, k0_pay3, k0_pay4, delta, newM, newV]
  blk_point [iblk, idx t]

/-- The second moment the run leaves, element by element. -/
theorem final2 (c : Dev nD) : (dats m 0 c).arrAt 6 (cfgs 0).N = fun j => newV (four (shapeCast S2816x2048 (m ((c : Thread nD τ).loc main_arg0)) shapeCasts_S2x1408x2048_S2816x2048) (shapeCast S2816x2048 (m ((c : Thread nD τ).loc main_arg1)) shapeCasts_S2x1408x2048_S2816x2048) (shapeCast S2816x2048 (m ((c : Thread nD τ).loc main_arg2)) shapeCasts_S2x1408x2048_S2816x2048) (shapeCast S2816x2048 (m ((c : Thread nD τ).loc main_arg3)) shapeCasts_S2x1408x2048_S2816x2048) j) := by
  show _ = fun j => newV (four (V m c main_v0 : FVec Ideal S2816x2048 .f32) (V m c main_v1 : FVec Ideal S2816x2048 .f32) (V m c main_v2 : FVec Ideal S2816x2048 .f32) (V m c main_v3 : FVec Ideal S2816x2048 .f32) j)
  refine (dats m 0 c).arrAt_eq_of_covers 6 _ (by decide +kernel) fun t hf y => ?_
  blk_simp
  rw [after0_6]
  frame_out
  pointwise [k0_pay1, k0_pay2, k0_pay3, k0_pay4, delta, newM, newV]
  blk_point [iblk, idx t]

/-- The kernel and its reference, from equal arguments, end with equal results. -/
theorem algebraic : Cert.algebraic_AdamFfnDownIdeal_AdamFfnDownRefIdeal := by
  intro m ρ m' ρ' _ hagree
  refine ⟨fun c j => delta (four (shapeCast S2816x2048 (m ((c : Thread nD τ).loc main_arg0)) shapeCasts_S2x1408x2048_S2816x2048) (shapeCast S2816x2048 (m ((c : Thread nD τ).loc main_arg1)) shapeCasts_S2x1408x2048_S2816x2048) (shapeCast S2816x2048 (m ((c : Thread nD τ).loc main_arg2)) shapeCasts_S2x1408x2048_S2816x2048) (shapeCast S2816x2048 (m ((c : Thread nD τ).loc main_arg3)) shapeCasts_S2x1408x2048_S2816x2048) j),
    fun c j => newM (four (shapeCast S2816x2048 (m ((c : Thread nD τ).loc main_arg0)) shapeCasts_S2x1408x2048_S2816x2048) (shapeCast S2816x2048 (m ((c : Thread nD τ).loc main_arg1)) shapeCasts_S2x1408x2048_S2816x2048) (shapeCast S2816x2048 (m ((c : Thread nD τ).loc main_arg2)) shapeCasts_S2x1408x2048_S2816x2048) (shapeCast S2816x2048 (m ((c : Thread nD τ).loc main_arg3)) shapeCasts_S2x1408x2048_S2816x2048) j),
    fun c j => newV (four (shapeCast S2816x2048 (m ((c : Thread nD τ).loc main_arg0)) shapeCasts_S2x1408x2048_S2816x2048) (shapeCast S2816x2048 (m ((c : Thread nD τ).loc main_arg1)) shapeCasts_S2x1408x2048_S2816x2048) (shapeCast S2816x2048 (m ((c : Thread nD τ).loc main_arg2)) shapeCasts_S2x1408x2048_S2816x2048) (shapeCast S2816x2048 (m ((c : Thread nD τ).loc main_arg3)) shapeCasts_S2x1408x2048_S2816x2048) j),
    (θ_run defs _ _).mono (fun _ h c => ⟨(h c).1.trans (final0 m c), (h c).2.1.trans (final1 m c),
      (h c).2.2.1.trans (final2 m c), (h c).2.2.2⟩) (run_blocks (F := Ideal) m ρ),
    (θ_run Cert.AdamFfnDownRefIdeal.defs _ _).mono (fun _ h c => ⟨?_, ?_, ?_, (h c).2.2.2⟩) (Cert.AdamFfnDownRefIdeal.Value.run (F := Ideal) m' ρ')⟩
  · rw [(h c).1, (hagree c).1, (hagree c).2.1, (hagree c).2.2.1, (hagree c).2.2.2]; rfl
  · rw [(h c).2.1, (hagree c).2.1, (hagree c).2.2.1]; rfl
  · rw [(h c).2.2.1, (hagree c).2.1, (hagree c).2.2.2]; rfl

/-- The reference runs to its end. -/
theorem quiescent_ref : Cert.quiescent_AdamFfnDownRefIdeal := fun m ρ _ =>
  (θ_run Cert.AdamFfnDownRefIdeal.defs _ _).mono (fun r h => ⟨fun c => (h c).2.2.2, sem_eq_zero_of_no_sems (by decide) r.2⟩)
    (Cert.AdamFfnDownRefIdeal.Value.run (F := Ideal) m ρ)

end Cert.AdamFfnDownIdeal.Value

end
-- ==== Proof.AdamSmall.lean ====
/-
  What the idealized `AdamSmall` leaves is the optimiser's step of the reference for the twelve small weights, which the
  step lays behind one another in one array, zeros filling it up: laying pieces end to end commutes with a function of
  their elements, and the optimiser takes the filling's zeros to zeros.
-/
module

public import proofs.«01_k».proof.Defs
public import proofs.«01_k».proof.Proof.AdamStep
public import proofs.«01_k».proof.Proof.Gen.AdamSmallIdeal.Value
public import proofs.«01_k».proof.Proof.Gen.AdamSmallRefIdeal.Run

@[expose] public section

set_option maxRecDepth 16384

noncomputable section

namespace AdamStep

open Idealize.ShloMosaic

variable {α β : Type}

/-- A function applied to every element of every piece. -/
abbrev mapped (f : β → α) (p : (s : Shape) × (s.Idx → β)) : (s : Shape) × (s.Idx → α) := ⟨p.1, fun i => f (p.2 i)⟩

/-- Reading pieces laid end to end after a function has been applied to each is applying it to what is read. -/
theorem concatenateAt_mapped (f : β → α) (t : Shape) (a : Fin t.rank) (j : t.Idx) :
    ∀ (L : List ((s : Shape) × (s.Idx → β))) (h : ∀ s ∈ L.map (·.1), s.FitsOff t a)
      (h' : ∀ s ∈ (L.map (mapped f)).map (·.1), s.FitsOff t a) (c : Nat) (hc : c < (axisSizes t a L).sum)
      (hc' : c < (axisSizes t a (L.map (mapped f))).sum),
      concatenateAt t a j (L.map (mapped f)) h' c hc' = f (concatenateAt t a j L h c hc)
  | [], _, _, _, hc, _ => absurd hc (Nat.not_lt_zero _)
  | [p], h, h', c, hc, hc' => by
    simp only [List.map_cons, List.map_nil, concatenateAt]
  | p :: q :: L, h, h', c, hc, hc' => by
    have ih := concatenateAt_mapped f t a j (q :: L) (fun s hs => h s (List.mem_cons_of_mem _ hs))
      (fun s hs => h' s (List.mem_cons_of_mem _ hs))
    simp only [List.map_cons] at ih
    simp only [List.map_cons, concatenateAt]
    by_cases hlt : c < p.1.size (a.cast (h p.1 List.mem_cons_self).rank_eq.symm)
    · rw [dif_pos hlt, dif_pos hlt]
    · rw [dif_neg hlt, dif_neg hlt]
      refine ih _ _ ?_
      rw [List.map_cons, List.map_cons, axisSizes_cons t a (mapped f p) _ (h p.1 List.mem_cons_self), List.sum_cons] at hc'
      exact Nat.sub_lt_left_of_lt_add (Nat.le_of_not_lt hlt) hc'

/-- Pieces laid end to end after a function has been applied to each: the function applied to the whole. -/
theorem concatenate_mapped (f : β → α) (t : Shape) (a : Fin t.rank) (L : List ((s : Shape) × (s.Idx → β)))
    (h : Shape.Concatenates (L.map (·.1)) t a) (h' : Shape.Concatenates ((L.map (mapped f)).map (·.1)) t a) :
    concatenate t a (L.map (mapped f)) h' = fun j => f (concatenate t a L h j) := by
  funext j
  rw [concatenate_apply, concatenate_apply]
  exact concatenateAt_mapped f t a j L _ _ _ _ _

/-- Padding after a function has been applied to every element, the padding value included. -/
theorem pad_mapped (f : β → α) {s : Shape} (t : Shape) (lo hi interior : Fin s.rank → Nat) (x : s.Idx → β) {u : Shape}
    (v : u.Idx → β) (h : s.Pads lo hi interior t) (hu : 0 < u.numel) :
    pad t lo hi interior (fun i => f (x i)) (fun i => f (v i)) h hu = fun j => f (pad t lo hi interior x v h hu j) := by
  funext j
  unfold pad
  split <;> rfl

/-- A weight seen as one row, every element with its gradient and its moments. -/
abbrev row {s t : Shape} (h : s.ShapeCasts t) (w g m v : FVec Ideal s .f32) : (s : Shape) × (s.Idx → Quad) :=
  ⟨t, four (shapeCast t w h) (shapeCast t g h) (shapeCast t m h) (shapeCast t v h)⟩

/-- The three divisors' words are of numbers other than zero. -/
theorem divisors : Ideal.ofBits .f32 0x3F26BD02#32 ≠ 0 ∧ Ideal.ofBits .f32 0x3C231ACC#32 ≠ 0 ∧ Ideal.ofBits .f32 0x322BCC77#32 ≠ 0 := by
  refine ⟨?_, ?_, ?_⟩ <;>
  · simp [Ideal.ofBits, Ideal.ieee, -EReal.coe_mul]

/-- The optimiser takes zeros to zeros. -/
theorem newM_zero : newM (0, 0, 0, 0) = (0 : EReal) := by
  unfold newM
  simp only [Ideal.addf_def, Ideal.mulf_def, mul_zero, add_zero]

theorem newV_zero : newV (0, 0, 0, 0) = (0 : EReal) := by
  unfold newV
  simp only [Ideal.addf_def, Ideal.mulf_def, mul_zero, add_zero]

theorem sqrt_zero : Ideal.sqrt 0 = 0 := by
  show Ideal.sqrt ((0 : ℝ) : EReal) = 0
  show (if (0 : ℝ) < 0 then ⊥ else ((Real.sqrt 0 : ℝ) : EReal)) = 0
  simp

theorem delta_zero : delta (0, 0, 0, 0) = (0 : EReal) := by
  obtain ⟨h1, h2, h3⟩ := divisors
  unfold delta
  rw [newM_zero, newV_zero]
  show _ * (Ideal.div (Ideal.div 0 (Ideal.ofBits .f32 0x3F26BD02#32)) (Ideal.sqrt (Ideal.div 0 (Ideal.ofBits .f32 0x3C231ACC#32)) + Ideal.ofBits .f32 0x322BCC77#32) + _ * 0) = _
  rw [Ideal.zero_div h1, Ideal.zero_div h2, sqrt_zero, zero_add, Ideal.zero_div h3, mul_zero, add_zero, mul_zero]

theorem zero_word {s : Shape} (i : s.Idx) : (sitofp .f32 (constantI s 32 0#32) i : Ideal .f32) = (0 : EReal) := by
  show (((0#32 : BitVec 32).toInt : ℝ) : EReal) = 0
  simp
end AdamStep

namespace Cert.AdamSmallRefIdeal.Value

open Cert.AdamSmallRefIdeal Cert.AdamSmallRefIdeal.Gen Idealize.ShloMosaic Idealize.ShloMosaic.TcCoe Idealize.SL.Sem AdamStep

/-- The filling's element: zeros. -/
def zeros : S_.Idx → Quad :=
  four (sitofp .f32 (constantI S_ 32 0#32)) (sitofp .f32 (constantI S_ 32 0#32)) (sitofp .f32 (constantI S_ 32 0#32)) (sitofp .f32 (constantI S_ 32 0#32))

/-- The pieces laid end to end and filled up, as 56 rows. -/
def packed {α : Type} (z : S_.Idx → α) (L : List ((s : Shape) × (s.Idx → α))) (h : Shape.Concatenates (L.map (·.1)) S52864 0) : S56x1024.Idx → α :=
  shapeCast S56x1024 (pad S57344 ![0] ![4480] ![0] (concatenate S52864 0 L h) z pads_S52864_S57344_044800 h_S_) shapeCasts_S57344_S56x1024

/-- The same after a function has been applied to the pieces, where it takes the filling to the filling. -/
theorem packed_mapped (f : Quad → Ideal .f32) (hf : (fun i => f (zeros i)) = (sitofp .f32 (constantI S_ 32 0#32) : FVec Ideal S_ .f32))
    (L : List ((s : Shape) × (s.Idx → Quad))) (h : Shape.Concatenates (L.map (·.1)) S52864 0)
    (h' : Shape.Concatenates ((L.map (mapped f)).map (·.1)) S52864 0) :
    packed (sitofp .f32 (constantI S_ 32 0#32)) (L.map (mapped f)) h' = fun j => f (packed zeros L h j) := by
  unfold packed
  rw [concatenate_mapped f S52864 0 L h h', ← hf, pad_mapped]
  rfl

theorem packed_congr {L L' : List ((s : Shape) × (s.Idx → Quad))} (e : L = L') (h : Shape.Concatenates (L.map (·.1)) S52864 0)
    (h' : Shape.Concatenates (L'.map (·.1)) S52864 0) : packed zeros L h = packed zeros L' h' := by
  subst e
  rfl

/-- A function that takes zeros to zero takes the filling to the filling. -/
theorem kept_zeros (f : Quad → Ideal .f32) (hf : f (0, 0, 0, 0) = (0 : EReal)) :
    (fun i => f (zeros i)) = (sitofp .f32 (constantI S_ 32 0#32) : FVec Ideal S_ .f32) := by
  funext i
  rw [zero_word, ← hf]
  unfold zeros four
  rw [zero_word]

variable (m : (ℓ : Loc nD τ sig) → Buf (Elt Ideal) ℓ)

/-- The twelve small weights, in order, with their gradients and moments. -/
def pieces (c : Dev nD) : List ((s : Shape) × (s.Idx → Quad)) :=
  [row shapeCasts_S2x2x512_S2048 (m ((c : Thread nD τ).loc main_arg0)) (m ((c : Thread nD τ).loc main_arg12)) (m ((c : Thread nD τ).loc main_arg24)) (m ((c : Thread nD τ).loc main_arg36)),
    row shapeCasts_S2x12288_S24576 (m ((c : Thread nD τ).loc main_arg1)) (m ((c : Thread nD τ).loc main_arg13)) (m ((c : Thread nD τ).loc main_arg25)) (m ((c : Thread nD τ).loc main_arg37)),
    row shapeCasts_S1x128x64_S8192 (m ((c : Thread nD τ).loc main_arg2)) (m ((c : Thread nD τ).loc main_arg14)) (m ((c : Thread nD τ).loc main_arg26)) (m ((c : Thread nD τ).loc main_arg38)),
    row shapeCasts_S1x128x64_S8192 (m ((c : Thread nD τ).loc main_arg3)) (m ((c : Thread nD τ).loc main_arg15)) (m ((c : Thread nD τ).loc main_arg27)) (m ((c : Thread nD τ).loc main_arg39)),
    row shapeCasts_S1x128_S128 (m ((c : Thread nD τ).loc main_arg4)) (m ((c : Thread nD τ).loc main_arg16)) (m ((c : Thread nD τ).loc main_arg28)) (m ((c : Thread nD τ).loc main_arg40)),
    row shapeCasts_S1x2048_S2048 (m ((c : Thread nD τ).loc main_arg5)) (m ((c : Thread nD τ).loc main_arg17)) (m ((c : Thread nD τ).loc main_arg29)) (m ((c : Thread nD τ).loc main_arg41)),
    row shapeCasts_S1x4x1x704_S2816 (m ((c : Thread nD τ).loc main_arg6)) (m ((c : Thread nD τ).loc main_arg18)) (m ((c : Thread nD τ).loc main_arg30)) (m ((c : Thread nD τ).loc main_arg42)),
    row shapeCasts_S1x704_S704 (m ((c : Thread nD τ).loc main_arg7)) (m ((c : Thread nD τ).loc main_arg19)) (m ((c : Thread nD τ).loc main_arg31)) (m ((c : Thread nD τ).loc main_arg43)),
    row shapeCasts_S1x704_S704 (m ((c : Thread nD τ).loc main_arg8)) (m ((c : Thread nD τ).loc main_arg20)) (m ((c : Thread nD τ).loc main_arg32)) (m ((c : Thread nD τ).loc main_arg44)),
    row shapeCasts_S1x704_S704 (m ((c : Thread nD τ).loc main_arg9)) (m ((c : Thread nD τ).loc main_arg21)) (m ((c : Thread nD τ).loc main_arg33)) (m ((c : Thread nD τ).loc main_arg45)),
    row shapeCasts_S1x704_S704 (m ((c : Thread nD τ).loc main_arg10)) (m ((c : Thread nD τ).loc main_arg22)) (m ((c : Thread nD τ).loc main_arg34)) (m ((c : Thread nD τ).loc main_arg46)),
    ⟨S2048, four (m ((c : Thread nD τ).loc main_arg11)) (m ((c : Thread nD τ).loc main_arg23)) (m ((c : Thread nD τ).loc main_arg35)) (m ((c : Thread nD τ).loc main_arg47))⟩]

theorem fits (c : Dev nD) : Shape.Concatenates ((pieces m c).map (·.1)) S52864 0 :=
  concatenates_S2048_S24576_S8192_S8192_S128_S2048_S2816_S704_S704_S704_S704_S2048_S52864_d0

end Cert.AdamSmallRefIdeal.Value

namespace Cert.AdamSmallIdeal.Value

open Cert.AdamSmallIdeal Cert.AdamSmallIdeal.Gen Cert.AdamSmallRefIdeal.Value Idealize.ShloMosaic Idealize.ShloMosaic.TcCoe Idealize.SL.Sem AdamStep
open Idealize.ShloMosaic.Pipeline (Dat)

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The kernel's small weights, in order, with their gradients and moments. -/
def given (c : Dev nD) : List ((s : Shape) × (s.Idx → Quad)) :=
  [row shapeCasts_S2x2x512_S2048 (m ((c : Thread nD τ).loc main_arg0)) (m ((c : Thread nD τ).loc main_arg12)) (m ((c : Thread nD τ).loc main_arg24)) (m ((c : Thread nD τ).loc main_arg36)),
    row shapeCasts_S2x12288_S24576 (m ((c : Thread nD τ).loc main_arg1)) (m ((c : Thread nD τ).loc main_arg13)) (m ((c : Thread nD τ).loc main_arg25)) (m ((c : Thread nD τ).loc main_arg37)),
    row shapeCasts_S1x128x64_S8192 (m ((c : Thread nD τ).loc main_arg2)) (m ((c : Thread nD τ).loc main_arg14)) (m ((c : Thread nD τ).loc main_arg26)) (m ((c : Thread nD τ).loc main_arg38)),
    row shapeCasts_S1x128x64_S8192 (m ((c : Thread nD τ).loc main_arg3)) (m ((c : Thread nD τ).loc main_arg15)) (m ((c : Thread nD τ).loc main_arg27)) (m ((c : Thread nD τ).loc main_arg39)),
    row shapeCasts_S1x128_S128 (m ((c : Thread nD τ).loc main_arg4)) (m ((c : Thread nD τ).loc main_arg16)) (m ((c : Thread nD τ).loc main_arg28)) (m ((c : Thread nD τ).loc main_arg40)),
    row shapeCasts_S1x2048_S2048 (m ((c : Thread nD τ).loc main_arg5)) (m ((c : Thread nD τ).loc main_arg17)) (m ((c : Thread nD τ).loc main_arg29)) (m ((c : Thread nD τ).loc main_arg41)),
    row shapeCasts_S1x4x1x704_S2816 (m ((c : Thread nD τ).loc main_arg6)) (m ((c : Thread nD τ).loc main_arg18)) (m ((c : Thread nD τ).loc main_arg30)) (m ((c : Thread nD τ).loc main_arg42)),
    row shapeCasts_S1x704_S704 (m ((c : Thread nD τ).loc main_arg7)) (m ((c : Thread nD τ).loc main_arg19)) (m ((c : Thread nD τ).loc main_arg31)) (m ((c : Thread nD τ).loc main_arg43)),
    row shapeCasts_S1x704_S704 (m ((c : Thread nD τ).loc main_arg8)) (m ((c : Thread nD τ).loc main_arg20)) (m ((c : Thread nD τ).loc main_arg32)) (m ((c : Thread nD τ).loc main_arg44)),
    row shapeCasts_S1x704_S704 (m ((c : Thread nD τ).loc main_arg9)) (m ((c : Thread nD τ).loc main_arg21)) (m ((c : Thread nD τ).loc main_arg33)) (m ((c : Thread nD τ).loc main_arg45)),
    row shapeCasts_S1x704_S704 (m ((c : Thread nD τ).loc main_arg10)) (m ((c : Thread nD τ).loc main_arg22)) (m ((c : Thread nD τ).loc main_arg34)) (m ((c : Thread nD τ).loc main_arg46)),
    ⟨S2048, four (m ((c : Thread nD τ).loc main_arg11)) (m ((c : Thread nD τ).loc main_arg23)) (m ((c : Thread nD τ).loc main_arg35)) (m ((c : Thread nD τ).loc main_arg47))⟩]

theorem fits (c : Dev nD) : Shape.Concatenates ((given m c).map (·.1)) S52864 0 :=
  concatenates_S2048_S24576_S8192_S8192_S128_S2048_S2816_S704_S704_S704_S704_S2048_S52864_d0

theorem fits_mapped (c : Dev nD) (f : Quad → Ideal .f32) :
    Shape.Concatenates (((given m c).map (mapped f)).map (·.1)) Cert.AdamSmallRefIdeal.S52864 0 :=
  fits m c

/-- Every element of the packed arrays with its gradient and its moments. -/
def quads (c : Dev nD) : S56x1024.Idx → Quad := packed zeros (given m c) (fits m c)

/-- One of the four arrays the call is given: a component of every piece, laid out. -/
def laid (c : Dev nD) (f : Quad → Ideal .f32) : S56x1024.Idx → Ideal .f32 :=
  packed (sitofp .f32 (constantI Cert.AdamSmallRefIdeal.S_ 32 0#32)) ((given m c).map (mapped f)) (fits_mapped m c f)

theorem laid_eq (c : Dev nD) (f : Quad → Ideal .f32)
    (hf : (fun i => f (zeros i)) = (sitofp .f32 (constantI Cert.AdamSmallRefIdeal.S_ 32 0#32) : FVec Ideal Cert.AdamSmallRefIdeal.S_ .f32)) :
    laid m c f = fun j => f (quads m c j) :=
  packed_mapped f hf (given m c) (fits m c) (fits_mapped m c f)

set_option maxHeartbeats 4000000 in
/-- The four arrays that the call is given. -/
theorem given_laid (c : Dev nD) : V m c main_v13 = laid m c (fun q => q.1) ∧ V m c main_v27 = laid m c (fun q => q.2.1)
    ∧ V m c main_v41 = laid m c (fun q => q.2.2.1) ∧ V m c main_v55 = laid m c (fun q => q.2.2.2) := by
  refine ⟨?_, ?_, ?_, ?_⟩ <;>
  · show StableHlo.after _ _ _ = _
    simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.unary, StableHlo.TRef.toBuf, StableHlo.TRef.ofBuf, cast_eq]
    after_results_simp
    try dsimp only [Matrix.cons_val]
    try after_results_simp
    rfl

/-- The four arrays read together. -/
theorem given_all (c : Dev nD) : four (V m c main_v13 : FVec Ideal S56x1024 .f32) (V m c main_v27 : FVec Ideal S56x1024 .f32)
    (V m c main_v41 : FVec Ideal S56x1024 .f32) (V m c main_v55 : FVec Ideal S56x1024 .f32) = quads m c := by
  obtain ⟨h0, h1, h2, h3⟩ := given_laid m c
  rw [h0, h1, h2, h3, laid_eq m c (fun q => q.1) rfl, laid_eq m c (fun q => q.2.1) rfl,
    laid_eq m c (fun q => q.2.2.1) rfl, laid_eq m c (fun q => q.2.2.2) rfl]
  rfl

/-- The step of the weights the run leaves, element by element. -/
theorem final0 (c : Dev nD) : (dats m 0 c).arrAt 4 (cfgs 0).N = fun j => delta (quads m c j) := by
  rw [← given_all m c]
  refine (dats m 0 c).arrAt_eq_of_covers 4 _ (by decide +kernel) fun t hf y => ?_
  blk_simp
  rw [after0_4]
  frame_out
  pointwise [k0_pay1, k0_pay2, k0_pay3, k0_pay4, delta, newM, newV]
  blk_point [iblk, idx t]

/-- The first moments the run leaves, element by element. -/
theorem final1 (c : Dev nD) : (dats m 0 c).arrAt 5 (cfgs 0).N = fun j => newM (quads m c j) := by
  rw [← given_all m c]
  refine (dats m 0 c).arrAt_eq_of_covers 5 _ (by decide +kernel) fun t hf y => ?_
  blk_simp
  rw [after0_5]
  frame_out
  pointwise [k0_pay1, k0_pay2, k0_pay3, k0_pay4, delta, newM, newV]
  blk_point [iblk, idx t]

/-- The second moments the run leaves, element by element. -/
theorem final2 (c : Dev nD) : (dats m 0 c).arrAt 6 (cfgs 0).N = fun j => newV (quads m c j) := by
  rw [← given_all m c]
  refine (dats m 0 c).arrAt_eq_of_covers 6 _ (by decide +kernel) fun t hf y => ?_
  blk_simp
  rw [after0_6]
  frame_out
  pointwise [k0_pay1, k0_pay2, k0_pay3, k0_pay4, delta, newM, newV]
  blk_point [iblk, idx t]

set_option maxHeartbeats 4000000 in
/-- The kernel and its reference, from equal arguments, end with equal results. -/
theorem algebraic : Cert.algebraic_AdamSmallIdeal_AdamSmallRefIdeal := by
  intro m ρ m' ρ' _ hagree
  have same : ∀ c : Dev nD, packed zeros (pieces m' c) (Cert.AdamSmallRefIdeal.Value.fits m' c) = quads m c := fun c => by
    refine packed_congr ?_ _ _
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47⟩ := hagree c
    unfold pieces given
    rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47]
  refine ⟨fun c j => delta (quads m c j), fun c j => newM (quads m c j), fun c j => newV (quads m c j),
    (θ_run defs _ _).mono (fun _ h c => ⟨(h c).1.trans (final0 m c), (h c).2.1.trans (final1 m c),
      (h c).2.2.1.trans (final2 m c), (h c).2.2.2⟩) (run_blocks (F := Ideal) m ρ),
    (θ_run Cert.AdamSmallRefIdeal.defs _ _).mono (fun _ h c => ⟨?_, ?_, ?_, (h c).2.2.2⟩) (Cert.AdamSmallRefIdeal.Value.run (F := Ideal) m' ρ')⟩
  · show _ = fun j => delta (quads m c j)
    rw [← same c]
    exact (h c).1.trans (packed_mapped delta (kept_zeros delta delta_zero) (pieces m' c) (Cert.AdamSmallRefIdeal.Value.fits m' c) (Cert.AdamSmallRefIdeal.Value.fits m' c))
  · show _ = fun j => newM (quads m c j)
    rw [← same c]
    exact (h c).2.1.trans (packed_mapped newM (kept_zeros newM newM_zero) (pieces m' c) (Cert.AdamSmallRefIdeal.Value.fits m' c) (Cert.AdamSmallRefIdeal.Value.fits m' c))
  · show _ = fun j => newV (quads m c j)
    rw [← same c]
    exact (h c).2.2.1.trans (packed_mapped newV (kept_zeros newV newV_zero) (pieces m' c) (Cert.AdamSmallRefIdeal.Value.fits m' c) (Cert.AdamSmallRefIdeal.Value.fits m' c))

/-- The reference runs to its end. -/
theorem quiescent_ref : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

end Cert.AdamSmallIdeal.Value

end
-- ==== Proof.SumSmall.lean ====
/-
  The array the idealized `SumSmall` leaves is the sum over the devices: the eight parts added one after another.
-/
module

public import proofs.«01_k».proof.Defs
public import proofs.«01_k».proof.Proof.Gen.SumSmallIdeal.Value
public import proofs.«01_k».proof.Proof.Gen.SumSmallRefIdeal.Run
public import Idealize.ShloMosaic.Lib.Pipeline.ValueKit
public import Idealize.ShloMosaic.Lib.Pointwise

@[expose] public section

set_option maxRecDepth 16384

noncomputable section

namespace Cert.SumSmallIdeal.Value

open Cert.SumSmallIdeal Cert.SumSmallIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its argument. -/
abbrev REF (P : FVec Ideal S8x80x1024 .f32) : FVec Ideal S80x1024 .f32 :=
  Host.reduceAdd P (constant Cert.SumSmallRefIdeal.S_ .f32 0x00000000#32) Cert.SumSmallRefIdeal.Gen.reducesTo_S8x80x1024_S80x1024_d0 Cert.SumSmallRefIdeal.Gen.h_S_

/-- Every window's block at point `t` is the `t`-th block of rows. -/
theorem idx : ∀ t : Fin cfg0.N, win0_0.index t = ![0, t.val, 0] ∧ win0_1.index t = ![t.val, 0] :=
  (by decide +kernel : ∀ t : Fin grid0.N, _)

/-- The reference's sum at an index. -/
theorem href (P : FVec Ideal S8x80x1024 .f32) (j : S80x1024.Idx) : REF P j = ∑ d : Fin 8, P (ix3 d (j 0) (j 1)) := by
  pointwise [REF]

/-- The array after the run is the sum over the devices. -/
theorem final (c : Dev nD) : (dats m 0 c).arrAt 1 (cfgs 0).N = REF (m ((c : Thread nD τ).loc main_arg0)) := by
  refine (dats m 0 c).arrAt_eq_of_covers 1 _ (by decide +kernel) fun t hf y => ?_
  blk_simp
  rw [after0_1]
  frame_out
  rw [href, Fin.sum_univ_eight]
  pointwise [k0_pay1]
  blk_point [iblk, V, idx t]

/-- The kernel and its reference, from equal arguments, end with equal results. -/
theorem algebraic : Cert.algebraic_SumSmallIdeal_SumSmallRefIdeal := by
  intro m ρ m' ρ' _ hagree
  refine ⟨fun c => REF (m ((c : Thread nD τ).loc main_arg0)),
    (θ_run defs _ _).mono (fun _ h c => ⟨(h c).1.trans (final m c), (h c).2⟩) (run_blocks (F := Ideal) m ρ),
    (θ_run Cert.SumSmallRefIdeal.defs _ _).mono (fun _ h c => ⟨?_, (h c).2⟩) (Cert.SumSmallRefIdeal.Value.run (F := Ideal) m' ρ')⟩
  rw [(h c).1, hagree c]

/-- The reference runs to its end. -/
theorem quiescent_ref : Cert.quiescent_SumSmallRefIdeal := fun m ρ _ =>
  (θ_run Cert.SumSmallRefIdeal.defs _ _).mono (fun r h => ⟨fun c => (h c).2, sem_eq_zero_of_no_sems (by decide) r.2⟩)
    (Cert.SumSmallRefIdeal.Value.run (F := Ideal) m ρ)

end Cert.SumSmallIdeal.Value

end
-- ==== Proof.SumS5c.lean ====
/-
  The array the idealized `SumS5c` leaves is the sum over the devices: the eight parts added one after another.
-/
module

public import proofs.«01_k».proof.Defs
public import proofs.«01_k».proof.Proof.Gen.SumS5cIdeal.Value
public import proofs.«01_k».proof.Proof.Gen.SumS5cRefIdeal.Run
public import Idealize.ShloMosaic.Lib.Pipeline.ValueKit
public import Idealize.ShloMosaic.Lib.Pointwise

@[expose] public section

set_option maxRecDepth 16384

noncomputable section

namespace Cert.SumS5cIdeal.Value

open Cert.SumS5cIdeal Cert.SumS5cIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its argument. -/
abbrev REF (P : FVec Ideal S8x128x1024 .bf16) : FVec Ideal S128x1024 .f32 :=
  Host.reduceAdd (extf .f32 P Cert.SumS5cRefIdeal.Gen.bitsLt_bf16_f32) (constant Cert.SumS5cRefIdeal.S_ .f32 0x00000000#32) Cert.SumS5cRefIdeal.Gen.reducesTo_S8x128x1024_S128x1024_d0 Cert.SumS5cRefIdeal.Gen.h_S_

/-- Every window's block at point `t` is the `t`-th block of rows. -/
theorem idx : ∀ t : Fin cfg0.N, win0_0.index t = ![0, t.val, 0] ∧ win0_1.index t = ![t.val, 0] :=
  (by decide +kernel : ∀ t : Fin grid0.N, _)

/-- The reference's sum at an index. -/
theorem href (P : FVec Ideal S8x128x1024 .bf16) (j : S128x1024.Idx) : REF P j = ∑ d : Fin 8, P (ix3 d (j 0) (j 1)) := by
  pointwise [REF]

/-- The array after the run is the sum over the devices. -/
theorem final (c : Dev nD) : (dats m 0 c).arrAt 1 (cfgs 0).N = REF (m ((c : Thread nD τ).loc main_arg0)) := by
  refine (dats m 0 c).arrAt_eq_of_covers 1 _ (by decide +kernel) fun t hf y => ?_
  blk_simp
  rw [after0_1]
  frame_out
  rw [href, Fin.sum_univ_eight]
  pointwise [k0_pay1]
  blk_point [iblk, V, idx t]

/-- The kernel and its reference, from equal arguments, end with equal results. -/
theorem algebraic : Cert.algebraic_SumS5cIdeal_SumS5cRefIdeal := by
  intro m ρ m' ρ' _ hagree
  refine ⟨fun c => REF (m ((c : Thread nD τ).loc main_arg0)),
    (θ_run defs _ _).mono (fun _ h c => ⟨(h c).1.trans (final m c), (h c).2⟩) (run_blocks (F := Ideal) m ρ),
    (θ_run Cert.SumS5cRefIdeal.defs _ _).mono (fun _ h c => ⟨?_, (h c).2⟩) (Cert.SumS5cRefIdeal.Value.run (F := Ideal) m' ρ')⟩
  rw [(h c).1, hagree c]

/-- The reference runs to its end. -/
theorem quiescent_ref : Cert.quiescent_SumS5cRefIdeal := fun m ρ _ =>
  (θ_run Cert.SumS5cRefIdeal.defs _ _).mono (fun r h => ⟨fun c => (h c).2, sem_eq_zero_of_no_sems (by decide) r.2⟩)
    (Cert.SumS5cRefIdeal.Value.run (F := Ideal) m ρ)

end Cert.SumS5cIdeal.Value

end
-- ==== Proof.SumGate.lean ====
/-
  The array the idealized `SumGate` leaves is the sum over the devices: the eight parts added one after another.
-/
module

public import proofs.«01_k».proof.Defs
public import proofs.«01_k».proof.Proof.Gen.SumGateIdeal.Value
public import proofs.«01_k».proof.Proof.Gen.SumGateRefIdeal.Run
public import Idealize.ShloMosaic.Lib.Pipeline.ValueKit
public import Idealize.ShloMosaic.Lib.Pointwise

@[expose] public section

set_option maxRecDepth 16384

noncomputable section

namespace Cert.SumGateIdeal.Value

open Cert.SumGateIdeal Cert.SumGateIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its argument. -/
abbrev REF (P : FVec Ideal S8x16x30976 .bf16) : FVec Ideal S16x30976 .f32 :=
  Host.reduceAdd (extf .f32 P Cert.SumGateRefIdeal.Gen.bitsLt_bf16_f32) (constant Cert.SumGateRefIdeal.S_ .f32 0x00000000#32) Cert.SumGateRefIdeal.Gen.reducesTo_S8x16x30976_S16x30976_d0 Cert.SumGateRefIdeal.Gen.h_S_

/-- Every window's block at point `t` is the `t`-th block of rows. -/
theorem idx : ∀ t : Fin cfg0.N, win0_0.index t = ![0, t.val, 0] ∧ win0_1.index t = ![t.val, 0] :=
  (by decide +kernel : ∀ t : Fin grid0.N, _)

/-- The reference's sum at an index. -/
theorem href (P : FVec Ideal S8x16x30976 .bf16) (j : S16x30976.Idx) : REF P j = ∑ d : Fin 8, P (ix3 d (j 0) (j 1)) := by
  pointwise [REF]

/-- The array after the run is the sum over the devices. -/
theorem final (c : Dev nD) : (dats m 0 c).arrAt 1 (cfgs 0).N = REF (m ((c : Thread nD τ).loc main_arg0)) := by
  refine (dats m 0 c).arrAt_eq_of_covers 1 _ (by decide +kernel) fun t hf y => ?_
  blk_simp
  rw [after0_1]
  frame_out
  rw [href, Fin.sum_univ_eight]
  pointwise [k0_pay1]
  blk_point [iblk, V, idx t]

/-- The kernel and its reference, from equal arguments, end with equal results. -/
theorem algebraic : Cert.algebraic_SumGateIdeal_SumGateRefIdeal := by
  intro m ρ m' ρ' _ hagree
  refine ⟨fun c => REF (m ((c : Thread nD τ).loc main_arg0)),
    (θ_run defs _ _).mono (fun _ h c => ⟨(h c).1.trans (final m c), (h c).2⟩) (run_blocks (F := Ideal) m ρ),
    (θ_run Cert.SumGateRefIdeal.defs _ _).mono (fun _ h c => ⟨?_, (h c).2⟩) (Cert.SumGateRefIdeal.Value.run (F := Ideal) m' ρ')⟩
  rw [(h c).1, hagree c]

/-- The reference runs to its end. -/
theorem quiescent_ref : Cert.quiescent_SumGateRefIdeal := fun m ρ _ =>
  (θ_run Cert.SumGateRefIdeal.defs _ _).mono (fun r h => ⟨fun c => (h c).2, sem_eq_zero_of_no_sems (by decide) r.2⟩)
    (Cert.SumGateRefIdeal.Value.run (F := Ideal) m ρ)

end Cert.SumGateIdeal.Value

end
-- ==== Proof.AdaDw.lean ====
/-
  The array the idealized `AdaDw` leaves is the gradient of the modulation's weights: per layer the product of the
  condition, laid beside itself once per layer, with that layer's half of the modulation's gradient.
-/
module

public import proofs.«01_k».proof.Defs
public import proofs.«01_k».proof.Proof.Gen.AdaDwIdeal.Value
public import proofs.«01_k».proof.Proof.Gen.AdaDwRefIdeal.Run
public import Idealize.ShloMosaic.Lib.Pipeline.ValueKit
public import Idealize.ShloMosaic.Lib.Pointwise

@[expose] public section

set_option maxRecDepth 16384

noncomputable section

namespace Cert.AdaDwIdeal.Value

open Cert.AdaDwIdeal Cert.AdaDwIdeal.Gen Idealize.ShloMosaic Idealize.ShloMosaic.TcCoe Idealize.SL.Sem
open Idealize.ShloMosaic.Pipeline (Dat)

variable (m : (ℓ : Loc nD τ sig) → Buf (Elt Ideal) ℓ)

/-- The gradient of the modulation's weights at an index: layer, row, column. -/
def grad (C : FVec Ideal S16x2048 .f32) (D : FVec Ideal S16x6144 .f32) : FVec Ideal S2x2048x3072 .f32 := fun j =>
  ∑ l : Fin 16, C (ix2 l (j 1)) * D (ix2 l ⟨(j 0).val * 3072 + (j 2).val, by have h0 : (j 0).val < 2 := (j 0).isLt; have h2 : (j 2).val < 3072 := (j 2).isLt; omega⟩)

/-- The reference's term over its two arguments. -/
abbrev REF (C : FVec Ideal S16x2048 .f32) (D : FVec Ideal S16x6144 .f32) : FVec Ideal S2x2048x3072 .f32 :=
  concatenate S2x2048x3072 0 [⟨Cert.AdaDwRefIdeal.S1x2048x3072, (broadcastInDim Cert.AdaDwRefIdeal.S1x2048x3072 ![1, 2] Cert.AdaDwRefIdeal.Gen.bcast_S2048x3072_S1x2048x3072_1_2 (transpose Cert.AdaDwRefIdeal.S2048x3072 [1, 0] (Host.dotGeneral Cert.AdaDwRefIdeal.dot_S16x3072_S16x2048_S3072x2048_0_0_1_1_n_n none (extractStridedSlice Cert.AdaDwRefIdeal.S16x3072 ![0, 0] D Cert.AdaDwRefIdeal.Gen.slices_S16x6144_S16x3072_0_0) C) Cert.AdaDwRefIdeal.Gen.transposes_S3072x2048_S2048x3072_1_0))⟩, ⟨Cert.AdaDwRefIdeal.S1x2048x3072, (broadcastInDim Cert.AdaDwRefIdeal.S1x2048x3072 ![1, 2] Cert.AdaDwRefIdeal.Gen.bcast_S2048x3072_S1x2048x3072_1_2 (transpose Cert.AdaDwRefIdeal.S2048x3072 [1, 0] (Host.dotGeneral Cert.AdaDwRefIdeal.dot_S16x3072_S16x2048_S3072x2048_0_0_1_1_n_n none (extractStridedSlice Cert.AdaDwRefIdeal.S16x3072 ![0, 3072] D Cert.AdaDwRefIdeal.Gen.slices_S16x6144_S16x3072_0_3072) C) Cert.AdaDwRefIdeal.Gen.transposes_S3072x2048_S2048x3072_1_0))⟩] Cert.AdaDwRefIdeal.Gen.concatenates_S1x2048x3072_S1x2048x3072_S2x2048x3072_d0

theorem href (C : FVec Ideal S16x2048 .f32) (D : FVec Ideal S16x6144 .f32) (j : S2x2048x3072.Idx) : REF C D j = grad C D j := by
  obtain ⟨j0, j1, j2, rfl⟩ : ∃ (j0 : Fin 2) (j1 : Fin 2048) (j2 : Fin 3072), j = ix3 j0 j1 j2 := ⟨_, _, _, eq_ix3 j⟩
  obtain rfl | rfl : j0 = 0 ∨ j0 = 1 := by omega
  · pointwise [REF, grad]
    exact Finset.sum_congr rfl fun l _ => mul_comm _ _
  · pointwise [REF, grad]
    exact Finset.sum_congr rfl fun l _ => mul_comm _ _

/-- Where the blocks sit: every window's block index at every point. -/
theorem idx : ∀ t : Fin cfg0.N, win0_0.index t = ![0, t.val / 3] ∧ win0_1.index t = ![0, t.val / 6 * 3 + t.val % 3] ∧ win0_2.index t = ![t.val / 6, t.val / 3 % 2, t.val % 3] :=
  (by decide +kernel : ∀ t : Fin grid0.N, _)

/-- A block's product. -/
theorem hpay1 (x : FVec Ideal S16x1024 .f32) (w : FVec Ideal S16x1024 .f32) (j : S1x1024x1024.Idx) :
    k0_pay1 (F := Ideal) x w j = ∑ k : Fin 16, x (ix2 k (j 1)) * w (ix2 k (j 2)) := by
  pointwise [k0_pay1]

/-- The condition laid beside itself, at an index. -/
theorem twice (c : Dev nD) (l : Fin 16) (n : Fin 4096) : (V m c main_v0 : FVec Ideal S16x4096 .f32) (ix2 l n)
    = (m ((c : Thread nD τ).loc main_arg0) : FVec Ideal S16x2048 .f32) (ix2 l ⟨n.val % 2048, Nat.mod_lt _ (by decide)⟩) := by
  have e : V m c main_v0 = concatenate S16x4096 1 [⟨S16x2048, m ((c : Thread nD τ).loc main_arg0)⟩, ⟨S16x2048, m ((c : Thread nD τ).loc main_arg0)⟩] concatenates_S16x2048_S16x2048_S16x4096_d1 := by rfl
  rw [e]
  by_cases h : n.val < 2048
  · pointwise
    rw [dif_pos h]
    exact congrArg (fun q => (m ((c : Thread nD τ).loc main_arg0) : FVec Ideal S16x2048 .f32) (ix2 l q)) (Fin.ext (Nat.mod_eq_of_lt h).symm)
  · pointwise
    rw [dif_neg h]
    exact congrArg (fun q => (m ((c : Thread nD τ).loc main_arg0) : FVec Ideal S16x2048 .f32) (ix2 l q)) (Fin.ext (show n.val - 2048 = n.val % 2048 by omega))

theorem twice' (c : Dev nD) (j : S16x4096.Idx) : (V m c main_v0 : FVec Ideal S16x4096 .f32) j
    = (m ((c : Thread nD τ).loc main_arg0) : FVec Ideal S16x2048 .f32) (ix2 (j 0) ⟨(j 1).val % 2048, Nat.mod_lt _ (by decide)⟩) := by
  obtain ⟨l, n, rfl⟩ : ∃ (l : Fin 16) (n : Fin 4096), j = ix2 l n := ⟨_, _, eq_ix2 j⟩
  exact twice m c l n

/-- The array after the run is the gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨y0, y1, y2, rfl⟩ : ∃ (y0 : Fin 1) (y1 : Fin 1024) (y2 : Fin 1024), y = ix3 y0 y1 y2 := ⟨_, _, _, eq_ix3 y⟩
  obtain rfl : y0 = 0 := Subsingleton.elim _ _
  unfold outsAt0
  frame_out
  rw [hpay1]
  refine @Finset.sum_congr (Fin 16) EReal Finset.univ Finset.univ _ _ _ rfl fun l _ => ?_
  refine congrArg₂ (fun a b : EReal => a * b) ?_ ?_
  · refine (twice' m c _).trans ?_
    blk_point [idx t]
  · blk_point [iblk, V, idx t]

/-- The kernel and its reference, from equal arguments, end with equal results. -/
theorem algebraic : Cert.algebraic_AdaDwIdeal_AdaDwRefIdeal := by
  intro m ρ m' ρ' _ hagree
  refine ⟨fun c => grad (m ((c : Thread nD τ).loc main_arg0)) (m ((c : Thread nD τ).loc main_arg1)),
    (θ_run defs _ _).mono (fun _ h c => ⟨(h c).1.trans (final m c), (h c).2⟩) (run_blocks (F := Ideal) m ρ),
    (θ_run Cert.AdaDwRefIdeal.defs _ _).mono (fun _ h c => ⟨?_, (h c).2⟩) (Cert.AdaDwRefIdeal.Value.run (F := Ideal) m' ρ')⟩
  rw [(h c).1, (hagree c).1, (hagree c).2]
  exact funext fun j => href _ _ j

/-- The reference runs to its end. -/
theorem quiescent_ref : Cert.quiescent_AdaDwRefIdeal := fun m ρ _ =>
  (θ_run Cert.AdaDwRefIdeal.defs _ _).mono (fun r h => ⟨fun c => (h c).2, sem_eq_zero_of_no_sems (by decide) r.2⟩)
    (Cert.AdaDwRefIdeal.Value.run (F := Ideal) m ρ)

end Cert.AdaDwIdeal.Value

end
-- ==== Proof.NormLaw.lean ====
/-
  The mathematics of the normalisation's gradient over the extended reals: what the kernel computes by the normalised row
  is what differentiating the division by the root mean square gives. No finiteness is asked: the inverse root of a
  positive number is a nonnegative real, by which a sum may be multiplied term by term.
-/
module

public import Idealize.ShloMosaic.PureOps.Ideal
public import Idealize.ShloMosaic.Lib.IdealHost

@[expose] public section

noncomputable section

namespace NormLaw

open Idealize.ShloMosaic

/-- A sum is multiplied by a nonnegative real term by term. -/
theorem sum_mul_real {n : ℕ} (f : Fin n → EReal) (r : ℝ) (hr : 0 ≤ r) : ∑ k, f k * (r : EReal) = (∑ k, f k) * (r : EReal) := by
  classical
  induction (Finset.univ : Finset (Fin n)) using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- A square is not negative. -/
theorem square_nonneg (x : EReal) : 0 ≤ x * x := by
  rcases le_total 0 x with h | h
  · exact mul_nonneg h h
  · have h' : 0 ≤ -x := EReal.neg_nonneg.mpr h
    have := mul_nonneg h' h'
    rwa [neg_mul_neg] at this

/-- The mean square with its offset is positive. -/
theorem mean_pos {n : ℕ} (x : Fin n → EReal) (c e : ℝ) (hc : 0 < c) (he : 0 < e) :
    0 < Ideal.div (∑ k, x k * x k) (c : EReal) + (e : EReal) := by
  have hc' : (c : EReal) ≠ 0 := by exact_mod_cast hc.ne'
  have h : 0 ≤ Ideal.div (∑ k, x k * x k) (c : EReal) := by
    rw [Ideal.div, if_neg hc', ← EReal.coe_inv]
    exact mul_nonneg (Finset.sum_nonneg fun k _ => square_nonneg _) (EReal.coe_nonneg.mpr (inv_nonneg.mpr hc.le))
  exact lt_of_lt_of_le (EReal.coe_pos.mpr he) (le_add_of_nonneg_left h)

/-- The inverse root of a positive number: a nonnegative real whose square is that number's inverse. -/
theorem rsqrt_real (A : EReal) (hA : 0 < A) : ∃ r : ℝ, 0 ≤ r ∧ Ideal.rsqrt A = (r : EReal) ∧ ((r * r : ℝ) : EReal) = A⁻¹ := by
  induction A with
  | bot => exact absurd hA (not_lt_bot)
  | top => exact ⟨0, le_refl _, rfl, by simp⟩
  | coe a =>
    have ha : 0 < a := EReal.coe_pos.mp hA
    refine ⟨(Real.sqrt a)⁻¹, inv_nonneg.mpr (Real.sqrt_nonneg a), ?_, ?_⟩
    · show (if a < 0 then ⊥ else if a = 0 then ⊤ else (((Real.sqrt a)⁻¹ : ℝ) : EReal)) = _
      rw [if_neg (not_lt.mpr ha.le), if_neg ha.ne']
    · rw [← EReal.coe_inv, ← mul_inv, Real.mul_self_sqrt ha.le]

/-- A number taken twice, each time times a nonnegative real. -/
theorem twice_mul (Z : EReal) (p : ℝ) (hp : 0 ≤ p) : Z * (p : EReal) + Z * (p : EReal) = Z * ((2 * p : ℝ) : EReal) := by
  induction Z with
  | bot =>
    rcases hp.eq_or_lt with h | h
    · simp [← h]
    · rw [EReal.bot_mul_coe_of_pos h, EReal.bot_mul_coe_of_pos (by positivity)]; rfl
  | top =>
    rcases hp.eq_or_lt with h | h
    · simp [← h]
    · rw [EReal.top_mul_coe_of_pos h, EReal.top_mul_coe_of_pos (by positivity)]; rfl
  | coe z => norm_cast; ring

/-- The gradient of a normalised row: the kernel's form, by the normalised row `x·r`, is the derivative's, by the mean
    square `A`. Here `S` is the row's sum of `x·t`. -/
theorem law (t x S A : EReal) (c : ℝ) (hA : 0 < A) (hc : 0 < c) :
    Ideal.rsqrt A * (t - x * Ideal.rsqrt A * Ideal.div (S * Ideal.rsqrt A) (c : EReal))
      = t * Ideal.rsqrt A + x * Ideal.div (S * (((-(1 / 2) : ℝ) : EReal) * Ideal.div (Ideal.rsqrt A) A)) (c : EReal)
        + Ideal.div (S * (((-(1 / 2) : ℝ) : EReal) * Ideal.div (Ideal.rsqrt A) A)) (c : EReal) * x := by
  obtain ⟨r, hr, e, e2⟩ := rsqrt_real A hA
  have hc' : (c : EReal) ≠ 0 := by exact_mod_cast hc.ne'
  rw [e, Ideal.div, if_neg hc', Ideal.div, if_neg hc', Ideal.div, if_neg hA.ne', ← e2, ← EReal.coe_inv]
  have hp : 0 ≤ 1 / 2 * (r * (r * r)) * c⁻¹ := by positivity
  have hb : S * (((-(1 / 2) : ℝ) : EReal) * ((r : EReal) * ((r * r : ℝ) : EReal))) * ((c⁻¹ : ℝ) : EReal)
      = -(S * ((1 / 2 * (r * (r * r)) * c⁻¹ : ℝ) : EReal)) := by
    rw [← mul_neg, mul_assoc]
    congr 1
    norm_cast
    ring
  have hk : (r : EReal) * -(x * r * (S * r * ((c⁻¹ : ℝ) : EReal))) = -(x * S) * ((2 * (1 / 2 * (r * (r * r)) * c⁻¹) : ℝ) : EReal) := by
    have e3 : ((2 * (1 / 2 * (r * (r * r)) * c⁻¹) : ℝ) : EReal) = (r : EReal) * r * r * ((c⁻¹ : ℝ) : EReal) := by
      norm_cast
      ring
    rw [e3, mul_neg, neg_mul]
    congr 1
    ac_rfl
  rw [hb, mul_comm _ x, mul_neg, ← mul_assoc x S, ← neg_mul, add_assoc, twice_mul _ _ hp, ← hk, mul_comm t,
    sub_eq_add_neg, EReal.left_distrib_of_nonneg_of_ne_top (EReal.coe_nonneg.mpr hr) (EReal.coe_ne_top r)]

/-- The inverse root mean square of a row, `e` added to the mean. -/
def rstd {n : ℕ} (x : Fin n → EReal) (c e : EReal) : EReal := Ideal.rsqrt (Ideal.div (∑ k, x k * x k) c + e)

/-- The law for a row `x` and what comes down to its normalised row, `t`, weighted. -/
theorem row {n : ℕ} (t x : Fin n → EReal) (c e : ℝ) (hc : 0 < c) (he : 0 < e) (j : Fin n) :
    rstd x c e * (t j - x j * rstd x c e * Ideal.div (∑ k, t k * (x k * rstd x c e)) (c : EReal))
      = t j * rstd x c e
        + x j * Ideal.div ((∑ k, x k * t k) * (((-(1 / 2) : ℝ) : EReal) * Ideal.div (rstd x c e) (Ideal.div (∑ k, x k * x k) (c : EReal) + (e : EReal)))) (c : EReal)
        + Ideal.div ((∑ k, x k * t k) * (((-(1 / 2) : ℝ) : EReal) * Ideal.div (rstd x c e) (Ideal.div (∑ k, x k * x k) (c : EReal) + (e : EReal)))) (c : EReal) * x j := by
  have hA := mean_pos x c e hc he
  obtain ⟨r, hr, er, _⟩ := rsqrt_real _ hA
  have hs : ∑ k, t k * (x k * rstd x c e) = (∑ k, x k * t k) * rstd x c e := by
    rw [rstd, er, ← sum_mul_real _ r hr]
    exact Finset.sum_congr rfl fun k _ => by rw [mul_comm (x k) (t k), mul_assoc]
  rw [hs]
  exact law (t j) (x j) _ _ c hA hc

/-- The words of the literals: the row's length, the factor of the derivative of the inverse root, the offset. -/
theorem c_real : Ideal.ofBits .f32 0x45000000#32 = ((2048 : ℝ) : EReal) := by
  simp [Ideal.ofBits, Ideal.ieee, -EReal.coe_mul]
  norm_num

theorem h_real : Ideal.ofBits .f32 0xBF000000#32 = ((-(1 / 2) : ℝ) : EReal) := by
  simp [Ideal.ofBits, Ideal.ieee, -EReal.coe_mul]
  norm_num

theorem e_real : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

end NormLaw

end
-- ==== Proof.NormBwd.lean ====
/-
  What the idealized `NormBwd` leaves is the gradient of the modulated normalisation: the row's gradient by the law of
  `NormLaw`, and three sums over the rows, which the grid adds up block by block.
-/
module

public import proofs.«01_k».proof.Defs
public import proofs.«01_k».proof.Proof.Gen.NormBwdIdeal.Value
public import proofs.«01_k».proof.Proof.Gen.NormBwdRefIdeal.Run
public import proofs.«01_k».proof.Proof.NormLaw
public import Idealize.ShloMosaic.Lib.Pipeline.ValueKit
public import Idealize.ShloMosaic.Lib.Pointwise

@[expose] public section

set_option maxRecDepth 16384

noncomputable section

namespace Cert.NormBwdRefIdeal.Value

open Cert.NormBwdRefIdeal Cert.NormBwdRefIdeal.Gen Idealize.ShloMosaic

/-- The inverse root mean square of a row. -/
abbrev rs (x : Fin 2048 → Ideal .f32) : Ideal .f32 := NormLaw.rstd x (Ideal.ofBits .f32 0x45000000#32) (Ideal.ofBits .f32 0x358637BD#32)

/-- The gradient of a row, from what comes down to the modulated row, the row, the gain and the scale. -/
def Dx (d x g s : Fin 2048 → Ideal .f32) (j : Fin 2048) : Ideal .f32 :=
  rs x * (d j * (1 + s j) * g j - x j * rs x * Ideal.div (∑ k, d k * (1 + s k) * g k * (x k * rs x)) (Ideal.ofBits .f32 0x45000000#32))

/-- The reference's term: the input's gradient, added to the one that came along the residual. -/
abbrev REF0 (a0 a1 a2 : FVec Ideal S2048x2048 .f32) (a3 a4 : FVec Ideal S1x2048 .f32) : FVec Ideal S2048x2048 .f32 :=
  addf a2 (addf (addf (mulf (mulf (mulf (shapeCast _ a0 shapeCasts_S2048x2048_S2048x2048) (broadcastInDim S2048x2048 ![0, 1] bcast_S1x2048_S2048x2048_0_1 (addf (broadcastInDim S1x2048 ![] bcast_S_S1x2048 (constant S_ .f32 0x3F800000#32)) a4))) (broadcastInDim S2048x2048 ![0, 1] bcast_S1x2048_S2048x2048_0_1 a3)) (broadcastInDim S2048x2048 ![0, 1] bcast_S2048x1_S2048x2048_0_1 (Host.rsqrt (addf (Host.divf (broadcastInDim S2048x1 ![0] bcast_S2048_S2048x1_0 (Host.reduceAdd (mulf a1 a1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf a1 (broadcastInDim S2048x2048 ![0] bcast_S2048_S2048x2048_0 (Host.reduceAdd (Host.divf (mulf (shapeCast _ (Host.reduceAdd (mulf a1 (mulf (mulf (shapeCast _ a0 shapeCasts_S2048x2048_S2048x2048) (broadcastInDim S2048x2048 ![0, 1] bcast_S1x2048_S2048x2048_0_1 (addf (broadcastInDim S1x2048 ![] bcast_S_S1x2048 (constant S_ .f32 0x3F800000#32)) a4))) (broadcastInDim S2048x2048 ![0, 1] bcast_S1x2048_S2048x2048_0_1 a3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a1 a1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf a1 a1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf a1 (mulf (mulf (shapeCast _ a0 shapeCasts_S2048x2048_S2048x2048) (broadcastInDim S2048x2048 ![0, 1] bcast_S1x2048_S2048x2048_0_1 (addf (broadcastInDim S1x2048 ![] bcast_S_S1x2048 (constant S_ .f32 0x3F800000#32)) a4))) (broadcastInDim S2048x2048 ![0, 1] bcast_S1x2048_S2048x2048_0_1 a3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a1 a1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf a1 a1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) a1))

/-- The reference's term: the gain's gradient. -/
abbrev REF1 (a0 a1 a2 : FVec Ideal S2048x2048 .f32) (a3 a4 : FVec Ideal S1x2048 .f32) : FVec Ideal S1x2048 .f32 :=
  shapeCast _ (Host.reduceAdd (mulf (mulf a1 (broadcastInDim S2048x2048 ![0, 1] bcast_S2048x1_S2048x2048_0_1 (Host.rsqrt (addf (Host.divf (broadcastInDim S2048x1 ![0] bcast_S2048_S2048x1_0 (Host.reduceAdd (mulf a1 a1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf (shapeCast _ a0 shapeCasts_S2048x2048_S2048x2048) (broadcastInDim S2048x2048 ![0, 1] bcast_S1x2048_S2048x2048_0_1 (addf (broadcastInDim S1x2048 ![] bcast_S_S1x2048 (constant S_ .f32 0x3F800000#32)) a4)))) (constant S_ .f32 0x00000000#32) reducesTo_S2048x2048_S2048_d0 h_S_) shapeCasts_S2048_S1x2048

/-- The reference's term: the scale's gradient. -/
abbrev REF2 (a0 a1 a2 : FVec Ideal S2048x2048 .f32) (a3 a4 : FVec Ideal S1x2048 .f32) : FVec Ideal S1x2048 .f32 :=
  shapeCast _ (Host.reduceAdd (mulf (mulf (mulf a1 (broadcastInDim S2048x2048 ![0, 1] bcast_S2048x1_S2048x2048_0_1 (Host.rsqrt (addf (Host.divf (broadcastInDim S2048x1 ![0] bcast_S2048_S2048x1_0 (Host.reduceAdd (mulf a1 a1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a3)) (shapeCast _ a0 shapeCasts_S2048x2048_S2048x2048)) (constant S_ .f32 0x00000000#32) reducesTo_S2048x2048_S2048_d0 h_S_) shapeCasts_S2048_S1x2048

/-- The reference's term: the shift's gradient. -/
abbrev REF3 (a0 a1 a2 : FVec Ideal S2048x2048 .f32) (a3 a4 : FVec Ideal S1x2048 .f32) : FVec Ideal S1x2048 .f32 :=
  shapeCast _ (Host.reduceAdd a0 (constant S_ .f32 0x00000000#32) reducesTo_S2048x2048_S2048_d0 h_S_) shapeCasts_S2048_S1x2048

/-- The reference's row gradient, in the form that the kernel computes. -/
theorem href0 (a0 a1 a2 : FVec Ideal S2048x2048 .f32) (a3 a4 : FVec Ideal S1x2048 .f32) (j : S2048x2048.Idx) :
    REF0 a0 a1 a2 a3 a4 j = a2 j + Dx (fun k => a0 (ix2 (j 0) k)) (fun k => a1 (ix2 (j 0) k)) (fun k => a3 (ix2 0 k)) (fun k => a4 (ix2 0 k)) (j 1) := by
  obtain ⟨e, he, ee⟩ := NormLaw.e_real
  have hc : (0 : ℝ) < 2048 := by norm_num
  have := NormLaw.row (fun k => a0 (ix2 (j 0) k) * (1 + a4 (ix2 0 k)) * a3 (ix2 0 k)) (fun k => a1 (ix2 (j 0) k)) 2048 e hc he (j 1)
  rw [← ee, ← NormLaw.c_real, ← NormLaw.h_real] at this
  refine Eq.trans ?_ (congrArg (a2 j + ·) this.symm)
  pointwise [REF0]
  simp only [Finset.univ_unique, Finset.sum_singleton]
  obtain ⟨p, q, rfl⟩ : ∃ (p : Fin 2048) (q : Fin 2048), j = ix2 p q := ⟨_, _, eq_ix2 j⟩
  rfl

theorem href1 (a0 a1 a2 : FVec Ideal S2048x2048 .f32) (a3 a4 : FVec Ideal S1x2048 .f32) (q : Fin 2048) :
    REF1 a0 a1 a2 a3 a4 (ix2 0 q) = ∑ l, a0 (ix2 l q) * (1 + a4 (ix2 0 q)) * (a1 (ix2 l q) * rs (fun k => a1 (ix2 l k))) := by
  pointwise [REF1]
  exact Finset.sum_congr rfl fun l _ => mul_comm _ _

theorem href2 (a0 a1 a2 : FVec Ideal S2048x2048 .f32) (a3 a4 : FVec Ideal S1x2048 .f32) (q : Fin 2048) :
    REF2 a0 a1 a2 a3 a4 (ix2 0 q) = ∑ l, a0 (ix2 l q) * (a1 (ix2 l q) * rs (fun k => a1 (ix2 l k))) * a3 (ix2 0 q) := by
  pointwise [REF2]
  refine Finset.sum_congr rfl fun l _ => (mul_comm _ _).trans ?_
  rw [mul_assoc (a0 _)]
  rfl

theorem href3 (a0 a1 a2 : FVec Ideal S2048x2048 .f32) (a3 a4 : FVec Ideal S1x2048 .f32) (q : Fin 2048) :
    REF3 a0 a1 a2 a3 a4 (ix2 0 q) = ∑ l, a0 (ix2 l q) := by
  pointwise [REF3]

end Cert.NormBwdRefIdeal.Value

namespace Cert.NormBwdIdeal.Value

open Cert.NormBwdIdeal Cert.NormBwdIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] ∧ win0_7.index t = ![0, 0] ∧ win0_8.index t = ![0, 0] :=
  (by decide +kernel : ∀ t : Fin grid0.N, _)

open Cert.NormBwdRefIdeal.Value (REF0 REF1 REF2 REF3 href0 href1 href2 href3 Dx rs)

theorem hpay2 (dh x dres : FVec Ideal S256x2048 .f32) (g s : FVec Ideal S1x2048 .f32) (p : Fin 256) (q : Fin 2048) :
    k0_pay2 (F := Ideal) g (k0_pay6 x) (k0_pay7 x) (k0_pay8 dh s) dres (ix2 p q)
      = dres (ix2 p q) + Dx (fun k => dh (ix2 p k)) (fun k => x (ix2 p k)) (fun k => g (ix2 0 k)) (fun k => s (ix2 0 k)) q := by
  pointwise [k0_pay2, k0_pay6, k0_pay7, k0_pay8]
  rfl

theorem hpay1 (dh x : FVec Ideal S256x2048 .f32) (acc s : FVec Ideal S1x2048 .f32) (q : Fin 2048) :
    k0_pay1 (F := Ideal) (k0_pay7 x) (k0_pay8 dh s) acc (ix2 0 q)
      = acc (ix2 0 q) + ∑ i, dh (ix2 i q) * (1 + s (ix2 0 q)) * (x (ix2 i q) * rs (fun k => x (ix2 i k))) := by
  pointwise [k0_pay1, k0_pay6, k0_pay7, k0_pay8]
  rfl

theorem hpay9 (dh x : FVec Ideal S256x2048 .f32) (acc g : FVec Ideal S1x2048 .f32) (q : Fin 2048) :
    k0_pay9 (F := Ideal) x dh g acc (ix2 0 q)
      = acc (ix2 0 q) + ∑ i, dh (ix2 i q) * (x (ix2 i q) * rs (fun k => x (ix2 i k))) * g (ix2 0 q) := by
  pointwise [k0_pay9, k0_pay6, k0_pay7, k0_pay8]
  rfl

theorem hpay10 (dh : FVec Ideal S256x2048 .f32) (acc : FVec Ideal S1x2048 .f32) (q : Fin 2048) :
    k0_pay10 (F := Ideal) dh acc (ix2 0 q) = acc (ix2 0 q) + ∑ i, dh (ix2 i q) := by
  pointwise [k0_pay10]

theorem zero3 (j : S1x2048.Idx) : k0_pay3 (F := Ideal) j = 0 := by pointwise [k0_pay3]
theorem zero4 (j : S1x2048.Idx) : k0_pay4 (F := Ideal) j = 0 := by pointwise [k0_pay4]
theorem zero5 (j : S1x2048.Idx) : k0_pay5 (F := Ideal) j = 0 := by pointwise [k0_pay5]

/-- The row of the array that row `i` of the block at point `t` is. -/
def at_ (t : Fin cfg0.N) (i : Fin 256) : Fin 2048 := ⟨t.val * 256 + i.val, by have : t.val < 8 := t.isLt; omega⟩

theorem blk0 (c : Dev nD) (t : Fin cfg0.N) (i : Fin 256) (k : Fin 2048) :
    (show FVec Ideal S256x2048 .f32 from iblk m c 0 t) (ix2 i k) = (show FVec Ideal S2048x2048 .f32 from m ((c : Thread nD τ).loc main_arg0)) (ix2 (at_ t i) k) := by
  blk_point [iblk, V, idx t, at_]

theorem blk1 (c : Dev nD) (t : Fin cfg0.N) (i : Fin 256) (k : Fin 2048) :
    (show FVec Ideal S256x2048 .f32 from iblk m c 1 t) (ix2 i k) = (show FVec Ideal S2048x2048 .f32 from m ((c : Thread nD τ).loc main_arg1)) (ix2 (at_ t i) k) := by
  blk_point [iblk, V, idx t, at_]

theorem blk2 (c : Dev nD) (t : Fin cfg0.N) (i : Fin 256) (k : Fin 2048) :
    (show FVec Ideal S256x2048 .f32 from iblk m c 2 t) (ix2 i k) = (show FVec Ideal S2048x2048 .f32 from m ((c : Thread nD τ).loc main_arg2)) (ix2 (at_ t i) k) := by
  blk_point [iblk, V, idx t, at_]

theorem blk3 (c : Dev nD) (t : Fin cfg0.N) (k : Fin 2048) :
    (show FVec Ideal S1x2048 .f32 from iblk m c 3 t) (ix2 0 k) = (show FVec Ideal S1x2048 .f32 from m ((c : Thread nD τ).loc main_arg3)) (ix2 0 k) := by
  blk_point [iblk, V, idx t]

theorem blk4 (c : Dev nD) (t : Fin cfg0.N) (k : Fin 2048) :
    (show FVec Ideal S1x2048 .f32 from iblk m c 4 t) (ix2 0 k) = (show FVec Ideal S1x2048 .f32 from m ((c : Thread nD τ).loc main_arg4)) (ix2 0 k) := by
  blk_point [iblk, V, idx t]

/-- The five arguments. -/
abbrev A0 (c : Dev nD) : FVec Ideal S2048x2048 .f32 := m ((c : Thread nD τ).loc main_arg0)
abbrev A1 (c : Dev nD) : FVec Ideal S2048x2048 .f32 := m ((c : Thread nD τ).loc main_arg1)
abbrev A2 (c : Dev nD) : FVec Ideal S2048x2048 .f32 := m ((c : Thread nD τ).loc main_arg2)
abbrev A3 (c : Dev nD) : FVec Ideal S1x2048 .f32 := m ((c : Thread nD τ).loc main_arg3)
abbrev A4 (c : Dev nD) : FVec Ideal S1x2048 .f32 := m ((c : Thread nD τ).loc main_arg4)

/-- What a point leaves in the block of the input's gradient. -/
theorem outs_dx (c : Dev nD) (t : Fin cfg0.N) : (outsAt0 m c t.val t.isLt).1
    = k0_pay2 (F := Ideal) (iblk m c 3 t) (k0_pay6 (iblk m c 1 t)) (k0_pay7 (iblk m c 1 t)) (k0_pay8 (iblk m c 0 t) (iblk m c 4 t)) (iblk m c 2 t) := by
  by_cases h : t.val % 8 = 0
  · rw [outsAt0_A m c t h]; frame_out
  · rw [outsAt0_B m c t h]; frame_out

/-- Where the blocks of the results sit. -/
theorem pos5 (X : FVec Ideal S2048x2048 .f32) (t : Fin cfg0.N) (p : Fin 256) (q : Fin 2048) : X ((win0_5.blk t).view.emb (ix2 p q)) = X (ix2 (at_ t p) q) := by
  blk_point [idx t, at_]

theorem pos6 (X : FVec Ideal S1x2048 .f32) (t : Fin cfg0.N) (q : Fin 2048) : X ((win0_6.blk t).view.emb (ix2 0 q)) = X (ix2 0 q) := by
  blk_point [idx t]

theorem pos7 (X : FVec Ideal S1x2048 .f32) (t : Fin cfg0.N) (q : Fin 2048) : X ((win0_7.blk t).view.emb (ix2 0 q)) = X (ix2 0 q) := by
  blk_point [idx t]

theorem pos8 (X : FVec Ideal S1x2048 .f32) (t : Fin cfg0.N) (q : Fin 2048) : X ((win0_8.blk t).view.emb (ix2 0 q)) = X (ix2 0 q) := by
  blk_point [idx t]

theorem final5 (c : Dev nD) : (dats m 0 c).arrAt 5 (cfgs 0).N = REF0 (A0 m c) (A1 m c) (A2 m c) (A3 m c) (A4 m c) := by
  refine (dats m 0 c).arrAt_eq_of_covers 5 _ (by decide +kernel) fun t hf y => ?_
  blk_simp
  obtain ⟨p, q, rfl⟩ : ∃ (p : Fin 256) (q : Fin 2048), y = ix2 p q := ⟨_, _, eq_ix2 y⟩
  refine Eq.trans ?_ (pos5 (REF0 (A0 m c) (A1 m c) (A2 m c) (A3 m c) (A4 m c)) t p q).symm
  rw [after0_5, outs_dx, hpay2, href0]
  simp only [blk0, blk1, blk2, blk3, blk4]
  rfl

/-- The rows of the blocks, in order, are the rows of the array. -/
theorem row_eq (t : Fin cfg0.N) (h : t.val % 8 = 8 - 1) (s : Fin 8) (k : Fin 256) (hl : s.val * 256 + k.val < 2048) :
    at_ ⟨8 * (t.val / 8) + s.val, Pipeline.run_point_lt_of_flush t h s⟩ k = ⟨s.val * 256 + k.val, hl⟩ := by
  have : t.val < 8 := t.isLt
  apply Fin.ext
  show (8 * (t.val / 8) + s.val) * 256 + k.val = s.val * 256 + k.val
  omega

/-- What point `t` adds to output 6. -/
def add6 (c : Dev nD) (t : Fin cfg0.N) (q : Fin 2048) : Ideal .f32 := ∑ i : Fin 256, A0 m c (ix2 (at_ t i) q) * (1 + A4 m c (ix2 0 q)) * (A1 m c (ix2 (at_ t i) q) * rs (fun k => A1 m c (ix2 (at_ t i) k)))

theorem first6 (c : Dev nD) (t : Fin cfg0.N) (h : t.val % 8 = 0) (q : Fin 2048) :
    (outsAt0 m c t.val t.isLt).2.1 (ix2 0 q) = 0 + add6 m c t q := by
  rw [outsAt0_A m c t h]; frame_out; rw [hpay1, zero3]
  exact congrArg (0 + ·) (Finset.sum_congr rfl fun i _ => by simp only [blk0, blk1, blk3, blk4])

theorem next6 (c : Dev nD) (t : Fin cfg0.N) (h : ¬t.val % 8 = 0) (q : Fin 2048) :
    (outsAt0 m c t.val t.isLt).2.1 (ix2 0 q) = (outsAt0 m c (t.val - 1) (Nat.lt_of_le_of_lt (Nat.sub_le _ _) t.isLt)).2.1 (ix2 0 q) + add6 m c t q := by
  rw [outsAt0_B m c t h]; frame_out; rw [hpay1]
  exact congrArg (_ + ·) (Finset.sum_congr rfl fun i _ => by simp only [blk0, blk1, blk3, blk4])

theorem final6 (c : Dev nD) : (dats m 0 c).arrAt 6 (cfgs 0).N = REF1 (A0 m c) (A1 m c) (A2 m c) (A3 m c) (A4 m c) := by
  refine (dats m 0 c).arrAt_eq_of_covers 6 _ (by decide +kernel) fun t hf y => ?_
  have h3 := (flush0_6 t).mp hf
  blk_simp
  obtain ⟨y0, q, rfl⟩ : ∃ (y0 : Fin 1) (q : Fin 2048), y = ix2 y0 q := ⟨_, _, eq_ix2 y⟩
  obtain rfl : y0 = 0 := Subsingleton.elim _ _
  rw [after0_6]
  refine (Pipeline.eq_sum_fin_of_reset_step_apply_of_flush (fun n h q => (outsAt0 m c n h).2.1 (ix2 0 q)) 8 (fun _ => 0) (add6 m c)
      (first6 m c) (next6 m c) t h3 q).trans ?_
  rw [zero_add]
  refine Eq.trans ?_ ((pos6 (REF1 (A0 m c) (A1 m c) (A2 m c) (A3 m c) (A4 m c)) t q).trans (href1 _ _ _ _ _ q)).symm
  refine Fin.sum_mul_add_congr fun s k hl => ?_
  rw [row_eq t h3 s k hl]

/-- What point `t` adds to output 7. -/
def add7 (c : Dev nD) (t : Fin cfg0.N) (q : Fin 2048) : Ideal .f32 := ∑ i : Fin 256, A0 m c (ix2 (at_ t i) q) * (A1 m c (ix2 (at_ t i) q) * rs (fun k => A1 m c (ix2 (at_ t i) k))) * A3 m c (ix2 0 q)

theorem first7 (c : Dev nD) (t : Fin cfg0.N) (h : t.val % 8 = 0) (q : Fin 2048) :
    (outsAt0 m c t.val t.isLt).2.2.1 (ix2 0 q) = 0 + add7 m c t q := by
  rw [outsAt0_A m c t h]; frame_out; rw [hpay9, zero4]
  exact congrArg (0 + ·) (Finset.sum_congr rfl fun i _ => by simp only [blk0, blk1, blk3, blk4])

theorem next7 (c : Dev nD) (t : Fin cfg0.N) (h : ¬t.val % 8 = 0) (q : Fin 2048) :
    (outsAt0 m c t.val t.isLt).2.2.1 (ix2 0 q) = (outsAt0 m c (t.val - 1) (Nat.lt_of_le_of_lt (Nat.sub_le _ _) t.isLt)).2.2.1 (ix2 0 q) + add7 m c t q := by
  rw [outsAt0_B m c t h]; frame_out; rw [hpay9]
  exact congrArg (_ + ·) (Finset.sum_congr rfl fun i _ => by simp only [blk0, blk1, blk3, blk4])

theorem final7 (c : Dev nD) : (dats m 0 c).arrAt 7 (cfgs 0).N = REF2 (A0 m c) (A1 m c) (A2 m c) (A3 m c) (A4 m c) := by
  refine (dats m 0 c).arrAt_eq_of_covers 7 _ (by decide +kernel) fun t hf y => ?_
  have h3 := (flush0_7 t).mp hf
  blk_simp
  obtain ⟨y0, q, rfl⟩ : ∃ (y0 : Fin 1) (q : Fin 2048), y = ix2 y0 q := ⟨_, _, eq_ix2 y⟩
  obtain rfl : y0 = 0 := Subsingleton.elim _ _
  rw [after0_7]
  refine (Pipeline.eq_sum_fin_of_reset_step_apply_of_flush (fun n h q => (outsAt0 m c n h).2.2.1 (ix2 0 q)) 8 (fun _ => 0) (add7 m c)
      (first7 m c) (next7 m c) t h3 q).trans ?_
  rw [zero_add]
  refine Eq.trans ?_ ((pos7 (REF2 (A0 m c) (A1 m c) (A2 m c) (A3 m c) (A4 m c)) t q).trans (href2 _ _ _ _ _ q)).symm
  refine Fin.sum_mul_add_congr fun s k hl => ?_
  rw [row_eq t h3 s k hl]

/-- What point `t` adds to output 8. -/
def add8 (c : Dev nD) (t : Fin cfg0.N) (q : Fin 2048) : Ideal .f32 := ∑ i : Fin 256, A0 m c (ix2 (at_ t i) q)

theorem first8 (c : Dev nD) (t : Fin cfg0.N) (h : t.val % 8 = 0) (q : Fin 2048) :
    (outsAt0 m c t.val t.isLt).2.2.2 (ix2 0 q) = 0 + add8 m c t q := by
  rw [outsAt0_A m c t h]; frame_out; rw [hpay10, zero5]
  exact congrArg (0 + ·) (Finset.sum_congr rfl fun i _ => by simp only [blk0, blk1, blk3, blk4])

theorem next8 (c : Dev nD) (t : Fin cfg0.N) (h : ¬t.val % 8 = 0) (q : Fin 2048) :
    (outsAt0 m c t.val t.isLt).2.2.2 (ix2 0 q) = (outsAt0 m c (t.val - 1) (Nat.lt_of_le_of_lt (Nat.sub_le _ _) t.isLt)).2.2.2 (ix2 0 q) + add8 m c t q := by
  rw [outsAt0_B m c t h]; frame_out; rw [hpay10]
  exact congrArg (_ + ·) (Finset.sum_congr rfl fun i _ => by simp only [blk0, blk1, blk3, blk4])

theorem final8 (c : Dev nD) : (dats m 0 c).arrAt 8 (cfgs 0).N = REF3 (A0 m c) (A1 m c) (A2 m c) (A3 m c) (A4 m c) := by
  refine (dats m 0 c).arrAt_eq_of_covers 8 _ (by decide +kernel) fun t hf y => ?_
  have h3 := (flush0_8 t).mp hf
  blk_simp
  obtain ⟨y0, q, rfl⟩ : ∃ (y0 : Fin 1) (q : Fin 2048), y = ix2 y0 q := ⟨_, _, eq_ix2 y⟩
  obtain rfl : y0 = 0 := Subsingleton.elim _ _
  rw [after0_8]
  refine (Pipeline.eq_sum_fin_of_reset_step_apply_of_flush (fun n h q => (outsAt0 m c n h).2.2.2 (ix2 0 q)) 8 (fun _ => 0) (add8 m c)
      (first8 m c) (next8 m c) t h3 q).trans ?_
  rw [zero_add]
  refine Eq.trans ?_ ((pos8 (REF3 (A0 m c) (A1 m c) (A2 m c) (A3 m c) (A4 m c)) t q).trans (href3 _ _ _ _ _ q)).symm
  refine Fin.sum_mul_add_congr fun s k hl => ?_
  rw [row_eq t h3 s k hl]

/-- The kernel and its reference, from equal arguments, end with equal results. -/
theorem algebraic : Cert.algebraic_NormBwdIdeal_NormBwdRefIdeal := by
  intro m ρ m' ρ' _ hagree
  refine ⟨fun c => REF0 (A0 m c) (A1 m c) (A2 m c) (A3 m c) (A4 m c), fun c => REF1 (A0 m c) (A1 m c) (A2 m c) (A3 m c) (A4 m c),
    fun c => REF2 (A0 m c) (A1 m c) (A2 m c) (A3 m c) (A4 m c), fun c => REF3 (A0 m c) (A1 m c) (A2 m c) (A3 m c) (A4 m c),
    (θ_run defs _ _).mono (fun _ h c => ⟨(h c).1.trans (final5 m c), (h c).2.1.trans (final6 m c), (h c).2.2.1.trans (final7 m c), (h c).2.2.2.1.trans (final8 m c), (h c).2.2.2.2⟩) (run_blocks (F := Ideal) m ρ),
    (θ_run Cert.NormBwdRefIdeal.defs _ _).mono (fun _ h c => ⟨?_, ?_, ?_, ?_, (h c).2.2.2.2⟩) (Cert.NormBwdRefIdeal.Value.run (F := Ideal) m' ρ')⟩
  · rw [(h c).1, Cert.NormBwdRefIdeal.Value.res_main_v49, (hagree c).1, (hagree c).2.1, (hagree c).2.2.1, (hagree c).2.2.2.1, (hagree c).2.2.2.2]; rfl
  · rw [(h c).2.1, (hagree c).1, (hagree c).2.1, (hagree c).2.2.2.2]; rfl
  · rw [(h c).2.2.1, (hagree c).1, (hagree c).2.1, (hagree c).2.2.2.1]; rfl
  · rw [(h c).2.2.2.1, (hagree c).1]

/-- The reference runs to its end. -/
theorem quiescent_ref : Cert.quiescent_NormBwdRefIdeal := fun m ρ _ =>
  (θ_run Cert.NormBwdRefIdeal.defs _ _).mono (fun r h => ⟨fun c => (h c).2.2.2.2, sem_eq_zero_of_no_sems (by decide) r.2⟩)
    (Cert.NormBwdRefIdeal.Value.run (F := Ideal) m ρ)

end Cert.NormBwdIdeal.Value

end
-- ==== Proof.LossHead.lean ====
/-
  What the idealized `LossHead` leaves is the loss of the final normalisation against the target, and its gradients: a row's
  gradient by the law of `NormLaw`, the gain's gradient and the loss as sums over the rows, which the grid adds up block
  by block.
-/
module

public import proofs.«01_k».proof.Defs
public import proofs.«01_k».proof.Proof.Gen.LossHeadIdeal.Value
public import proofs.«01_k».proof.Proof.Gen.LossHeadRefIdeal.Run
public import proofs.«01_k».proof.Proof.NormLaw
public import Idealize.ShloMosaic.Lib.Pipeline.ValueKit
public import Idealize.ShloMosaic.Lib.Pointwise

@[expose] public section

set_option maxRecDepth 16384

noncomputable section

namespace NormLaw

open Idealize.ShloMosaic

theorem d_real : Ideal.ofBits .f32 0x3A000000#32 = ((1 / 2048 : ℝ) : EReal) := by
  simp [Ideal.ofBits, Ideal.ieee, -EReal.coe_mul]
  norm_num

theorem half_real : Ideal.ofBits .f32 0x3F000000#32 = ((1 / 2 : ℝ) : EReal) := by
  simp [Ideal.ofBits, Ideal.ieee, -EReal.coe_mul]
  norm_num

theorem two_real : Ideal.ofBits .f32 0x40000000#32 = ((2 : ℝ) : EReal) := by
  simp [Ideal.ofBits, Ideal.ieee, -EReal.coe_mul]
  norm_num

theorem l_real : Ideal.ofBits .f32 0x39800000#32 = ((1 / 4096 : ℝ) : EReal) := by
  simp [Ideal.ofBits, Ideal.ieee, -EReal.coe_mul]
  norm_num

theorem div_c (z : EReal) : Ideal.div z (Ideal.ofBits .f32 0x45000000#32) = z * ((1 / 2048 : ℝ) : EReal) := by
  rw [c_real, Ideal.div, if_neg (by norm_num), ← EReal.coe_inv, one_div]

/-- What comes down to an output's difference from its target: half the mean's derivative of the square. -/
theorem down (z : EReal) : Ideal.div (Ideal.ofBits .f32 0x3F000000#32) (Ideal.ofBits .f32 0x45000000#32) * (Ideal.ofBits .f32 0x40000000#32 * z)
    = z * Ideal.ofBits .f32 0x3A000000#32 := by
  rw [div_c, half_real, two_real, d_real, ← mul_assoc, mul_comm z]
  congr 1
  norm_cast
  norm_num

/-- Half the sum of the rows' means is the sum over the columns, times the one factor. -/
theorem loss_sum {n l : ℕ} (f : Fin n → Fin l → EReal) :
    Ideal.ofBits .f32 0x3F000000#32 * ∑ i, Ideal.div (∑ k, f i k) (Ideal.ofBits .f32 0x45000000#32)
      = (∑ k, ∑ i, f i k) * Ideal.ofBits .f32 0x39800000#32 := by
  simp only [div_c]
  rw [sum_mul_real _ _ (by norm_num), Finset.sum_comm, half_real, l_real, mul_comm, mul_assoc]
  congr 1
  norm_cast
  norm_num

end NormLaw

namespace Cert.LossHeadRefIdeal.Value

open Cert.LossHeadRefIdeal Cert.LossHeadRefIdeal.Gen Idealize.ShloMosaic

/-- The inverse root mean square of a row. -/
abbrev rs (x : Fin 2048 → Ideal .f32) : Ideal .f32 := NormLaw.rstd x (Ideal.ofBits .f32 0x45000000#32) (Ideal.ofBits .f32 0x358637BD#32)

/-- A row's difference from its target. -/
def Err (x g y : Fin 2048 → Ideal .f32) (j : Fin 2048) : Ideal .f32 := x j * rs x * g j - y j

/-- The gradient of a row, from the row, the gain and the target. -/
def Dx (x g y : Fin 2048 → Ideal .f32) (j : Fin 2048) : Ideal .f32 :=
  rs x * (Err x g y j * Ideal.ofBits .f32 0x3A000000#32 * g j
    - x j * rs x * Ideal.div (∑ k, Err x g y k * Ideal.ofBits .f32 0x3A000000#32 * g k * (x k * rs x)) (Ideal.ofBits .f32 0x45000000#32))

/-- The reference's term: the input's gradient. -/
abbrev REF0 (a0 : FVec Ideal S2048x2048 .f32) (a1 : FVec Ideal S1x2048 .f32) (a2 : FVec Ideal S2048x2048 .f32) : FVec Ideal S2048x2048 .f32 :=
  addf (addf (mulf (mulf (mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (subf (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) a2))) (broadcastInDim S2048x2048 ![0, 1] bcast_S1x2048_S2048x2048_0_1 a1)) (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf a0 (broadcastInDim S2048x2048 ![0] bcast_S2048_S2048x2048_0 (Host.reduceAdd (Host.divf (mulf (shapeCast _ (Host.reduceAdd (mulf a0 (mulf (mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (subf (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) a2))) (broadcastInDim S2048x2048 ![0, 1] bcast_S1x2048_S2048x2048_0_1 a1))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf a0 (mulf (mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (subf (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) a2))) (broadcastInDim S2048x2048 ![0, 1] bcast_S1x2048_S2048x2048_0_1 a1))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) a0)

/-- The reference's term: the loss. -/
abbrev REF1 (a0 : FVec Ideal S2048x2048 .f32) (a1 : FVec Ideal S1x2048 .f32) (a2 : FVec Ideal S2048x2048 .f32) : FVec Ideal S8x128 .f32 :=
  broadcastInDim S8x128 ![] bcast_S_S8x128 (mulf (constant S_ .f32 0x3F000000#32) (Host.reduceAdd (Host.divf (Host.reduceAdd (mulf (subf (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) a2) (subf (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) a2)) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))

/-- The reference's term: the gain's gradient. -/
abbrev REF2 (a0 : FVec Ideal S2048x2048 .f32) (a1 : FVec Ideal S1x2048 .f32) (a2 : FVec Ideal S2048x2048 .f32) : FVec Ideal S1x2048 .f32 :=
  shapeCast _ (Host.reduceAdd (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (subf (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) a2)))) (constant S_ .f32 0x00000000#32) reducesTo_S2048x2048_S2048_d0 h_S_) shapeCasts_S2048_S1x2048

/-- The reference's row gradient, in the form that the kernel computes. -/
theorem href0 (a0 : FVec Ideal S2048x2048 .f32) (a1 : FVec Ideal S1x2048 .f32) (a2 : FVec Ideal S2048x2048 .f32) (p q : Fin 2048) :
    REF0 a0 a1 a2 (ix2 p q) = Dx (fun k => a0 (ix2 p k)) (fun k => a1 (ix2 0 k)) (fun k => a2 (ix2 p k)) q := by
  obtain ⟨e, he, ee⟩ := NormLaw.e_real
  have hc : (0 : ℝ) < 2048 := by norm_num
  have := NormLaw.row (fun k => Err (fun k => a0 (ix2 p k)) (fun k => a1 (ix2 0 k)) (fun k => a2 (ix2 p k)) k * Ideal.ofBits .f32 0x3A000000#32 * a1 (ix2 0 k)) (fun k => a0 (ix2 p k)) 2048 e hc he q
  rw [← ee, ← NormLaw.c_real, ← NormLaw.h_real] at this
  refine Eq.trans ?_ this.symm
  simp only [← NormLaw.down]
  pointwise [REF0]
  simp only [Finset.univ_unique, Finset.sum_singleton]
  rfl

theorem href1 (a0 : FVec Ideal S2048x2048 .f32) (a1 : FVec Ideal S1x2048 .f32) (a2 : FVec Ideal S2048x2048 .f32) (j : S8x128.Idx) :
    REF1 a0 a1 a2 j = (∑ k, ∑ l, Err (fun k => a0 (ix2 l k)) (fun k => a1 (ix2 0 k)) (fun k => a2 (ix2 l k)) k * Err (fun k => a0 (ix2 l k)) (fun k => a1 (ix2 0 k)) (fun k => a2 (ix2 l k)) k) * Ideal.ofBits .f32 0x39800000#32 := by
  rw [← NormLaw.loss_sum]
  pointwise [REF1]
  rfl

theorem href2 (a0 : FVec Ideal S2048x2048 .f32) (a1 : FVec Ideal S1x2048 .f32) (a2 : FVec Ideal S2048x2048 .f32) (q : Fin 2048) :
    REF2 a0 a1 a2 (ix2 0 q) = ∑ l, Err (fun k => a0 (ix2 l k)) (fun k => a1 (ix2 0 k)) (fun k => a2 (ix2 l k)) q * Ideal.ofBits .f32 0x3A000000#32 * (a0 (ix2 l q) * rs (fun k => a0 (ix2 l k))) := by
  simp only [← NormLaw.down]
  pointwise [REF2]
  exact Finset.sum_congr rfl fun l _ => mul_comm _ _

end Cert.LossHeadRefIdeal.Value

namespace Cert.LossHeadIdeal.Value

open Cert.LossHeadIdeal Cert.LossHeadIdeal.Gen Idealize.ShloMosaic Idealize.ShloMosaic.TcCoe Idealize.SL.Sem
open Idealize.ShloMosaic.Pipeline (Dat)
open Cert.LossHeadRefIdeal.Value (REF0 REF1 REF2 href0 href1 href2 Err Dx rs)

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![0, 0] ∧ win0_6.index t = ![0, 0] :=
  (by decide +kernel : ∀ t : Fin grid0.N, _)

theorem hpay1 (x y : FVec Ideal S256x2048 .f32) (g : FVec Ideal S1x2048 .f32) (p : Fin 256) (q : Fin 2048) :
    k0_pay1 (F := Ideal) g (k0_pay5 x) (k0_pay6 x) (k0_pay9 x g y) (ix2 p q)
      = Dx (fun k => x (ix2 p k)) (fun k => g (ix2 0 k)) (fun k => y (ix2 p k)) q := by
  pointwise [k0_pay1, k0_pay5, k0_pay6, k0_pay7, k0_pay9]
  rfl

theorem hpay2 (v : FVec Ideal S1x2048 .f32) (j : S8x128.Idx) :
    k0_pay2 (F := Ideal) v j = (∑ k, v (ix2 0 k)) * Ideal.ofBits .f32 0x39800000#32 := by
  pointwise [k0_pay2]
  simp only [Finset.univ_unique, Finset.sum_singleton]

theorem hpay8 (x y : FVec Ideal S256x2048 .f32) (acc g : FVec Ideal S1x2048 .f32) (q : Fin 2048) :
    k0_pay8 (F := Ideal) x g y acc (ix2 0 q)
      = acc (ix2 0 q) + ∑ i, Err (fun k => x (ix2 i k)) (fun k => g (ix2 0 k)) (fun k => y (ix2 i k)) q * Err (fun k => x (ix2 i k)) (fun k => g (ix2 0 k)) (fun k => y (ix2 i k)) q := by
  pointwise [k0_pay8, k0_pay5, k0_pay6, k0_pay7]
  rfl

theorem hpay10 (x y : FVec Ideal S256x2048 .f32) (acc g : FVec Ideal S1x2048 .f32) (q : Fin 2048) :
    k0_pay10 (F := Ideal) x g y acc (ix2 0 q)
      = acc (ix2 0 q) + ∑ i, Err (fun k => x (ix2 i k)) (fun k => g (ix2 0 k)) (fun k => y (ix2 i k)) q * Ideal.ofBits .f32 0x3A000000#32 * (x (ix2 i q) * rs (fun k => x (ix2 i k))) := by
  pointwise [k0_pay10, k0_pay5, k0_pay6, k0_pay7, k0_pay9]
  rfl

theorem zero3 (j : S1x2048.Idx) : k0_pay3 (F := Ideal) j = 0 := by pointwise [k0_pay3]
theorem zero4 (j : S1x2048.Idx) : k0_pay4 (F := Ideal) j = 0 := by pointwise [k0_pay4]

/-- The row of the array that row `i` of the block at point `t` is. -/
def at_ (t : Fin cfg0.N) (i : Fin 256) : Fin 2048 := ⟨t.val * 256 + i.val, by have : t.val < 8 := t.isLt; omega⟩

/-- The rows of the blocks, in order, are the rows of the array. -/
theorem row_eq (t : Fin cfg0.N) (h : t.val % 8 = 8 - 1) (s : Fin 8) (k : Fin 256) (hl : s.val * 256 + k.val < 2048) :
    at_ ⟨8 * (t.val / 8) + s.val, Pipeline.run_point_lt_of_flush t h s⟩ k = ⟨s.val * 256 + k.val, hl⟩ := by
  have : t.val < 8 := t.isLt
  apply Fin.ext
  show (8 * (t.val / 8) + s.val) * 256 + k.val = s.val * 256 + k.val
  omega

/-- The three arguments. -/
abbrev A0 (c : Dev nD) : FVec Ideal S2048x2048 .f32 := m ((c : Thread nD τ).loc main_arg0)
abbrev A1 (c : Dev nD) : FVec Ideal S1x2048 .f32 := m ((c : Thread nD τ).loc main_arg1)
abbrev A2 (c : Dev nD) : FVec Ideal S2048x2048 .f32 := m ((c : Thread nD τ).loc main_arg2)

theorem blk0 (c : Dev nD) (t : Fin cfg0.N) (i : Fin 256) (k : Fin 2048) :
    (show FVec Ideal S256x2048 .f32 from iblk m c 0 t) (ix2 i k) = A0 m c (ix2 (at_ t i) k) := by
  blk_point [iblk, V, idx t, at_]

theorem blk1 (c : Dev nD) (t : Fin cfg0.N) (i : Fin 256) (k : Fin 2048) :
    (show FVec Ideal S256x2048 .f32 from iblk m c 1 t) (ix2 i k) = A2 m c (ix2 (at_ t i) k) := by
  blk_point [iblk, V, idx t, at_]

theorem blk2 (c : Dev nD) (t : Fin cfg0.N) (k : Fin 2048) :
    (show FVec Ideal S1x2048 .f32 from iblk m c 2 t) (ix2 0 k) = A1 m c (ix2 0 k) := by
  blk_point [iblk, V, idx t]

/-- Where the blocks of the results sit. -/
theorem pos3 (X : FVec Ideal S2048x2048 .f32) (t : Fin cfg0.N) (p : Fin 256) (q : Fin 2048) : X ((win0_3.blk t).view.emb (ix2 p q)) = X (ix2 (at_ t p) q) := by
  blk_point [idx t, at_]

theorem pos5 (X : FVec Ideal S1x2048 .f32) (t : Fin cfg0.N) (q : Fin 2048) : X ((win0_5.blk t).view.emb (ix2 0 q)) = X (ix2 0 q) := by
  blk_point [idx t]

/-- Which case each point of the grid is. -/
theorem cases8 (t : Fin cfg0.N) : (t.val % 8 = 0 ∧ ¬t.val % 8 = 7) ∨ (¬t.val % 8 = 0 ∧ ¬t.val % 8 = 7) ∨ (¬t.val % 8 = 0 ∧ t.val % 8 = 7) := by omega

/-- What a point leaves in the block of the input's gradient. -/
theorem outs_dx (c : Dev nD) (t : Fin cfg0.N) : (outsAt0 m c t.val t.isLt).1
    = k0_pay1 (F := Ideal) (iblk m c 2 t) (k0_pay5 (iblk m c 0 t)) (k0_pay6 (iblk m c 0 t)) (k0_pay9 (iblk m c 0 t) (iblk m c 2 t) (iblk m c 1 t)) := by
  rcases cases8 t with ⟨h, h'⟩ | ⟨h, h'⟩ | ⟨h, h'⟩
  · rw [outsAt0_A m c t h h']; frame_out
  · rw [outsAt0_B m c t h h']; frame_out
  · rw [outsAt0_C m c t h h']; frame_out

theorem final3 (c : Dev nD) : (dats m 0 c).arrAt 3 (cfgs 0).N = REF0 (A0 m c) (A1 m c) (A2 m c) := by
  refine (dats m 0 c).arrAt_eq_of_covers 3 _ (by decide +kernel) fun t hf y => ?_
  blk_simp
  obtain ⟨p, q, rfl⟩ : ∃ (p : Fin 256) (q : Fin 2048), y = ix2 p q := ⟨_, _, eq_ix2 y⟩
  refine Eq.trans ?_ (pos3 (REF0 (A0 m c) (A1 m c) (A2 m c)) t p q).symm
  rw [after0_3, outs_dx, hpay1, href0]
  simp only [blk0, blk1, blk2]

/-- What point `t` adds to output 5. -/
def add5 (c : Dev nD) (t : Fin cfg0.N) (q : Fin 2048) : Ideal .f32 := ∑ i : Fin 256, Err (fun k => A0 m c (ix2 (at_ t i) k)) (fun k => A1 m c (ix2 0 k)) (fun k => A2 m c (ix2 (at_ t i) k)) q * Ideal.ofBits .f32 0x3A000000#32 * (A0 m c (ix2 (at_ t i) q) * rs (fun k => A0 m c (ix2 (at_ t i) k)))

theorem first5 (c : Dev nD) (t : Fin cfg0.N) (h : t.val % 8 = 0) (q : Fin 2048) :
    (outsAt0 m c t.val t.isLt).2.2.1 (ix2 0 q) = 0 + add5 m c t q := by
  rw [outsAt0_A m c t h (by omega)]; frame_out; rw [hpay10, zero3]
  exact congrArg (0 + ·) (Finset.sum_congr rfl fun i _ => by simp only [blk0, blk1, blk2])

theorem next5 (c : Dev nD) (t : Fin cfg0.N) (h : ¬t.val % 8 = 0) (q : Fin 2048) :
    (outsAt0 m c t.val t.isLt).2.2.1 (ix2 0 q) = (outsAt0 m c (t.val - 1) (Nat.lt_of_le_of_lt (Nat.sub_le _ _) t.isLt)).2.2.1 (ix2 0 q) + add5 m c t q := by
  by_cases h' : t.val % 8 = 7
  · rw [outsAt0_C m c t h h']; frame_out; rw [hpay10]
    exact congrArg (_ + ·) (Finset.sum_congr rfl fun i _ => by simp only [blk0, blk1, blk2])
  · rw [outsAt0_B m c t h h']; frame_out; rw [hpay10]
    exact congrArg (_ + ·) (Finset.sum_congr rfl fun i _ => by simp only [blk0, blk1, blk2])

/-- What point `t` adds to output 6. -/
def add6 (c : Dev nD) (t : Fin cfg0.N) (q : Fin 2048) : Ideal .f32 := ∑ i : Fin 256, Err (fun k => A0 m c (ix2 (at_ t i) k)) (fun k => A1 m c (ix2 0 k)) (fun k => A2 m c (ix2 (at_ t i) k)) q * Err (fun k => A0 m c (ix2 (at_ t i) k)) (fun k => A1 m c (ix2 0 k)) (fun k => A2 m c (ix2 (at_ t i) k)) q

theorem first6 (c : Dev nD) (t : Fin cfg0.N) (h : t.val % 8 = 0) (q : Fin 2048) :
    (outsAt0 m c t.val t.isLt).2.2.2 (ix2 0 q) = 0 + add6 m c t q := by
  rw [outsAt0_A m c t h (by omega)]; frame_out; rw [hpay8, zero4]
  exact congrArg (0 + ·) (Finset.sum_congr rfl fun i _ => by simp only [blk0, blk1, blk2])

theorem next6 (c : Dev nD) (t : Fin cfg0.N) (h : ¬t.val % 8 = 0) (q : Fin 2048) :
    (outsAt0 m c t.val t.isLt).2.2.2 (ix2 0 q) = (outsAt0 m c (t.val - 1) (Nat.lt_of_le_of_lt (Nat.sub_le _ _) t.isLt)).2.2.2 (ix2 0 q) + add6 m c t q := by
  by_cases h' : t.val % 8 = 7
  · rw [outsAt0_C m c t h h']; frame_out; rw [hpay8]
    exact congrArg (_ + ·) (Finset.sum_congr rfl fun i _ => by simp only [blk0, blk1, blk2])
  · rw [outsAt0_B m c t h h']; frame_out; rw [hpay8]
    exact congrArg (_ + ·) (Finset.sum_congr rfl fun i _ => by simp only [blk0, blk1, blk2])

theorem final5 (c : Dev nD) : (dats m 0 c).arrAt 5 (cfgs 0).N = REF2 (A0 m c) (A1 m c) (A2 m c) := by
  refine (dats m 0 c).arrAt_eq_of_covers 5 _ (by decide +kernel) fun t hf y => ?_
  have h3 := (flush0_5 t).mp hf
  blk_simp
  obtain ⟨y0, q, rfl⟩ : ∃ (y0 : Fin 1) (q : Fin 2048), y = ix2 y0 q := ⟨_, _, eq_ix2 y⟩
  obtain rfl : y0 = 0 := Subsingleton.elim _ _
  rw [after0_5]
  refine (Pipeline.eq_sum_fin_of_reset_step_apply_of_flush (fun n h q => (outsAt0 m c n h).2.2.1 (ix2 0 q)) 8 (fun _ => 0) (add5 m c)
      (first5 m c) (next5 m c) t h3 q).trans ?_
  rw [zero_add]
  refine Eq.trans ?_ ((pos5 (REF2 (A0 m c) (A1 m c) (A2 m c)) t q).trans (href2 _ _ _ q)).symm
  refine Fin.sum_mul_add_congr fun s k hl => ?_
  rw [row_eq t h3 s k hl]

/-- The sums of the squares, a column each, after the last point. -/
theorem squares (c : Dev nD) (t : Fin cfg0.N) (h3 : t.val % 8 = 7) (q : Fin 2048) : (outsAt0 m c t.val t.isLt).2.2.2 (ix2 0 q)
    = ∑ l, Err (fun k => A0 m c (ix2 l k)) (fun k => A1 m c (ix2 0 k)) (fun k => A2 m c (ix2 l k)) q * Err (fun k => A0 m c (ix2 l k)) (fun k => A1 m c (ix2 0 k)) (fun k => A2 m c (ix2 l k)) q := by
  refine (Pipeline.eq_sum_fin_of_reset_step_apply_of_flush (fun n h q => (outsAt0 m c n h).2.2.2 (ix2 0 q)) 8 (fun _ => 0) (add6 m c)
      (first6 m c) (next6 m c) t h3 q).trans ?_
  rw [zero_add]
  refine Fin.sum_mul_add_congr fun s k hl => ?_
  rw [row_eq t h3 s k hl]

/-- The last point leaves the loss, from those sums. -/
theorem outs_loss (c : Dev nD) (t : Fin cfg0.N) (h3 : t.val % 8 = 7) : (outsAt0 m c t.val t.isLt).2.1
    = k0_pay2 (F := Ideal) (outsAt0 m c t.val t.isLt).2.2.2 := by
  rw [outsAt0_C m c t (by omega) h3]; frame_out

theorem final4 (c : Dev nD) : (dats m 0 c).arrAt 4 (cfgs 0).N = REF1 (A0 m c) (A1 m c) (A2 m c) := by
  refine (dats m 0 c).arrAt_eq_of_covers 4 _ (by decide +kernel) fun t hf y => ?_
  have h3 := (flush0_4 t).mp hf
  blk_simp
  rw [after0_4, outs_loss m c t h3, hpay2, href1]
  simp only [squares m c t h3]

/-- The kernel and its reference, from equal arguments, end with equal results. -/
theorem algebraic : Cert.algebraic_LossHeadIdeal_LossHeadRefIdeal := by
  intro m ρ m' ρ' _ hagree
  refine ⟨fun c => REF0 (A0 m c) (A1 m c) (A2 m c), fun c => REF1 (A0 m c) (A1 m c) (A2 m c), fun c => REF2 (A0 m c) (A1 m c) (A2 m c),
    (θ_run defs _ _).mono (fun _ h c => ⟨(h c).1.trans (final3 m c), (h c).2.1.trans (final4 m c), (h c).2.2.1.trans (final5 m c), (h c).2.2.2.2⟩) (run_blocks (F := Ideal) m ρ),
    (θ_run Cert.LossHeadRefIdeal.defs _ _).mono (fun _ h c => ⟨?_, ?_, ?_, (h c).2.2.2⟩) (Cert.LossHeadRefIdeal.Value.run (F := Ideal) m' ρ')⟩
  · rw [(h c).1, Cert.LossHeadRefIdeal.Value.res_main_v48, (hagree c).1, (hagree c).2.1, (hagree c).2.2]
  · rw [(h c).2.1, (hagree c).1, (hagree c).2.1, (hagree c).2.2]
  · rw [(h c).2.2.1, (hagree c).1, (hagree c).2.1, (hagree c).2.2]

/-- The reference runs to its end. -/
theorem quiescent_ref : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

end Cert.LossHeadIdeal.Value

end
-- ==== Proof.SumDisc.lean ====
/-
  The gradients of the state-space layer's transition and input matrices: the devices' parts added up by the kernel,
  then the discretisation's own gradient on the host. The kernel's array is the sum over the devices, and the later
  operations are the reference's.
-/
module

public import proofs.«01_k».proof.Defs
public import proofs.«01_k».proof.Proof.Gen.SumDiscIdeal.Run
public import proofs.«01_k».proof.Proof.Gen.SumDiscRefIdeal.Run
public import Idealize.ShloMosaic.Lib.Pipeline.ValueKit
public import Idealize.ShloMosaic.Lib.Pointwise

@[expose] public section

set_option maxRecDepth 16384

noncomputable section

namespace Cert.SumDiscIdeal.Value

open Cert.SumDiscIdeal Cert.SumDiscIdeal.Gen Idealize.ShloMosaic Idealize.ShloMosaic.TcCoe Idealize.SL.Sem
open Idealize.ShloMosaic.Pipeline (Dat)

variable (m : (ℓ : Loc nD τ sig) → Buf (Elt Ideal) ℓ)

/-- The reference's term over its argument. -/
abbrev REF (P : FVec Ideal S8x128x1024 .bf16) : FVec Ideal S128x1024 .f32 :=
  Host.reduceAdd (extf .f32 P Cert.SumDiscRefIdeal.Gen.bitsLt_bf16_f32) (constant Cert.SumDiscRefIdeal.S_ .f32 0x00000000#32) Cert.SumDiscRefIdeal.Gen.reducesTo_S8x128x1024_S128x1024_d0 Cert.SumDiscRefIdeal.Gen.h_S_

/-- Every window's block at point `t` is the `t`-th block of rows. -/
theorem idx : ∀ t : Fin cfg0.N, win0_0.index t = ![0, t.val, 0] ∧ win0_1.index t = ![t.val, 0] :=
  (by decide +kernel : ∀ t : Fin grid0.N, _)

/-- The reference's sum at an index. -/
theorem href (P : FVec Ideal S8x128x1024 .bf16) (j : S128x1024.Idx) : REF P j = ∑ d : Fin 8, P (ix3 d (j 0) (j 1)) := by
  pointwise [REF]

/-- What the kernel leaves is the sum over the devices. -/
theorem summed (c : Dev nD) : reg_main_v53 m c = REF (m ((c : Thread nD τ).loc main_arg8)) := by
  unfold reg_main_v53
  refine (dats m 0 c).arrAt_eq_of_covers 1 _ (by decide +kernel) fun t hf y => ?_
  blk_simp
  rw [after0_1]
  frame_out
  rw [href, Fin.sum_univ_eight]
  pointwise [k0_pay1]
  blk_point [iblk, V_main_arg8 m c, idx t]

set_option maxHeartbeats 4000000 in
/-- The kernel and its reference, from equal arguments, end with equal results. -/
theorem algebraic : Cert.algebraic_SumDiscIdeal_SumDiscRefIdeal := by
  intro m ρ m' ρ' _ hagree
  refine ⟨_, _, _, _, _, run (F := Ideal) m ρ,
    (θ_run Cert.SumDiscRefIdeal.defs _ _).mono (fun _ h c => ?_) (Cert.SumDiscRefIdeal.Value.run (F := Ideal) m' ρ')⟩
  obtain ⟨e0, e1, e2, e3, e4, e5, e6, e7, e8⟩ := hagree c
  have x_arg5 := exit_main_arg5 m c; have x_arg6 := exit_main_arg6 m c; have x_arg7 := exit_main_arg7 m c
  have x_v53 := exit_main_v53 m c; have x_v49 := exit_main_v49 m c; have x_v3 := exit_main_v3 m c
  have x_v46 := exit_main_v46 m c; have x_v4 := exit_main_v4 m c; have x_v42 := exit_main_v42 m c
  have x_v39 := exit_main_v39 m c; have x_v38 := exit_main_v38 m c; have x_v34 := exit_main_v34 m c
  have x_v24 := exit_main_v24 m c; have x_v21 := exit_main_v21 m c; have x_v1 := exit_main_v1 m c
  have x_v19 := exit_main_v19 m c; have x_v0 := exit_main_v0 m c; have x_v31 := exit_main_v31 m c
  have x_v27 := exit_main_v27 m c; have x_v9 := exit_main_v9 m c; have x_v17 := exit_main_v17 m c
  have x_v18 := exit_main_v18 m c; have x_v6 := exit_main_v6 m c; have x_v12 := exit_main_v12 m c
  have x_v13 := exit_main_v13 m c; have x_v5 := exit_main_v5 m c
  rw [summed] at x_v53
  generalize exitV m c = W at *
  refine ⟨(h c).1.trans ?_, (h c).2.1.trans ?_, (h c).2.2.1.trans ?_, (h c).2.2.2.1.trans ?_, (h c).2.2.2.2.1.trans ?_,
    (h c).2.2.2.2.2⟩ <;>
  · simp only [Cert.SumDiscRefIdeal.Value.res_main_v73, Cert.SumDiscRefIdeal.Value.res_main_v81, Cert.SumDiscRefIdeal.Value.res_main_v149, Cert.SumDiscRefIdeal.Value.res_main_v139, Cert.SumDiscRefIdeal.Value.res_main_v147, res_main_v54, res_main_v55, res_main_v56, res_main_v69, res_main_v77, res_main_v85, res_main_v89, res_main_v90, res_main_v100, res_main_v101, res_main_v105, res_main_v109, res_main_v120, res_main_v131, res_main_v139,
      x_arg5, x_arg6, x_arg7, x_v53, x_v49, x_v3, x_v46, x_v4, x_v42, x_v39, x_v38, x_v34, x_v24, x_v21, x_v1, x_v19, x_v0, x_v31, x_v27, x_v9, x_v17, x_v18, x_v6, x_v12, x_v13, x_v5, e0, e1, e2, e3, e4, e5, e6, e7, e8]
    rfl

/-- The reference runs to its end. -/
theorem quiescent_ref : Cert.quiescent_SumDiscRefIdeal := fun m ρ _ =>
  (θ_run Cert.SumDiscRefIdeal.defs _ _).mono (fun r h => ⟨fun c => (h c).2.2.2.2.2, sem_eq_zero_of_no_sems (by decide) r.2⟩)
    (Cert.SumDiscRefIdeal.Value.run (F := Ideal) m ρ)

end Cert.SumDiscIdeal.Value

end
-- ==== Proof.S5Run.lean ====
/- The gradient of the S5 scan: its run. At every point of the grid the body, whichever branch the chunk takes, leaves
   its inputs as they were and its outputs and scratch at some contents; hence the whole call ends, with its
   arguments unchanged. -/
module

public import proofs.«01_k».proof.Proof.Gen.S5BwdIdeal.Frame
public import proofs.«01_k».proof.Proof.Gen.S5BwdIdeal.Loops
public import Idealize.ShloMosaic.Lib.Claim

@[expose] public section

set_option maxRecDepth 16384

noncomputable section

namespace Cert.S5BwdIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.S5BwdIdeal.Gen

variable {F : FTy → Type} [FloatOps F]

local notation "𝕄" => MT nD τ sig Unit (Elt F) ℕ (UR sig nD τ) ℕ

/-- The first chunk of a group of channels: the one that clears the accumulators. -/
abbrev clears (i : grid0.Coords) : Prop :=
  (Scalar.cmpi .ne (Scalar.extui (Scalar.cmpi .eq (BitVec.ofNat 32 (i 1).val) 0#32)) 0#32) = 1#1

/-- What a point's body is given and gives back: the inputs at their contents, the outputs and the scratch at some. -/
abbrev Held (c : Dev nD)
    (a2 : Memref sig .tc .vmem S1024x128 .f32)
    (a3 : Memref sig .tc .vmem S1024x128 .f32)
    (a4 : Memref sig .tc .vmem S1024x128 .f32)
    (a5 : Memref sig .tc .vmem S1024x1024 .f32)
    (a6 : Memref sig .tc .vmem S1x128 .f32)
    (a7 : Memref sig .tc .vmem S1x1024x128 .bf16)
    (a8 : Memref sig .tc .vmem S1x128x1024 .bf16)
    (a9 : Memref sig .tc .vmem S1x4x8x1024 .f32)
    (a10 : Memref sig .tc .vmem S1x1x1x1024 .f32)
    (a11 : Memref sig .tc .vmem S1024x128 .bf16)
    (a12 : Memref sig .tc .vmem S1x128x1024 .f32)
    (a13 : Memref sig .tc .vmem S1x1024x128 .f32)
    (a14 : Memref sig .tc .vmem S1x1x1024 .f32)
    (a15 : Memref sig .tc .vmem S1x128 .f32)
    (a16 : Memref sig .tc .vmem S1024x1024 .f32)
    (a17 : Memref sig .tc .vmem S1x1024 .f32)
    (x2 : Vec F S1024x128 .f32) (x3 : Vec F S1024x128 .f32) (x4 : Vec F S1024x128 .f32) (x5 : Vec F S1024x1024 .f32) (x6 : Vec F S1x128 .f32) (x7 : Vec F S1x1024x128 .bf16) (x8 : Vec F S1x128x1024 .bf16) (x9 : Vec F S1x4x8x1024 .f32) (x10 : Vec F S1x1x1x1024 .f32) : sProp 𝕄 :=
  iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d))

set_option maxHeartbeats 4000000 in
/-- One point's body, from what it is given to what it gives back. -/
theorem body_run (c : Dev nD) (i : grid0.Coords)
    (a2 : Memref sig .tc .vmem S1024x128 .f32) (w2 : a2.IsWhole)
    (a3 : Memref sig .tc .vmem S1024x128 .f32) (w3 : a3.IsWhole)
    (a4 : Memref sig .tc .vmem S1024x128 .f32) (w4 : a4.IsWhole)
    (a5 : Memref sig .tc .vmem S1024x1024 .f32) (w5 : a5.IsWhole)
    (a6 : Memref sig .tc .vmem S1x128 .f32) (w6 : a6.IsWhole)
    (a7 : Memref sig .tc .vmem S1x1024x128 .bf16) (w7 : a7.IsWhole)
    (a8 : Memref sig .tc .vmem S1x128x1024 .bf16) (w8 : a8.IsWhole)
    (a9 : Memref sig .tc .vmem S1x4x8x1024 .f32) (w9 : a9.IsWhole)
    (a10 : Memref sig .tc .vmem S1x1x1x1024 .f32) (w10 : a10.IsWhole)
    (a11 : Memref sig .tc .vmem S1024x128 .bf16) (w11 : a11.IsWhole)
    (a12 : Memref sig .tc .vmem S1x128x1024 .f32) (w12 : a12.IsWhole)
    (a13 : Memref sig .tc .vmem S1x1024x128 .f32) (w13 : a13.IsWhole)
    (a14 : Memref sig .tc .vmem S1x1x1024 .f32) (w14 : a14.IsWhole)
    (a15 : Memref sig .tc .vmem S1x128 .f32) (w15 : a15.IsWhole)
    (a16 : Memref sig .tc .vmem S1024x1024 .f32) (w16 : a16.IsWhole)
    (a17 : Memref sig .tc .vmem S1x1024 .f32) (w17 : a17.IsWhole)
    (x2 : Vec F S1024x128 .f32) (x3 : Vec F S1024x128 .f32) (x4 : Vec F S1024x128 .f32) (x5 : Vec F S1024x1024 .f32) (x6 : Vec F S1x128 .f32) (x7 : Vec F S1x1024x128 .bf16) (x8 : Vec F S1x128x1024 .bf16) (x9 : Vec F S1x4x8x1024 .f32) (x10 : Vec F S1x1x1x1024 .f32) :
    Held c a2 a3 a4 a5 a6 a7 a8 a9 a10 a11 a12 a13 a14 a15 a16 a17 x2 x3 x4 x5 x6 x7 x8 x9 x10
      ⊢ wp Idealize.ShloMosaic.frame (wpE (defs₀ (F := F)) Variants.none c none) Set.univ (cc0_s5_scan_bwd i a2 w2 a3 w3 a4 w4 a5 w5 a6 w6 a7 w7 a8 w8 a9 w9 a10 w10 a11 w11 a12 w12 a13 w13 a14 w14 a15 w15 a16 w16 a17 w17)
          (fun _ => Held c a2 a3 a4 a5 a6 a7 a8 a9 a10 a11 a12 a13 a14 a15 a16 a17 x2 x3 x4 x5 x6 x7 x8 x9 x10) := by
  simp only [cc0_s5_scan_bwd_eq_skeleton]; unfold cc0_s5_scan_bwd_skel
  unfold Held owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩
  obtain rfl := w2.eq_unread h2; obtain rfl := w3.eq_unread h3; obtain rfl := w4.eq_unread h4; obtain rfl := w5.eq_unread h5; obtain rfl := w6.eq_unread h6; obtain rfl := w7.eq_unread h7; obtain rfl := w8.eq_unread h8; obtain rfl := w9.eq_unread h9; obtain rfl := w10.eq_unread h10
  by_cases hc : clears i <;>
  ( sl_exec (disch := sl_exact hc)
    sl_step
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl )

/-! ## The call's proof data -/

/-- The outputs: nothing is said of what a point leaves in them. -/
def forgotten : Fin 14 → Bool := fun w => 9 ≤ w.val

variable (m : (ℓ : Loc nD τ sig) → Buf (Elt F) ℓ) (ρ : Dev nD → PrngReg)

/-- The pipeline's data on core `c`: the arrays as the call finds them; a point leaves each input's buffer at its
    block, the outputs' unnamed; the scratch is kept at some contents; nothing is owed. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨w + 9, h⟩ => Dat.unnamed (cfg := cfg0) ⟨w + 9, h⟩ t
  Φ _ := Pipeline.ΦA spec0 c
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = iblk m c 7 t := by dsimp only [data]
theorem after_8 (c : Dev nD) (t : Fin cfg0.N) : (data m 0 c).after 8 t = iblk m c 8 t := by dsimp only [data]

/-- The scratch and the generator's register, as the body takes them. -/
theorem kept_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d
theorem before_5 (c : Dev nD) (t : Fin cfg0.N) (d) : (data m 0 c).before 5 t d = iblk m c 5 t :=
  before0_5_of m (data m 0 c) (data_A m c 5) (after_5 m c) t d
theorem before_6 (c : Dev nD) (t : Fin cfg0.N) (d) : (data m 0 c).before 6 t d = iblk m c 6 t :=
  before0_6_of m (data m 0 c) (data_A m c 6) (after_6 m c) t d
theorem before_7 (c : Dev nD) (t : Fin cfg0.N) (d) : (data m 0 c).before 7 t d = iblk m c 7 t :=
  before0_7_of m (data m 0 c) (data_A m c 7) (after_7 m c) t d
theorem before_8 (c : Dev nD) (t : Fin cfg0.N) (d) : (data m 0 c).before 8 t d = iblk m c 8 t :=
  before0_8_of m (data m 0 c) (data_A m c 8) (after_8 m c) t d

/-- A window's staging buffer at a point. -/
abbrev buf (c : Dev nD) (t : Fin cfg0.N) (w : Fin cfg0.W)
    (x : (cfg0.win w).block.Idx → Elt F (cfg0.win w).elt) : sProp 𝕄 :=
  owns (c : Thread nD τ) ((cfg0.win w).stage (cfg0.slots t w)) fullShare x

/-- What a point is given. -/
def given (c : Dev nD) (t : Fin cfg0.N) : sProp 𝕄 :=
  iprop((data m 0 c).Φ t.castSucc ∗ (data m 0 c).owesAt () t.castSucc
    ∗ (∃ d, buf c t 0 ((data m 0 c).before 0 t d))
    ∗ (∃ d, buf c t 1 ((data m 0 c).before 1 t d))
    ∗ (∃ d, buf c t 2 ((data m 0 c).before 2 t d))
    ∗ (∃ d, buf c t 3 ((data m 0 c).before 3 t d))
    ∗ (∃ d, buf c t 4 ((data m 0 c).before 4 t d))
    ∗ (∃ d, buf c t 5 ((data m 0 c).before 5 t d))
    ∗ (∃ d, buf c t 6 ((data m 0 c).before 6 t d))
    ∗ (∃ d, buf c t 7 ((data m 0 c).before 7 t d))
    ∗ (∃ d, buf c t 8 ((data m 0 c).before 8 t d))
    ∗ (∃ d, buf c t 9 d)
    ∗ (∃ d, buf c t 10 d)
    ∗ (∃ d, buf c t 11 d)
    ∗ (∃ d, buf c t 12 d)
    ∗ (∃ d, buf c t 13 d))

/-- What it gives back. -/
def left (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (∃ d, buf c t 9 d)
    ∗ (∃ d, buf c t 10 d)
    ∗ (∃ d, buf c t 11 d)
    ∗ (∃ d, buf c t 12 d)
    ∗ (∃ d, buf c t 13 d))

theorem leaves_0 (c : Dev nD) (t : Fin cfg0.N) : (data m 0 c).leavesExact 0 t = buf c t 0 (iblk m c 0 t) := by
  unfold Dat.leavesExact; rw [show cfg0.idle 0 (grid0.coords t) = false from rfl, after_0]
theorem leaves_1 (c : Dev nD) (t : Fin cfg0.N) : (data m 0 c).leavesExact 1 t = buf c t 1 (iblk m c 1 t) := by
  unfold Dat.leavesExact; rw [show cfg0.idle 1 (grid0.coords t) = false from rfl, after_1]
theorem leaves_2 (c : Dev nD) (t : Fin cfg0.N) : (data m 0 c).leavesExact 2 t = buf c t 2 (iblk m c 2 t) := by
  unfold Dat.leavesExact; rw [show cfg0.idle 2 (grid0.coords t) = false from rfl, after_2]
theorem leaves_3 (c : Dev nD) (t : Fin cfg0.N) : (data m 0 c).leavesExact 3 t = buf c t 3 (iblk m c 3 t) := by
  unfold Dat.leavesExact; rw [show cfg0.idle 3 (grid0.coords t) = false from rfl, after_3]
theorem leaves_4 (c : Dev nD) (t : Fin cfg0.N) : (data m 0 c).leavesExact 4 t = buf c t 4 (iblk m c 4 t) := by
  unfold Dat.leavesExact; rw [show cfg0.idle 4 (grid0.coords t) = false from rfl, after_4]
theorem leaves_5 (c : Dev nD) (t : Fin cfg0.N) : (data m 0 c).leavesExact 5 t = buf c t 5 (iblk m c 5 t) := by
  unfold Dat.leavesExact; rw [show cfg0.idle 5 (grid0.coords t) = false from rfl, after_5]
theorem leaves_6 (c : Dev nD) (t : Fin cfg0.N) : (data m 0 c).leavesExact 6 t = buf c t 6 (iblk m c 6 t) := by
  unfold Dat.leavesExact; rw [show cfg0.idle 6 (grid0.coords t) = false from rfl, after_6]
theorem leaves_7 (c : Dev nD) (t : Fin cfg0.N) : (data m 0 c).leavesExact 7 t = buf c t 7 (iblk m c 7 t) := by
  unfold Dat.leavesExact; rw [show cfg0.idle 7 (grid0.coords t) = false from rfl, after_7]
theorem leaves_8 (c : Dev nD) (t : Fin cfg0.N) : (data m 0 c).leavesExact 8 t = buf c t 8 (iblk m c 8 t) := by
  unfold Dat.leavesExact; rw [show cfg0.idle 8 (grid0.coords t) = false from rfl, after_8]

set_option maxHeartbeats 1000000 in
/-- The body at any point. -/
theorem point_run (c : Dev nD) (t : Fin cfg0.N) :
    given m c t ⊢ wp Idealize.ShloMosaic.frame (wpE (defs₀ (F := F)) Variants.none c none) Set.univ (bodyAt0 t) (fun _ => left m c t) := by
  unfold given left bodyAt0
  simp only [before_0, before_1, before_2, before_3, before_4, before_5, before_6, before_7, before_8]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl, kept_eq,
    leaves_0, leaves_1, leaves_2, leaves_3, leaves_4, leaves_5, leaves_6, leaves_7, leaves_8]
  iintro ⟨⟨⟨HS, HC⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, H9, H10, H11, H12, H13⟩
  iapply (wp_wand_r Idealize.ShloMosaic.frame (wpE (defs₀ (F := F)) Variants.none (c : Thread nD τ) none) Set.univ)
  isplitl [H0 H1 H2 H3 H4 H5 H6 H7 H8 H9 H10 H11 H12 H13 HS HC]
  · iapply (body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS]; · iexact HS
    iexact HC
  iintro %y ⟨H0, H1, H2, H3, H4, H5, H6, H7, H8, H9, H10, H11, H12, H13, HS, HC⟩
  isplitl [HS HC Hg]
  · isplitl [HS HC]
    · isplitl [HS]; · iexact HS
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The pipeline's call of the body at a point is the body there. -/
theorem called (t : Fin cfg0.N) :
    defs₀ (F := F) .tc cfg0.body (cfg0.bodyArgs t (cfg0.slots t)) = bodyAt0 t := by
  unfold defs₀; rw [Defs.onTc_tc]

theorem obligation (c : Dev nD) :
    BodyObligation (data (F := F) m 0 c) (defs₀ (F := F)) Variants.none () Set.univ forgotten := fun t => by
  rw [bigSep_W0, bigSep_W0, called]
  exact triple_restated (point_run m c t) rfl .rfl fun _ => .rfl

/-! ## The run -/

set_option backward.isDefEq.respectTransparency.types false in
/-- The whole call ends: its inputs' arrays and the buffers no window stages as it found them, every counter at zero. -/
theorem run : θ_run defs (onTc (τ := τ) (main (F := F))) (s₀ m ρ) (fun r =>
    Pipeline.RDat.FramePost (cfgs 0) (fun c => (data m 0 c).toRForget forgotten) (V m) r ∧ r.2.sem = fun _ => 0) :=
  Pipeline.θ_run_frame_forget (Q' := _) cfgs (data m) (0 : Fin 1) launch0 defs₀ Variants.none forgotten m ρ main
    (hbody := fun c => (obligation m c).loose) (hshare := fun c => (data m 0 c).share_full fun _ => rfl)
    (howed := fun _ _ => rfl) (V := V m) (hmain := hmain m Variants.none) (hA := data_A m) (hΦ := fun _ _ => rfl)

/-- The frame, over any float values: every argument as it was, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
    (Pipeline.RDat.FramePost.arr_in h.1 c 0 rfl).trans ((data_A m c 0).trans (V_main_arg0 m c)),
    (Pipeline.RDat.FramePost.arr_in h.1 c 1 rfl).trans ((data_A m c 1).trans (V_main_arg1 m c)),
    (Pipeline.RDat.FramePost.arr_in h.1 c 2 rfl).trans ((data_A m c 2).trans (V_main_arg2 m c)),
    (Pipeline.RDat.FramePost.arr_in h.1 c 3 rfl).trans ((data_A m c 3).trans (V_main_arg3 m c)),
    (Pipeline.RDat.FramePost.arr_in h.1 c 4 rfl).trans ((data_A m c 4).trans (V_main_arg4 m c)),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    (Pipeline.RDat.FramePost.arr_in h.1 c 7 rfl).trans ((data_A m c 7).trans (V_main_arg7 m c)),
    (Pipeline.RDat.FramePost.arr_in h.1 c 8 rfl).trans ((data_A m c 8).trans (V_main_arg8 m c))⟩, h.2⟩) (run m ρ)

end Cert.S5BwdIdeal.Scan

end
-- ==== Proof.S5Bits.lean ====
/- The frame of the S5 scan's gradient at the hardware's floats: the two programs have the same text, so the run of
   `S5Run`, which holds over any float values, is also this program's. -/
module

public import proofs.«01_k».proof.Defs
public import proofs.«01_k».proof.Proof.Gen.S5Bwd
public import proofs.«01_k».proof.Proof.Gen.S5BwdIdeal
public import proofs.«01_k».proof.Proof.S5Run

@[expose] public section

noncomputable section

namespace Cert.S5Bwd.Scan

open Idealize.ShloMosaic Idealize.SL.Sem

/-- The two bodies are one text. -/
theorem body : ∀ i a2 h2 a3 h3 a4 h4 a5 h5 a6 h6 a7 h7 a8 h8 a9 h9 a10 h10 a11 h11 a12 h12 a13 h13 a14 h14 a15 h15 a16 h16 a17 h17,
    Cert.S5Bwd.cc0_s5_scan_bwd (F := Bits) i a2 h2 a3 h3 a4 h4 a5 h5 a6 h6 a7 h7 a8 h8 a9 h9 a10 h10 a11 h11 a12 h12 a13 h13 a14 h14 a15 h15 a16 h16 a17 h17 =
      Cert.S5BwdIdeal.cc0_s5_scan_bwd (F := Bits) i a2 h2 a3 h3 a4 h4 a5 h5 a6 h6 a7 h7 a8 h8 a9 h9 a10 h10 a11 h11 a12 h12 a13 h13 a14 h14 a15 h15 a16 h16 a17 h17 := by
  intros
  rfl

/-- The two body tables agree at every label. -/
theorem bodies : Cert.S5Bwd.defs₀ (F := Bits) = Cert.S5BwdIdeal.defs₀ (F := Bits) := by
  refine congrArg Defs.onTc (funext fun l => funext fun a => ?_)
  obtain ⟨_ | n, h⟩ := l
  · obtain ⟨t, s⟩ := a
    exact body ..
  · exact absurd h (Nat.not_lt.2 (Nat.le_add_left _ _))

theorem tables : Cert.S5Bwd.defs (F := Bits) = Cert.S5BwdIdeal.defs (F := Bits) :=
  congrArg (Pipeline.defs Cert.S5BwdIdeal.pcfgs) bodies

theorem frame : Cert.quiescent_S5Bwd := by
  intro m ρ _
  have h := Cert.S5BwdIdeal.Scan.frame_any (F := Bits) m ρ
  rw [← tables] at h
  exact h

end Cert.S5Bwd.Scan

end
-- ==== Proof.lean ====
module

public import proofs.«01_k».proof.Defs
public import proofs.«01_k».proof.Proof.Gen.FfnGu
public import proofs.«01_k».proof.Proof.Gen.FfnGu.Frame
public import proofs.«01_k».proof.Proof.Gen.FfnGuIdeal
public import proofs.«01_k».proof.Proof.Gen.FfnGuIdeal.Frame
public import proofs.«01_k».proof.Proof.Gen.FfnGuRefIdeal
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownRefIdeal
public import proofs.«01_k».proof.Proof.Gen.FfnDact
public import proofs.«01_k».proof.Proof.Gen.FfnDact.Frame
public import proofs.«01_k».proof.Proof.Gen.FfnDactIdeal
public import proofs.«01_k».proof.Proof.Gen.FfnDactIdeal.Frame
public import proofs.«01_k».proof.Proof.Gen.FfnDactRefIdeal
public import proofs.«01_k».proof.Proof.Gen.FfnDwDown
public import proofs.«01_k».proof.Proof.Gen.FfnDwDown.Frame
public import proofs.«01_k».proof.Proof.Gen.FfnDwDownIdeal
public import proofs.«01_k».proof.Proof.Gen.FfnDwDownIdeal.Frame
public import proofs.«01_k».proof.Proof.Gen.FfnDwDownRefIdeal
public import proofs.«01_k».proof.Proof.Gen.FfnDwGu
public import proofs.«01_k».proof.Proof.Gen.FfnDwGu.Frame
public import proofs.«01_k».proof.Proof.Gen.FfnDwGuIdeal
public import proofs.«01_k».proof.Proof.Gen.FfnDwGuIdeal.Frame
public import proofs.«01_k».proof.Proof.Gen.FfnDwGuRefIdeal
public import proofs.«01_k».proof.Proof.Gen.FfnDh
public import proofs.«01_k».proof.Proof.Gen.FfnDh.Frame
public import proofs.«01_k».proof.Proof.Gen.FfnDhIdeal
public import proofs.«01_k».proof.Proof.Gen.FfnDhIdeal.Frame
public import proofs.«01_k».proof.Proof.Gen.FfnDhRefIdeal
public import proofs.«01_k».proof.Proof.Gen.LruIn
public import proofs.«01_k».proof.Proof.Gen.LruIn.Frame
public import proofs.«01_k».proof.Proof.Gen.LruInIdeal
public import proofs.«01_k».proof.Proof.Gen.LruInIdeal.Frame
public import proofs.«01_k».proof.Proof.Gen.LruInRefIdeal
public import proofs.«01_k».proof.Proof.Gen.LruDh
public import proofs.«01_k».proof.Proof.Gen.LruDh.Frame
public import proofs.«01_k».proof.Proof.Gen.LruDhIdeal
public import proofs.«01_k».proof.Proof.Gen.LruDhIdeal.Frame
public import proofs.«01_k».proof.Proof.Gen.LruDhRefIdeal
public import proofs.«01_k».proof.Proof.Gen.LruDwIn
public import proofs.«01_k».proof.Proof.Gen.LruDwIn.Frame
public import proofs.«01_k».proof.Proof.Gen.LruDwInIdeal
public import proofs.«01_k».proof.Proof.Gen.LruDwInIdeal.Frame
public import proofs.«01_k».proof.Proof.Gen.LruDwInRefIdeal
public import proofs.«01_k».proof.Proof.Gen.AdamAda
public import proofs.«01_k».proof.Proof.Gen.AdamAda.Frame
public import proofs.«01_k».proof.Proof.Gen.AdamAdaIdeal
public import proofs.«01_k».proof.Proof.Gen.AdamAdaIdeal.Frame
public import proofs.«01_k».proof.Proof.Gen.AdamAdaRefIdeal
public import proofs.«01_k».proof.Proof.Gen.AdamS5Mid
public import proofs.«01_k».proof.Proof.Gen.AdamS5Mid.Frame
public import proofs.«01_k».proof.Proof.Gen.AdamS5MidIdeal
public import proofs.«01_k».proof.Proof.Gen.AdamS5MidIdeal.Frame
public import proofs.«01_k».proof.Proof.Gen.AdamS5MidRefIdeal
public import proofs.«01_k».proof.Proof.Gen.AdamLruGate
public import proofs.«01_k».proof.Proof.Gen.AdamLruGate.Frame
public import proofs.«01_k».proof.Proof.Gen.AdamLruGateIdeal
public import proofs.«01_k».proof.Proof.Gen.AdamLruGateIdeal.Frame
public import proofs.«01_k».proof.Proof.Gen.AdamLruGateRefIdeal
public import proofs.«01_k».proof.Proof.Gen.AdamS5In
public import proofs.«01_k».proof.Proof.Gen.AdamS5In.Frame
public import proofs.«01_k».proof.Proof.Gen.AdamS5InIdeal
public import proofs.«01_k».proof.Proof.Gen.AdamS5InIdeal.Frame
public import proofs.«01_k».proof.Proof.Gen.AdamS5InRefIdeal
public import proofs.«01_k».proof.Proof.Gen.AdamS5Glu
public import proofs.«01_k».proof.Proof.Gen.AdamS5Glu.Frame
public import proofs.«01_k».proof.Proof.Gen.AdamS5GluIdeal
public import proofs.«01_k».proof.Proof.Gen.AdamS5GluIdeal.Frame
public import proofs.«01_k».proof.Proof.Gen.AdamS5GluRefIdeal
public import proofs.«01_k».proof.Proof.Gen.AdamLruIn
public import proofs.«01_k».proof.Proof.Gen.AdamLruIn.Frame
public import proofs.«01_k».proof.Proof.Gen.AdamLruInIdeal
public import proofs.«01_k».proof.Proof.Gen.AdamLruInIdeal.Frame
public import proofs.«01_k».proof.Proof.Gen.AdamLruInRefIdeal
public import proofs.«01_k».proof.Proof.Gen.AdamLruOut
public import proofs.«01_k».proof.Proof.Gen.AdamLruOut.Frame
public import proofs.«01_k».proof.Proof.Gen.AdamLruOutIdeal
public import proofs.«01_k».proof.Proof.Gen.AdamLruOutIdeal.Frame
public import proofs.«01_k».proof.Proof.Gen.AdamLruOutRefIdeal
public import proofs.«01_k».proof.Proof.Gen.AdamFfnGu
public import proofs.«01_k».proof.Proof.Gen.AdamFfnGu.Frame
public import proofs.«01_k».proof.Proof.Gen.AdamFfnGuIdeal
public import proofs.«01_k».proof.Proof.Gen.AdamFfnGuIdeal.Frame
public import proofs.«01_k».proof.Proof.Gen.AdamFfnGuRefIdeal
public import proofs.«01_k».proof.Proof.Gen.AdamFfnDown
public import proofs.«01_k».proof.Proof.Gen.AdamFfnDown.Frame
public import proofs.«01_k».proof.Proof.Gen.AdamFfnDownIdeal
public import proofs.«01_k».proof.Proof.Gen.AdamFfnDownIdeal.Frame
public import proofs.«01_k».proof.Proof.Gen.AdamFfnDownRefIdeal
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallRefIdeal
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallRefIdeal
public import proofs.«01_k».proof.Proof.Gen.SumS5c
public import proofs.«01_k».proof.Proof.Gen.SumS5c.Frame
public import proofs.«01_k».proof.Proof.Gen.SumS5cIdeal
public import proofs.«01_k».proof.Proof.Gen.SumS5cIdeal.Frame
public import proofs.«01_k».proof.Proof.Gen.SumS5cRefIdeal
public import proofs.«01_k».proof.Proof.Gen.SumGate
public import proofs.«01_k».proof.Proof.Gen.SumGate.Frame
public import proofs.«01_k».proof.Proof.Gen.SumGateIdeal
public import proofs.«01_k».proof.Proof.Gen.SumGateIdeal.Frame
public import proofs.«01_k».proof.Proof.Gen.SumGateRefIdeal
public import proofs.«01_k».proof.Proof.Gen.AdaDw
public import proofs.«01_k».proof.Proof.Gen.AdaDw.Frame
public import proofs.«01_k».proof.Proof.Gen.AdaDwIdeal
public import proofs.«01_k».proof.Proof.Gen.AdaDwIdeal.Frame
public import proofs.«01_k».proof.Proof.Gen.AdaDwRefIdeal
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdRefIdeal
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadRefIdeal
public import proofs.«01_k».proof.Proof.Gen.SumDisc
public import proofs.«01_k».proof.Proof.Gen.SumDisc.Frame
public import proofs.«01_k».proof.Proof.Gen.SumDiscIdeal
public import proofs.«01_k».proof.Proof.Gen.SumDiscIdeal.Frame
public import proofs.«01_k».proof.Proof.Gen.SumDiscRefIdeal
public import proofs.«01_k».proof.Proof.Gen.S5Bwd
public import proofs.«01_k».proof.Proof.Gen.S5BwdIdeal
public import proofs.«01_k».proof.Proof.Gen.FfnGuIdeal.Value
public import proofs.«01_k».proof.Proof.Gen.FfnGuRefIdeal.Run
public import proofs.«01_k».proof.Proof.Gen.FfnDownIdeal.Value
public import proofs.«01_k».proof.Proof.Gen.FfnDownRefIdeal.Run
public import proofs.«01_k».proof.Proof.Gen.FfnDactIdeal.Value
public import proofs.«01_k».proof.Proof.Gen.FfnDactRefIdeal.Run
public import proofs.«01_k».proof.Proof.Gen.FfnDwDownIdeal.Value
public import proofs.«01_k».proof.Proof.Gen.FfnDwDownRefIdeal.Run
public import proofs.«01_k».proof.Proof.Gen.FfnDwGuIdeal.Value
public import proofs.«01_k».proof.Proof.Gen.FfnDwGuRefIdeal.Run
public import proofs.«01_k».proof.Proof.Gen.FfnDhIdeal.Value
public import proofs.«01_k».proof.Proof.Gen.FfnDhRefIdeal.Run
public import proofs.«01_k».proof.Proof.Gen.LruInIdeal.Value
public import proofs.«01_k».proof.Proof.Gen.LruInRefIdeal.Run
public import proofs.«01_k».proof.Proof.Gen.LruDhIdeal.Value
public import proofs.«01_k».proof.Proof.Gen.LruDhRefIdeal.Run
public import proofs.«01_k».proof.Proof.Gen.LruDwInIdeal.Value
public import proofs.«01_k».proof.Proof.Gen.LruDwInRefIdeal.Run
public import proofs.«01_k».proof.Proof.Gen.AdamAdaIdeal.Value
public import proofs.«01_k».proof.Proof.Gen.AdamAdaRefIdeal.Run
public import proofs.«01_k».proof.Proof.Gen.AdamS5MidIdeal.Value
public import proofs.«01_k».proof.Proof.Gen.AdamS5MidRefIdeal.Run
public import proofs.«01_k».proof.Proof.Gen.AdamLruGateIdeal.Value
public import proofs.«01_k».proof.Proof.Gen.AdamLruGateRefIdeal.Run
public import proofs.«01_k».proof.Proof.Gen.AdamS5InIdeal.Value
public import proofs.«01_k».proof.Proof.Gen.AdamS5InRefIdeal.Run
public import proofs.«01_k».proof.Proof.Gen.AdamS5GluIdeal.Value
public import proofs.«01_k».proof.Proof.Gen.AdamS5GluRefIdeal.Run
public import proofs.«01_k».proof.Proof.Gen.AdamLruInIdeal.Value
public import proofs.«01_k».proof.Proof.Gen.AdamLruInRefIdeal.Run
public import proofs.«01_k».proof.Proof.Gen.AdamLruOutIdeal.Value
public import proofs.«01_k».proof.Proof.Gen.AdamLruOutRefIdeal.Run
public import proofs.«01_k».proof.Proof.Gen.AdamFfnGuIdeal.Value
public import proofs.«01_k».proof.Proof.Gen.AdamFfnGuRefIdeal.Run
public import proofs.«01_k».proof.Proof.Gen.AdamFfnDownIdeal.Value
public import proofs.«01_k».proof.Proof.Gen.AdamFfnDownRefIdeal.Run
public import proofs.«01_k».proof.Proof.Gen.AdamSmallIdeal.Value
public import proofs.«01_k».proof.Proof.Gen.AdamSmallRefIdeal.Run
public import proofs.«01_k».proof.Proof.Gen.SumSmallIdeal.Value
public import proofs.«01_k».proof.Proof.Gen.SumSmallRefIdeal.Run
public import proofs.«01_k».proof.Proof.Gen.SumS5cIdeal.Value
public import proofs.«01_k».proof.Proof.Gen.SumS5cRefIdeal.Run
public import proofs.«01_k».proof.Proof.Gen.SumGateIdeal.Value
public import proofs.«01_k».proof.Proof.Gen.SumGateRefIdeal.Run
public import proofs.«01_k».proof.Proof.Gen.AdaDwIdeal.Value
public import proofs.«01_k».proof.Proof.Gen.AdaDwRefIdeal.Run
public import proofs.«01_k».proof.Proof.Gen.NormBwdIdeal.Value
public import proofs.«01_k».proof.Proof.Gen.NormBwdRefIdeal.Run
public import proofs.«01_k».proof.Proof.Gen.LossHeadIdeal.Value
public import proofs.«01_k».proof.Proof.Gen.LossHeadRefIdeal.Run
public import proofs.«01_k».proof.Proof.Gen.SumDiscIdeal.Run
public import proofs.«01_k».proof.Proof.Gen.SumDiscRefIdeal.Run
public import proofs.«01_k».proof.Proof.FfnGu
public import proofs.«01_k».proof.Proof.FfnDown
public import proofs.«01_k».proof.Proof.FfnDact
public import proofs.«01_k».proof.Proof.FfnDwDown
public import proofs.«01_k».proof.Proof.FfnDwGu
public import proofs.«01_k».proof.Proof.FfnDh
public import proofs.«01_k».proof.Proof.LruIn
public import proofs.«01_k».proof.Proof.LruDh
public import proofs.«01_k».proof.Proof.LruDwIn
public import proofs.«01_k».proof.Proof.AdamAda
public import proofs.«01_k».proof.Proof.AdamS5Mid
public import proofs.«01_k».proof.Proof.AdamLruGate
public import proofs.«01_k».proof.Proof.AdamS5In
public import proofs.«01_k».proof.Proof.AdamS5Glu
public import proofs.«01_k».proof.Proof.AdamLruIn
public import proofs.«01_k».proof.Proof.AdamLruOut
public import proofs.«01_k».proof.Proof.AdamFfnGu
public import proofs.«01_k».proof.Proof.AdamFfnDown
public import proofs.«01_k».proof.Proof.AdamSmall
public import proofs.«01_k».proof.Proof.SumSmall
public import proofs.«01_k».proof.Proof.SumS5c
public import proofs.«01_k».proof.Proof.SumGate
public import proofs.«01_k».proof.Proof.AdaDw
public import proofs.«01_k».proof.Proof.NormBwd
public import proofs.«01_k».proof.Proof.LossHead
public import proofs.«01_k».proof.Proof.SumDisc
public import proofs.«01_k».proof.Proof.S5Bits
public import Idealize.ShloMosaic.Adequacy
public import Idealize.ShloMosaic.Init

@[expose] public section

noncomputable section

namespace Cert.Proof

open Idealize.ShloMosaic Idealize.SL.Sem

theorem claim : Cert.Claim := ⟨Cert.FfnGu.Gen.facts,
  Cert.FfnGuIdeal.Gen.facts,
  Cert.FfnGuRefIdeal.Gen.facts,
  Cert.FfnDown.Gen.facts,
  Cert.FfnDownIdeal.Gen.facts,
  Cert.FfnDownRefIdeal.Gen.facts,
  Cert.FfnDact.Gen.facts,
  Cert.FfnDactIdeal.Gen.facts,
  Cert.FfnDactRefIdeal.Gen.facts,
  Cert.FfnDwDown.Gen.facts,
  Cert.FfnDwDownIdeal.Gen.facts,
  Cert.FfnDwDownRefIdeal.Gen.facts,
  Cert.FfnDwGu.Gen.facts,
  Cert.FfnDwGuIdeal.Gen.facts,
  Cert.FfnDwGuRefIdeal.Gen.facts,
  Cert.FfnDh.Gen.facts,
  Cert.FfnDhIdeal.Gen.facts,
  Cert.FfnDhRefIdeal.Gen.facts,
  Cert.LruIn.Gen.facts,
  Cert.LruInIdeal.Gen.facts,
  Cert.LruInRefIdeal.Gen.facts,
  Cert.LruDh.Gen.facts,
  Cert.LruDhIdeal.Gen.facts,
  Cert.LruDhRefIdeal.Gen.facts,
  Cert.LruDwIn.Gen.facts,
  Cert.LruDwInIdeal.Gen.facts,
  Cert.LruDwInRefIdeal.Gen.facts,
  Cert.AdamAda.Gen.facts,
  Cert.AdamAdaIdeal.Gen.facts,
  Cert.AdamAdaRefIdeal.Gen.facts,
  Cert.AdamS5Mid.Gen.facts,
  Cert.AdamS5MidIdeal.Gen.facts,
  Cert.AdamS5MidRefIdeal.Gen.facts,
  Cert.AdamLruGate.Gen.facts,
  Cert.AdamLruGateIdeal.Gen.facts,
  Cert.AdamLruGateRefIdeal.Gen.facts,
  Cert.AdamS5In.Gen.facts,
  Cert.AdamS5InIdeal.Gen.facts,
  Cert.AdamS5InRefIdeal.Gen.facts,
  Cert.AdamS5Glu.Gen.facts,
  Cert.AdamS5GluIdeal.Gen.facts,
  Cert.AdamS5GluRefIdeal.Gen.facts,
  Cert.AdamLruIn.Gen.facts,
  Cert.AdamLruInIdeal.Gen.facts,
  Cert.AdamLruInRefIdeal.Gen.facts,
  Cert.AdamLruOut.Gen.facts,
  Cert.AdamLruOutIdeal.Gen.facts,
  Cert.AdamLruOutRefIdeal.Gen.facts,
  Cert.AdamFfnGu.Gen.facts,
  Cert.AdamFfnGuIdeal.Gen.facts,
  Cert.AdamFfnGuRefIdeal.Gen.facts,
  Cert.AdamFfnDown.Gen.facts,
  Cert.AdamFfnDownIdeal.Gen.facts,
  Cert.AdamFfnDownRefIdeal.Gen.facts,
  Cert.AdamSmall.Gen.facts,
  Cert.AdamSmallIdeal.Gen.facts,
  Cert.AdamSmallRefIdeal.Gen.facts,
  Cert.SumSmall.Gen.facts,
  Cert.SumSmallIdeal.Gen.facts,
  Cert.SumSmallRefIdeal.Gen.facts,
  Cert.SumS5c.Gen.facts,
  Cert.SumS5cIdeal.Gen.facts,
  Cert.SumS5cRefIdeal.Gen.facts,
  Cert.SumGate.Gen.facts,
  Cert.SumGateIdeal.Gen.facts,
  Cert.SumGateRefIdeal.Gen.facts,
  Cert.AdaDw.Gen.facts,
  Cert.AdaDwIdeal.Gen.facts,
  Cert.AdaDwRefIdeal.Gen.facts,
  Cert.NormBwd.Gen.facts,
  Cert.NormBwdIdeal.Gen.facts,
  Cert.NormBwdRefIdeal.Gen.facts,
  Cert.LossHead.Gen.facts,
  Cert.LossHeadIdeal.Gen.facts,
  Cert.LossHeadRefIdeal.Gen.facts,
  Cert.SumDisc.Gen.facts,
  Cert.SumDiscIdeal.Gen.facts,
  Cert.SumDiscRefIdeal.Gen.facts,
  Cert.S5Bwd.Gen.facts,
  Cert.S5BwdIdeal.Gen.facts,
  fun m ρ _ => Cert.FfnGu.Gen.frame m ρ,
  fun m ρ _ => Cert.FfnGuIdeal.Gen.frame m ρ,
  Cert.FfnGuIdeal.Value.quiescent_ref,
  fun m ρ _ => Cert.FfnDown.Gen.frame m ρ,
  fun m ρ _ => Cert.FfnDownIdeal.Gen.frame m ρ,
  Cert.FfnDownIdeal.Value.quiescent_ref,
  fun m ρ _ => Cert.FfnDact.Gen.frame m ρ,
  fun m ρ _ => Cert.FfnDactIdeal.Gen.frame m ρ,
  Cert.FfnDactIdeal.Value.quiescent_ref,
  fun m ρ _ => Cert.FfnDwDown.Gen.frame m ρ,
  fun m ρ _ => Cert.FfnDwDownIdeal.Gen.frame m ρ,
  Cert.FfnDwDownIdeal.Value.quiescent_ref,
  fun m ρ _ => Cert.FfnDwGu.Gen.frame m ρ,
  fun m ρ _ => Cert.FfnDwGuIdeal.Gen.frame m ρ,
  Cert.FfnDwGuIdeal.Value.quiescent_ref,
  fun m ρ _ => Cert.FfnDh.Gen.frame m ρ,
  fun m ρ _ => Cert.FfnDhIdeal.Gen.frame m ρ,
  Cert.FfnDhIdeal.Value.quiescent_ref,
  fun m ρ _ => Cert.LruIn.Gen.frame m ρ,
  fun m ρ _ => Cert.LruInIdeal.Gen.frame m ρ,
  Cert.LruInIdeal.Value.quiescent_ref,
  fun m ρ _ => Cert.LruDh.Gen.frame m ρ,
  fun m ρ _ => Cert.LruDhIdeal.Gen.frame m ρ,
  Cert.LruDhIdeal.Value.quiescent_ref,
  fun m ρ _ => Cert.LruDwIn.Gen.frame m ρ,
  fun m ρ _ => Cert.LruDwInIdeal.Gen.frame m ρ,
  Cert.LruDwInIdeal.Value.quiescent_ref,
  fun m ρ _ => Cert.AdamAda.Gen.frame m ρ,
  fun m ρ _ => Cert.AdamAdaIdeal.Gen.frame m ρ,
  Cert.AdamAdaIdeal.Value.quiescent_ref,
  fun m ρ _ => Cert.AdamS5Mid.Gen.frame m ρ,
  fun m ρ _ => Cert.AdamS5MidIdeal.Gen.frame m ρ,
  Cert.AdamS5MidIdeal.Value.quiescent_ref,
  fun m ρ _ => Cert.AdamLruGate.Gen.frame m ρ,
  fun m ρ _ => Cert.AdamLruGateIdeal.Gen.frame m ρ,
  Cert.AdamLruGateIdeal.Value.quiescent_ref,
  fun m ρ _ => Cert.AdamS5In.Gen.frame m ρ,
  fun m ρ _ => Cert.AdamS5InIdeal.Gen.frame m ρ,
  Cert.AdamS5InIdeal.Value.quiescent_ref,
  fun m ρ _ => Cert.AdamS5Glu.Gen.frame m ρ,
  fun m ρ _ => Cert.AdamS5GluIdeal.Gen.frame m ρ,
  Cert.AdamS5GluIdeal.Value.quiescent_ref,
  fun m ρ _ => Cert.AdamLruIn.Gen.frame m ρ,
  fun m ρ _ => Cert.AdamLruInIdeal.Gen.frame m ρ,
  Cert.AdamLruInIdeal.Value.quiescent_ref,
  fun m ρ _ => Cert.AdamLruOut.Gen.frame m ρ,
  fun m ρ _ => Cert.AdamLruOutIdeal.Gen.frame m ρ,
  Cert.AdamLruOutIdeal.Value.quiescent_ref,
  fun m ρ _ => Cert.AdamFfnGu.Gen.frame m ρ,
  fun m ρ _ => Cert.AdamFfnGuIdeal.Gen.frame m ρ,
  Cert.AdamFfnGuIdeal.Value.quiescent_ref,
  fun m ρ _ => Cert.AdamFfnDown.Gen.frame m ρ,
  fun m ρ _ => Cert.AdamFfnDownIdeal.Gen.frame m ρ,
  Cert.AdamFfnDownIdeal.Value.quiescent_ref,
  fun m ρ _ => Cert.AdamSmall.Gen.frame m ρ,
  fun m ρ _ => Cert.AdamSmallIdeal.Gen.frame m ρ,
  Cert.AdamSmallIdeal.Value.quiescent_ref,
  fun m ρ _ => Cert.SumSmall.Gen.frame m ρ,
  fun m ρ _ => Cert.SumSmallIdeal.Gen.frame m ρ,
  Cert.SumSmallIdeal.Value.quiescent_ref,
  fun m ρ _ => Cert.SumS5c.Gen.frame m ρ,
  fun m ρ _ => Cert.SumS5cIdeal.Gen.frame m ρ,
  Cert.SumS5cIdeal.Value.quiescent_ref,
  fun m ρ _ => Cert.SumGate.Gen.frame m ρ,
  fun m ρ _ => Cert.SumGateIdeal.Gen.frame m ρ,
  Cert.SumGateIdeal.Value.quiescent_ref,
  fun m ρ _ => Cert.AdaDw.Gen.frame m ρ,
  fun m ρ _ => Cert.AdaDwIdeal.Gen.frame m ρ,
  Cert.AdaDwIdeal.Value.quiescent_ref,
  fun m ρ _ => Cert.NormBwd.Gen.frame m ρ,
  fun m ρ _ => Cert.NormBwdIdeal.Gen.frame m ρ,
  Cert.NormBwdIdeal.Value.quiescent_ref,
  fun m ρ _ => Cert.LossHead.Gen.frame m ρ,
  fun m ρ _ => Cert.LossHeadIdeal.Gen.frame m ρ,
  Cert.LossHeadIdeal.Value.quiescent_ref,
  fun m ρ _ => Cert.SumDisc.Gen.frame m ρ,
  fun m ρ _ => Cert.SumDiscIdeal.Gen.frame m ρ,
  Cert.SumDiscIdeal.Value.quiescent_ref,
  Cert.S5Bwd.Scan.frame,
  fun m ρ _ => Cert.S5BwdIdeal.Scan.frame_any m ρ,
  (trivial : preserves_FfnGu_FfnGuIdeal),
  Cert.FfnGuIdeal.Value.algebraic,
  (trivial : preserves_FfnDown_FfnDownIdeal),
  Cert.FfnDownIdeal.Value.algebraic,
  (trivial : preserves_FfnDact_FfnDactIdeal),
  Cert.FfnDactIdeal.Value.algebraic,
  (trivial : preserves_FfnDwDown_FfnDwDownIdeal),
  Cert.FfnDwDownIdeal.Value.algebraic,
  (trivial : preserves_FfnDwGu_FfnDwGuIdeal),
  Cert.FfnDwGuIdeal.Value.algebraic,
  (trivial : preserves_FfnDh_FfnDhIdeal),
  Cert.FfnDhIdeal.Value.algebraic,
  (trivial : preserves_LruIn_LruInIdeal),
  Cert.LruInIdeal.Value.algebraic,
  (trivial : preserves_LruDh_LruDhIdeal),
  Cert.LruDhIdeal.Value.algebraic,
  (trivial : preserves_LruDwIn_LruDwInIdeal),
  Cert.LruDwInIdeal.Value.algebraic,
  (trivial : preserves_AdamAda_AdamAdaIdeal),
  Cert.AdamAdaIdeal.Value.algebraic,
  (trivial : preserves_AdamS5Mid_AdamS5MidIdeal),
  Cert.AdamS5MidIdeal.Value.algebraic,
  (trivial : preserves_AdamLruGate_AdamLruGateIdeal),
  Cert.AdamLruGateIdeal.Value.algebraic,
  (trivial : preserves_AdamS5In_AdamS5InIdeal),
  Cert.AdamS5InIdeal.Value.algebraic,
  (trivial : preserves_AdamS5Glu_AdamS5GluIdeal),
  Cert.AdamS5GluIdeal.Value.algebraic,
  (trivial : preserves_AdamLruIn_AdamLruInIdeal),
  Cert.AdamLruInIdeal.Value.algebraic,
  (trivial : preserves_AdamLruOut_AdamLruOutIdeal),
  Cert.AdamLruOutIdeal.Value.algebraic,
  (trivial : preserves_AdamFfnGu_AdamFfnGuIdeal),
  Cert.AdamFfnGuIdeal.Value.algebraic,
  (trivial : preserves_AdamFfnDown_AdamFfnDownIdeal),
  Cert.AdamFfnDownIdeal.Value.algebraic,
  (trivial : preserves_AdamSmall_AdamSmallIdeal),
  Cert.AdamSmallIdeal.Value.algebraic,
  (trivial : preserves_SumSmall_SumSmallIdeal),
  Cert.SumSmallIdeal.Value.algebraic,
  (trivial : preserves_SumS5c_SumS5cIdeal),
  Cert.SumS5cIdeal.Value.algebraic,
  (trivial : preserves_SumGate_SumGateIdeal),
  Cert.SumGateIdeal.Value.algebraic,
  (trivial : preserves_AdaDw_AdaDwIdeal),
  Cert.AdaDwIdeal.Value.algebraic,
  (trivial : preserves_NormBwd_NormBwdIdeal),
  Cert.NormBwdIdeal.Value.algebraic,
  (trivial : preserves_LossHead_LossHeadIdeal),
  Cert.LossHeadIdeal.Value.algebraic,
  (trivial : preserves_SumDisc_SumDiscIdeal),
  Cert.SumDiscIdeal.Value.algebraic,
  (trivial : preserves_S5Bwd_S5BwdIdeal)⟩

end Cert.Proof

end
